-- ==== Defs.lean ====
def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_finite_b [hPre_finite_b : Cert.Pre_finite_b.Facts] (m : (ℓ : Loc Cert.StickIdeal.nD Cert.StickIdeal.τ Cert.StickIdeal.sig) → Buf (Elt Ideal) ℓ) : Prop :=
  ∀ c : Dev Cert.StickIdeal.nD,
    (Cert.Pre_finite_b.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_finite_b [hPre_finite_b : Cert.Pre_finite_b.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_finite_b.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1))) = (fun _ => 1#1)

def Pre_WinFwd (m : (ℓ : Loc Cert.WinFwd.nD Cert.WinFwd.τ Cert.WinFwd.sig) → Buf (Elt Bits) ℓ) : Prop :=
  True

def Pre_WinFwdIdeal (m : (ℓ : Loc Cert.WinFwdIdeal.nD Cert.WinFwdIdeal.τ Cert.WinFwdIdeal.sig) → Buf (Elt Ideal) ℓ) : Prop :=
  True

def Pre_WinFwdIdeal_finite_fa [hPre_finite_fa : Cert.Pre_finite_fa.Facts] (m : (ℓ : Loc Cert.WinFwdIdeal.nD Cert.WinFwdIdeal.τ Cert.WinFwdIdeal.sig) → Buf (Elt Ideal) ℓ) : Prop :=
  ∀ c : Dev Cert.WinFwdIdeal.nD,
    (Cert.Pre_finite_fa.fn (F := Ideal) (m ((c.tc : Thread Cert.WinFwdIdeal.nD Cert.WinFwdIdeal.τ).loc Cert.WinFwdIdeal.main_arg0)) (m ((c.tc : Thread Cert.WinFwdIdeal.nD Cert.WinFwdIdeal.τ).loc Cert.WinFwdIdeal.main_arg1))) = (fun _ => 1#1)

def Pre_WinFwdRefIdeal (m : (ℓ : Loc Cert.WinFwdRefIdeal.nD Cert.WinFwdRefIdeal.τ Cert.WinFwdRefIdeal.sig) → Buf (Elt Ideal) ℓ) : Prop :=
  True

def Pre_WinFwdRefIdeal_finite_fa [hPre_finite_fa : Cert.Pre_finite_fa.Facts] (m : (ℓ : Loc Cert.WinFwdRefIdeal.nD Cert.WinFwdRefIdeal.τ Cert.WinFwdRefIdeal.sig) → Buf (Elt Ideal) ℓ) : Prop :=
  ∀ c : Dev Cert.WinFwdRefIdeal.nD,
    (Cert.Pre_finite_fa.fn (F := Ideal) (m ((c.tc : Thread Cert.WinFwdRefIdeal.nD Cert.WinFwdRefIdeal.τ).loc Cert.WinFwdRefIdeal.main_arg0)) (m ((c.tc : Thread Cert.WinFwdRefIdeal.nD Cert.WinFwdRefIdeal.τ).loc Cert.WinFwdRefIdeal.main_arg1))) = (fun _ => 1#1)

def Pre_StickFwd (m : (ℓ : Loc Cert.StickFwd.nD Cert.StickFwd.τ Cert.StickFwd.sig) → Buf (Elt Bits) ℓ) : Prop :=
  True

def Pre_StickFwdIdeal (m : (ℓ : Loc Cert.StickFwdIdeal.nD Cert.StickFwdIdeal.τ Cert.StickFwdIdeal.sig) → Buf (Elt Ideal) ℓ) : Prop :=
  True

def Pre_StickFwdIdeal_finite [hPre_finite : Cert.Pre_finite.Facts] (m : (ℓ : Loc Cert.StickFwdIdeal.nD Cert.StickFwdIdeal.τ Cert.StickFwdIdeal.sig) → Buf (Elt Ideal) ℓ) : Prop :=
  ∀ c : Dev Cert.StickFwdIdeal.nD,
    (Cert.Pre_finite.fn (F := Ideal) (m ((c.tc : Thread Cert.StickFwdIdeal.nD Cert.StickFwdIdeal.τ).loc Cert.StickFwdIdeal.main_arg0))) = (fun _ => 1#1)

def Pre_StickFwdRefIdeal (m : (ℓ : Loc Cert.StickFwdRefIdeal.nD Cert.StickFwdRefIdeal.τ Cert.StickFwdRefIdeal.sig) → Buf (Elt Ideal) ℓ) : Prop :=
  True

def Pre_StickFwdRefIdeal_finite [hPre_finite : Cert.Pre_finite.Facts] (m : (ℓ : Loc Cert.StickFwdRefIdeal.nD Cert.StickFwdRefIdeal.τ Cert.StickFwdRefIdeal.sig) → Buf (Elt Ideal) ℓ) : Prop :=
  ∀ c : Dev Cert.StickFwdRefIdeal.nD,
    (Cert.Pre_finite.fn (F := Ideal) (m ((c.tc : Thread Cert.StickFwdRefIdeal.nD Cert.StickFwdRefIdeal.τ).loc Cert.StickFwdRefIdeal.main_arg0))) = (fun _ => 1#1)

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_StickIdeal_pre_finite_b [hStickIdeal : Cert.StickIdeal.Facts] [hPre_finite_b : Cert.Pre_finite_b.Facts] : Prop :=
  ∀ (m : (ℓ : Loc Cert.StickIdeal.nD Cert.StickIdeal.τ Cert.StickIdeal.sig) → Buf (Elt Ideal) ℓ) (g : Dev Cert.StickIdeal.nD → PrngReg), Pre_StickIdeal_finite_b m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1))
      ∧ r.2.sem = fun _ => 0)

def quiescent_StickRefIdeal_pre_finite_b [hStickRefIdeal : Cert.StickRefIdeal.Facts] [hPre_finite_b : Cert.Pre_finite_b.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_finite_b m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1))
      ∧ r.2.sem = fun _ => 0)

def quiescent_WinFwd [hWinFwd : Cert.WinFwd.Facts] : Prop :=
  ∀ (m : (ℓ : Loc Cert.WinFwd.nD Cert.WinFwd.τ Cert.WinFwd.sig) → Buf (Elt Bits) ℓ) (g : Dev Cert.WinFwd.nD → PrngReg), Pre_WinFwd m →
    θ_run (Cert.WinFwd.defs (F := Bits)) (onTc (τ := Cert.WinFwd.τ) (Cert.WinFwd.main (F := Bits))) ⟨m, fun _ => 0, g⟩ (fun r => (∀ c : Dev Cert.WinFwd.nD,
      r.2.mem ((c.tc : Thread Cert.WinFwd.nD Cert.WinFwd.τ).loc Cert.WinFwd.main_arg0) = m ((c.tc : Thread Cert.WinFwd.nD Cert.WinFwd.τ).loc Cert.WinFwd.main_arg0)
      ∧ r.2.mem ((c.tc : Thread Cert.WinFwd.nD Cert.WinFwd.τ).loc Cert.WinFwd.main_arg1) = m ((c.tc : Thread Cert.WinFwd.nD Cert.WinFwd.τ).loc Cert.WinFwd.main_arg1))
      ∧ r.2.sem = fun _ => 0)

def quiescent_WinFwdIdeal [hWinFwdIdeal : Cert.WinFwdIdeal.Facts] : Prop :=
  ∀ (m : (ℓ : Loc Cert.WinFwdIdeal.nD Cert.WinFwdIdeal.τ Cert.WinFwdIdeal.sig) → Buf (Elt Ideal) ℓ) (g : Dev Cert.WinFwdIdeal.nD → PrngReg), Pre_WinFwdIdeal m →
    θ_run (Cert.WinFwdIdeal.defs (F := Ideal)) (onTc (τ := Cert.WinFwdIdeal.τ) (Cert.WinFwdIdeal.main (F := Ideal))) ⟨m, fun _ => 0, g⟩ (fun r => (∀ c : Dev Cert.WinFwdIdeal.nD,
      r.2.mem ((c.tc : Thread Cert.WinFwdIdeal.nD Cert.WinFwdIdeal.τ).loc Cert.WinFwdIdeal.main_arg0) = m ((c.tc : Thread Cert.WinFwdIdeal.nD Cert.WinFwdIdeal.τ).loc Cert.WinFwdIdeal.main_arg0)
      ∧ r.2.mem ((c.tc : Thread Cert.WinFwdIdeal.nD Cert.WinFwdIdeal.τ).loc Cert.WinFwdIdeal.main_arg1) = m ((c.tc : Thread Cert.WinFwdIdeal.nD Cert.WinFwdIdeal.τ).loc Cert.WinFwdIdeal.main_arg1))
      ∧ r.2.sem = fun _ => 0)

def quiescent_WinFwdIdeal_pre_finite_fa [hWinFwdIdeal : Cert.WinFwdIdeal.Facts] [hPre_finite_fa : Cert.Pre_finite_fa.Facts] : Prop :=
  ∀ (m : (ℓ : Loc Cert.WinFwdIdeal.nD Cert.WinFwdIdeal.τ Cert.WinFwdIdeal.sig) → Buf (Elt Ideal) ℓ) (g : Dev Cert.WinFwdIdeal.nD → PrngReg), Pre_WinFwdIdeal_finite_fa m →
    θ_run (Cert.WinFwdIdeal.defs (F := Ideal)) (onTc (τ := Cert.WinFwdIdeal.τ) (Cert.WinFwdIdeal.main (F := Ideal))) ⟨m, fun _ => 0, g⟩ (fun r => (∀ c : Dev Cert.WinFwdIdeal.nD,
      r.2.mem ((c.tc : Thread Cert.WinFwdIdeal.nD Cert.WinFwdIdeal.τ).loc Cert.WinFwdIdeal.main_arg0) = m ((c.tc : Thread Cert.WinFwdIdeal.nD Cert.WinFwdIdeal.τ).loc Cert.WinFwdIdeal.main_arg0)
      ∧ r.2.mem ((c.tc : Thread Cert.WinFwdIdeal.nD Cert.WinFwdIdeal.τ).loc Cert.WinFwdIdeal.main_arg1) = m ((c.tc : Thread Cert.WinFwdIdeal.nD Cert.WinFwdIdeal.τ).loc Cert.WinFwdIdeal.main_arg1))
      ∧ r.2.sem = fun _ => 0)

def quiescent_WinFwdRefIdeal [hWinFwdRefIdeal : Cert.WinFwdRefIdeal.Facts] : Prop :=
  ∀ (m : (ℓ : Loc Cert.WinFwdRefIdeal.nD Cert.WinFwdRefIdeal.τ Cert.WinFwdRefIdeal.sig) → Buf (Elt Ideal) ℓ) (g : Dev Cert.WinFwdRefIdeal.nD → PrngReg), Pre_WinFwdRefIdeal m →
    θ_run (Cert.WinFwdRefIdeal.defs (F := Ideal)) (onTc (τ := Cert.WinFwdRefIdeal.τ) (Cert.WinFwdRefIdeal.main (F := Ideal))) ⟨m, fun _ => 0, g⟩ (fun r => (∀ c : Dev Cert.WinFwdRefIdeal.nD,
      r.2.mem ((c.tc : Thread Cert.WinFwdRefIdeal.nD Cert.WinFwdRefIdeal.τ).loc Cert.WinFwdRefIdeal.main_arg0) = m ((c.tc : Thread Cert.WinFwdRefIdeal.nD Cert.WinFwdRefIdeal.τ).loc Cert.WinFwdRefIdeal.main_arg0)
      ∧ r.2.mem ((c.tc : Thread Cert.WinFwdRefIdeal.nD Cert.WinFwdRefIdeal.τ).loc Cert.WinFwdRefIdeal.main_arg1) = m ((c.tc : Thread Cert.WinFwdRefIdeal.nD Cert.WinFwdRefIdeal.τ).loc Cert.WinFwdRefIdeal.main_arg1))
      ∧ r.2.sem = fun _ => 0)

def quiescent_WinFwdRefIdeal_pre_finite_fa [hWinFwdRefIdeal : Cert.WinFwdRefIdeal.Facts] [hPre_finite_fa : Cert.Pre_finite_fa.Facts] : Prop :=
  ∀ (m : (ℓ : Loc Cert.WinFwdRefIdeal.nD Cert.WinFwdRefIdeal.τ Cert.WinFwdRefIdeal.sig) → Buf (Elt Ideal) ℓ) (g : Dev Cert.WinFwdRefIdeal.nD → PrngReg), Pre_WinFwdRefIdeal_finite_fa m →
    θ_run (Cert.WinFwdRefIdeal.defs (F := Ideal)) (onTc (τ := Cert.WinFwdRefIdeal.τ) (Cert.WinFwdRefIdeal.main (F := Ideal))) ⟨m, fun _ => 0, g⟩ (fun r => (∀ c : Dev Cert.WinFwdRefIdeal.nD,
      r.2.mem ((c.tc : Thread Cert.WinFwdRefIdeal.nD Cert.WinFwdRefIdeal.τ).loc Cert.WinFwdRefIdeal.main_arg0) = m ((c.tc : Thread Cert.WinFwdRefIdeal.nD Cert.WinFwdRefIdeal.τ).loc Cert.WinFwdRefIdeal.main_arg0)
      ∧ r.2.mem ((c.tc : Thread Cert.WinFwdRefIdeal.nD Cert.WinFwdRefIdeal.τ).loc Cert.WinFwdRefIdeal.main_arg1) = m ((c.tc : Thread Cert.WinFwdRefIdeal.nD Cert.WinFwdRefIdeal.τ).loc Cert.WinFwdRefIdeal.main_arg1))
      ∧ r.2.sem = fun _ => 0)

def quiescent_StickFwd [hStickFwd : Cert.StickFwd.Facts] : Prop :=
  ∀ (m : (ℓ : Loc Cert.StickFwd.nD Cert.StickFwd.τ Cert.StickFwd.sig) → Buf (Elt Bits) ℓ) (g : Dev Cert.StickFwd.nD → PrngReg), Pre_StickFwd m →
    θ_run (Cert.StickFwd.defs (F := Bits)) (onTc (τ := Cert.StickFwd.τ) (Cert.StickFwd.main (F := Bits))) ⟨m, fun _ => 0, g⟩ (fun r => (∀ c : Dev Cert.StickFwd.nD,
      r.2.mem ((c.tc : Thread Cert.StickFwd.nD Cert.StickFwd.τ).loc Cert.StickFwd.main_arg0) = m ((c.tc : Thread Cert.StickFwd.nD Cert.StickFwd.τ).loc Cert.StickFwd.main_arg0))
      ∧ r.2.sem = fun _ => 0)

def quiescent_StickFwdIdeal [hStickFwdIdeal : Cert.StickFwdIdeal.Facts] : Prop :=
  ∀ (m : (ℓ : Loc Cert.StickFwdIdeal.nD Cert.StickFwdIdeal.τ Cert.StickFwdIdeal.sig) → Buf (Elt Ideal) ℓ) (g : Dev Cert.StickFwdIdeal.nD → PrngReg), Pre_StickFwdIdeal m →
    θ_run (Cert.StickFwdIdeal.defs (F := Ideal)) (onTc (τ := Cert.StickFwdIdeal.τ) (Cert.StickFwdIdeal.main (F := Ideal))) ⟨m, fun _ => 0, g⟩ (fun r => (∀ c : Dev Cert.StickFwdIdeal.nD,
      r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0))
      ∧ r.2.sem = fun _ => 0)

def quiescent_StickFwdIdeal_pre_finite [hStickFwdIdeal : Cert.StickFwdIdeal.Facts] [hPre_finite : Cert.Pre_finite.Facts] : Prop :=
  ∀ (m : (ℓ : Loc Cert.StickFwdIdeal.nD Cert.StickFwdIdeal.τ Cert.StickFwdIdeal.sig) → Buf (Elt Ideal) ℓ) (g : Dev Cert.StickFwdIdeal.nD → PrngReg), Pre_StickFwdIdeal_finite m →
    θ_run (Cert.StickFwdIdeal.defs (F := Ideal)) (onTc (τ := Cert.StickFwdIdeal.τ) (Cert.StickFwdIdeal.main (F := Ideal))) ⟨m, fun _ => 0, g⟩ (fun r => (∀ c : Dev Cert.StickFwdIdeal.nD,
      r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0))
      ∧ r.2.sem = fun _ => 0)

def quiescent_StickFwdRefIdeal [hStickFwdRefIdeal : Cert.StickFwdRefIdeal.Facts] : Prop :=
  ∀ (m : (ℓ : Loc Cert.StickFwdRefIdeal.nD Cert.StickFwdRefIdeal.τ Cert.StickFwdRefIdeal.sig) → Buf (Elt Ideal) ℓ) (g : Dev Cert.StickFwdRefIdeal.nD → PrngReg), Pre_StickFwdRefIdeal m →
    θ_run (Cert.StickFwdRefIdeal.defs (F := Ideal)) (onTc (τ := Cert.StickFwdRefIdeal.τ) (Cert.StickFwdRefIdeal.main (F := Ideal))) ⟨m, fun _ => 0, g⟩ (fun r => (∀ c : Dev Cert.StickFwdRefIdeal.nD,
      r.2.mem ((c.tc : Thread Cert.StickFwdRefIdeal.nD Cert.StickFwdRefIdeal.τ).loc Cert.StickFwdRefIdeal.main_arg0) = m ((c.tc : Thread Cert.StickFwdRefIdeal.nD Cert.StickFwdRefIdeal.τ).loc Cert.StickFwdRefIdeal.main_arg0))
      ∧ r.2.sem = fun _ => 0)

def quiescent_StickFwdRefIdeal_pre_finite [hStickFwdRefIdeal : Cert.StickFwdRefIdeal.Facts] [hPre_finite : Cert.Pre_finite.Facts] : Prop :=
  ∀ (m : (ℓ : Loc Cert.StickFwdRefIdeal.nD Cert.StickFwdRefIdeal.τ Cert.StickFwdRefIdeal.sig) → Buf (Elt Ideal) ℓ) (g : Dev Cert.StickFwdRefIdeal.nD → PrngReg), Pre_StickFwdRefIdeal_finite m →
    θ_run (Cert.StickFwdRefIdeal.defs (F := Ideal)) (onTc (τ := Cert.StickFwdRefIdeal.τ) (Cert.StickFwdRefIdeal.main (F := Ideal))) ⟨m, fun _ => 0, g⟩ (fun r => (∀ c : Dev Cert.StickFwdRefIdeal.nD,
      r.2.mem ((c.tc : Thread Cert.StickFwdRefIdeal.nD Cert.StickFwdRefIdeal.τ).loc Cert.StickFwdRefIdeal.main_arg0) = m ((c.tc : Thread Cert.StickFwdRefIdeal.nD Cert.StickFwdRefIdeal.τ).loc Cert.StickFwdRefIdeal.main_arg0))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v15) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_v38) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Stick_StickIdeal : Prop :=
  IdealRules.named_const.Statement Cert.StickIdeal.κ "cut" .f32 0xC2D20000#32 ⊥

def algebraic_StickIdeal_StickRefIdeal_pre_finite_b [hStickIdeal : Cert.StickIdeal.Facts] [hStickRefIdeal : Cert.StickRefIdeal.Facts] [hPre_finite_b : Cert.Pre_finite_b.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_finite_b m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)) →
    ∃ (v0 : (c : Dev Cert.StickIdeal.nD) → Buf (Elt Ideal) ((c.tc : Thread Cert.StickIdeal.nD Cert.StickIdeal.τ).loc Cert.StickIdeal.main_v0_0)) (v1 : (c : Dev Cert.StickIdeal.nD) → Buf (Elt Ideal) ((c.tc : Thread Cert.StickIdeal.nD Cert.StickIdeal.τ).loc Cert.StickIdeal.main_v0_1)) (v2 : (c : Dev Cert.StickIdeal.nD) → Buf (Elt Ideal) ((c.tc : Thread Cert.StickIdeal.nD Cert.StickIdeal.τ).loc Cert.StickIdeal.main_v0_2)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0_0) = v0 c
          ∧ r.2.mem ((c.tc : Thread Cert.StickIdeal.nD Cert.StickIdeal.τ).loc Cert.StickIdeal.main_v0_1) = v1 c
          ∧ r.2.mem ((c.tc : Thread Cert.StickIdeal.nD Cert.StickIdeal.τ).loc Cert.StickIdeal.main_v0_2) = v2 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v59) = v0 c
          ∧ r.2.mem ((c.tc : Thread Cert.StickRefIdeal.nD Cert.StickRefIdeal.τ).loc Cert.StickRefIdeal.main_v57) = v1 c
          ∧ r.2.mem ((c.tc : Thread Cert.StickRefIdeal.nD Cert.StickRefIdeal.τ).loc Cert.StickRefIdeal.main_v55) = v2 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1))

def preserves_WinFwd_WinFwdIdeal : Prop :=
  IdealRules.named_const.Statement Cert.WinFwdIdeal.κ "slope" .f32 0xBE317218#32 ((-((Real.log 2) * 4⁻¹) : ℝ) : EReal)
  ∧ IdealRules.named_const.Statement Cert.WinFwdIdeal.κ "neg" .f32 0xF149F2CA#32 ⊥

def algebraic_WinFwdIdeal_WinFwdRefIdeal_pre_finite_fa [hWinFwdIdeal : Cert.WinFwdIdeal.Facts] [hWinFwdRefIdeal : Cert.WinFwdRefIdeal.Facts] [hPre_finite_fa : Cert.Pre_finite_fa.Facts] : Prop :=
  ∀ (m : (ℓ : Loc Cert.WinFwdIdeal.nD Cert.WinFwdIdeal.τ Cert.WinFwdIdeal.sig) → Buf (Elt Ideal) ℓ) (g : Dev Cert.WinFwdIdeal.nD → PrngReg)
    (m' : (ℓ : Loc Cert.WinFwdRefIdeal.nD Cert.WinFwdRefIdeal.τ Cert.WinFwdRefIdeal.sig) → Buf (Elt Ideal) ℓ) (g' : Dev Cert.WinFwdRefIdeal.nD → PrngReg), Pre_WinFwdIdeal_finite_fa m →
    (∀ c : Dev Cert.WinFwdIdeal.nD,
      m' ((c.tc : Thread Cert.WinFwdRefIdeal.nD Cert.WinFwdRefIdeal.τ).loc Cert.WinFwdRefIdeal.main_arg0) = m ((c.tc : Thread Cert.WinFwdIdeal.nD Cert.WinFwdIdeal.τ).loc Cert.WinFwdIdeal.main_arg0)
      ∧ m' ((c.tc : Thread Cert.WinFwdRefIdeal.nD Cert.WinFwdRefIdeal.τ).loc Cert.WinFwdRefIdeal.main_arg1) = m ((c.tc : Thread Cert.WinFwdIdeal.nD Cert.WinFwdIdeal.τ).loc Cert.WinFwdIdeal.main_arg1)) →
    ∃ (v0 : (c : Dev Cert.WinFwdIdeal.nD) → Buf (Elt Ideal) ((c.tc : Thread Cert.WinFwdIdeal.nD Cert.WinFwdIdeal.τ).loc Cert.WinFwdIdeal.main_v0)),
      θ_run (Cert.WinFwdIdeal.defs (F := Ideal)) (onTc (τ := Cert.WinFwdIdeal.τ) (Cert.WinFwdIdeal.main (F := Ideal))) ⟨m, fun _ => 0, g⟩ (fun r => ∀ c : Dev Cert.WinFwdIdeal.nD,
          r.2.mem ((c.tc : Thread Cert.WinFwdIdeal.nD Cert.WinFwdIdeal.τ).loc Cert.WinFwdIdeal.main_v0) = v0 c
          ∧ r.2.mem ((c.tc : Thread Cert.WinFwdIdeal.nD Cert.WinFwdIdeal.τ).loc Cert.WinFwdIdeal.main_arg0) = m ((c.tc : Thread Cert.WinFwdIdeal.nD Cert.WinFwdIdeal.τ).loc Cert.WinFwdIdeal.main_arg0)
          ∧ r.2.mem ((c.tc : Thread Cert.WinFwdIdeal.nD Cert.WinFwdIdeal.τ).loc Cert.WinFwdIdeal.main_arg1) = m ((c.tc : Thread Cert.WinFwdIdeal.nD Cert.WinFwdIdeal.τ).loc Cert.WinFwdIdeal.main_arg1))
      ∧ θ_run (Cert.WinFwdRefIdeal.defs (F := Ideal)) (onTc (τ := Cert.WinFwdRefIdeal.τ) (Cert.WinFwdRefIdeal.main (F := Ideal))) ⟨m', fun _ => 0, g'⟩ (fun r => ∀ c : Dev Cert.WinFwdRefIdeal.nD,
          r.2.mem ((c.tc : Thread Cert.WinFwdRefIdeal.nD Cert.WinFwdRefIdeal.τ).loc Cert.WinFwdRefIdeal.main_v92) = v0 c
          ∧ r.2.mem ((c.tc : Thread Cert.WinFwdRefIdeal.nD Cert.WinFwdRefIdeal.τ).loc Cert.WinFwdRefIdeal.main_arg0) = m' ((c.tc : Thread Cert.WinFwdRefIdeal.nD Cert.WinFwdRefIdeal.τ).loc Cert.WinFwdRefIdeal.main_arg0)
          ∧ r.2.mem ((c.tc : Thread Cert.WinFwdRefIdeal.nD Cert.WinFwdRefIdeal.τ).loc Cert.WinFwdRefIdeal.main_arg1) = m' ((c.tc : Thread Cert.WinFwdRefIdeal.nD Cert.WinFwdRefIdeal.τ).loc Cert.WinFwdRefIdeal.main_arg1))

def preserves_StickFwd_StickFwdIdeal : Prop :=
  IdealRules.named_const.Statement Cert.StickFwdIdeal.κ "cut" .f32 0xC2D20000#32 ⊥

def algebraic_StickFwdIdeal_StickFwdRefIdeal_pre_finite [hStickFwdIdeal : Cert.StickFwdIdeal.Facts] [hStickFwdRefIdeal : Cert.StickFwdRefIdeal.Facts] [hPre_finite : Cert.Pre_finite.Facts] : Prop :=
  ∀ (m : (ℓ : Loc Cert.StickFwdIdeal.nD Cert.StickFwdIdeal.τ Cert.StickFwdIdeal.sig) → Buf (Elt Ideal) ℓ) (g : Dev Cert.StickFwdIdeal.nD → PrngReg)
    (m' : (ℓ : Loc Cert.StickFwdRefIdeal.nD Cert.StickFwdRefIdeal.τ Cert.StickFwdRefIdeal.sig) → Buf (Elt Ideal) ℓ) (g' : Dev Cert.StickFwdRefIdeal.nD → PrngReg), Pre_StickFwdIdeal_finite m →
    (∀ c : Dev Cert.StickFwdIdeal.nD,
      m' ((c.tc : Thread Cert.StickFwdRefIdeal.nD Cert.StickFwdRefIdeal.τ).loc Cert.StickFwdRefIdeal.main_arg0) = m ((c.tc : Thread Cert.StickFwdIdeal.nD Cert.StickFwdIdeal.τ).loc Cert.StickFwdIdeal.main_arg0)) →
    ∃ (v0 : (c : Dev Cert.StickFwdIdeal.nD) → Buf (Elt Ideal) ((c.tc : Thread Cert.StickFwdIdeal.nD Cert.StickFwdIdeal.τ).loc Cert.StickFwdIdeal.main_v0)),
      θ_run (Cert.StickFwdIdeal.defs (F := Ideal)) (onTc (τ := Cert.StickFwdIdeal.τ) (Cert.StickFwdIdeal.main (F := Ideal))) ⟨m, fun _ => 0, g⟩ (fun r => ∀ c : Dev Cert.StickFwdIdeal.nD,
          r.2.mem ((c.tc : Thread Cert.StickFwdIdeal.nD Cert.StickFwdIdeal.τ).loc Cert.StickFwdIdeal.main_v0) = v0 c
          ∧ r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0))
      ∧ θ_run (Cert.StickFwdRefIdeal.defs (F := Ideal)) (onTc (τ := Cert.StickFwdRefIdeal.τ) (Cert.StickFwdRefIdeal.main (F := Ideal))) ⟨m', fun _ => 0, g'⟩ (fun r => ∀ c : Dev Cert.StickFwdRefIdeal.nD,
          r.2.mem ((c.tc : Thread Cert.StickFwdRefIdeal.nD Cert.StickFwdRefIdeal.τ).loc Cert.StickFwdRefIdeal.main_v31) = v0 c
          ∧ r.2.mem ((c.tc : Thread Cert.StickFwdRefIdeal.nD Cert.StickFwdRefIdeal.τ).loc Cert.StickFwdRefIdeal.main_arg0) = m' ((c.tc : Thread Cert.StickFwdRefIdeal.nD Cert.StickFwdRefIdeal.τ).loc Cert.StickFwdRefIdeal.main_arg0))

def preserves_Win_WinIdeal : Prop :=
  IdealRules.named_const.Statement Cert.WinIdeal.κ "slope" .f32 0xBE317218#32 ((-((Real.log 2) * 4⁻¹) : ℝ) : EReal)
  ∧ IdealRules.named_const.Statement Cert.WinIdeal.κ "neg" .f32 0xF149F2CA#32 ⊥

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)) →
    ∃ (v0 : (c : Dev Cert.MlpIdeal.nD) → Buf (Elt Ideal) ((c.tc : Thread Cert.MlpIdeal.nD Cert.MlpIdeal.τ).loc Cert.MlpIdeal.main_v2_0)) (v1 : (c : Dev Cert.MlpIdeal.nD) → Buf (Elt Ideal) ((c.tc : Thread Cert.MlpIdeal.nD Cert.MlpIdeal.τ).loc Cert.MlpIdeal.main_v2_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2_0) = v0 c
          ∧ r.2.mem ((c.tc : Thread Cert.MlpIdeal.nD Cert.MlpIdeal.τ).loc Cert.MlpIdeal.main_v2_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v2) = v0 c
          ∧ r.2.mem ((c.tc : Thread Cert.MlpRefIdeal.nD Cert.MlpRefIdeal.τ).loc Cert.MlpRefIdeal.main_v4) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v1) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Gout_GoutIdeal : Prop :=
  True

def algebraic_GoutIdeal_GoutRefIdeal [hGoutIdeal : Cert.GoutIdeal.Facts] [hGoutRefIdeal : Cert.GoutRefIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutIdeal m →
    (∀ c : Dev Cert.GoutIdeal.nD,
      m' ((c.tc : Thread Cert.GoutRefIdeal.nD Cert.GoutRefIdeal.τ).loc Cert.GoutRefIdeal.main_arg0) = m ((c.tc : Thread Cert.GoutIdeal.nD Cert.GoutIdeal.τ).loc Cert.GoutIdeal.main_arg0)
      ∧ m' ((c.tc : Thread Cert.GoutRefIdeal.nD Cert.GoutRefIdeal.τ).loc Cert.GoutRefIdeal.main_arg1) = m ((c.tc : Thread Cert.GoutIdeal.nD Cert.GoutIdeal.τ).loc Cert.GoutIdeal.main_arg1)) →
    ∃ (v0 : (c : Dev Cert.GoutIdeal.nD) → Buf (Elt Ideal) ((c.tc : Thread Cert.GoutIdeal.nD Cert.GoutIdeal.τ).loc Cert.GoutIdeal.main_v0)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v0) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v2) = v0 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hAct : Cert.Act.Facts) (hActIdeal : Cert.ActIdeal.Facts) (hActRefIdeal : Cert.ActRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hStick : Cert.Stick.Facts) (hStickIdeal : Cert.StickIdeal.Facts) (hStickRefIdeal : Cert.StickRefIdeal.Facts) (hWinFwd : Cert.WinFwd.Facts) (hWinFwdIdeal : Cert.WinFwdIdeal.Facts) (hWinFwdRefIdeal : Cert.WinFwdRefIdeal.Facts) (hStickFwd : Cert.StickFwd.Facts) (hStickFwdIdeal : Cert.StickFwdIdeal.Facts) (hStickFwdRefIdeal : Cert.StickFwdRefIdeal.Facts) (hWin : Cert.Win.Facts) (hWinIdeal : Cert.WinIdeal.Facts) (hWinRefIdeal : Cert.WinRefIdeal.Facts) (hNormFwd : Cert.NormFwd.Facts) (hNormFwdIdeal : Cert.NormFwdIdeal.Facts) (hNormFwdRefIdeal : Cert.NormFwdRefIdeal.Facts) (hMlp : Cert.Mlp.Facts) (hMlpIdeal : Cert.MlpIdeal.Facts) (hMlpRefIdeal : Cert.MlpRefIdeal.Facts) (hOut : Cert.Out.Facts) (hOutIdeal : Cert.OutIdeal.Facts) (hOutRefIdeal : Cert.OutRefIdeal.Facts) (hDh : Cert.Dh.Facts) (hDhIdeal : Cert.DhIdeal.Facts) (hDhRefIdeal : Cert.DhRefIdeal.Facts) (hGout : Cert.Gout.Facts) (hGoutIdeal : Cert.GoutIdeal.Facts) (hGoutRefIdeal : Cert.GoutRefIdeal.Facts) (hAdam : Cert.Adam.Facts) (hAdamIdeal : Cert.AdamIdeal.Facts) (hAdamRefIdeal : Cert.AdamRefIdeal.Facts) (hPre_finite_norm : Cert.Pre_finite_norm.Facts) (hPre_finite_loss : Cert.Pre_finite_loss.Facts) (hPre_finite_b : Cert.Pre_finite_b.Facts) (hPre_finite_fa : Cert.Pre_finite_fa.Facts) (hPre_finite : Cert.Pre_finite.Facts),
    quiescent_Act (hAct := hAct)
    ∧ quiescent_ActIdeal (hActIdeal := hActIdeal)
    ∧ quiescent_ActRefIdeal (hActRefIdeal := hActRefIdeal)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Stick (hStick := hStick)
    ∧ quiescent_StickIdeal (hStickIdeal := hStickIdeal)
    ∧ quiescent_StickIdeal_pre_finite_b (hStickIdeal := hStickIdeal) (hPre_finite_b := hPre_finite_b)
    ∧ quiescent_StickRefIdeal (hStickRefIdeal := hStickRefIdeal)
    ∧ quiescent_StickRefIdeal_pre_finite_b (hStickRefIdeal := hStickRefIdeal) (hPre_finite_b := hPre_finite_b)
    ∧ quiescent_WinFwd (hWinFwd := hWinFwd)
    ∧ quiescent_WinFwdIdeal (hWinFwdIdeal := hWinFwdIdeal)
    ∧ quiescent_WinFwdIdeal_pre_finite_fa (hWinFwdIdeal := hWinFwdIdeal) (hPre_finite_fa := hPre_finite_fa)
    ∧ quiescent_WinFwdRefIdeal (hWinFwdRefIdeal := hWinFwdRefIdeal)
    ∧ quiescent_WinFwdRefIdeal_pre_finite_fa (hWinFwdRefIdeal := hWinFwdRefIdeal) (hPre_finite_fa := hPre_finite_fa)
    ∧ quiescent_StickFwd (hStickFwd := hStickFwd)
    ∧ quiescent_StickFwdIdeal (hStickFwdIdeal := hStickFwdIdeal)
    ∧ quiescent_StickFwdIdeal_pre_finite (hStickFwdIdeal := hStickFwdIdeal) (hPre_finite := hPre_finite)
    ∧ quiescent_StickFwdRefIdeal (hStickFwdRefIdeal := hStickFwdRefIdeal)
    ∧ quiescent_StickFwdRefIdeal_pre_finite (hStickFwdRefIdeal := hStickFwdRefIdeal) (hPre_finite := hPre_finite)
    ∧ quiescent_Win (hWin := hWin)
    ∧ quiescent_WinIdeal (hWinIdeal := hWinIdeal)
    ∧ quiescent_WinRefIdeal (hWinRefIdeal := hWinRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Out (hOut := hOut)
    ∧ quiescent_OutIdeal (hOutIdeal := hOutIdeal)
    ∧ quiescent_OutRefIdeal (hOutRefIdeal := hOutRefIdeal)
    ∧ quiescent_Dh (hDh := hDh)
    ∧ quiescent_DhIdeal (hDhIdeal := hDhIdeal)
    ∧ quiescent_DhRefIdeal (hDhRefIdeal := hDhRefIdeal)
    ∧ quiescent_Gout (hGout := hGout)
    ∧ quiescent_GoutIdeal (hGoutIdeal := hGoutIdeal)
    ∧ quiescent_GoutRefIdeal (hGoutRefIdeal := hGoutRefIdeal)
    ∧ quiescent_Adam (hAdam := hAdam)
    ∧ quiescent_AdamIdeal (hAdamIdeal := hAdamIdeal)
    ∧ quiescent_AdamRefIdeal (hAdamRefIdeal := hAdamRefIdeal)
    ∧ preserves_Act_ActIdeal
    ∧ algebraic_ActIdeal_ActRefIdeal (hActIdeal := hActIdeal) (hActRefIdeal := hActRefIdeal)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Stick_StickIdeal
    ∧ algebraic_StickIdeal_StickRefIdeal_pre_finite_b (hStickIdeal := hStickIdeal) (hStickRefIdeal := hStickRefIdeal) (hPre_finite_b := hPre_finite_b)
    ∧ preserves_WinFwd_WinFwdIdeal
    ∧ algebraic_WinFwdIdeal_WinFwdRefIdeal_pre_finite_fa (hWinFwdIdeal := hWinFwdIdeal) (hWinFwdRefIdeal := hWinFwdRefIdeal) (hPre_finite_fa := hPre_finite_fa)
    ∧ preserves_StickFwd_StickFwdIdeal
    ∧ algebraic_StickFwdIdeal_StickFwdRefIdeal_pre_finite (hStickFwdIdeal := hStickFwdIdeal) (hStickFwdRefIdeal := hStickFwdRefIdeal) (hPre_finite := hPre_finite)
    ∧ preserves_Win_WinIdeal
    ∧ preserves_NormFwd_NormFwdIdeal
    ∧ algebraic_NormFwdIdeal_NormFwdRefIdeal (hNormFwdIdeal := hNormFwdIdeal) (hNormFwdRefIdeal := hNormFwdRefIdeal)
    ∧ preserves_Mlp_MlpIdeal
    ∧ algebraic_MlpIdeal_MlpRefIdeal (hMlpIdeal := hMlpIdeal) (hMlpRefIdeal := hMlpRefIdeal)
    ∧ preserves_Out_OutIdeal
    ∧ algebraic_OutIdeal_OutRefIdeal (hOutIdeal := hOutIdeal) (hOutRefIdeal := hOutRefIdeal)
    ∧ preserves_Dh_DhIdeal
    ∧ algebraic_DhIdeal_DhRefIdeal (hDhIdeal := hDhIdeal) (hDhRefIdeal := hDhRefIdeal)
    ∧ preserves_Gout_GoutIdeal
    ∧ algebraic_GoutIdeal_GoutRefIdeal (hGoutIdeal := hGoutIdeal) (hGoutRefIdeal := hGoutRefIdeal)
    ∧ preserves_Adam_AdamIdeal
    ∧ algebraic_AdamIdeal_AdamRefIdeal (hAdamIdeal := hAdamIdeal) (hAdamRefIdeal := hAdamRefIdeal)
-- ==== Pre_finite.lean ====
abbrev S4096x6144 : Shape := ⟨2, ![4096, 6144]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel

variable [Facts]

def fn {F : FTy → Type} [FloatOps F] (main_arg0 : FVec F S4096x6144 .bf16) : IVec S_ 1 :=
  let main_v0 : FVec F S4096x6144 .bf16 := Host.absf main_arg0
  let main_cst : FVec F S_ .bf16 := constant S_ .bf16 0x7F80#16
  let main_v1 : FVec F S4096x6144 .bf16 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  main_v3
-- ==== Pre_finite_b.lean ====
abbrev S4096x6144 : Shape := ⟨2, ![4096, 6144]⟩
abbrev S4096x2048 : Shape := ⟨2, ![4096, 2048]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x6144 .bf16) (main_arg1 : FVec F S4096x2048 .bf16) : IVec S_ 1 :=
  let main_v0 : FVec F S4096x6144 .bf16 := Host.absf main_arg0
  let main_cst : FVec F S_ .bf16 := constant S_ .bf16 0x7F80#16
  let main_v1 : FVec F S4096x6144 .bf16 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  let main_v4 : FVec F S4096x2048 .bf16 := Host.absf main_arg1
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Pre_finite_fa.lean ====
abbrev S4096x2560 : Shape := ⟨2, ![4096, 2560]⟩
abbrev S32 : Shape := ⟨1, ![32]⟩
abbrev S_ : Shape := ⟨0, ![]⟩

class Facts : Prop where
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S4096x2560 .bf16) (main_arg1 : FVec F S32 .f32) : IVec S_ 1 :=
  let main_v0 : FVec F S4096x2560 .bf16 := Host.absf main_arg0
  let main_cst : FVec F S_ .bf16 := constant S_ .bf16 0x7F80#16
  let main_v1 : FVec F S4096x2560 .bf16 := broadcastInDim S4096x2560 ![] bcast_S_S4096x2560 main_cst
  let main_v2 : IVec S4096x2560 1 := cmpf .olt main_v0 main_v1
  let main_c : IVec S_ 1 := constantI S_ 1 1#1
  let main_v3 : IVec S_ 1 := (fun x v => Host.reduce IntOp.andi x v reducesTo_S4096x2560_S_d0_1 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  main_v8
-- ==== Pre_finite_loss.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_finite_norm.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S4096x2048 .f32) (main_arg2 : FVec F S2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Act.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S8192x2048, .f32⟩
  | .hbm, ⟨14, _⟩ => ⟨S4096x2048, .f32⟩
  | .hbm, ⟨15, _⟩ => ⟨S4096x2048, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Loss.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S1x2048, .f32⟩
  | .hbm, ⟨73, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Stick.lean ====
abbrev S4096x6144 : Shape := ⟨2, ![4096, 6144]⟩
abbrev S4096x2048 : Shape := ⟨2, ![4096, 2048]⟩
abbrev S128x256 : Shape := ⟨2, ![128, 256]⟩
abbrev S4096x256 : Shape := ⟨2, ![4096, 256]⟩
abbrev S4x11x128x384 : Shape := ⟨4, ![4, 11, 128, 384]⟩
abbrev S128x64 : Shape := ⟨2, ![128, 64]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S128x384 : Shape := ⟨2, ![128, 384]⟩
abbrev S384x64 : Shape := ⟨2, ![384, 64]⟩
abbrev S128x128 : Shape := ⟨2, ![128, 128]⟩
abbrev S3072x128 : Shape := ⟨2, ![3072, 128]⟩
abbrev S128 : Shape := ⟨1, ![128]⟩
abbrev S1x1x128x384 : Shape := ⟨4, ![1, 1, 128, 384]⟩

abbrev nBuf : Space → Nat
  | .hbm => 5
  | .vmem => 18
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S128x256, .bf16⟩
  | .local _ .vmem, ⟨9, _⟩ => ⟨S128x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4x11x128x384, .f32⟩
  | .local _ .vmem, ⟨15, _⟩ => ⟨S4x11x128x384, .f32⟩
  | .local _ .vmem, ⟨16, _⟩ => ⟨S4096x256, .f32⟩
  | .local _ .vmem, ⟨17, _⟩ => ⟨S4096x256, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

def k0_mult1 (arg13 : BitVec 32) : BitVec 32 :=
  let c2_i32 : BitVec 32 := 2#32
  let v35 : BitVec 32 := Scalar.subi arg13 c2_i32
  let c0_i32_29 : BitVec 32 := 0#32
  let v36 : BitVec 32 := Scalar.maxsi v35 c0_i32_29
  let c128_i32 : BitVec 32 := 128#32
  let v37 : BitVec 32 := Scalar.muli v36 c128_i32
  v37

def k0_off1 (arg13 : BitVec 32) : Fin 2 → Nat :=
  let c2_i32 : BitVec 32 := 2#32
  let v35 : BitVec 32 := Scalar.subi arg13 c2_i32
  let c0_i32_29 : BitVec 32 := 0#32
  let v36 : BitVec 32 := Scalar.maxsi v35 c0_i32_29
  let c128_i32 : BitVec 32 := 128#32
  let v37 : BitVec 32 := Scalar.muli v36 c128_i32
  let v51 : BitVec 32 := v37
  let v52 : Index := Scalar.indexCast v51
  let c0_33 : Index := 0#32
  ![v52.toNat, 0]
def k0_off2 (arg13 : BitVec 32) : Fin 2 → Nat :=
  let c2_i32 : BitVec 32 := 2#32
  let v35 : BitVec 32 := Scalar.subi arg13 c2_i32
  let c0_i32_29 : BitVec 32 := 0#32
  let v36 : BitVec 32 := Scalar.maxsi v35 c0_i32_29
  let c128_i32 : BitVec 32 := 128#32
  let v37 : BitVec 32 := Scalar.muli v36 c128_i32
  let v51 : BitVec 32 := v37
  let v54 : Index := Scalar.indexCast v51
  let c64_34 : Index := 64#32
  ![v54.toNat, 64]
def k0_off3 (arg13 : BitVec 32) : Fin 2 → Nat :=
  let c2_i32 : BitVec 32 := 2#32
  let v35 : BitVec 32 := Scalar.subi arg13 c2_i32
  let c0_i32_29 : BitVec 32 := 0#32
  let v36 : BitVec 32 := Scalar.maxsi v35 c0_i32_29
  let c128_i32 : BitVec 32 := 128#32
  let v37 : BitVec 32 := Scalar.muli v36 c128_i32
  let v51 : BitVec 32 := v37
  let v56 : Index := Scalar.indexCast v51
  let c128_35 : Index := 128#32
  ![v56.toNat, 128]
def k0_off4 (arg13 : BitVec 32) : Fin 2 → Nat :=
  let c2_i32 : BitVec 32 := 2#32
  let v35 : BitVec 32 := Scalar.subi arg13 c2_i32
  let c0_i32_29 : BitVec 32 := 0#32
  let v36 : BitVec 32 := Scalar.maxsi v35 c0_i32_29
  let c128_i32 : BitVec 32 := 128#32
  let v37 : BitVec 32 := Scalar.muli v36 c128_i32
  let v51 : BitVec 32 := v37
  let v58 : Index := Scalar.indexCast v51
  let c192_36 : Index := 192#32
  ![v58.toNat, 192]

def k0_chk1 (arg13 : BitVec 32) : Prop :=
  (128 ∣ (k0_mult1 arg13).toNat) ∧
  (∀ a, (k0_off1 arg13) a + S384x64.size a ≤ S4096x256.size a) ∧
  (∀ a, (k0_off2 arg13) a + S384x64.size a ≤ S4096x256.size a) ∧
  (∀ a, (k0_off3 arg13) a + S384x64.size a ≤ S4096x256.size a) ∧
  (∀ a, (k0_off4 arg13) a + S384x64.size a ≤ S4096x256.size a)
theorem k0_mult1_dvd : ∀ (arg13 : BitVec 32) (k0_hw1 : k0_chk1 arg13), 128 ∣ (k0_mult1 arg13).toNat := fun arg13 k0_hw1 => k0_hw1.1
theorem k0_off1_inb : ∀ (arg13 : BitVec 32) (k0_hw1 : k0_chk1 arg13), ∀ a, (k0_off1 arg13) a + S384x64.size a ≤ S4096x256.size a := fun arg13 k0_hw1 => k0_hw1.2.1
theorem k0_off2_inb : ∀ (arg13 : BitVec 32) (k0_hw1 : k0_chk1 arg13), ∀ a, (k0_off2 arg13) a + S384x64.size a ≤ S4096x256.size a := fun arg13 k0_hw1 => k0_hw1.2.2.1
theorem k0_off3_inb : ∀ (arg13 : BitVec 32) (k0_hw1 : k0_chk1 arg13), ∀ a, (k0_off3 arg13) a + S384x64.size a ≤ S4096x256.size a := fun arg13 k0_hw1 => k0_hw1.2.2.2.1
theorem k0_off4_inb : ∀ (arg13 : BitVec 32) (k0_hw1 : k0_chk1 arg13), ∀ a, (k0_off4 arg13) a + S384x64.size a ≤ S4096x256.size a := fun arg13 k0_hw1 => k0_hw1.2.2.2.2

def k0_off5 (arg14 : BitVec 32) : Fin 4 → Nat :=
  let c0_78 : Index := 0#32
  let v308 : Index := Scalar.indexCast arg14
  let c0_79 : Index := 0#32
  let c0_80 : Index := 0#32
  ![0, v308.toNat, 0, 0]

def k0_off6 (arg14 : BitVec 32) : Fin 4 → Nat :=
  let c1 : Index := 1#32
  let v316 : Index := Scalar.indexCast arg14
  let c0_84 : Index := 0#32
  let c0_85 : Index := 0#32
  ![1, v316.toNat, 0, 0]
def k0_off7 (arg14 : BitVec 32) : Fin 4 → Nat :=
  let c2 : Index := 2#32
  let v324 : Index := Scalar.indexCast arg14
  let c0_89 : Index := 0#32
  let c0_90 : Index := 0#32
  ![2, v324.toNat, 0, 0]
def k0_off8 (arg14 : BitVec 32) : Fin 4 → Nat :=
  let c3 : Index := 3#32
  let v332 : Index := Scalar.indexCast arg14
  let c0_94 : Index := 0#32
  let c0_95 : Index := 0#32
  ![3, v332.toNat, 0, 0]

def k0_chk2 (arg14 : BitVec 32) : Prop :=
  (∀ a, (k0_off5 arg14) a + S1x1x128x384.size a ≤ S4x11x128x384.size a) ∧
  (∀ a, (k0_off6 arg14) a + S1x1x128x384.size a ≤ S4x11x128x384.size a) ∧
  (∀ a, (k0_off7 arg14) a + S1x1x128x384.size a ≤ S4x11x128x384.size a) ∧
  (∀ a, (k0_off8 arg14) a + S1x1x128x384.size a ≤ S4x11x128x384.size a)
theorem k0_off5_inb : ∀ (arg14 : BitVec 32) (k0_hw2 : k0_chk2 arg14), ∀ a, (k0_off5 arg14) a + S1x1x128x384.size a ≤ S4x11x128x384.size a := fun arg14 k0_hw2 => k0_hw2.1
theorem k0_off6_inb : ∀ (arg14 : BitVec 32) (k0_hw2 : k0_chk2 arg14), ∀ a, (k0_off6 arg14) a + S1x1x128x384.size a ≤ S4x11x128x384.size a := fun arg14 k0_hw2 => k0_hw2.2.1
theorem k0_off7_inb : ∀ (arg14 : BitVec 32) (k0_hw2 : k0_chk2 arg14), ∀ a, (k0_off7 arg14) a + S1x1x128x384.size a ≤ S4x11x128x384.size a := fun arg14 k0_hw2 => k0_hw2.2.2.1
theorem k0_off8_inb : ∀ (arg14 : BitVec 32) (k0_hw2 : k0_chk2 arg14), ∀ a, (k0_off8 arg14) a + S1x1x128x384.size a ≤ S4x11x128x384.size a := fun arg14 k0_hw2 => k0_hw2.2.2.2

@[reducible] def k0_t1_loop (v12_1 : BitVec 32) : Scf.Loop 32 :=
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let c1_i32_17 : BitVec 32 := 1#32
  ⟨c0_i32_16, v19, c1_i32_17⟩

def k0_mult2 (i : grid0.Coords) (v12_1 : BitVec 32) (k0_t1 : Fin (k0_t1_loop v12_1).trips) : BitVec 32 :=
  let arg1 : BitVec 32 := BitVec.ofNat 32 (i 1).val
  let c1_i32_28 : BitVec 32 := 1#32
  let v33 : BitVec 32 := Scalar.subi v12_1 c1_i32_28
  let c0_i32_16 : BitVec 32 := 0#32
  let c1_i32_17 : BitVec 32 := 1#32
  let arg13 : BitVec 32 := Scf.iv c0_i32_16 c1_i32_17 k0_t1
  let v34 : BitVec 32 := Scalar.subi v33 arg13
  let c3_i32 : BitVec 32 := 3#32
  let v35 : BitVec 32 := Scalar.muli v34 c3_i32
  let v36 : BitVec 32 := Scalar.subi arg1 v35
  let c2_i32 : BitVec 32 := 2#32
  let v37 : BitVec 32 := Scalar.subi v36 c2_i32
  let c0_i32_29 : BitVec 32 := 0#32
  let v38 : BitVec 32 := Scalar.maxsi v37 c0_i32_29
  let c128_i32 : BitVec 32 := 128#32
  let v39 : BitVec 32 := Scalar.muli v38 c128_i32
  v39
def k0_off9 (i : grid0.Coords) (v12_1 : BitVec 32) (k0_t1 : Fin (k0_t1_loop v12_1).trips) : Fin 2 → Nat :=
  let arg1 : BitVec 32 := BitVec.ofNat 32 (i 1).val
  let c1_i32_28 : BitVec 32 := 1#32
  let v33 : BitVec 32 := Scalar.subi v12_1 c1_i32_28
  let c0_i32_16 : BitVec 32 := 0#32
  let c1_i32_17 : BitVec 32 := 1#32
  let arg13 : BitVec 32 := Scf.iv c0_i32_16 c1_i32_17 k0_t1
  let v34 : BitVec 32 := Scalar.subi v33 arg13
  let c3_i32 : BitVec 32 := 3#32
  let v35 : BitVec 32 := Scalar.muli v34 c3_i32
  let v36 : BitVec 32 := Scalar.subi arg1 v35
  let c2_i32 : BitVec 32 := 2#32
  let v37 : BitVec 32 := Scalar.subi v36 c2_i32
  let c0_i32_29 : BitVec 32 := 0#32
  let v38 : BitVec 32 := Scalar.maxsi v37 c0_i32_29
  let c128_i32 : BitVec 32 := 128#32
  let v39 : BitVec 32 := Scalar.muli v38 c128_i32
  let v53 : BitVec 32 := v39
  let v54 : Index := Scalar.indexCast v53
  let c0_33 : Index := 0#32
  ![v54.toNat, 0]
def k0_off10 (i : grid0.Coords) (v12_1 : BitVec 32) (k0_t1 : Fin (k0_t1_loop v12_1).trips) : Fin 2 → Nat :=
  let arg1 : BitVec 32 := BitVec.ofNat 32 (i 1).val
  let c1_i32_28 : BitVec 32 := 1#32
  let v33 : BitVec 32 := Scalar.subi v12_1 c1_i32_28
  let c0_i32_16 : BitVec 32 := 0#32
  let c1_i32_17 : BitVec 32 := 1#32
  let arg13 : BitVec 32 := Scf.iv c0_i32_16 c1_i32_17 k0_t1
  let v34 : BitVec 32 := Scalar.subi v33 arg13
  let c3_i32 : BitVec 32 := 3#32
  let v35 : BitVec 32 := Scalar.muli v34 c3_i32
  let v36 : BitVec 32 := Scalar.subi arg1 v35
  let c2_i32 : BitVec 32 := 2#32
  let v37 : BitVec 32 := Scalar.subi v36 c2_i32
  let c0_i32_29 : BitVec 32 := 0#32
  let v38 : BitVec 32 := Scalar.maxsi v37 c0_i32_29
  let c128_i32 : BitVec 32 := 128#32
  let v39 : BitVec 32 := Scalar.muli v38 c128_i32
  let v53 : BitVec 32 := v39
  let v56 : Index := Scalar.indexCast v53
  let c64_34 : Index := 64#32
  ![v56.toNat, 64]
def k0_off11 (i : grid0.Coords) (v12_1 : BitVec 32) (k0_t1 : Fin (k0_t1_loop v12_1).trips) : Fin 2 → Nat :=
  let arg1 : BitVec 32 := BitVec.ofNat 32 (i 1).val
  let c1_i32_28 : BitVec 32 := 1#32
  let v33 : BitVec 32 := Scalar.subi v12_1 c1_i32_28
  let c0_i32_16 : BitVec 32 := 0#32
  let c1_i32_17 : BitVec 32 := 1#32
  let arg13 : BitVec 32 := Scf.iv c0_i32_16 c1_i32_17 k0_t1
  let v34 : BitVec 32 := Scalar.subi v33 arg13
  let c3_i32 : BitVec 32 := 3#32
  let v35 : BitVec 32 := Scalar.muli v34 c3_i32
  let v36 : BitVec 32 := Scalar.subi arg1 v35
  let c2_i32 : BitVec 32 := 2#32
  let v37 : BitVec 32 := Scalar.subi v36 c2_i32
  let c0_i32_29 : BitVec 32 := 0#32
  let v38 : BitVec 32 := Scalar.maxsi v37 c0_i32_29
  let c128_i32 : BitVec 32 := 128#32
  let v39 : BitVec 32 := Scalar.muli v38 c128_i32
  let v53 : BitVec 32 := v39
  let v58 : Index := Scalar.indexCast v53
  let c128_35 : Index := 128#32
  ![v58.toNat, 128]
def k0_off12 (i : grid0.Coords) (v12_1 : BitVec 32) (k0_t1 : Fin (k0_t1_loop v12_1).trips) : Fin 2 → Nat :=
  let arg1 : BitVec 32 := BitVec.ofNat 32 (i 1).val
  let c1_i32_28 : BitVec 32 := 1#32
  let v33 : BitVec 32 := Scalar.subi v12_1 c1_i32_28
  let c0_i32_16 : BitVec 32 := 0#32
  let c1_i32_17 : BitVec 32 := 1#32
  let arg13 : BitVec 32 := Scf.iv c0_i32_16 c1_i32_17 k0_t1
  let v34 : BitVec 32 := Scalar.subi v33 arg13
  let c3_i32 : BitVec 32 := 3#32
  let v35 : BitVec 32 := Scalar.muli v34 c3_i32
  let v36 : BitVec 32 := Scalar.subi arg1 v35
  let c2_i32 : BitVec 32 := 2#32
  let v37 : BitVec 32 := Scalar.subi v36 c2_i32
  let c0_i32_29 : BitVec 32 := 0#32
  let v38 : BitVec 32 := Scalar.maxsi v37 c0_i32_29
  let c128_i32 : BitVec 32 := 128#32
  let v39 : BitVec 32 := Scalar.muli v38 c128_i32
  let v53 : BitVec 32 := v39
  let v60 : Index := Scalar.indexCast v53
  let c192_36 : Index := 192#32
  ![v60.toNat, 192]
def k0_off13 (v12_1 : BitVec 32) (k0_t1 : Fin (k0_t1_loop v12_1).trips) : Fin 4 → Nat :=
  let c0_41 : Index := 0#32
  let c1_i32_28 : BitVec 32 := 1#32
  let v33 : BitVec 32 := Scalar.subi v12_1 c1_i32_28
  let c0_i32_16 : BitVec 32 := 0#32
  let c1_i32_17 : BitVec 32 := 1#32
  let arg13 : BitVec 32 := Scf.iv c0_i32_16 c1_i32_17 k0_t1
  let v34 : BitVec 32 := Scalar.subi v33 arg13
  let v70 : Index := Scalar.indexCast v34
  let c0_42 : Index := 0#32
  let c0_43 : Index := 0#32
  ![0, v70.toNat, 0, 0]
def k0_off14 (v12_1 : BitVec 32) (k0_t1 : Fin (k0_t1_loop v12_1).trips) : Fin 4 → Nat :=
  let c1 : Index := 1#32
  let c1_i32_28 : BitVec 32 := 1#32
  let v33 : BitVec 32 := Scalar.subi v12_1 c1_i32_28
  let c0_i32_16 : BitVec 32 := 0#32
  let c1_i32_17 : BitVec 32 := 1#32
  let arg13 : BitVec 32 := Scf.iv c0_i32_16 c1_i32_17 k0_t1
  let v34 : BitVec 32 := Scalar.subi v33 arg13
  let v73 : Index := Scalar.indexCast v34
  let c0_44 : Index := 0#32
  let c0_45 : Index := 0#32
  ![1, v73.toNat, 0, 0]
def k0_off15 (v12_1 : BitVec 32) (k0_t1 : Fin (k0_t1_loop v12_1).trips) : Fin 4 → Nat :=
  let c2 : Index := 2#32
  let c1_i32_28 : BitVec 32 := 1#32
  let v33 : BitVec 32 := Scalar.subi v12_1 c1_i32_28
  let c0_i32_16 : BitVec 32 := 0#32
  let c1_i32_17 : BitVec 32 := 1#32
  let arg13 : BitVec 32 := Scf.iv c0_i32_16 c1_i32_17 k0_t1
  let v34 : BitVec 32 := Scalar.subi v33 arg13
  let v76 : Index := Scalar.indexCast v34
  let c0_46 : Index := 0#32
  let c0_47 : Index := 0#32
  ![2, v76.toNat, 0, 0]
def k0_off16 (v12_1 : BitVec 32) (k0_t1 : Fin (k0_t1_loop v12_1).trips) : Fin 4 → Nat :=
  let c3 : Index := 3#32
  let c1_i32_28 : BitVec 32 := 1#32
  let v33 : BitVec 32 := Scalar.subi v12_1 c1_i32_28
  let c0_i32_16 : BitVec 32 := 0#32
  let c1_i32_17 : BitVec 32 := 1#32
  let arg13 : BitVec 32 := Scf.iv c0_i32_16 c1_i32_17 k0_t1
  let v34 : BitVec 32 := Scalar.subi v33 arg13
  let v79 : Index := Scalar.indexCast v34
  let c0_48 : Index := 0#32
  let c0_49 : Index := 0#32
  ![3, v79.toNat, 0, 0]
@[reducible] def k0_t2_loop (v12_1 : BitVec 32) : Scf.Loop 32 :=
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let v16 : BitVec 32 := Scalar.addi c0_i32_16 v15
  let c1_i32_18 : BitVec 32 := 1#32
  ⟨v19, v16, c1_i32_18⟩
def k0_mult3 (i : grid0.Coords) (v12_1 : BitVec 32) (k0_t2 : Fin (k0_t2_loop v12_1).trips) : BitVec 32 :=
  let arg1 : BitVec 32 := BitVec.ofNat 32 (i 1).val
  let c1_i32_28 : BitVec 32 := 1#32
  let v33 : BitVec 32 := Scalar.subi v12_1 c1_i32_28
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let c1_i32_18 : BitVec 32 := 1#32
  let arg13 : BitVec 32 := Scf.iv v19 c1_i32_18 k0_t2
  let v34 : BitVec 32 := Scalar.subi v33 arg13
  let c3_i32 : BitVec 32 := 3#32
  let v35 : BitVec 32 := Scalar.muli v34 c3_i32
  let v36 : BitVec 32 := Scalar.subi arg1 v35
  let c2_i32 : BitVec 32 := 2#32
  let v37 : BitVec 32 := Scalar.subi v36 c2_i32
  let c0_i32_29 : BitVec 32 := 0#32
  let v38 : BitVec 32 := Scalar.maxsi v37 c0_i32_29
  let c128_i32 : BitVec 32 := 128#32
  let v39 : BitVec 32 := Scalar.muli v38 c128_i32
  v39
def k0_off17 (i : grid0.Coords) (v12_1 : BitVec 32) (k0_t2 : Fin (k0_t2_loop v12_1).trips) : Fin 2 → Nat :=
  let arg1 : BitVec 32 := BitVec.ofNat 32 (i 1).val
  let c1_i32_28 : BitVec 32 := 1#32
  let v33 : BitVec 32 := Scalar.subi v12_1 c1_i32_28
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let c1_i32_18 : BitVec 32 := 1#32
  let arg13 : BitVec 32 := Scf.iv v19 c1_i32_18 k0_t2
  let v34 : BitVec 32 := Scalar.subi v33 arg13
  let c3_i32 : BitVec 32 := 3#32
  let v35 : BitVec 32 := Scalar.muli v34 c3_i32
  let v36 : BitVec 32 := Scalar.subi arg1 v35
  let c2_i32 : BitVec 32 := 2#32
  let v37 : BitVec 32 := Scalar.subi v36 c2_i32
  let c0_i32_29 : BitVec 32 := 0#32
  let v38 : BitVec 32 := Scalar.maxsi v37 c0_i32_29
  let c128_i32 : BitVec 32 := 128#32
  let v39 : BitVec 32 := Scalar.muli v38 c128_i32
  let v53 : BitVec 32 := v39
  let v54 : Index := Scalar.indexCast v53
  let c0_33 : Index := 0#32
  ![v54.toNat, 0]
def k0_off18 (i : grid0.Coords) (v12_1 : BitVec 32) (k0_t2 : Fin (k0_t2_loop v12_1).trips) : Fin 2 → Nat :=
  let arg1 : BitVec 32 := BitVec.ofNat 32 (i 1).val
  let c1_i32_28 : BitVec 32 := 1#32
  let v33 : BitVec 32 := Scalar.subi v12_1 c1_i32_28
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let c1_i32_18 : BitVec 32 := 1#32
  let arg13 : BitVec 32 := Scf.iv v19 c1_i32_18 k0_t2
  let v34 : BitVec 32 := Scalar.subi v33 arg13
  let c3_i32 : BitVec 32 := 3#32
  let v35 : BitVec 32 := Scalar.muli v34 c3_i32
  let v36 : BitVec 32 := Scalar.subi arg1 v35
  let c2_i32 : BitVec 32 := 2#32
  let v37 : BitVec 32 := Scalar.subi v36 c2_i32
  let c0_i32_29 : BitVec 32 := 0#32
  let v38 : BitVec 32 := Scalar.maxsi v37 c0_i32_29
  let c128_i32 : BitVec 32 := 128#32
  let v39 : BitVec 32 := Scalar.muli v38 c128_i32
  let v53 : BitVec 32 := v39
  let v56 : Index := Scalar.indexCast v53
  let c64_34 : Index := 64#32
  ![v56.toNat, 64]
def k0_off19 (i : grid0.Coords) (v12_1 : BitVec 32) (k0_t2 : Fin (k0_t2_loop v12_1).trips) : Fin 2 → Nat :=
  let arg1 : BitVec 32 := BitVec.ofNat 32 (i 1).val
  let c1_i32_28 : BitVec 32 := 1#32
  let v33 : BitVec 32 := Scalar.subi v12_1 c1_i32_28
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let c1_i32_18 : BitVec 32 := 1#32
  let arg13 : BitVec 32 := Scf.iv v19 c1_i32_18 k0_t2
  let v34 : BitVec 32 := Scalar.subi v33 arg13
  let c3_i32 : BitVec 32 := 3#32
  let v35 : BitVec 32 := Scalar.muli v34 c3_i32
  let v36 : BitVec 32 := Scalar.subi arg1 v35
  let c2_i32 : BitVec 32 := 2#32
  let v37 : BitVec 32 := Scalar.subi v36 c2_i32
  let c0_i32_29 : BitVec 32 := 0#32
  let v38 : BitVec 32 := Scalar.maxsi v37 c0_i32_29
  let c128_i32 : BitVec 32 := 128#32
  let v39 : BitVec 32 := Scalar.muli v38 c128_i32
  let v53 : BitVec 32 := v39
  let v58 : Index := Scalar.indexCast v53
  let c128_35 : Index := 128#32
  ![v58.toNat, 128]
def k0_off20 (i : grid0.Coords) (v12_1 : BitVec 32) (k0_t2 : Fin (k0_t2_loop v12_1).trips) : Fin 2 → Nat :=
  let arg1 : BitVec 32 := BitVec.ofNat 32 (i 1).val
  let c1_i32_28 : BitVec 32 := 1#32
  let v33 : BitVec 32 := Scalar.subi v12_1 c1_i32_28
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let c1_i32_18 : BitVec 32 := 1#32
  let arg13 : BitVec 32 := Scf.iv v19 c1_i32_18 k0_t2
  let v34 : BitVec 32 := Scalar.subi v33 arg13
  let c3_i32 : BitVec 32 := 3#32
  let v35 : BitVec 32 := Scalar.muli v34 c3_i32
  let v36 : BitVec 32 := Scalar.subi arg1 v35
  let c2_i32 : BitVec 32 := 2#32
  let v37 : BitVec 32 := Scalar.subi v36 c2_i32
  let c0_i32_29 : BitVec 32 := 0#32
  let v38 : BitVec 32 := Scalar.maxsi v37 c0_i32_29
  let c128_i32 : BitVec 32 := 128#32
  let v39 : BitVec 32 := Scalar.muli v38 c128_i32
  let v53 : BitVec 32 := v39
  let v60 : Index := Scalar.indexCast v53
  let c192_36 : Index := 192#32
  ![v60.toNat, 192]
def k0_off21 (v12_1 : BitVec 32) (k0_t2 : Fin (k0_t2_loop v12_1).trips) : Fin 4 → Nat :=
  let c0_41 : Index := 0#32
  let c1_i32_28 : BitVec 32 := 1#32
  let v33 : BitVec 32 := Scalar.subi v12_1 c1_i32_28
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let c1_i32_18 : BitVec 32 := 1#32
  let arg13 : BitVec 32 := Scf.iv v19 c1_i32_18 k0_t2
  let v34 : BitVec 32 := Scalar.subi v33 arg13
  let v70 : Index := Scalar.indexCast v34
  let c0_42 : Index := 0#32
  let c0_43 : Index := 0#32
  ![0, v70.toNat, 0, 0]
def k0_off22 (v12_1 : BitVec 32) (k0_t2 : Fin (k0_t2_loop v12_1).trips) : Fin 4 → Nat :=
  let c1 : Index := 1#32
  let c1_i32_28 : BitVec 32 := 1#32
  let v33 : BitVec 32 := Scalar.subi v12_1 c1_i32_28
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let c1_i32_18 : BitVec 32 := 1#32
  let arg13 : BitVec 32 := Scf.iv v19 c1_i32_18 k0_t2
  let v34 : BitVec 32 := Scalar.subi v33 arg13
  let v73 : Index := Scalar.indexCast v34
  let c0_44 : Index := 0#32
  let c0_45 : Index := 0#32
  ![1, v73.toNat, 0, 0]
def k0_off23 (v12_1 : BitVec 32) (k0_t2 : Fin (k0_t2_loop v12_1).trips) : Fin 4 → Nat :=
  let c2 : Index := 2#32
  let c1_i32_28 : BitVec 32 := 1#32
  let v33 : BitVec 32 := Scalar.subi v12_1 c1_i32_28
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let c1_i32_18 : BitVec 32 := 1#32
  let arg13 : BitVec 32 := Scf.iv v19 c1_i32_18 k0_t2
  let v34 : BitVec 32 := Scalar.subi v33 arg13
  let v76 : Index := Scalar.indexCast v34
  let c0_46 : Index := 0#32
  let c0_47 : Index := 0#32
  ![2, v76.toNat, 0, 0]
def k0_off24 (v12_1 : BitVec 32) (k0_t2 : Fin (k0_t2_loop v12_1).trips) : Fin 4 → Nat :=
  let c3 : Index := 3#32
  let c1_i32_28 : BitVec 32 := 1#32
  let v33 : BitVec 32 := Scalar.subi v12_1 c1_i32_28
  let c0_i32_16 : BitVec 32 := 0#32
  let v15 : BitVec 32 := Scalar.subi v12_1 c0_i32_16
  let c1_i32 : BitVec 32 := 1#32
  let v17 : BitVec 32 := Scalar.divsi v15 c1_i32
  let v18 : BitVec 32 := Scalar.muli v17 c1_i32
  let v19 : BitVec 32 := Scalar.addi c0_i32_16 v18
  let c1_i32_18 : BitVec 32 := 1#32
  let arg13 : BitVec 32 := Scf.iv v19 c1_i32_18 k0_t2
  let v34 : BitVec 32 := Scalar.subi v33 arg13
  let v79 : Index := Scalar.indexCast v34
  let c0_48 : Index := 0#32
  let c0_49 : Index := 0#32
  ![3, v79.toNat, 0, 0]

def k0_chk3 (i : grid0.Coords) (v12_1 : BitVec 32) : Prop :=
  ((k0_t1_loop v12_1).OK) ∧
  (∀ k0_t1 : Fin (k0_t1_loop v12_1).trips, 128 ∣ (k0_mult2 i v12_1 k0_t1).toNat) ∧
  (∀ k0_t1 : Fin (k0_t1_loop v12_1).trips, ∀ a, (k0_off9 i v12_1 k0_t1) a + S384x64.size a ≤ S4096x256.size a) ∧
  (∀ k0_t1 : Fin (k0_t1_loop v12_1).trips, ∀ a, (k0_off10 i v12_1 k0_t1) a + S384x64.size a ≤ S4096x256.size a) ∧
  (∀ k0_t1 : Fin (k0_t1_loop v12_1).trips, ∀ a, (k0_off11 i v12_1 k0_t1) a + S384x64.size a ≤ S4096x256.size a) ∧
  (∀ k0_t1 : Fin (k0_t1_loop v12_1).trips, ∀ a, (k0_off12 i v12_1 k0_t1) a + S384x64.size a ≤ S4096x256.size a) ∧
  (∀ k0_t1 : Fin (k0_t1_loop v12_1).trips, ∀ a, (k0_off13 v12_1 k0_t1) a + S1x1x128x384.size a ≤ S4x11x128x384.size a) ∧
  (∀ k0_t1 : Fin (k0_t1_loop v12_1).trips, ∀ a, (k0_off14 v12_1 k0_t1) a + S1x1x128x384.size a ≤ S4x11x128x384.size a) ∧
  (∀ k0_t1 : Fin (k0_t1_loop v12_1).trips, ∀ a, (k0_off15 v12_1 k0_t1) a + S1x1x128x384.size a ≤ S4x11x128x384.size a) ∧
  (∀ k0_t1 : Fin (k0_t1_loop v12_1).trips, ∀ a, (k0_off16 v12_1 k0_t1) a + S1x1x128x384.size a ≤ S4x11x128x384.size a) ∧
  ((k0_t2_loop v12_1).OK) ∧
  (∀ k0_t2 : Fin (k0_t2_loop v12_1).trips, 128 ∣ (k0_mult3 i v12_1 k0_t2).toNat) ∧
  (∀ k0_t2 : Fin (k0_t2_loop v12_1).trips, ∀ a, (k0_off17 i v12_1 k0_t2) a + S384x64.size a ≤ S4096x256.size a) ∧
  (∀ k0_t2 : Fin (k0_t2_loop v12_1).trips, ∀ a, (k0_off18 i v12_1 k0_t2) a + S384x64.size a ≤ S4096x256.size a) ∧
  (∀ k0_t2 : Fin (k0_t2_loop v12_1).trips, ∀ a, (k0_off19 i v12_1 k0_t2) a + S384x64.size a ≤ S4096x256.size a) ∧
  (∀ k0_t2 : Fin (k0_t2_loop v12_1).trips, ∀ a, (k0_off20 i v12_1 k0_t2) a + S384x64.size a ≤ S4096x256.size a) ∧
  (∀ k0_t2 : Fin (k0_t2_loop v12_1).trips, ∀ a, (k0_off21 v12_1 k0_t2) a + S1x1x128x384.size a ≤ S4x11x128x384.size a) ∧
  (∀ k0_t2 : Fin (k0_t2_loop v12_1).trips, ∀ a, (k0_off22 v12_1 k0_t2) a + S1x1x128x384.size a ≤ S4x11x128x384.size a) ∧
  (∀ k0_t2 : Fin (k0_t2_loop v12_1).trips, ∀ a, (k0_off23 v12_1 k0_t2) a + S1x1x128x384.size a ≤ S4x11x128x384.size a) ∧
  (∀ k0_t2 : Fin (k0_t2_loop v12_1).trips, ∀ a, (k0_off24 v12_1 k0_t2) a + S1x1x128x384.size a ≤ S4x11x128x384.size a)
theorem k0_t1_ok : ∀ (i : grid0.Coords) (v12_1 : BitVec 32) (k0_hw3 : k0_chk3 i v12_1), (k0_t1_loop v12_1).OK := fun i v12_1 k0_hw3 => k0_hw3.1
theorem k0_mult2_dvd : ∀ (i : grid0.Coords) (v12_1 : BitVec 32) (k0_hw3 : k0_chk3 i v12_1) (k0_t1 : Fin (k0_t1_loop v12_1).trips), 128 ∣ (k0_mult2 i v12_1 k0_t1).toNat := fun i v12_1 k0_hw3 k0_t1 => k0_hw3.2.1 k0_t1
theorem k0_off9_inb : ∀ (i : grid0.Coords) (v12_1 : BitVec 32) (k0_hw3 : k0_chk3 i v12_1) (k0_t1 : Fin (k0_t1_loop v12_1).trips), ∀ a, (k0_off9 i v12_1 k0_t1) a + S384x64.size a ≤ S4096x256.size a := fun i v12_1 k0_hw3 k0_t1 => k0_hw3.2.2.1 k0_t1
theorem k0_off10_inb : ∀ (i : grid0.Coords) (v12_1 : BitVec 32) (k0_hw3 : k0_chk3 i v12_1) (k0_t1 : Fin (k0_t1_loop v12_1).trips), ∀ a, (k0_off10 i v12_1 k0_t1) a + S384x64.size a ≤ S4096x256.size a := fun i v12_1 k0_hw3 k0_t1 => k0_hw3.2.2.2.1 k0_t1
theorem k0_off11_inb : ∀ (i : grid0.Coords) (v12_1 : BitVec 32) (k0_hw3 : k0_chk3 i v12_1) (k0_t1 : Fin (k0_t1_loop v12_1).trips), ∀ a, (k0_off11 i v12_1 k0_t1) a + S384x64.size a ≤ S4096x256.size a := fun i v12_1 k0_hw3 k0_t1 => k0_hw3.2.2.2.2.1 k0_t1
theorem k0_off12_inb : ∀ (i : grid0.Coords) (v12_1 : BitVec 32) (k0_hw3 : k0_chk3 i v12_1) (k0_t1 : Fin (k0_t1_loop v12_1).trips), ∀ a, (k0_off12 i v12_1 k0_t1) a + S384x64.size a ≤ S4096x256.size a := fun i v12_1 k0_hw3 k0_t1 => k0_hw3.2.2.2.2.2.1 k0_t1
theorem k0_off13_inb : ∀ (i : grid0.Coords) (v12_1 : BitVec 32) (k0_hw3 : k0_chk3 i v12_1) (k0_t1 : Fin (k0_t1_loop v12_1).trips), ∀ a, (k0_off13 v12_1 k0_t1) a + S1x1x128x384.size a ≤ S4x11x128x384.size a := fun i v12_1 k0_hw3 k0_t1 => k0_hw3.2.2.2.2.2.2.1 k0_t1
theorem k0_off14_inb : ∀ (i : grid0.Coords) (v12_1 : BitVec 32) (k0_hw3 : k0_chk3 i v12_1) (k0_t1 : Fin (k0_t1_loop v12_1).trips), ∀ a, (k0_off14 v12_1 k0_t1) a + S1x1x128x384.size a ≤ S4x11x128x384.size a := fun i v12_1 k0_hw3 k0_t1 => k0_hw3.2.2.2.2.2.2.2.1 k0_t1
theorem k0_off15_inb : ∀ (i : grid0.Coords) (v12_1 : BitVec 32) (k0_hw3 : k0_chk3 i v12_1) (k0_t1 : Fin (k0_t1_loop v12_1).trips), ∀ a, (k0_off15 v12_1 k0_t1) a + S1x1x128x384.size a ≤ S4x11x128x384.size a := fun i v12_1 k0_hw3 k0_t1 => k0_hw3.2.2.2.2.2.2.2.2.1 k0_t1
theorem k0_off16_inb : ∀ (i : grid0.Coords) (v12_1 : BitVec 32) (k0_hw3 : k0_chk3 i v12_1) (k0_t1 : Fin (k0_t1_loop v12_1).trips), ∀ a, (k0_off16 v12_1 k0_t1) a + S1x1x128x384.size a ≤ S4x11x128x384.size a := fun i v12_1 k0_hw3 k0_t1 => k0_hw3.2.2.2.2.2.2.2.2.2.1 k0_t1
theorem k0_t2_ok : ∀ (i : grid0.Coords) (v12_1 : BitVec 32) (k0_hw3 : k0_chk3 i v12_1), (k0_t2_loop v12_1).OK := fun i v12_1 k0_hw3 => k0_hw3.2.2.2.2.2.2.2.2.2.2.1
theorem k0_mult3_dvd : ∀ (i : grid0.Coords) (v12_1 : BitVec 32) (k0_hw3 : k0_chk3 i v12_1) (k0_t2 : Fin (k0_t2_loop v12_1).trips), 128 ∣ (k0_mult3 i v12_1 k0_t2).toNat := fun i v12_1 k0_hw3 k0_t2 => k0_hw3.2.2.2.2.2.2.2.2.2.2.2.1 k0_t2
theorem k0_off17_inb : ∀ (i : grid0.Coords) (v12_1 : BitVec 32) (k0_hw3 : k0_chk3 i v12_1) (k0_t2 : Fin (k0_t2_loop v12_1).trips), ∀ a, (k0_off17 i v12_1 k0_t2) a + S384x64.size a ≤ S4096x256.size a := fun i v12_1 k0_hw3 k0_t2 => k0_hw3.2.2.2.2.2.2.2.2.2.2.2.2.1 k0_t2
theorem k0_off18_inb : ∀ (i : grid0.Coords) (v12_1 : BitVec 32) (k0_hw3 : k0_chk3 i v12_1) (k0_t2 : Fin (k0_t2_loop v12_1).trips), ∀ a, (k0_off18 i v12_1 k0_t2) a + S384x64.size a ≤ S4096x256.size a := fun i v12_1 k0_hw3 k0_t2 => k0_hw3.2.2.2.2.2.2.2.2.2.2.2.2.2.1 k0_t2
theorem k0_off19_inb : ∀ (i : grid0.Coords) (v12_1 : BitVec 32) (k0_hw3 : k0_chk3 i v12_1) (k0_t2 : Fin (k0_t2_loop v12_1).trips), ∀ a, (k0_off19 i v12_1 k0_t2) a + S384x64.size a ≤ S4096x256.size a := fun i v12_1 k0_hw3 k0_t2 => k0_hw3.2.2.2.2.2.2.2.2.2.2.2.2.2.2.1 k0_t2
theorem k0_off20_inb : ∀ (i : grid0.Coords) (v12_1 : BitVec 32) (k0_hw3 : k0_chk3 i v12_1) (k0_t2 : Fin (k0_t2_loop v12_1).trips), ∀ a, (k0_off20 i v12_1 k0_t2) a + S384x64.size a ≤ S4096x256.size a := fun i v12_1 k0_hw3 k0_t2 => k0_hw3.2.2.2.2.2.2.2.2.2.2.2.2.2.2.2.1 k0_t2
theorem k0_off21_inb : ∀ (i : grid0.Coords) (v12_1 : BitVec 32) (k0_hw3 : k0_chk3 i v12_1) (k0_t2 : Fin (k0_t2_loop v12_1).trips), ∀ a, (k0_off21 v12_1 k0_t2) a + S1x1x128x384.size a ≤ S4x11x128x384.size a := fun i v12_1 k0_hw3 k0_t2 => k0_hw3.2.2.2.2.2.2.2.2.2.2.2.2.2.2.2.2.1 k0_t2
theorem k0_off22_inb : ∀ (i : grid0.Coords) (v12_1 : BitVec 32) (k0_hw3 : k0_chk3 i v12_1) (k0_t2 : Fin (k0_t2_loop v12_1).trips), ∀ a, (k0_off22 v12_1 k0_t2) a + S1x1x128x384.size a ≤ S4x11x128x384.size a := fun i v12_1 k0_hw3 k0_t2 => k0_hw3.2.2.2.2.2.2.2.2.2.2.2.2.2.2.2.2.2.1 k0_t2
theorem k0_off23_inb : ∀ (i : grid0.Coords) (v12_1 : BitVec 32) (k0_hw3 : k0_chk3 i v12_1) (k0_t2 : Fin (k0_t2_loop v12_1).trips), ∀ a, (k0_off23 v12_1 k0_t2) a + S1x1x128x384.size a ≤ S4x11x128x384.size a := fun i v12_1 k0_hw3 k0_t2 => k0_hw3.2.2.2.2.2.2.2.2.2.2.2.2.2.2.2.2.2.2.1 k0_t2
theorem k0_off24_inb : ∀ (i : grid0.Coords) (v12_1 : BitVec 32) (k0_hw3 : k0_chk3 i v12_1) (k0_t2 : Fin (k0_t2_loop v12_1).trips), ∀ a, (k0_off24 v12_1 k0_t2) a + S1x1x128x384.size a ≤ S4x11x128x384.size a := fun i v12_1 k0_hw3 k0_t2 => k0_hw3.2.2.2.2.2.2.2.2.2.2.2.2.2.2.2.2.2.2.2 k0_t2

def k0_cond2 (i : grid0.Coords) : BitVec 1 :=
  let arg1 : BitVec 32 := BitVec.ofNat 32 (i 1).val
  let c31_i32 : BitVec 32 := 31#32
  let v30 : BitVec 1 := Scalar.cmpi .eq arg1 c31_i32
  let v31 : BitVec 32 := Scalar.extui v30
  let c0_i32_27 : BitVec 32 := 0#32
  let v32 : BitVec 1 := Scalar.cmpi .ne v31 c0_i32_27
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== StickIdeal.lean ====
variable {F : FTy → Type} [FloatOps F] [Named F]
def κ : String → Option EReal := fun
  | "cut" => some ⊥
  | _ => none
-- ==== StickRefIdeal.lean ====
abbrev S4096x6144 : Shape := ⟨2, ![4096, 6144]⟩
abbrev S4096x2048 : Shape := ⟨2, ![4096, 2048]⟩
abbrev S4096x32x64 : Shape := ⟨3, ![4096, 32, 64]⟩
abbrev S32x4096x4096 : Shape := ⟨3, ![32, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S32x64x4096 : Shape := ⟨3, ![32, 64, 4096]⟩
abbrev S32x4096x64 : Shape := ⟨3, ![32, 4096, 64]⟩

abbrev nBuf : Space → Nat
  | .hbm => 182
  | .vmem => 0
  | .smem => 0
  | _ => 0

abbrev hbmTy0_0 (i : Nat) : BufTy := match i % 128 with
  | 0 => ⟨S4096x6144, .bf16⟩
  | 1 => ⟨S4096x2048, .bf16⟩
  | 2 => ⟨S4096x2048, .bf16⟩
  | 3 => ⟨S4096x2048, .bf16⟩
  | 4 => ⟨S4096x2048, .bf16⟩
  | 5 => ⟨S4096x2048, .f32⟩
  | 6 => ⟨S4096x32x64, .f32⟩
  | 7 => ⟨S4096x2048, .f32⟩
  | 8 => ⟨S4096x32x64, .f32⟩
  | 9 => ⟨S4096x2048, .f32⟩
  | 10 => ⟨S4096x32x64, .f32⟩
  | 11 => ⟨S32x4096x4096, .f32⟩
  | 12 => ⟨S_, .f32⟩
  | 13 => ⟨S32x4096x4096, .f32⟩
  | 14 => ⟨S32x4096x4096, .f32⟩
  | 15 => ⟨S4096, .i32⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S1x4096x4096, .i1⟩
  | 22 => ⟨S32x4096x4096, .f32⟩
  | 23 => ⟨S_, .f32⟩
  | 24 => ⟨S32x4096x4096, .f32⟩
  | 25 => ⟨S32x4096x4096, .f32⟩
  | 26 => ⟨S32x4096x4096, .f32⟩
  | 27 => ⟨S32x4096x4096, .f32⟩
  | 28 => ⟨S32x4096x4096, .i1⟩
  | 29 => ⟨S32x4096x4096, .f32⟩
  | 30 => ⟨S32x4096x4096, .f32⟩
  | 31 => ⟨S32x4096x4096, .f32⟩
  | 32 => ⟨S32x4096x4096, .f32⟩
  | 33 => ⟨S32x4096x4096, .f32⟩
  | 34 => ⟨S32x4096x4096, .f32⟩
  | 35 => ⟨S32x4096x4096, .f32⟩
  | 36 => ⟨S32x4096x4096, .f32⟩
  | 37 => ⟨S_, .f32⟩
  | 38 => ⟨S32x4096x4096, .f32⟩
  | 39 => ⟨S32x4096x4096, .i1⟩
  | 40 => ⟨S_, .f32⟩
  | 41 => ⟨S32x4096x4096, .f32⟩
  | 42 => ⟨S32x4096x4096, .f32⟩
  | 43 => ⟨S_, .f32⟩
  | 44 => ⟨S32x4096x4096, .f32⟩
  | 45 => ⟨S32x4096x4096, .i1⟩
  | 46 => ⟨S_, .f32⟩
  | 47 => ⟨S32x4096x4096, .f32⟩
  | 48 => ⟨S32x4096x4096, .f32⟩
  | 49 => ⟨S32x4096x4096, .f32⟩
  | 50 => ⟨S32x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S32x4096x4096, .f32⟩
  | 59 => ⟨S32x4096x4096, .i1⟩
  | 60 => ⟨S_, .f32⟩
  | 61 => ⟨S32x4096x4096, .f32⟩
  | 62 => ⟨S32x4096x4096, .f32⟩
  | 63 => ⟨S32x4096x4096, .f32⟩
  | 64 => ⟨S32x4096x4096, .f32⟩
  | 65 => ⟨S32x4096x4096, .f32⟩
  | 66 => ⟨S_, .f32⟩
  | 67 => ⟨S32x4096x4096, .f32⟩
  | 68 => ⟨S32x4096x4096, .f32⟩
  | 69 => ⟨S32x4096x4096, .f32⟩
  | 70 => ⟨S32x4096x4096, .f32⟩
  | 71 => ⟨S32x4096x4096, .f32⟩
  | 72 => ⟨S_, .f32⟩
  | 73 => ⟨S32x4096x4096, .f32⟩
  | 74 => ⟨S32x4096x4096, .f32⟩
  | 75 => ⟨S32x4096x4096, .f32⟩
  | 76 => ⟨S32x4096x4096, .f32⟩
  | 77 => ⟨S32x4096x4096, .i1⟩
  | 78 => ⟨S32x4096x4096, .f32⟩
  | 79 => ⟨S32x4096x4096, .f32⟩
  | 80 => ⟨S32x4096x4096, .f32⟩
  | 81 => ⟨S32x4096x4096, .f32⟩
  | 82 => ⟨S32x4096x4096, .f32⟩
  | 83 => ⟨S32x4096x4096, .f32⟩
  | 84 => ⟨S32x4096x4096, .f32⟩
  | 85 => ⟨S32x4096x4096, .f32⟩
  | 86 => ⟨S_, .f32⟩
  | 87 => ⟨S32x4096x4096, .f32⟩
  | 88 => ⟨S32x4096x4096, .i1⟩
  | 89 => ⟨S_, .f32⟩
  | 90 => ⟨S32x4096x4096, .f32⟩
  | 91 => ⟨S32x4096x4096, .f32⟩
  | 92 => ⟨S_, .f32⟩
  | 93 => ⟨S32x4096x4096, .f32⟩
  | 94 => ⟨S32x4096x4096, .i1⟩
  | 95 => ⟨S_, .f32⟩
  | 96 => ⟨S32x4096x4096, .f32⟩
  | 97 => ⟨S32x4096x4096, .f32⟩
  | 98 => ⟨S32x4096x4096, .f32⟩
  | 99 => ⟨S32x4096x4096, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S32x4096x4096, .f32⟩
  | 108 => ⟨S32x4096x4096, .i1⟩
  | 109 => ⟨S_, .f32⟩
  | 110 => ⟨S32x4096x4096, .f32⟩
  | 111 => ⟨S32x4096x4096, .f32⟩
  | 112 => ⟨S32x4096x4096, .f32⟩
  | 113 => ⟨S32x4096x4096, .f32⟩
  | 114 => ⟨S32x4096x4096, .f32⟩
  | 115 => ⟨S_, .f32⟩
  | 116 => ⟨S32x4096x4096, .f32⟩
  | 117 => ⟨S32x4096x4096, .f32⟩
  | 118 => ⟨S32x4096x4096, .f32⟩
  | 119 => ⟨S_, .f32⟩
  | 120 => ⟨S_, .f32⟩
  | 121 => ⟨S32x4096x4096, .i1⟩
  | 122 => ⟨S32x4096x4096, .f32⟩
  | 123 => ⟨S32x4096x4096, .f32⟩
  | 124 => ⟨S_, .f32⟩
  | 125 => ⟨S32x4096x4096, .f32⟩
  | 126 => ⟨S_, .f32⟩
  | 127 => ⟨S_, .f32⟩
  | _ => ⟨S4096x6144, .bf16⟩

abbrev hbmTy0_1 (i : Nat) : BufTy := match i % 128 with
  | 0 => ⟨S32x4096x4096, .f32⟩
  | 1 => ⟨S32x4096x4096, .f32⟩
  | 2 => ⟨S32x4096x4096, .f32⟩
  | 3 => ⟨S32x4096x4096, .f32⟩
  | 4 => ⟨S_, .f32⟩
  | 5 => ⟨S_, .f32⟩
  | 6 => ⟨S32x4096x4096, .i1⟩
  | 7 => ⟨S32x4096x4096, .f32⟩
  | 8 => ⟨S32x4096x4096, .f32⟩
  | 9 => ⟨S_, .f32⟩
  | 10 => ⟨S32x4096x4096, .f32⟩
  | 11 => ⟨S32x64x4096, .f32⟩
  | 12 => ⟨S4096x32x64, .f32⟩
  | 13 => ⟨S4096x2048, .f32⟩
  | 14 => ⟨S4096x2048, .bf16⟩
  | 15 => ⟨S4096x2048, .f32⟩
  | 16 => ⟨S4096x32x64, .f32⟩
  | 17 => ⟨S32x64x4096, .f32⟩
  | 18 => ⟨S32x4096x4096, .f32⟩
  | 19 => ⟨S32x64x4096, .f32⟩
  | 20 => ⟨S4096x32x64, .f32⟩
  | 21 => ⟨S_, .f32⟩
  | 22 => ⟨S32x4096x4096, .f32⟩
  | 23 => ⟨S32x4096x4096, .f32⟩
  | 24 => ⟨S32x4096x4096, .f32⟩
  | 25 => ⟨S32x4096x4096, .f32⟩
  | 26 => ⟨S_, .f32⟩
  | 27 => ⟨S_, .f32⟩
  | 28 => ⟨S32x4096x4096, .f32⟩
  | 29 => ⟨S32x4096x4096, .f32⟩
  | 30 => ⟨S_, .f32⟩
  | 31 => ⟨S32x4096x4096, .f32⟩
  | 32 => ⟨S32x4096x4096, .f32⟩
  | 33 => ⟨S32x4096x4096, .f32⟩
  | 34 => ⟨S32x4096x4096, .f32⟩
  | 35 => ⟨S32x4096x4096, .f32⟩
  | 36 => ⟨S32x4096x4096, .f32⟩
  | 37 => ⟨S32x4096x4096, .f32⟩
  | 38 => ⟨S32x4096x4096, .f32⟩
  | 39 => ⟨S32x4096x4096, .f32⟩
  | 40 => ⟨S32x4096x4096, .f32⟩
  | 41 => ⟨S_, .f32⟩
  | 42 => ⟨S32x4096x4096, .f32⟩
  | 43 => ⟨S32x4096x4096, .f32⟩
  | 44 => ⟨S32x4096x64, .f32⟩
  | 45 => ⟨S4096x32x64, .f32⟩
  | 46 => ⟨S32x4096x64, .f32⟩
  | 47 => ⟨S4096x32x64, .f32⟩
  | 48 => ⟨S4096x2048, .f32⟩
  | 49 => ⟨S4096x2048, .bf16⟩
  | 50 => ⟨S4096x2048, .f32⟩
  | 51 => ⟨S4096x2048, .bf16⟩
  | 52 => ⟨S4096x2048, .f32⟩
  | 53 => ⟨S4096x2048, .bf16⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1_0 : Ref sig .tc := ⟨.hbm, 85, rfl⟩
abbrev main_call1_call0_cst_0 : Ref sig .tc := ⟨.hbm, 86, rfl⟩
abbrev main_call1_call0_v13 : Ref sig .tc := ⟨.hbm, 87, rfl⟩
abbrev main_call1_call0_v14 : Ref sig .tc := ⟨.hbm, 88, rfl⟩
abbrev main_call1_call0_cst_1 : Ref sig .tc := ⟨.hbm, 89, rfl⟩
abbrev main_call1_call0_v15 : Ref sig .tc := ⟨.hbm, 90, rfl⟩
abbrev main_call1_call0_v16 : Ref sig .tc := ⟨.hbm, 91, rfl⟩
abbrev main_call1_call0_cst_2 : Ref sig .tc := ⟨.hbm, 92, rfl⟩
abbrev main_call1_call0_v17 : Ref sig .tc := ⟨.hbm, 93, rfl⟩
abbrev main_call1_call0_v18 : Ref sig .tc := ⟨.hbm, 94, rfl⟩
abbrev main_call1_call0_cst_3 : Ref sig .tc := ⟨.hbm, 95, rfl⟩
abbrev main_call1_call0_v19 : Ref sig .tc := ⟨.hbm, 96, rfl⟩
abbrev main_call1_call0_v20 : Ref sig .tc := ⟨.hbm, 97, rfl⟩
abbrev main_call1_call0_v21 : Ref sig .tc := ⟨.hbm, 98, rfl⟩
abbrev main_v21_1 : Ref sig .tc := ⟨.hbm, 99, rfl⟩
abbrev main_call1_call0_cst_4 : Ref sig .tc := ⟨.hbm, 100, rfl⟩
abbrev main_call1_call0_cst_5 : Ref sig .tc := ⟨.hbm, 101, rfl⟩
abbrev main_call1_call0_v23 : Ref sig .tc := ⟨.hbm, 102, rfl⟩
abbrev main_call1_call0_cst_6 : Ref sig .tc := ⟨.hbm, 103, rfl⟩
abbrev main_call1_call0_cst_7 : Ref sig .tc := ⟨.hbm, 104, rfl⟩
abbrev main_call1_call0_v24 : Ref sig .tc := ⟨.hbm, 105, rfl⟩
abbrev main_call1_call0_cst_8 : Ref sig .tc := ⟨.hbm, 106, rfl⟩
abbrev main_call1_call0_v25 : Ref sig .tc := ⟨.hbm, 107, rfl⟩
abbrev main_call1_call0_v26 : Ref sig .tc := ⟨.hbm, 108, rfl⟩
abbrev main_call1_call0_cst_9 : Ref sig .tc := ⟨.hbm, 109, rfl⟩
abbrev main_call1_call0_v27 : Ref sig .tc := ⟨.hbm, 110, rfl⟩
abbrev main_call1_call0_v28 : Ref sig .tc := ⟨.hbm, 111, rfl⟩
abbrev main_call1_call0_v29 : Ref sig .tc := ⟨.hbm, 112, rfl⟩
abbrev main_call1_call0_v30 : Ref sig .tc := ⟨.hbm, 113, rfl⟩
abbrev main_call1_call0_v31 : Ref sig .tc := ⟨.hbm, 114, rfl⟩
abbrev main_call1_call0_cst_10 : Ref sig .tc := ⟨.hbm, 115, rfl⟩
abbrev main_call1_call0_v32 : Ref sig .tc := ⟨.hbm, 116, rfl⟩
abbrev main_v21_2 : Ref sig .tc := ⟨.hbm, 117, rfl⟩
abbrev main_v21_0 : Ref sig .tc := ⟨.hbm, 118, rfl⟩
abbrev main_cst_0 : Ref sig .tc := ⟨.hbm, 119, rfl⟩
abbrev main_call2_v0 : Ref sig .tc := ⟨.hbm, 120, rfl⟩
abbrev main_v22_1 : Ref sig .tc := ⟨.hbm, 121, rfl⟩
abbrev main_call2_v2 : Ref sig .tc := ⟨.hbm, 122, rfl⟩
abbrev main_v22_0 : Ref sig .tc := ⟨.hbm, 123, rfl⟩
abbrev main_call2_cst : Ref sig .tc := ⟨.hbm, 124, rfl⟩
abbrev main_v22_2 : Ref sig .tc := ⟨.hbm, 125, rfl⟩
abbrev main_call3_cst : Ref sig .tc := ⟨.hbm, 126, rfl⟩
abbrev main_call3_v0 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_call6_cst : Ref sig .tc := ⟨.hbm, 154, rfl⟩
abbrev main_call6_v0 : Ref sig .tc := ⟨.hbm, 155, rfl⟩
abbrev main_v41 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_call8_v0 : Ref sig .tc := ⟨.hbm, 161, rfl⟩
abbrev main_call8_v1 : Ref sig .tc := ⟨.hbm, 162, rfl⟩
abbrev main_v44 : Ref sig .tc := ⟨.hbm, 163, rfl⟩
abbrev main_v45 : Ref sig .tc := ⟨.hbm, 164, rfl⟩
abbrev main_call9_v0 : Ref sig .tc := ⟨.hbm, 165, rfl⟩
abbrev main_call9_v1 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== WinFwd.lean ====
abbrev S4096x2560 : Shape := ⟨2, ![4096, 2560]⟩
abbrev S32 : Shape := ⟨1, ![32]⟩
abbrev S4096x2048 : Shape := ⟨2, ![4096, 2048]⟩
abbrev S128x2048 : Shape := ⟨2, ![128, 2048]⟩
abbrev S128x256 : Shape := ⟨2, ![128, 256]⟩
abbrev S1024x128 : Shape := ⟨2, ![1024, 128]⟩
abbrev S1024x1 : Shape := ⟨2, ![1024, 1]⟩
abbrev S1 : Shape := ⟨1, ![1]⟩
abbrev S128x64 : Shape := ⟨2, ![128, 64]⟩
abbrev S1024x64 : Shape := ⟨2, ![1024, 64]⟩
abbrev S1024 : Shape := ⟨1, ![1024]⟩

abbrev nBuf : Space → Nat
  | .hbm => 3
  | .vmem => 12
  | .smem => 1
  | _ => 0

abbrev bufTy : (tb : Table) → Fin (tcTables nBuf tb) → BufTy
  | .hbm, ⟨0, _⟩ => ⟨S4096x2560, .bf16⟩
  | .hbm, ⟨1, _⟩ => ⟨S32, .f32⟩
  | .hbm, ⟨2, _⟩ => ⟨S4096x2048, .bf16⟩
  | .local _ .vmem, ⟨0, _⟩ => ⟨S128x2048, .bf16⟩
  | .local _ .vmem, ⟨1, _⟩ => ⟨S128x2048, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x2048, .bf16⟩
  | .local _ .vmem, ⟨11, _⟩ => ⟨S128x2048, .bf16⟩
  | .local _ .smem, ⟨0, _⟩ => ⟨S32, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WinFwdIdeal.lean ====
variable {F : FTy → Type} [FloatOps F] [Named F]
def κ : String → Option EReal := fun
  | "neg" => some ⊥
  | "slope" => some ((-((Real.log 2) * 4⁻¹) : ℝ) : EReal)
  | _ => none
-- ==== WinFwdRefIdeal.lean ====
abbrev S4096x2560 : Shape := ⟨2, ![4096, 2560]⟩
abbrev S32 : Shape := ⟨1, ![32]⟩
abbrev S4096x2048 : Shape := ⟨2, ![4096, 2048]⟩
abbrev S4096x256 : Shape := ⟨2, ![4096, 256]⟩
abbrev S32x128x4x8x64 : Shape := ⟨5, ![32, 128, 4, 8, 64]⟩
abbrev S32x128x4x64 : Shape := ⟨4, ![32, 128, 4, 64]⟩
abbrev S_ : Shape := ⟨0, ![]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S4x8 : Shape := ⟨2, ![4, 8]⟩
abbrev S1x4x8x1x1 : Shape := ⟨5, ![1, 4, 8, 1, 1]⟩
abbrev S1x1x1x128x256 : Shape := ⟨5, ![1, 1, 1, 128, 256]⟩
abbrev S1x4x8x128x256 : Shape := ⟨5, ![1, 4, 8, 128, 256]⟩
abbrev S32x1x1x128x256 : Shape := ⟨5, ![32, 1, 1, 128, 256]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩

abbrev nBuf : Space → Nat
  | .hbm => 113
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S32, .f32⟩
  | .hbm, ⟨2, _⟩ => ⟨S4096x2048, .bf16⟩
  | .hbm, ⟨3, _⟩ => ⟨S4096x256, .bf16⟩
  | .hbm, ⟨4, _⟩ => ⟨S4096x256, .bf16⟩
  | .hbm, ⟨5, _⟩ => ⟨S4096x2048, .f32⟩
  | .hbm, ⟨6, _⟩ => ⟨S32x128x4x8x64, .f32⟩
  | .hbm, ⟨7, _⟩ => ⟨S4096x256, .f32⟩
  | .hbm, ⟨8, _⟩ => ⟨S32x128x4x64, .f32⟩
  | .hbm, ⟨9, _⟩ => ⟨S4096x256, .f32⟩
  | .hbm, ⟨10, _⟩ => ⟨S32x128x4x64, .f32⟩
  | .hbm, ⟨11, _⟩ => ⟨S_, .f32⟩
  | .hbm, ⟨12, _⟩ => ⟨S1x128x4x64, .f32⟩
  | .hbm, ⟨13, _⟩ => ⟨S31x128x4x64, .f32⟩
  | .hbm, ⟨14, _⟩ => ⟨S32x128x4x64, .f32⟩
  | .hbm, ⟨15, _⟩ => ⟨S32x256x4x64, .f32⟩
  | .hbm, ⟨16, _⟩ => ⟨S31x128x4x64, .f32⟩
  | .hbm, ⟨17, _⟩ => ⟨S32x128x4x64, .f32⟩
  | .hbm, ⟨18, _⟩ => ⟨S32x256x4x64, .f32⟩
  | .hbm, ⟨19, _⟩ => ⟨S32x4x256x128x8, .f32⟩
  | .hbm, ⟨20, _⟩ => ⟨S32x4x8x128x256, .f32⟩
  | .hbm, ⟨21, _⟩ => ⟨S_, .f32⟩
  | .hbm, ⟨22, _⟩ => ⟨S32x4x8x128x256, .f32⟩
  | .hbm, ⟨23, _⟩ => ⟨S32x4x8x128x256, .f32⟩
  | .hbm, ⟨24, _⟩ => ⟨S128, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S32, .i32⟩
  | .hbm, ⟨35, _⟩ => ⟨S32x1, .i32⟩
  | .hbm, ⟨36, _⟩ => ⟨S_, .i32⟩
  | .hbm, ⟨37, _⟩ => ⟨S32x1, .i32⟩
  | .hbm, ⟨38, _⟩ => ⟨S32x1, .i32⟩
  | .hbm, ⟨39, _⟩ => ⟨S_, .i32⟩
  | .hbm, ⟨40, _⟩ => ⟨S32x1, .i32⟩
  | .hbm, ⟨41, _⟩ => ⟨S32x1, .i32⟩
  | .hbm, ⟨42, _⟩ => ⟨S256, .i32⟩
  | .hbm, ⟨43, _⟩ => ⟨S1x256, .i32⟩
  | .hbm, ⟨44, _⟩ => ⟨S32x256, .i32⟩
  | .hbm, ⟨45, _⟩ => ⟨S32x256, .i32⟩
  | .hbm, ⟨46, _⟩ => ⟨S32x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i1⟩
  | .hbm, ⟨54, _⟩ => ⟨S1x128x256, .i1⟩
  | .hbm, ⟨55, _⟩ => ⟨S_, .i32⟩
  | .hbm, ⟨56, _⟩ => ⟨S32x256, .i32⟩
  | .hbm, ⟨57, _⟩ => ⟨S32x256, .i1⟩
  | .hbm, ⟨58, _⟩ => ⟨S32x1x256, .i1⟩
  | .hbm, ⟨59, _⟩ => ⟨S32x128x256, .i1⟩
  | .hbm, ⟨60, _⟩ => ⟨S32x128x256, .i1⟩
  | .hbm, ⟨61, _⟩ => ⟨S32x128x256, .i1⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S4x8, .f32⟩
  | .hbm, ⟨76, _⟩ => ⟨S1x4x8x1x1, .f32⟩
  | .hbm, ⟨77, _⟩ => ⟨S128x256, .f32⟩
  | .hbm, ⟨78, _⟩ => ⟨S1x1x1x128x256, .f32⟩
  | .hbm, ⟨79, _⟩ => ⟨S1x4x8x128x256, .f32⟩
  | .hbm, ⟨80, _⟩ => ⟨S1x4x8x128x256, .f32⟩
  | .hbm, ⟨81, _⟩ => ⟨S1x4x8x128x256, .f32⟩
  | .hbm, ⟨82, _⟩ => ⟨S32x4x8x128x256, .f32⟩
  | .hbm, ⟨83, _⟩ => ⟨S32x4x8x128x256, .f32⟩
  | .hbm, ⟨84, _⟩ => ⟨S32x1x1x128x256, .i1⟩
  | .hbm, ⟨85, _⟩ => ⟨S_, .f32⟩
  | .hbm, ⟨86, _⟩ => ⟨S_, .f32⟩
  | .hbm, ⟨87, _⟩ => ⟨S32x4x8x128x256, .i1⟩
  | .hbm, ⟨88, _⟩ => ⟨S32x4x8x128x256, .f32⟩
  | .hbm, ⟨89, _⟩ => ⟨S32x4x8x128x256, .f32⟩
  | .hbm, ⟨90, _⟩ => ⟨S4x8, .f32⟩
  | .hbm, ⟨91, _⟩ => ⟨S1x4x8x1x1, .f32⟩
  | .hbm, ⟨92, _⟩ => ⟨S_, .f32⟩
  | .hbm, ⟨93, _⟩ => ⟨S32x4x8x128, .f32⟩
  | .hbm, ⟨94, _⟩ => ⟨S32x4x8x128x1, .f32⟩
  | .hbm, ⟨95, _⟩ => ⟨S32x4x8x128x1, .f32⟩
  | .hbm, ⟨96, _⟩ => ⟨S32x4x8x128x1, .f32⟩
  | .hbm, ⟨97, _⟩ => ⟨S32x4x8x128x256, .f32⟩
  | .hbm, ⟨98, _⟩ => ⟨S32x4x8x128x256, .f32⟩
  | .hbm, ⟨99, _⟩ => ⟨S32x4x8x128x256, .f32⟩
  | .hbm, ⟨100, _⟩ => ⟨S_, .f32⟩
  | .hbm, ⟨101, _⟩ => ⟨S32x4x8x128, .f32⟩
  | .hbm, ⟨102, _⟩ => ⟨S32x4x8x128x1, .f32⟩
  | .hbm, ⟨103, _⟩ => ⟨S32x4x8x128x1, .f32⟩
  | .hbm, ⟨104, _⟩ => ⟨S32x4x8x128x1, .f32⟩
  | .hbm, ⟨105, _⟩ => ⟨S32x4x8x128x1, .f32⟩
  | .hbm, ⟨106, _⟩ => ⟨S32x4x8x128x1, .f32⟩
  | .hbm, ⟨107, _⟩ => ⟨S32x4x8x128x256, .f32⟩
  | .hbm, ⟨108, _⟩ => ⟨S32x4x8x128x256, .f32⟩
  | .hbm, ⟨109, _⟩ => ⟨S32x4x64x8x128, .f32⟩
  | .hbm, ⟨110, _⟩ => ⟨S32x128x4x8x64, .f32⟩
  | .hbm, ⟨111, _⟩ => ⟨S4096x2048, .f32⟩
  | .hbm, ⟨112, _⟩ => ⟨S4096x2048, .bf16⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c_1 : Ref sig .tc := ⟨.hbm, 36, rfl⟩
abbrev main_v31 : Ref sig .tc := ⟨.hbm, 37, rfl⟩
abbrev main_v32 : Ref sig .tc := ⟨.hbm, 38, rfl⟩
abbrev main_c_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_3 : Ref sig .tc := ⟨.hbm, 47, rfl⟩
abbrev main_v40 : Ref sig .tc := ⟨.hbm, 48, rfl⟩
abbrev main_v41 : Ref sig .tc := ⟨.hbm, 49, rfl⟩
abbrev main_c_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_10 : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩

abbrev nD : Nat := 1
abbrev τ : Topo := Topo.v7x

variable {F : FTy → Type} [FloatOps F]
-- ==== StickFwd.lean ====
abbrev S4096x6144 : Shape := ⟨2, ![4096, 6144]⟩
abbrev S4096x2048 : Shape := ⟨2, ![4096, 2048]⟩
abbrev S128x512 : Shape := ⟨2, ![128, 512]⟩
abbrev S4096x512 : Shape := ⟨2, ![4096, 512]⟩
abbrev S128x64 : Shape := ⟨2, ![128, 64]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S128x384 : Shape := ⟨2, ![128, 384]⟩
abbrev S384x64 : Shape := ⟨2, ![384, 64]⟩
abbrev S128x128 : Shape := ⟨2, ![128, 128]⟩
abbrev S6144x128 : Shape := ⟨2, ![6144, 128]⟩
abbrev S128 : Shape := ⟨1, ![128]⟩

abbrev nBuf : Space → Nat
  | .hbm => 2
  | .vmem => 8
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .local _ .vmem, ⟨0, _⟩ => ⟨S128x512, .bf16⟩
  | .local _ .vmem, ⟨1, _⟩ => ⟨S128x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S128x512, .bf16⟩
  | .local _ .vmem, ⟨7, _⟩ => ⟨S128x512, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_mult1 (arg6 : BitVec 32) : BitVec 32 :=
  let c2_i32 : BitVec 32 := 2#32
  let v28 : BitVec 32 := Scalar.subi arg6 c2_i32
  let c0_i32 : BitVec 32 := 0#32
  let v29 : BitVec 32 := Scalar.maxsi v28 c0_i32
  let c128_i32 : BitVec 32 := 128#32
  let v30 : BitVec 32 := Scalar.muli v29 c128_i32
  v30

def k0_off1 (arg6 : BitVec 32) : Fin 2 → Nat :=
  let c2_i32 : BitVec 32 := 2#32
  let v28 : BitVec 32 := Scalar.subi arg6 c2_i32
  let c0_i32 : BitVec 32 := 0#32
  let v29 : BitVec 32 := Scalar.maxsi v28 c0_i32
  let c128_i32 : BitVec 32 := 128#32
  let v30 : BitVec 32 := Scalar.muli v29 c128_i32
  let v44 : BitVec 32 := v30
  let v45 : Index := Scalar.indexCast v44
  let c0_27 : Index := 0#32
  ![v45.toNat, 0]
def k0_off2 (arg6 : BitVec 32) : Fin 2 → Nat :=
  let c2_i32 : BitVec 32 := 2#32
  let v28 : BitVec 32 := Scalar.subi arg6 c2_i32
  let c0_i32 : BitVec 32 := 0#32
  let v29 : BitVec 32 := Scalar.maxsi v28 c0_i32
  let c128_i32 : BitVec 32 := 128#32
  let v30 : BitVec 32 := Scalar.muli v29 c128_i32
  let v44 : BitVec 32 := v30
  let v47 : Index := Scalar.indexCast v44
  let c64_28 : Index := 64#32
  ![v47.toNat, 64]
def k0_off3 (arg6 : BitVec 32) : Fin 2 → Nat :=
  let c2_i32 : BitVec 32 := 2#32
  let v28 : BitVec 32 := Scalar.subi arg6 c2_i32
  let c0_i32 : BitVec 32 := 0#32
  let v29 : BitVec 32 := Scalar.maxsi v28 c0_i32
  let c128_i32 : BitVec 32 := 128#32
  let v30 : BitVec 32 := Scalar.muli v29 c128_i32
  let v44 : BitVec 32 := v30
  let v49 : Index := Scalar.indexCast v44
  let c128_29 : Index := 128#32
  ![v49.toNat, 128]
def k0_off4 (arg6 : BitVec 32) : Fin 2 → Nat :=
  let c2_i32 : BitVec 32 := 2#32
  let v28 : BitVec 32 := Scalar.subi arg6 c2_i32
  let c0_i32 : BitVec 32 := 0#32
  let v29 : BitVec 32 := Scalar.maxsi v28 c0_i32
  let c128_i32 : BitVec 32 := 128#32
  let v30 : BitVec 32 := Scalar.muli v29 c128_i32
  let v44 : BitVec 32 := v30
  let v51 : Index := Scalar.indexCast v44
  let c192_30 : Index := 192#32
  ![v51.toNat, 192]
def k0_off5 (arg6 : BitVec 32) : Fin 2 → Nat :=
  let c2_i32 : BitVec 32 := 2#32
  let v28 : BitVec 32 := Scalar.subi arg6 c2_i32
  let c0_i32 : BitVec 32 := 0#32
  let v29 : BitVec 32 := Scalar.maxsi v28 c0_i32
  let c128_i32 : BitVec 32 := 128#32
  let v30 : BitVec 32 := Scalar.muli v29 c128_i32
  let v44 : BitVec 32 := v30
  let v53 : Index := Scalar.indexCast v44
  let c256_31 : Index := 256#32
  ![v53.toNat, 256]
def k0_off6 (arg6 : BitVec 32) : Fin 2 → Nat :=
  let c2_i32 : BitVec 32 := 2#32
  let v28 : BitVec 32 := Scalar.subi arg6 c2_i32
  let c0_i32 : BitVec 32 := 0#32
  let v29 : BitVec 32 := Scalar.maxsi v28 c0_i32
  let c128_i32 : BitVec 32 := 128#32
  let v30 : BitVec 32 := Scalar.muli v29 c128_i32
  let v44 : BitVec 32 := v30
  let v55 : Index := Scalar.indexCast v44
  let c320_32 : Index := 320#32
  ![v55.toNat, 320]
def k0_off7 (arg6 : BitVec 32) : Fin 2 → Nat :=
  let c2_i32 : BitVec 32 := 2#32
  let v28 : BitVec 32 := Scalar.subi arg6 c2_i32
  let c0_i32 : BitVec 32 := 0#32
  let v29 : BitVec 32 := Scalar.maxsi v28 c0_i32
  let c128_i32 : BitVec 32 := 128#32
  let v30 : BitVec 32 := Scalar.muli v29 c128_i32
  let v44 : BitVec 32 := v30
  let v57 : Index := Scalar.indexCast v44
  let c384_33 : Index := 384#32
  ![v57.toNat, 384]
def k0_off8 (arg6 : BitVec 32) : Fin 2 → Nat :=
  let c2_i32 : BitVec 32 := 2#32
  let v28 : BitVec 32 := Scalar.subi arg6 c2_i32
  let c0_i32 : BitVec 32 := 0#32
  let v29 : BitVec 32 := Scalar.maxsi v28 c0_i32
  let c128_i32 : BitVec 32 := 128#32
  let v30 : BitVec 32 := Scalar.muli v29 c128_i32
  let v44 : BitVec 32 := v30
  let v59 : Index := Scalar.indexCast v44
  let c448_34 : Index := 448#32
  ![v59.toNat, 448]

def k0_chk1 (arg6 : BitVec 32) : Prop :=
  (128 ∣ (k0_mult1 arg6).toNat) ∧
  (∀ a, (k0_off1 arg6) a + S384x64.size a ≤ S4096x512.size a) ∧
  (∀ a, (k0_off2 arg6) a + S384x64.size a ≤ S4096x512.size a) ∧
  (∀ a, (k0_off3 arg6) a + S384x64.size a ≤ S4096x512.size a) ∧
  (∀ a, (k0_off4 arg6) a + S384x64.size a ≤ S4096x512.size a) ∧
  (∀ a, (k0_off5 arg6) a + S384x64.size a ≤ S4096x512.size a) ∧
  (∀ a, (k0_off6 arg6) a + S384x64.size a ≤ S4096x512.size a) ∧
  (∀ a, (k0_off7 arg6) a + S384x64.size a ≤ S4096x512.size a) ∧
  (∀ a, (k0_off8 arg6) a + S384x64.size a ≤ S4096x512.size a)
theorem k0_mult1_dvd : ∀ (arg6 : BitVec 32) (k0_hw1 : k0_chk1 arg6), 128 ∣ (k0_mult1 arg6).toNat := fun arg6 k0_hw1 => k0_hw1.1
theorem k0_off1_inb : ∀ (arg6 : BitVec 32) (k0_hw1 : k0_chk1 arg6), ∀ a, (k0_off1 arg6) a + S384x64.size a ≤ S4096x512.size a := fun arg6 k0_hw1 => k0_hw1.2.1
theorem k0_off2_inb : ∀ (arg6 : BitVec 32) (k0_hw1 : k0_chk1 arg6), ∀ a, (k0_off2 arg6) a + S384x64.size a ≤ S4096x512.size a := fun arg6 k0_hw1 => k0_hw1.2.2.1
theorem k0_off3_inb : ∀ (arg6 : BitVec 32) (k0_hw1 : k0_chk1 arg6), ∀ a, (k0_off3 arg6) a + S384x64.size a ≤ S4096x512.size a := fun arg6 k0_hw1 => k0_hw1.2.2.2.1
theorem k0_off4_inb : ∀ (arg6 : BitVec 32) (k0_hw1 : k0_chk1 arg6), ∀ a, (k0_off4 arg6) a + S384x64.size a ≤ S4096x512.size a := fun arg6 k0_hw1 => k0_hw1.2.2.2.2.1
theorem k0_off5_inb : ∀ (arg6 : BitVec 32) (k0_hw1 : k0_chk1 arg6), ∀ a, (k0_off5 arg6) a + S384x64.size a ≤ S4096x512.size a := fun arg6 k0_hw1 => k0_hw1.2.2.2.2.2.1
theorem k0_off6_inb : ∀ (arg6 : BitVec 32) (k0_hw1 : k0_chk1 arg6), ∀ a, (k0_off6 arg6) a + S384x64.size a ≤ S4096x512.size a := fun arg6 k0_hw1 => k0_hw1.2.2.2.2.2.2.1
theorem k0_off7_inb : ∀ (arg6 : BitVec 32) (k0_hw1 : k0_chk1 arg6), ∀ a, (k0_off7 arg6) a + S384x64.size a ≤ S4096x512.size a := fun arg6 k0_hw1 => k0_hw1.2.2.2.2.2.2.2.1
theorem k0_off8_inb : ∀ (arg6 : BitVec 32) (k0_hw1 : k0_chk1 arg6), ∀ a, (k0_off8 arg6) a + S384x64.size a ≤ S4096x512.size a := fun arg6 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== StickFwdIdeal.lean ====
variable {F : FTy → Type} [FloatOps F] [Named F]
def κ : String → Option EReal := fun
  | "cut" => some ⊥
  | _ => none
-- ==== StickFwdRefIdeal.lean ====
abbrev S4096x6144 : Shape := ⟨2, ![4096, 6144]⟩
abbrev S4096x2048 : Shape := ⟨2, ![4096, 2048]⟩
abbrev S4096x32x64 : Shape := ⟨3, ![4096, 32, 64]⟩
abbrev S32x4096x4096 : Shape := ⟨3, ![32, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S32x64x4096 : Shape := ⟨3, ![32, 64, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x32x64, .f32⟩
  | .hbm, ⟨6, _⟩ => ⟨S4096x2048, .f32⟩
  | .hbm, ⟨7, _⟩ => ⟨S4096x32x64, .f32⟩
  | .hbm, ⟨8, _⟩ => ⟨S4096x2048, .f32⟩
  | .hbm, ⟨9, _⟩ => ⟨S4096x32x64, .f32⟩
  | .hbm, ⟨10, _⟩ => ⟨S32x4096x4096, .f32⟩
  | .hbm, ⟨11, _⟩ => ⟨S_, .f32⟩
  | .hbm, ⟨12, _⟩ => ⟨S32x4096x4096, .f32⟩
  | .hbm, ⟨13, _⟩ => ⟨S32x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S1x4096x4096, .i1⟩
  | .hbm, ⟨21, _⟩ => ⟨S32x4096x4096, .f32⟩
  | .hbm, ⟨22, _⟩ => ⟨S_, .f32⟩
  | .hbm, ⟨23, _⟩ => ⟨S32x4096x4096, .f32⟩
  | .hbm, ⟨24, _⟩ => ⟨S32x4096x4096, .f32⟩
  | .hbm, ⟨25, _⟩ => ⟨S32x4096x4096, .f32⟩
  | .hbm, ⟨26, _⟩ => ⟨S32x4096x4096, .f32⟩
  | .hbm, ⟨27, _⟩ => ⟨S32x4096x4096, .i1⟩
  | .hbm, ⟨28, _⟩ => ⟨S32x4096x4096, .f32⟩
  | .hbm, ⟨29, _⟩ => ⟨S32x4096x4096, .f32⟩
  | .hbm, ⟨30, _⟩ => ⟨S32x4096x4096, .f32⟩
  | .hbm, ⟨31, _⟩ => ⟨S32x4096x4096, .f32⟩
  | .hbm, ⟨32, _⟩ => ⟨S32x4096x4096, .f32⟩
  | .hbm, ⟨33, _⟩ => ⟨S32x4096x4096, .f32⟩
  | .hbm, ⟨34, _⟩ => ⟨S32x4096x4096, .f32⟩
  | .hbm, ⟨35, _⟩ => ⟨S32x4096x4096, .f32⟩
  | .hbm, ⟨36, _⟩ => ⟨S32x4096x4096, .f32⟩
  | .hbm, ⟨37, _⟩ => ⟨S32x4096x4096, .f32⟩
  | .hbm, ⟨38, _⟩ => ⟨S32x4096x4096, .f32⟩
  | .hbm, ⟨39, _⟩ => ⟨S_, .f32⟩
  | .hbm, ⟨40, _⟩ => ⟨S32x4096x4096, .f32⟩
  | .hbm, ⟨41, _⟩ => ⟨S32x4096x4096, .f32⟩
  | .hbm, ⟨42, _⟩ => ⟨S32x4096x4096, .f32⟩
  | .hbm, ⟨43, _⟩ => ⟨S32x4096x4096, .f32⟩
  | .hbm, ⟨44, _⟩ => ⟨S32x4096x4096, .i1⟩
  | .hbm, ⟨45, _⟩ => ⟨S32x4096x4096, .f32⟩
  | .hbm, ⟨46, _⟩ => ⟨S32x4096x4096, .f32⟩
  | .hbm, ⟨47, _⟩ => ⟨S32x4096x4096, .f32⟩
  | .hbm, ⟨48, _⟩ => ⟨S32x4096x4096, .f32⟩
  | .hbm, ⟨49, _⟩ => ⟨S32x4096x4096, .f32⟩
  | .hbm, ⟨50, _⟩ => ⟨S32x4096x4096, .f32⟩
  | .hbm, ⟨51, _⟩ => ⟨S32x4096x4096, .f32⟩
  | .hbm, ⟨52, _⟩ => ⟨S32x4096x4096, .f32⟩
  | .hbm, ⟨53, _⟩ => ⟨S32x4096x4096, .f32⟩
  | .hbm, ⟨54, _⟩ => ⟨S_, .f32⟩
  | .hbm, ⟨55, _⟩ => ⟨S_, .f32⟩
  | .hbm, ⟨56, _⟩ => ⟨S32x4096x4096, .i1⟩
  | .hbm, ⟨57, _⟩ => ⟨S32x4096x4096, .f32⟩
  | .hbm, ⟨58, _⟩ => ⟨S32x4096x4096, .f32⟩
  | .hbm, ⟨59, _⟩ => ⟨S_, .f32⟩
  | .hbm, ⟨60, _⟩ => ⟨S_, .f32⟩
  | .hbm, ⟨61, _⟩ => ⟨S32x4096x4096, .f32⟩
  | .hbm, ⟨62, _⟩ => ⟨S32x4096x4096, .f32⟩
  | .hbm, ⟨63, _⟩ => ⟨S32x4096x4096, .f32⟩
  | .hbm, ⟨64, _⟩ => ⟨S32x4096x4096, .f32⟩
  | .hbm, ⟨65, _⟩ => ⟨S_, .f32⟩
  | .hbm, ⟨66, _⟩ => ⟨S_, .f32⟩
  | .hbm, ⟨67, _⟩ => ⟨S32x4096x4096, .i1⟩
  | .hbm, ⟨68, _⟩ => ⟨S32x4096x4096, .f32⟩
  | .hbm, ⟨69, _⟩ => ⟨S32x4096x4096, .f32⟩
  | .hbm, ⟨70, _⟩ => ⟨S32x64x4096, .f32⟩
  | .hbm, ⟨71, _⟩ => ⟨S4096x32x64, .f32⟩
  | .hbm, ⟨72, _⟩ => ⟨S4096x2048, .f32⟩
  | .hbm, ⟨73, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v21 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v22 : Ref sig .tc := ⟨.hbm, 58, rfl⟩
abbrev main_call3_cst : Ref sig .tc := ⟨.hbm, 59, rfl⟩
abbrev main_call3_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Win.lean ====
abbrev S4096x2560 : Shape := ⟨2, ![4096, 2560]⟩
abbrev S32 : Shape := ⟨1, ![32]⟩
abbrev S4096x2048 : Shape := ⟨2, ![4096, 2048]⟩
abbrev S4096x256 : Shape := ⟨2, ![4096, 256]⟩
abbrev S32x128x4x8x64 : Shape := ⟨5, ![32, 128, 4, 8, 64]⟩
abbrev S32x128x4x64 : Shape := ⟨4, ![32, 128, 4, 64]⟩
abbrev S_ : Shape := ⟨0, ![]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S4x8 : Shape := ⟨2, ![4, 8]⟩
abbrev S1x4x8x1x1 : Shape := ⟨5, ![1, 4, 8, 1, 1]⟩
abbrev S1x1x1x128x256 : Shape := ⟨5, ![1, 1, 1, 128, 256]⟩
abbrev S1x4x8x128x256 : Shape := ⟨5, ![1, 4, 8, 128, 256]⟩
abbrev S32x1x1x128x256 : Shape := ⟨5, ![32, 1, 1, 128, 256]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S8x128 : Shape := ⟨2, ![8, 128]⟩
abbrev S128x2048 : Shape := ⟨2, ![128, 2048]⟩
abbrev S1x128 : Shape := ⟨2, ![1, 128]⟩
abbrev S1024x128 : Shape := ⟨2, ![1024, 128]⟩
abbrev S1024x1 : Shape := ⟨2, ![1024, 1]⟩
abbrev S1 : Shape := ⟨1, ![1]⟩
abbrev S128x64 : Shape := ⟨2, ![128, 64]⟩
abbrev S1024x64 : Shape := ⟨2, ![1024, 64]⟩
abbrev S1024 : Shape := ⟨1, ![1024]⟩
abbrev S1x1 : Shape := ⟨2, ![1, 1]⟩
abbrev S1x32 : Shape := ⟨2, ![1, 32]⟩

abbrev nBuf : Space → Nat
  | .hbm => 120
  | .vmem => 23
  | .smem => 1
  | _ => 0

abbrev bufTy : (tb : Table) → Fin (tcTables nBuf tb) → BufTy
  | .hbm, ⟨0, _⟩ => ⟨S4096x2560, .bf16⟩
  | .hbm, ⟨1, _⟩ => ⟨S32, .f32⟩
  | .hbm, ⟨2, _⟩ => ⟨S4096x2048, .bf16⟩
  | .hbm, ⟨3, _⟩ => ⟨S4096x2048, .bf16⟩
  | .hbm, ⟨4, _⟩ => ⟨S4096x256, .bf16⟩
  | .hbm, ⟨5, _⟩ => ⟨S4096x256, .bf16⟩
  | .hbm, ⟨6, _⟩ => ⟨S4096x2048, .f32⟩
  | .hbm, ⟨7, _⟩ => ⟨S32x128x4x8x64, .f32⟩
  | .hbm, ⟨8, _⟩ => ⟨S4096x256, .f32⟩
  | .hbm, ⟨9, _⟩ => ⟨S32x128x4x64, .f32⟩
  | .hbm, ⟨10, _⟩ => ⟨S4096x256, .f32⟩
  | .hbm, ⟨11, _⟩ => ⟨S32x128x4x64, .f32⟩
  | .hbm, ⟨12, _⟩ => ⟨S_, .f32⟩
  | .hbm, ⟨13, _⟩ => ⟨S1x128x4x64, .f32⟩
  | .hbm, ⟨14, _⟩ => ⟨S31x128x4x64, .f32⟩
  | .hbm, ⟨15, _⟩ => ⟨S32x128x4x64, .f32⟩
  | .hbm, ⟨16, _⟩ => ⟨S32x256x4x64, .f32⟩
  | .hbm, ⟨17, _⟩ => ⟨S31x128x4x64, .f32⟩
  | .hbm, ⟨18, _⟩ => ⟨S32x128x4x64, .f32⟩
  | .hbm, ⟨19, _⟩ => ⟨S32x256x4x64, .f32⟩
  | .hbm, ⟨20, _⟩ => ⟨S32x4x256x128x8, .f32⟩
  | .hbm, ⟨21, _⟩ => ⟨S32x4x8x128x256, .f32⟩
  | .hbm, ⟨22, _⟩ => ⟨S_, .f32⟩
  | .hbm, ⟨23, _⟩ => ⟨S32x4x8x128x256, .f32⟩
  | .hbm, ⟨24, _⟩ => ⟨S32x4x8x128x256, .f32⟩
  | .hbm, ⟨25, _⟩ => ⟨S128, .i32⟩
  | .hbm, ⟨26, _⟩ => ⟨S128x1, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S32, .i32⟩
  | .hbm, ⟨36, _⟩ => ⟨S32x1, .i32⟩
  | .hbm, ⟨37, _⟩ => ⟨S_, .i32⟩
  | .hbm, ⟨38, _⟩ => ⟨S32x1, .i32⟩
  | .hbm, ⟨39, _⟩ => ⟨S32x1, .i32⟩
  | .hbm, ⟨40, _⟩ => ⟨S_, .i32⟩
  | .hbm, ⟨41, _⟩ => ⟨S32x1, .i32⟩
  | .hbm, ⟨42, _⟩ => ⟨S32x1, .i32⟩
  | .hbm, ⟨43, _⟩ => ⟨S256, .i32⟩
  | .hbm, ⟨44, _⟩ => ⟨S1x256, .i32⟩
  | .hbm, ⟨45, _⟩ => ⟨S32x256, .i32⟩
  | .hbm, ⟨46, _⟩ => ⟨S32x256, .i32⟩
  | .hbm, ⟨47, _⟩ => ⟨S32x256, .i32⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S128x256, .i1⟩
  | .hbm, ⟨55, _⟩ => ⟨S1x128x256, .i1⟩
  | .hbm, ⟨56, _⟩ => ⟨S_, .i32⟩
  | .hbm, ⟨57, _⟩ => ⟨S32x256, .i32⟩
  | .hbm, ⟨58, _⟩ => ⟨S32x256, .i1⟩
  | .hbm, ⟨59, _⟩ => ⟨S32x1x256, .i1⟩
  | .hbm, ⟨60, _⟩ => ⟨S32x128x256, .i1⟩
  | .hbm, ⟨61, _⟩ => ⟨S32x128x256, .i1⟩
  | .hbm, ⟨62, _⟩ => ⟨S32x128x256, .i1⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S4x8, .f32⟩
  | .hbm, ⟨77, _⟩ => ⟨S1x4x8x1x1, .f32⟩
  | .hbm, ⟨78, _⟩ => ⟨S128x256, .f32⟩
  | .hbm, ⟨79, _⟩ => ⟨S1x1x1x128x256, .f32⟩
  | .hbm, ⟨80, _⟩ => ⟨S1x4x8x128x256, .f32⟩
  | .hbm, ⟨81, _⟩ => ⟨S1x4x8x128x256, .f32⟩
  | .hbm, ⟨82, _⟩ => ⟨S1x4x8x128x256, .f32⟩
  | .hbm, ⟨83, _⟩ => ⟨S32x4x8x128x256, .f32⟩
  | .hbm, ⟨84, _⟩ => ⟨S32x4x8x128x256, .f32⟩
  | .hbm, ⟨85, _⟩ => ⟨S32x1x1x128x256, .i1⟩
  | .hbm, ⟨86, _⟩ => ⟨S_, .f32⟩
  | .hbm, ⟨87, _⟩ => ⟨S_, .f32⟩
  | .hbm, ⟨88, _⟩ => ⟨S32x4x8x128x256, .i1⟩
  | .hbm, ⟨89, _⟩ => ⟨S32x4x8x128x256, .f32⟩
  | .hbm, ⟨90, _⟩ => ⟨S32x4x8x128x256, .f32⟩
  | .hbm, ⟨91, _⟩ => ⟨S4x8, .f32⟩
  | .hbm, ⟨92, _⟩ => ⟨S1x4x8x1x1, .f32⟩
  | .hbm, ⟨93, _⟩ => ⟨S_, .f32⟩
  | .hbm, ⟨94, _⟩ => ⟨S32x4x8x128, .f32⟩
  | .hbm, ⟨95, _⟩ => ⟨S32x4x8x128x1, .f32⟩
  | .hbm, ⟨96, _⟩ => ⟨S32x4x8x128x1, .f32⟩
  | .hbm, ⟨97, _⟩ => ⟨S32x4x8x128x1, .f32⟩
  | .hbm, ⟨98, _⟩ => ⟨S32x4x8x128x256, .f32⟩
  | .hbm, ⟨99, _⟩ => ⟨S32x4x8x128x256, .f32⟩
  | .hbm, ⟨100, _⟩ => ⟨S32x4x8x128x256, .f32⟩
  | .hbm, ⟨101, _⟩ => ⟨S_, .f32⟩
  | .hbm, ⟨102, _⟩ => ⟨S32x4x8x128, .f32⟩
  | .hbm, ⟨103, _⟩ => ⟨S32x4x8x128x1, .f32⟩
  | .hbm, ⟨104, _⟩ => ⟨S32x4x8x128x1, .f32⟩
  | .hbm, ⟨105, _⟩ => ⟨S32x4x8x128x1, .f32⟩
  | .hbm, ⟨106, _⟩ => ⟨S32x4x8x128x1, .f32⟩
  | .hbm, ⟨107, _⟩ => ⟨S32x4x8x128x1, .f32⟩
  | .hbm, ⟨108, _⟩ => ⟨S32x4x8x128x256, .f32⟩
  | .hbm, ⟨109, _⟩ => ⟨S32x4x8x128x256, .f32⟩
  | .hbm, ⟨110, _⟩ => ⟨S32x4x64x8x128, .f32⟩
  | .hbm, ⟨111, _⟩ => ⟨S32x128x4x8x64, .f32⟩
  | .hbm, ⟨112, _⟩ => ⟨S4096x2048, .f32⟩
  | .hbm, ⟨113, _⟩ => ⟨S4096x2048, .bf16⟩
  | .hbm, ⟨114, _⟩ => ⟨S4096x2048, .bf16⟩
  | .hbm, ⟨115, _⟩ => ⟨S4096x256, .bf16⟩
  | .hbm, ⟨116, _⟩ => ⟨S4096x256, .bf16⟩
  | .hbm, ⟨117, _⟩ => ⟨S8x128, .f32⟩
  | .hbm, ⟨118, _⟩ => ⟨S1x32, .f32⟩
  | .hbm, ⟨119, _⟩ => ⟨S32, .f32⟩
  | .local _ .vmem, ⟨0, _⟩ => ⟨S128x2048, .bf16⟩
  | .local _ .vmem, ⟨1, _⟩ => ⟨S128x2048, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S8x128, .f32⟩
  | .local _ .vmem, ⟨21, _⟩ => ⟨S128x256, .f32⟩
  | .local _ .vmem, ⟨22, _⟩ => ⟨S128x256, .f32⟩
  | .local _ .smem, ⟨0, _⟩ => ⟨S32, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_1 : Ref sig .tc := ⟨.hbm, 37, rfl⟩
abbrev main_v31 : Ref sig .tc := ⟨.hbm, 38, rfl⟩
abbrev main_v32 : Ref sig .tc := ⟨.hbm, 39, rfl⟩
abbrev main_c_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_3 : Ref sig .tc := ⟨.hbm, 48, rfl⟩
abbrev main_v40 : Ref sig .tc := ⟨.hbm, 49, rfl⟩
abbrev main_v41 : Ref sig .tc := ⟨.hbm, 50, rfl⟩
abbrev main_c_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_10 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_11 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93_0 : Ref sig .tc := ⟨.hbm, 114, rfl⟩
abbrev main_v93_1 : Ref sig .tc := ⟨.hbm, 115, rfl⟩
abbrev main_v93_2 : Ref sig .tc := ⟨.hbm, 116, rfl⟩
abbrev main_v93_3 : Ref sig .tc := ⟨.hbm, 117, rfl⟩
abbrev main_v94 : Ref sig .tc := ⟨.hbm, 118, rfl⟩
abbrev main_v95 : Ref sig .tc := ⟨.hbm, 119, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c32_i32_2 : BitVec 32 := 32#32
  let v6 : BitVec 1 := Scalar.cmpi .slt arg0 c32_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c32_i32 : BitVec 32 := 32#32
  let v3 : BitVec 1 := Scalar.cmpi .eq arg0 c32_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  ![v0.toNat, c8_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c9_i32 : BitVec 32 := 9#32
  let c0_i32 : BitVec 32 := 0#32
  ![v0.toNat, c9_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== WinIdeal.lean ====
variable {F : FTy → Type} [FloatOps F] [Named F]
def κ : String → Option EReal := fun
  | "neg" => some ⊥
  | "slope" => some ((-((Real.log 2) * 4⁻¹) : ℝ) : EReal)
  | _ => none
-- ==== WinRefIdeal.lean ====
abbrev S4096x2560 : Shape := ⟨2, ![4096, 2560]⟩
abbrev S32 : Shape := ⟨1, ![32]⟩
abbrev S4096x2048 : Shape := ⟨2, ![4096, 2048]⟩
abbrev S4096x256 : Shape := ⟨2, ![4096, 256]⟩
abbrev S32x128x4x8x64 : Shape := ⟨5, ![32, 128, 4, 8, 64]⟩
abbrev S32x128x4x64 : Shape := ⟨4, ![32, 128, 4, 64]⟩
abbrev S_ : Shape := ⟨0, ![]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S4x8 : Shape := ⟨2, ![4, 8]⟩
abbrev S1x4x8x1x1 : Shape := ⟨5, ![1, 4, 8, 1, 1]⟩
abbrev S1x1x1x128x256 : Shape := ⟨5, ![1, 1, 1, 128, 256]⟩
abbrev S1x4x8x128x256 : Shape := ⟨5, ![1, 4, 8, 128, 256]⟩
abbrev S32x1x1x128x256 : Shape := ⟨5, ![32, 1, 1, 128, 256]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S32x4x64x256 : Shape := ⟨4, ![32, 4, 64, 256]⟩
abbrev S4x8x1 : Shape := ⟨3, ![4, 8, 1]⟩
abbrev S32x4x128x8x64 : Shape := ⟨5, ![32, 4, 128, 8, 64]⟩
abbrev S32x4x256x64 : Shape := ⟨4, ![32, 4, 256, 64]⟩

abbrev nBuf : Space → Nat
  | .hbm => 230
  | .vmem => 0
  | .smem => 0
  | _ => 0

abbrev hbmTy0_0 (i : Nat) : BufTy := match i % 128 with
  | 0 => ⟨S4096x2560, .bf16⟩
  | 1 => ⟨S32, .f32⟩
  | 2 => ⟨S4096x2048, .bf16⟩
  | 3 => ⟨S4096x2048, .bf16⟩
  | 4 => ⟨S4096x256, .bf16⟩
  | 5 => ⟨S4096x256, .bf16⟩
  | 6 => ⟨S4096x2048, .f32⟩
  | 7 => ⟨S32x128x4x8x64, .f32⟩
  | 8 => ⟨S4096x256, .f32⟩
  | 9 => ⟨S32x128x4x64, .f32⟩
  | 10 => ⟨S4096x256, .f32⟩
  | 11 => ⟨S32x128x4x64, .f32⟩
  | 12 => ⟨S_, .f32⟩
  | 13 => ⟨S1x128x4x64, .f32⟩
  | 14 => ⟨S31x128x4x64, .f32⟩
  | 15 => ⟨S32x128x4x64, .f32⟩
  | 16 => ⟨S_, .f32⟩
  | 17 => ⟨S1x128x4x64, .f32⟩
  | 18 => ⟨S32x256x4x64, .f32⟩
  | 19 => ⟨S31x128x4x64, .f32⟩
  | 20 => ⟨S32x128x4x64, .f32⟩
  | 21 => ⟨S_, .f32⟩
  | 22 => ⟨S1x128x4x64, .f32⟩
  | 23 => ⟨S32x256x4x64, .f32⟩
  | 24 => ⟨S32x4x256x128x8, .f32⟩
  | 25 => ⟨S32x4x8x128x256, .f32⟩
  | 26 => ⟨S_, .f32⟩
  | 27 => ⟨S32x4x8x128x256, .f32⟩
  | 28 => ⟨S32x4x8x128x256, .f32⟩
  | 29 => ⟨S128, .i32⟩
  | 30 => ⟨S128x1, .i32⟩
  | 31 => ⟨S_, .i32⟩
  | 32 => ⟨S128x1, .i32⟩
  | 33 => ⟨S128x1, .i32⟩
  | 34 => ⟨S256, .i32⟩
  | 35 => ⟨S1x256, .i32⟩
  | 36 => ⟨S128x256, .i32⟩
  | 37 => ⟨S128x256, .i32⟩
  | 38 => ⟨S128x256, .i32⟩
  | 39 => ⟨S32, .i32⟩
  | 40 => ⟨S32x1, .i32⟩
  | 41 => ⟨S_, .i32⟩
  | 42 => ⟨S32x1, .i32⟩
  | 43 => ⟨S32x1, .i32⟩
  | 44 => ⟨S_, .i32⟩
  | 45 => ⟨S32x1, .i32⟩
  | 46 => ⟨S32x1, .i32⟩
  | 47 => ⟨S256, .i32⟩
  | 48 => ⟨S1x256, .i32⟩
  | 49 => ⟨S32x256, .i32⟩
  | 50 => ⟨S32x256, .i32⟩
  | 51 => ⟨S32x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S1x128x256, .i1⟩
  | 60 => ⟨S_, .i32⟩
  | 61 => ⟨S32x256, .i32⟩
  | 62 => ⟨S32x256, .i1⟩
  | 63 => ⟨S32x1x256, .i1⟩
  | 64 => ⟨S32x128x256, .i1⟩
  | 65 => ⟨S32x128x256, .i1⟩
  | 66 => ⟨S32x128x256, .i1⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S4x8, .f32⟩
  | 81 => ⟨S1x4x8x1x1, .f32⟩
  | 82 => ⟨S128x256, .f32⟩
  | 83 => ⟨S1x1x1x128x256, .f32⟩
  | 84 => ⟨S1x4x8x128x256, .f32⟩
  | 85 => ⟨S1x4x8x128x256, .f32⟩
  | 86 => ⟨S1x4x8x128x256, .f32⟩
  | 87 => ⟨S32x4x8x128x256, .f32⟩
  | 88 => ⟨S32x4x8x128x256, .f32⟩
  | 89 => ⟨S32x1x1x128x256, .i1⟩
  | 90 => ⟨S_, .f32⟩
  | 91 => ⟨S_, .f32⟩
  | 92 => ⟨S32x4x8x128x256, .i1⟩
  | 93 => ⟨S32x4x8x128x256, .f32⟩
  | 94 => ⟨S32x4x8x128x256, .f32⟩
  | 95 => ⟨S_, .f32⟩
  | 96 => ⟨S32x4x8x128x256, .f32⟩
  | 97 => ⟨S4x8, .f32⟩
  | 98 => ⟨S1x4x8x1x1, .f32⟩
  | 99 => ⟨S_, .f32⟩
  | 100 => ⟨S32x4x8x128, .f32⟩
  | 101 => ⟨S32x4x8x128x1, .f32⟩
  | 102 => ⟨S32x4x8x128x256, .f32⟩
  | 103 => ⟨S32x4x8x128x256, .i1⟩
  | 104 => ⟨S32x4x8x128x256, .f32⟩
  | 105 => ⟨S_, .f32⟩
  | 106 => ⟨S32x4x8x128, .f32⟩
  | 107 => ⟨S32x4x8x128x1, .f32⟩
  | 108 => ⟨S32x4x8x128x1, .f32⟩
  | 109 => ⟨S32x4x8x128x1, .f32⟩
  | 110 => ⟨S32x4x8x128x1, .f32⟩
  | 111 => ⟨S32x4x8x128x1, .i1⟩
  | 112 => ⟨S32x4x8x128x1, .f32⟩
  | 113 => ⟨S32x4x8x128x1, .i1⟩
  | 114 => ⟨S_, .f32⟩
  | 115 => ⟨S32x4x8x128x1, .f32⟩
  | 116 => ⟨S_, .f32⟩
  | 117 => ⟨S32x4x8x128x1, .f32⟩
  | 118 => ⟨S_, .f32⟩
  | 119 => ⟨S32x4x8x128x1, .f32⟩
  | 120 => ⟨S32x4x8x128x1, .f32⟩
  | 121 => ⟨S32x4x8x128x1, .f32⟩
  | 122 => ⟨S32x4x8x128x1, .f32⟩
  | 123 => ⟨S32x4x8x128x1, .i1⟩
  | 124 => ⟨S32x4x8x128x1, .f32⟩
  | 125 => ⟨S32x4x8x128x1, .i1⟩
  | 126 => ⟨S_, .f32⟩
  | 127 => ⟨S32x4x8x128x1, .f32⟩
  | _ => ⟨S4096x2560, .bf16⟩

abbrev hbmTy0_1 (i : Nat) : BufTy := match i % 128 with
  | 0 => ⟨S_, .f32⟩
  | 1 => ⟨S32x4x8x128x1, .f32⟩
  | 2 => ⟨S_, .f32⟩
  | 3 => ⟨S32x4x8x128x1, .f32⟩
  | 4 => ⟨S32x4x8x128x1, .f32⟩
  | 5 => ⟨S32x4x8x128x1, .f32⟩
  | 6 => ⟨S32x4x8x128x256, .f32⟩
  | 7 => ⟨S32x4x8x128x256, .f32⟩
  | 8 => ⟨S32x4x8x128x256, .f32⟩
  | 9 => ⟨S_, .f32⟩
  | 10 => ⟨S32x4x8x128, .f32⟩
  | 11 => ⟨S32x4x8x128x1, .f32⟩
  | 12 => ⟨S32x4x8x128x1, .f32⟩
  | 13 => ⟨S32x4x8x128x1, .f32⟩
  | 14 => ⟨S32x4x8x128x1, .f32⟩
  | 15 => ⟨S32x4x8x128x1, .f32⟩
  | 16 => ⟨S32x4x8x128x256, .f32⟩
  | 17 => ⟨S32x4x8x128x256, .f32⟩
  | 18 => ⟨S32x4x8x128x1, .f32⟩
  | 19 => ⟨S_, .f32⟩
  | 20 => ⟨S32x4x8x128x1, .f32⟩
  | 21 => ⟨S32x4x8x128x1, .f32⟩
  | 22 => ⟨S32x4x64x8x128, .f32⟩
  | 23 => ⟨S32x128x4x8x64, .f32⟩
  | 24 => ⟨S4096x2048, .f32⟩
  | 25 => ⟨S4096x2048, .bf16⟩
  | 26 => ⟨S4096x2048, .f32⟩
  | 27 => ⟨S32x128x4x8x64, .f32⟩
  | 28 => ⟨S32x4x64x8x128, .f32⟩
  | 29 => ⟨S32x4x8x128x256, .f32⟩
  | 30 => ⟨S32x4x64x256, .f32⟩
  | 31 => ⟨S32x256x4x64, .f32⟩
  | 32 => ⟨S32x4x8x128x256, .f32⟩
  | 33 => ⟨S32x4x8x128x256, .f32⟩
  | 34 => ⟨S32x4x8x128x256, .f32⟩
  | 35 => ⟨S_, .f32⟩
  | 36 => ⟨S32x4x8x128, .f32⟩
  | 37 => ⟨S32x4x8x128x1, .f32⟩
  | 38 => ⟨S32x4x8x128x1, .f32⟩
  | 39 => ⟨S32x4x8x128x256, .f32⟩
  | 40 => ⟨S32x4x8x128x256, .f32⟩
  | 41 => ⟨S32x4x8x128x1, .f32⟩
  | 42 => ⟨S_, .f32⟩
  | 43 => ⟨S4x8x1, .f32⟩
  | 44 => ⟨S1x4x8x1x1, .f32⟩
  | 45 => ⟨S32x4x8x128x1, .f32⟩
  | 46 => ⟨S_, .f32⟩
  | 47 => ⟨S32x4x8x128, .f32⟩
  | 48 => ⟨S32x4x8x128x256, .f32⟩
  | 49 => ⟨S32x4x8x128x256, .f32⟩
  | 50 => ⟨S32x4x8x128x256, .f32⟩
  | 51 => ⟨S32x4x8x128x256, .f32⟩
  | 52 => ⟨S_, .f32⟩
  | 53 => ⟨S32x4x8x128, .f32⟩
  | 54 => ⟨S32x4x8x128x1, .f32⟩
  | 55 => ⟨S32x4x8x128x1, .f32⟩
  | 56 => ⟨S32x4x8x128x1, .f32⟩
  | 57 => ⟨S_, .f32⟩
  | 58 => ⟨S4x8x1, .f32⟩
  | 59 => ⟨S1x4x8x1x1, .f32⟩
  | 60 => ⟨S1x4x8x1x1, .f32⟩
  | 61 => ⟨S32x4x8x128x1, .f32⟩
  | 62 => ⟨S_, .f32⟩
  | 63 => ⟨S32x4x8x128, .f32⟩
  | 64 => ⟨S32x4x8x128, .f32⟩
  | 65 => ⟨S32x4x8x128x256, .f32⟩
  | 66 => ⟨S32x4x8x128x256, .f32⟩
  | 67 => ⟨S32x4x8x128x256, .f32⟩
  | 68 => ⟨S_, .f32⟩
  | 69 => ⟨S4x8, .f32⟩
  | 70 => ⟨S32, .f32⟩
  | 71 => ⟨S_, .f32⟩
  | 72 => ⟨S32x4x8x128x256, .f32⟩
  | 73 => ⟨S32x4x8x128x256, .f32⟩
  | 74 => ⟨S_, .f32⟩
  | 75 => ⟨S32x4x8x128x256, .f32⟩
  | 76 => ⟨S32x4x8x128x256, .f32⟩
  | 77 => ⟨S32x4x256x128x8, .f32⟩
  | 78 => ⟨S32x4x128x8x64, .f32⟩
  | 79 => ⟨S32x128x4x8x64, .f32⟩
  | 80 => ⟨S32x4x256x64, .f32⟩
  | 81 => ⟨S32x256x4x64, .f32⟩
  | 82 => ⟨S32x128x4x64, .f32⟩
  | 83 => ⟨S32x128x4x64, .f32⟩
  | 84 => ⟨S1x128x4x64, .f32⟩
  | 85 => ⟨S31x128x4x64, .f32⟩
  | 86 => ⟨S_, .f32⟩
  | 87 => ⟨S32x128x4x64, .f32⟩
  | 88 => ⟨S32x128x4x64, .f32⟩
  | 89 => ⟨S32x128x4x64, .f32⟩
  | 90 => ⟨S32x128x4x64, .f32⟩
  | 91 => ⟨S1x128x4x64, .f32⟩
  | 92 => ⟨S31x128x4x64, .f32⟩
  | 93 => ⟨S_, .f32⟩
  | 94 => ⟨S32x128x4x64, .f32⟩
  | 95 => ⟨S32x128x4x64, .f32⟩
  | 96 => ⟨S4096x256, .f32⟩
  | 97 => ⟨S4096x256, .bf16⟩
  | 98 => ⟨S4096x256, .f32⟩
  | 99 => ⟨S4096x256, .bf16⟩
  | 100 => ⟨S4096x2048, .f32⟩
  | 101 => ⟨S4096x2048, .bf16⟩
  | _ => ⟨S4096x2560, .bf16⟩

abbrev hbmTy (i : Nat) : BufTy := match i / 128 with
  | 0 => hbmTy0_0 i
  | 1 => hbmTy0_1 i
  | _ => ⟨S4096x2560, .bf16⟩

abbrev bufTy : (tb : Table) → Fin (tcTables nBuf tb) → BufTy
  | .hbm, ⟨i, _⟩ => hbmTy i
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_12 : Ref sig .tc := ⟨.hbm, 90, rfl⟩
abbrev main_call0_v0 : Ref sig .tc := ⟨.hbm, 91, rfl⟩
abbrev main_v73_1 : Ref sig .tc := ⟨.hbm, 92, rfl⟩
abbrev main_call0_v2 : Ref sig .tc := ⟨.hbm, 93, rfl⟩
abbrev main_v73_0 : Ref sig .tc := ⟨.hbm, 94, rfl⟩
abbrev main_call0_cst : Ref sig .tc := ⟨.hbm, 95, rfl⟩
abbrev main_v73_2 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_cst_17 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_18 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_cst_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_21 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_22 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_23 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_24 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_25 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_26 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_27 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_28 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_29 : Ref sig .tc := ⟨.hbm, 196, rfl⟩
abbrev main_v157 : Ref sig .tc := ⟨.hbm, 197, rfl⟩
abbrev main_v158 : Ref sig .tc := ⟨.hbm, 198, rfl⟩
abbrev main_call1_cst : Ref sig .tc := ⟨.hbm, 199, rfl⟩
abbrev main_call1_v0 : Ref sig .tc := ⟨.hbm, 200, rfl⟩
abbrev main_v159 : Ref sig .tc := ⟨.hbm, 201, rfl⟩
abbrev main_cst_30 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_cst_31 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_32 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩

abbrev nD : Nat := 1
abbrev τ : Topo := Topo.v7x

variable {F : FTy → Type} [FloatOps F]
-- ==== NormFwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mlp.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S4096x8192, .bf16⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .f32⟩
  | .hbm, ⟨8, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Out.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Dh.lean ====
abbrev S4096x8192 : Shape := ⟨2, ![4096, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S4096x8192 : Shape := ⟨2, ![4096, 8192]⟩
abbrev S2048x8192 : Shape := ⟨2, ![2048, 8192]⟩
abbrev S8192x2048 : Shape := ⟨2, ![8192, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S8192x2048, .bf16⟩
  | .hbm, ⟨3, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gout.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoutRefIdeal.lean ====
abbrev S4096x8192 : Shape := ⟨2, ![4096, 8192]⟩
abbrev S4096x2048 : Shape := ⟨2, ![4096, 2048]⟩
abbrev S8192x4096 : Shape := ⟨2, ![8192, 4096]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x4096, .bf16⟩
  | .hbm, ⟨3, _⟩ => ⟨S8192x2048, .f32⟩
  | .hbm, ⟨4, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Adam.lean ====
abbrev S8x16x2048 : Shape := ⟨3, ![8, 16, 2048]⟩
abbrev S1x16x2048 : Shape := ⟨3, ![1, 16, 2048]⟩
abbrev S16x2048 : Shape := ⟨2, ![16, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x16x2048, .f32⟩
  | .hbm, ⟨1, _⟩ => ⟨S1x16x2048, .f32⟩
  | .hbm, ⟨2, _⟩ => ⟨S1x16x2048, .f32⟩
  | .hbm, ⟨3, _⟩ => ⟨S1x16x2048, .f32⟩
  | .hbm, ⟨4, _⟩ => ⟨S1x16x2048, .f32⟩
  | .hbm, ⟨5, _⟩ => ⟨S1x16x2048, .f32⟩
  | .hbm, ⟨6, _⟩ => ⟨S1x16x2048, .f32⟩
  | .hbm, ⟨7, _⟩ => ⟨S1x16x2048, .f32⟩
  | .local _ .vmem, ⟨0, _⟩ => ⟨S8x16x2048, .f32⟩
  | .local _ .vmem, ⟨1, _⟩ => ⟨S1x16x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x16x2048, .f32⟩
  | .local _ .vmem, ⟨7, _⟩ => ⟨S1x16x2048, .f32⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRefIdeal.lean ====
abbrev S8x16x2048 : Shape := ⟨3, ![8, 16, 2048]⟩
abbrev S1x16x2048 : Shape := ⟨3, ![1, 16, 2048]⟩
abbrev S_ : Shape := ⟨0, ![]⟩
abbrev S16x2048 : Shape := ⟨2, ![16, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S1x16x2048, .f32⟩
  | .hbm, ⟨2, _⟩ => ⟨S1x16x2048, .f32⟩
  | .hbm, ⟨3, _⟩ => ⟨S1x16x2048, .f32⟩
  | .hbm, ⟨4, _⟩ => ⟨S_, .f32⟩
  | .hbm, ⟨5, _⟩ => ⟨S16x2048, .f32⟩
  | .hbm, ⟨6, _⟩ => ⟨S1x16x2048, .f32⟩
  | .hbm, ⟨7, _⟩ => ⟨S_, .f32⟩
  | .hbm, ⟨8, _⟩ => ⟨S1x16x2048, .f32⟩
  | .hbm, ⟨9, _⟩ => ⟨S1x16x2048, .f32⟩
  | .hbm, ⟨10, _⟩ => ⟨S_, .f32⟩
  | .hbm, ⟨11, _⟩ => ⟨S1x16x2048, .f32⟩
  | .hbm, ⟨12, _⟩ => ⟨S1x16x2048, .f32⟩
  | .hbm, ⟨13, _⟩ => ⟨S1x16x2048, .f32⟩
  | .hbm, ⟨14, _⟩ => ⟨S_, .f32⟩
  | .hbm, ⟨15, _⟩ => ⟨S1x16x2048, .f32⟩
  | .hbm, ⟨16, _⟩ => ⟨S1x16x2048, .f32⟩
  | .hbm, ⟨17, _⟩ => ⟨S1x16x2048, .f32⟩
  | .hbm, ⟨18, _⟩ => ⟨S_, .f32⟩
  | .hbm, ⟨19, _⟩ => ⟨S1x16x2048, .f32⟩
  | .hbm, ⟨20, _⟩ => ⟨S1x16x2048, .f32⟩
  | .hbm, ⟨21, _⟩ => ⟨S1x16x2048, .f32⟩
  | .hbm, ⟨22, _⟩ => ⟨S_, .f32⟩
  | .hbm, ⟨23, _⟩ => ⟨S1x16x2048, .f32⟩
  | .hbm, ⟨24, _⟩ => ⟨S1x16x2048, .f32⟩
  | .hbm, ⟨25, _⟩ => ⟨S_, .f32⟩
  | .hbm, ⟨26, _⟩ => ⟨S1x16x2048, .f32⟩
  | .hbm, ⟨27, _⟩ => ⟨S1x16x2048, .f32⟩
  | .hbm, ⟨28, _⟩ => ⟨S1x16x2048, .f32⟩
  | .hbm, ⟨29, _⟩ => ⟨S_, .f32⟩
  | .hbm, ⟨30, _⟩ => ⟨S1x16x2048, .f32⟩
  | .hbm, ⟨31, _⟩ => ⟨S1x16x2048, .f32⟩
  | .hbm, ⟨32, _⟩ => ⟨S1x16x2048, .f32⟩
  | .hbm, ⟨33, _⟩ => ⟨S_, .f32⟩
  | .hbm, ⟨34, _⟩ => ⟨S1x16x2048, .f32⟩
  | .hbm, ⟨35, _⟩ => ⟨S1x16x2048, .f32⟩
  | .hbm, ⟨36, _⟩ => ⟨S1x16x2048, .f32⟩
  | .hbm, ⟨37, _⟩ => ⟨S_, .f32⟩
  | .hbm, ⟨38, _⟩ => ⟨S1x16x2048, .f32⟩
  | .hbm, ⟨39, _⟩ => ⟨S1x16x2048, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Act.lean ====
/- The squared-ReLU layer's gradient: `du = (dy · w_outᵀ) · 2·max(u, 0)`, product and gate in one call, against the
   gradient of `relu(u)² · w_out` in `u`. -/
module

public import proofs.«01_k».proof.Defs
public import proofs.«01_k».proof.Proof.Gen.ActIdeal.Value
public import proofs.«01_k».proof.Proof.Gen.ActRefIdeal.Run
public import proofs.«01_k».proof.Proof.Gen.ActRefIdeal.Read
public import Idealize.ShloMosaic.Lib.Pipeline.ValueKit
public import Idealize.ShloMosaic.Lib.Pointwise

@[expose] public section

set_option maxRecDepth 16384

noncomputable section

namespace Cert.Proof.Act

open Idealize.ShloMosaic Idealize.ShloMosaic.TcCoe Idealize.SL.Sem
open Idealize.ShloMosaic.Pipeline (Dat)

/-- The gate's gradient: a cotangent `g` of `relu(u)²` gives `g · 2·max(u, 0)`. -/
theorem gate (g u : EReal) : (if 0 < u then max u 0 * g + g * max u 0 else 0) = g * (((2 : ℝ) : EReal) * max u 0) := by
  split_ifs with h
  · rw [max_eq_left h.le, mul_comm u g, mul_left_comm, show ((2 : ℝ) : EReal) = ((1 : ℝ) : EReal) + ((1 : ℝ) : EReal) by
      rw [← EReal.coe_add]; norm_num, EReal.right_distrib_of_nonneg (by simp) (by simp)]
    simp
  · rw [max_eq_right (not_lt.mp h)]; simp

theorem two : Ideal.ofBits .f32 1073741824#32 = ((2 : ℝ) : EReal) := by
  simp [Ideal.ofBits, Ideal.ieee, -EReal.coe_mul]; norm_num

section Reference
open Cert.ActRefIdeal Cert.ActRefIdeal.Read

/-- The reference's result at an index. -/
theorem ref_apply (x0 : (⟨S4096x2048, .bf16⟩ : BufTy).Contents (Elt Ideal)) (x1 : (⟨S8192x2048, .bf16⟩ : BufTy).Contents (Elt Ideal))
    (x2 : (⟨S4096x8192, .bf16⟩ : BufTy).Contents (Elt Ideal)) (p : S4096x8192.Idx) :
    val_main_v15 (F := Ideal) x0 x1 x2 p
      = (∑ k : Fin 2048, x0 (lidx_main_v9 p k) * x1 (ridx_main_v9 p k)) * (((2 : ℝ) : EReal) * max (x2 p) 0) := by
  rw [val_main_v15_apply, val_main_v14_apply, val_main_v3_apply, val_main_v0_apply, val_main_v2_apply, val_main_v12_apply,
    val_main_v10_apply, val_main_v11_apply, val_main_v9_apply, val_main_v1_apply, val_main_v13_apply, val_main_call0_v0_apply]
  pointwise [val_main_call0_cst, val_main_cst, val_main_cst_1, val_main_v0, val_main_v8, val_main_v6]
  exact gate _ _

end Reference

open Cert.ActIdeal Cert.ActIdeal.Gen

variable (m : (ℓ : Loc nD τ sig) → Buf (Elt Ideal) ℓ)

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![t.val % 8, 0] := (by decide +kernel : ∀ t : Fin grid0.N, win0_1.index t = ![t.val % 8, 0])
theorem idx2 : ∀ t : Fin cfg0.N, win0_2.index t = ![t.val / 8, t.val % 8] := (by decide +kernel : ∀ t : Fin grid0.N, win0_2.index t = ![t.val / 8, t.val % 8])
theorem idx3 : ∀ t : Fin cfg0.N, win0_3.index t = ![t.val / 8, t.val % 8] := (by decide +kernel : ∀ t : Fin grid0.N, win0_3.index t = ![t.val / 8, t.val % 8])

/-- The kernel's result array after its run. -/
theorem final (c : Dev nD) : (dats m 0 c).arrAt 3 cfg0.N = Cert.ActRefIdeal.Read.val_main_v15 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; unfold outsAt0; frame_out
  rw [ref_apply]
  unfold_payloads
  pointwise [two]
  blk_point [iblk, V, idx0 t, idx1 t, idx2 t, idx3 t]

/-- The claim. -/
theorem algebraic : Cert.algebraic_ActIdeal_ActRefIdeal := by
  intro m g m' g' _ hagree
  refine ⟨fun c => Cert.ActRefIdeal.Read.val_main_v15 (F := Ideal) (m ((c : Thread nD τ).loc main_arg0))
    (m ((c : Thread nD τ).loc main_arg1)) (m ((c : Thread nD τ).loc main_arg2)), ?_, ?_⟩
  · exact (θ_run defs _ _).mono (fun r h c => ⟨((h c).1).trans (final m c), (h c).2⟩) (Cert.ActIdeal.Value.run_blocks m g)
  · refine (θ_run Cert.ActRefIdeal.defs _ _).mono (fun r h c => ⟨((h c).1).trans ?_, (h c).2⟩) (Cert.ActRefIdeal.Value.run m' g')
    rw [(hagree c).1, (hagree c).2.1, (hagree c).2.2]
    exact Cert.ActRefIdeal.Read.val_main_v15_eq _ _ _

end Cert.Proof.Act

end
-- ==== Proof.NormFwd.lean ====
/- The norm itself: each row over the root of its mean square, times the gain. -/
module

public import proofs.«01_k».proof.Defs
public import proofs.«01_k».proof.Proof.Gen.NormFwdIdeal.Value
public import proofs.«01_k».proof.Proof.Gen.NormFwdRefIdeal.Run
public import proofs.«01_k».proof.Proof.Gen.NormFwdRefIdeal.Read
public import Idealize.ShloMosaic.Lib.Pipeline.ValueKit
public import Idealize.ShloMosaic.Lib.Pointwise

@[expose] public section

set_option maxRecDepth 16384

noncomputable section

namespace Cert.Proof.NormFwd

open Idealize.ShloMosaic Idealize.ShloMosaic.TcCoe Idealize.SL.Sem
open Idealize.ShloMosaic.Pipeline (Dat)

section Reference
open Cert.NormFwdRefIdeal Cert.NormFwdRefIdeal.Read

/-- The reference's result at an index. -/
theorem ref_apply (x : (⟨S4096x2048, .f32⟩ : BufTy).Contents (Elt Ideal)) (g : (⟨S2048, .f32⟩ : BufTy).Contents (Elt Ideal)) (i : Fin 4096) (j : Fin 2048) :
    val_main_v13 (F := Ideal) x g (ix2 i j) = x (ix2 i j) * Ideal.rsqrt (Ideal.div (∑ k : Fin 2048, x (ix2 i k) * x (ix2 i k))
      (Ideal.ofBits .f32 1157627904#32) + Ideal.ofBits .f32 925353388#32) * g (ix1 j) := by
  rw [val_main_v13_apply, val_main_v12_apply, val_main_v9_apply, val_main_v8_apply, val_main_v7_apply, val_main_v6_apply, val_main_v4_apply,
    val_main_v2_apply, val_main_v1_apply, val_main_v3_apply, val_main_v5_apply, val_main_v11_apply, val_main_v10_apply]
  pointwise [val_main_cst, val_main_cst_0, val_main_cst_1, val_main_v0]
  reads_congr
  all_goals first | rfl | exact congrArg _ (by funext a; fin_cases a <;> rfl)

end Reference

open Cert.NormFwdIdeal Cert.NormFwdIdeal.Gen

variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- Row `a` of block `t`. -/
abbrev at_ (t : Fin cfg0.N) (a : Fin 256) : Fin 4096 := ⟨t.val * 256 + a.val, by have := lt_of_lt_of_eq t.isLt N_0; omega⟩

theorem blk0 (c : Dev nD) (t : Fin cfg0.N) (a : Fin 256) (k : Fin 2048) :
    iblk m c 0 t (ix2 a k) = m ((c : Thread nD τ).loc main_arg0) (ix2 (at_ t a) k) := by
  blk_point [iblk, V, idx0 t]
theorem blk1 (c : Dev nD) (t : Fin cfg0.N) (a : Fin 1) (k : Fin 2048) :
    iblk m c 1 t (ix2 a k) = m ((c : Thread nD τ).loc main_arg1) (ix1 k) := by
  blk_point [iblk, V, idx1 t]

/-- The kernel's result array after its run. -/
theorem final (c : Dev nD) : (dats m 0 c).arrAt 2 cfg0.N = Cert.NormFwdRefIdeal.Read.val_main_v13 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  have he : ((View.whole main_v1).slice (win0_2.rect t)).emb (ix2 y0 y1) = ix2 (at_ t y0) y1 := by blk_ext [idx2 t]
  rw [he, ref_apply]
  frame_out
  unfold_payloads
  pointwise [blk0, blk1]

/-- The claim. -/
theorem algebraic : Cert.algebraic_NormFwdIdeal_NormFwdRefIdeal := by
  intro m g m' g' _ hagree
  refine ⟨fun c => Cert.NormFwdRefIdeal.Read.val_main_v13 (F := Ideal) (m ((c : Thread nD τ).loc main_arg0))
    (m ((c : Thread nD τ).loc main_arg1)), ?_, ?_⟩
  · exact (θ_run defs _ _).mono (fun r h c => ⟨((h c).1).trans (final m c), (h c).2⟩) (Cert.NormFwdIdeal.Value.run_blocks m g)
  · refine (θ_run Cert.NormFwdRefIdeal.defs _ _).mono (fun r h c => ⟨((h c).1).trans ?_, (h c).2⟩) (Cert.NormFwdRefIdeal.Value.run m' g')
    rw [(hagree c).1, (hagree c).2]
    exact Cert.NormFwdRefIdeal.Read.val_main_v13_eq _ _

end Cert.Proof.NormFwd

end
-- ==== Proof.Mlp.lean ====
/- The squared-ReLU layer: the product by `w_in`, kept for the gradient, and the square of its positive part. -/
module

public import proofs.«01_k».proof.Defs
public import proofs.«01_k».proof.Proof.Gen.MlpIdeal.Value
public import proofs.«01_k».proof.Proof.Gen.MlpRefIdeal.Run
public import proofs.«01_k».proof.Proof.Gen.MlpRefIdeal.Read
public import Idealize.ShloMosaic.Lib.Pipeline.ValueKit
public import Idealize.ShloMosaic.Lib.Pointwise

@[expose] public section

set_option maxRecDepth 16384

noncomputable section

namespace Cert.Proof.Mlp

open Idealize.ShloMosaic Idealize.ShloMosaic.TcCoe Idealize.SL.Sem
open Idealize.ShloMosaic.Pipeline (Dat)

section Reference
open Cert.MlpRefIdeal Cert.MlpRefIdeal.Read

variable (h : (⟨S4096x2048, .bf16⟩ : BufTy).Contents (Elt Ideal)) (w : (⟨S2048x8192, .bf16⟩ : BufTy).Contents (Elt Ideal))

/-- The reference's results at an index. -/
theorem ref_u (i : Fin 4096) (j : Fin 8192) :
    val_main_v2 (F := Ideal) h w (ix2 i j) = ∑ k : Fin 2048, h (ix2 i k) * w (ix2 k j) := by
  rw [val_main_v2_apply, val_main_v0_apply]
  pointwise
  reads_congr
  all_goals exact congrArg _ (by funext a; fin_cases a <;> rfl)
theorem ref_act (i : Fin 4096) (j : Fin 8192) :
    val_main_v4 (F := Ideal) h w (ix2 i j)
      = max (∑ k : Fin 2048, h (ix2 i k) * w (ix2 k j)) 0 * max (∑ k : Fin 2048, h (ix2 i k) * w (ix2 k j)) 0 := by
  rw [val_main_v4_apply, val_main_v3_apply, val_main_v1_apply, val_main_v0_apply, val_main_call0_v0_apply]
  pointwise [val_main_call0_cst]
  reads_congr
  all_goals exact congrArg _ (by funext a; fin_cases a <;> rfl)

end Reference

open Cert.MlpIdeal Cert.MlpIdeal.Gen

variable (m : (ℓ : Loc nD τ sig) → Buf (Elt Ideal) ℓ)

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![t.val % 8, 0, 0] := (by decide +kernel : ∀ t : Fin grid0.N, win0_1.index t = ![t.val % 8, 0, 0])
theorem idx2 : ∀ t : Fin cfg0.N, win0_2.index t = ![t.val / 8, t.val % 8] := (by decide +kernel : ∀ t : Fin grid0.N, win0_2.index t = ![t.val / 8, t.val % 8])
theorem idx3 : ∀ t : Fin cfg0.N, win0_3.index t = ![t.val / 8, t.val % 8] := (by decide +kernel : ∀ t : Fin grid0.N, win0_3.index t = ![t.val / 8, t.val % 8])

/-- Row `a`, and column `b`, of block `t`. -/
abbrev ra (t : Fin cfg0.N) (a : Fin 1024) : Fin 4096 := ⟨t.val / 8 * 1024 + a.val, by have := lt_of_lt_of_eq t.isLt N_0; omega⟩
abbrev cb (t : Fin cfg0.N) (b : Fin 1024) : Fin 8192 := ⟨t.val % 8 * 1024 + b.val, by omega⟩

theorem blk0 (c : Dev nD) (t : Fin cfg0.N) (a : Fin 1024) (k : Fin 2048) :
    iblk m c 0 t (ix2 a k) = m ((c : Thread nD τ).loc main_arg0) (ix2 (ra t a) k) := by
  blk_point [iblk, V, idx0 t]

/-- The shards of the weight, one beside the other, are its columns. -/
theorem blk1 (c : Dev nD) (t : Fin cfg0.N) (k : Fin 2048) (b : Fin 1024) :
    iblk m c 1 t (ix3 0 k b) = m ((c : Thread nD τ).loc main_arg1) (ix2 k (cb t b)) := by
  blk_point [iblk, V, idx1 t]

/-- The kernel's result arrays after its run. -/
theorem final2 (c : Dev nD) : (dats m 0 c).arrAt 2 cfg0.N = Cert.MlpRefIdeal.Read.val_main_v2 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  idx_vars y
  have he : ((View.whole main_v2_0).slice (win0_2.rect t)).emb (ix2 y0 y1) = ix2 (ra t y0) (cb t y1) := by blk_ext [idx2 t]
  rw [he, ref_u]
  unfold_payloads
  pointwise [blk0, blk1]
theorem final3 (c : Dev nD) : (dats m 0 c).arrAt 3 cfg0.N = Cert.MlpRefIdeal.Read.val_main_v4 (F := Ideal)
    (m ((c : Thread nD τ).loc main_arg0)) (m ((c : Thread nD τ).loc main_arg1)) := by
  refine (dats m 0 c).arrAt_eq_of_covers 3 _ (by decide +kernel) fun t hf y => ?_
  blk_simp
  rw [after0_3]; unfold outsAt0; frame_out
  idx_vars y
  have he : ((View.whole main_v2_1).slice (win0_3.rect t)).emb (ix2 y0 y1) = ix2 (ra t y0) (cb t y1) := by blk_ext [idx3 t]
  rw [he, ref_act]
  unfold_payloads
  pointwise [blk0, blk1]

/-- The claim. -/
theorem algebraic : Cert.algebraic_MlpIdeal_MlpRefIdeal := by
  intro m g m' g' _ hagree
  refine ⟨fun c => Cert.MlpRefIdeal.Read.val_main_v2 (F := Ideal) (m ((c : Thread nD τ).loc main_arg0)) (m ((c : Thread nD τ).loc main_arg1)),
    fun c => Cert.MlpRefIdeal.Read.val_main_v4 (F := Ideal) (m ((c : Thread nD τ).loc main_arg0)) (m ((c : Thread nD τ).loc main_arg1)), ?_, ?_⟩
  · exact (θ_run defs _ _).mono (fun r h c => ⟨((h c).1).trans (final2 m c), ((h c).2.1).trans (final3 m c), (h c).2.2⟩)
      (Cert.MlpIdeal.Value.run_blocks m g)
  · refine (θ_run Cert.MlpRefIdeal.defs _ _).mono (fun r h c => ⟨((h c).1).trans ?_, ((h c).2.1).trans ?_, (h c).2.2⟩) (Cert.MlpRefIdeal.Value.run m' g')
    all_goals rw [(hagree c).1, (hagree c).2]
    · exact Cert.MlpRefIdeal.Read.val_main_v2_eq _ _
    · exact Cert.MlpRefIdeal.Read.val_main_v4_eq _ _

end Cert.Proof.Mlp

end
-- ==== Proof.Out.lean ====
/- The layer's output product: the activations by `w_out`, summed over four runs of columns, and the residual added. -/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise

@[expose] public section

set_option maxRecDepth 16384

noncomputable section

namespace Cert.Proof.Out

open Idealize.ShloMosaic Idealize.ShloMosaic.TcCoe Idealize.SL.Sem
open Idealize.ShloMosaic.Pipeline (Dat)

/-- The reference's result at an index. -/
theorem ref_out (x : (⟨Cert.OutRefIdeal.S4096x8192, .bf16⟩ : BufTy).Contents (Elt Ideal))
    (w : (⟨Cert.OutRefIdeal.S8192x2048, .bf16⟩ : BufTy).Contents (Elt Ideal))
    (r : (⟨Cert.OutRefIdeal.S4096x2048, .f32⟩ : BufTy).Contents (Elt Ideal)) (i : Fin 4096) (j : Fin 2048) :
    Cert.OutRefIdeal.Read.val_main_v1 (F := Ideal) x w r (ix2 i j) = r (ix2 i j) + ∑ k : Fin 8192, x (ix2 i k) * w (ix2 k j) := by
  rw [Cert.OutRefIdeal.Read.val_main_v1_apply, Cert.OutRefIdeal.Read.val_main_v0_apply]
  pointwise
  reads_congr
  all_goals exact congrArg _ (by funext a; fin_cases a <;> rfl)

open Cert.OutIdeal Cert.OutIdeal.Gen

variable (m : (ℓ : Loc nD τ sig) → Buf (Elt Ideal) ℓ)

theorem idx0 : ∀ t : Fin cfg0.N, win0_0.index t = ![t.val / 8 % 4, t.val % 4] := (by decide +kernel : ∀ t : Fin grid0.N, win0_0.index t = ![t.val / 8 % 4, t.val % 4])
theorem idx1 : ∀ t : Fin cfg0.N, win0_1.index t = ![t.val % 4, t.val / 4 % 2] := (by decide +kernel : ∀ t : Fin grid0.N, win0_1.index t = ![t.val % 4, t.val / 4 % 2])
theorem idx2 : ∀ t : Fin cfg0.N, win0_2.index t = ![t.val / 8 % 4, t.val / 4 % 2] := (by decide +kernel : ∀ t : Fin grid0.N, win0_2.index t = ![t.val / 8 % 4, t.val / 4 % 2])
theorem idx3 : ∀ t : Fin cfg0.N, win0_3.index t = ![t.val / 8 % 4, t.val / 4 % 2] := (by decide +kernel : ∀ t : Fin grid0.N, win0_3.index t = ![t.val / 8 % 4, t.val / 4 % 2])

/-- Summed column `k`, row `a` and column `b` of the blocks of point `p`. -/
abbrev rk (p : ℕ) (k : Fin 2048) : Fin 8192 := ⟨p % 4 * 2048 + k.val, by omega⟩
abbrev ra (p : ℕ) (a : Fin 1024) : Fin 4096 := ⟨p / 8 % 4 * 1024 + a.val, by omega⟩
abbrev cb (p : ℕ) (b : Fin 1024) : Fin 2048 := ⟨p / 4 % 2 * 1024 + b.val, by omega⟩

theorem blk0 (c : Dev nD) (t : Fin cfg0.N) (a : Fin 1024) (k : Fin 2048) :
    iblk m c 0 t (ix2 a k) = m ((c : Thread nD τ).loc main_arg0) (ix2 (ra t.val a) (rk t.val k)) := by
  blk_point [iblk, V, idx0 t]
theorem blk1 (c : Dev nD) (t : Fin cfg0.N) (k : Fin 2048) (b : Fin 1024) :
    iblk m c 1 t (ix2 k b) = m ((c : Thread nD τ).loc main_arg1) (ix2 (rk t.val k) (cb t.val b)) := by
  blk_point [iblk, V, idx1 t]
theorem blk2 (c : Dev nD) (t : Fin cfg0.N) (a b : Fin 1024) :
    iblk m c 2 t (ix2 a b) = m ((c : Thread nD τ).loc main_arg2) (ix2 (ra t.val a) (cb t.val b)) := by
  blk_point [iblk, V, idx2 t]

/-- What point `p` adds to the block it works on. -/
def part (x : S4096x8192.Idx → EReal) (w : S8192x2048.Idx → EReal) (p : ℕ) (j : S1024x1024.Idx) : EReal :=
  ∑ k : Fin 2048, x (ix2 (ra p (j 0)) (rk p k)) * w (ix2 (rk p k) (cb p (j 1)))

/-- The block carried between points, after a run's last point. -/
theorem carried (c : Dev nD) (t : Fin cfg0.N) (ht : t.val % 4 = 3) (j : S1024x1024.Idx) :
    (outsAt0 m c t.val t.isLt).2 j = 0 + ∑ s ∈ Finset.range 4,
      part (m ((c : Thread nD τ).loc main_arg0)) (m ((c : Thread nD τ).loc main_arg1)) (4 * (t.val / 4) + s) j :=
  Pipeline.eq_sum_of_reset_step_apply_of_mod (fun n h => (outsAt0 m c n h).2) 4 (fun _ => 0)
    (part (m ((c : Thread nD τ).loc main_arg0)) (m ((c : Thread nD τ).loc main_arg1)))
    (fun t h j => by
      idx_vars j
      rw [outsAt0_A m c t h (by omega)]; frame_out; unfold_payloads; pointwise [blk0, blk1, part])
    (fun t h j => by
      idx_vars j
      by_cases h3 : t.val % 4 = 3
      on_goal 1 => rw [outsAt0_C m c t h h3]
      on_goal 2 => rw [outsAt0_B m c t h h3]
      all_goals
        frame_out; unfold_payloads; pointwise [blk0, blk1, part]
        exact congrArg (· + _) (congrFun ((Memref.isWhole_whole cc0_scratch0).read_unread _) _))
    t ht j

/-- The kernel's result array after its run. -/
theorem final3 (c : Dev nD) : (dats m 0 c).arrAt 3 cfg0.N = Cert.OutRefIdeal.Read.val_main_v1 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht := (flush0_3 t).mp hf
  idx_vars y
  have hl : (outsAt0 m c t.val t.isLt).1 (ix2 y0 y1)
      = (outsAt0 m c t.val t.isLt).2 (ix2 y0 y1) + m ((c : Thread nD τ).loc main_arg2) (ix2 (ra t.val y0) (cb t.val y1)) := by
    rw [outsAt0_C m c t (by omega) ht]; frame_out; unfold_payloads; pointwise [blk2]
  have he : ((View.whole main_v0).slice (win0_3.rect t)).emb (ix2 y0 y1) = ix2 (ra t.val y0) (cb t.val y1) := by blk_ext [idx3 t]
  rw [after0_3, hl, carried m c t ht, zero_add, he, ref_out, add_comm]
  refine congrArg _ ?_
  rw [Finset.sum_range]
  refine Fin.sum_mul_add_congr (S := 4) fun p a _ => ?_
  have hk : rk (4 * (t.val / 4) + p.val) a = ⟨p.val * 2048 + a.val, by omega⟩ := Fin.ext (by show (4 * (t.val / 4) + p.val) % 4 * 2048 + a.val = p.val * 2048 + a.val; omega)
  have ha : ra (4 * (t.val / 4) + p.val) y0 = ra t.val y0 := Fin.ext (by show (4 * (t.val / 4) + p.val) / 8 % 4 * 1024 + y0.val = t.val / 8 % 4 * 1024 + y0.val; omega)
  have hb : cb (4 * (t.val / 4) + p.val) y1 = cb t.val y1 := Fin.ext (by show (4 * (t.val / 4) + p.val) / 4 % 2 * 1024 + y1.val = t.val / 4 % 2 * 1024 + y1.val; omega)
  rw [hk, show ra (4 * (t.val / 4) + p.val) (ix2 y0 y1 0) = _ from ha, show cb (4 * (t.val / 4) + p.val) (ix2 y0 y1 1) = _ from hb]

/-- The claim. -/
theorem algebraic : Cert.algebraic_OutIdeal_OutRefIdeal := by
  intro m g m' g' _ hagree
  refine ⟨fun c => Cert.OutRefIdeal.Read.val_main_v1 (F := Ideal) (m ((c : Thread nD τ).loc main_arg0)) (m ((c : Thread nD τ).loc main_arg1)) (m ((c : Thread nD τ).loc main_arg2)), ?_, ?_⟩
  · exact (θ_run defs _ _).mono (fun r h c => ⟨((h c).1).trans (final3 m c), (h c).2⟩) (Cert.OutIdeal.Value.run_blocks m g)
  · refine (θ_run Cert.OutRefIdeal.defs _ _).mono (fun r h c => ⟨((h c).1).trans ?_, (h c).2⟩) (Cert.OutRefIdeal.Value.run m' g')
    rw [(hagree c).1, (hagree c).2.1, (hagree c).2.2]
    exact Cert.OutRefIdeal.Read.val_main_v1_eq _ _ _

end Cert.Proof.Out

end
-- ==== Proof.Dh.lean ====
/- The cotangent of the normalised rows: the product by `w_in` turned, summed over its eight runs of columns. -/
module

public import proofs.«01_k».proof.Defs
public import proofs.«01_k».proof.Proof.Gen.DhIdeal.Value
public import proofs.«01_k».proof.Proof.Gen.DhRefIdeal.Run
public import proofs.«01_k».proof.Proof.Gen.DhRefIdeal.Read
public import Idealize.ShloMosaic.Lib.Pipeline.ValueKit
public import Idealize.ShloMosaic.Lib.Pointwise

@[expose] public section

set_option maxRecDepth 16384

noncomputable section

namespace Cert.Proof.Dh

open Idealize.ShloMosaic Idealize.ShloMosaic.TcCoe Idealize.SL.Sem
open Idealize.ShloMosaic.Pipeline (Dat)

/-- The reference's result at an index. -/
theorem ref_dh (u : (⟨Cert.DhRefIdeal.S4096x8192, .bf16⟩ : BufTy).Contents (Elt Ideal))
    (w : (⟨Cert.DhRefIdeal.S2048x8192, .bf16⟩ : BufTy).Contents (Elt Ideal)) (i : Fin 4096) (j : Fin 2048) :
    Cert.DhRefIdeal.Read.val_main_v1 (F := Ideal) u w (ix2 i j) = ∑ k : Fin 8192, u (ix2 i k) * w (ix2 j k) := by
  rw [Cert.DhRefIdeal.Read.val_main_v1_apply]
  pointwise [Cert.DhRefIdeal.Read.val_main_v0_apply]
  reads_congr
  all_goals exact congrArg _ (by funext a; fin_cases a <;> rfl)

open Cert.DhIdeal Cert.DhIdeal.Gen

variable (m : (ℓ : Loc nD τ sig) → Buf (Elt Ideal) ℓ)

theorem idx0 : ∀ t : Fin cfg0.N, win0_0.index t = ![t.val / 16 % 4, t.val % 8] := (by decide +kernel : ∀ t : Fin grid0.N, win0_0.index t = ![t.val / 16 % 4, t.val % 8])
theorem idx1 : ∀ t : Fin cfg0.N, win0_1.index t = ![t.val % 8, t.val / 8 % 2, 0] := (by decide +kernel : ∀ t : Fin grid0.N, win0_1.index t = ![t.val % 8, t.val / 8 % 2, 0])
theorem idx2 : ∀ t : Fin cfg0.N, win0_2.index t = ![t.val / 16 % 4, t.val / 8 % 2] := (by decide +kernel : ∀ t : Fin grid0.N, win0_2.index t = ![t.val / 16 % 4, t.val / 8 % 2])

/-- Summed column `k`, row `a` and column `b` of the blocks of point `p`. -/
abbrev rk (p : ℕ) (k : Fin 1024) : Fin 8192 := ⟨p % 8 * 1024 + k.val, by omega⟩
abbrev ra (p : ℕ) (a : Fin 1024) : Fin 4096 := ⟨p / 16 % 4 * 1024 + a.val, by omega⟩
abbrev cb (p : ℕ) (b : Fin 1024) : Fin 2048 := ⟨p / 8 % 2 * 1024 + b.val, by omega⟩

theorem blk0 (c : Dev nD) (t : Fin cfg0.N) (a k : Fin 1024) :
    iblk m c 0 t (ix2 a k) = m ((c : Thread nD τ).loc main_arg0) (ix2 (ra t.val a) (rk t.val k)) := by
  blk_point [iblk, V, idx0 t]

/-- The shards of the weight, one beside the other, are its columns. -/
theorem blk1 (c : Dev nD) (t : Fin cfg0.N) (b k : Fin 1024) :
    iblk m c 1 t (ix3 0 b k) = m ((c : Thread nD τ).loc main_arg1) (ix2 (cb t.val b) (rk t.val k)) := by
  blk_point [iblk, V, idx1 t]

/-- What point `p` adds to the block it works on. -/
def part (u : S4096x8192.Idx → EReal) (w : S2048x8192.Idx → EReal) (p : ℕ) (j : S1024x1024.Idx) : EReal :=
  ∑ k : Fin 1024, u (ix2 (ra p (j 0)) (rk p k)) * w (ix2 (cb p (j 1)) (rk p k))

/-- The block carried between points, after a run's last point. -/
theorem carried (c : Dev nD) (t : Fin cfg0.N) (ht : t.val % 8 = 7) (j : S1024x1024.Idx) :
    (outsAt0 m c t.val t.isLt).2 j = 0 + ∑ s ∈ Finset.range 8,
      part (m ((c : Thread nD τ).loc main_arg0)) (m ((c : Thread nD τ).loc main_arg1)) (8 * (t.val / 8) + s) j :=
  Pipeline.eq_sum_of_reset_step_apply_of_mod (fun n h => (outsAt0 m c n h).2) 8 (fun _ => 0)
    (part (m ((c : Thread nD τ).loc main_arg0)) (m ((c : Thread nD τ).loc main_arg1)))
    (fun t h j => by
      idx_vars j
      rw [outsAt0_A m c t h (by omega)]; frame_out; unfold_payloads; pointwise [blk0, blk1, part])
    (fun t h j => by
      idx_vars j
      by_cases h7 : t.val % 8 = 7
      on_goal 1 => rw [outsAt0_C m c t h h7]
      on_goal 2 => rw [outsAt0_B m c t h h7]
      all_goals
        frame_out; unfold_payloads; pointwise [blk0, blk1, part]
        exact congrArg (· + _) (congrFun ((Memref.isWhole_whole cc0_scratch0).read_unread _) _))
    t ht j

/-- The kernel's result array after its run. -/
theorem final2 (c : Dev nD) : (dats m 0 c).arrAt 2 cfg0.N = Cert.DhRefIdeal.Read.val_main_v1 (F := Ideal)
    (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  have hl : (outsAt0 m c t.val t.isLt).1 y = (outsAt0 m c t.val t.isLt).2 y := by
    idx_vars y
    rw [outsAt0_C m c t (by omega) ht]; frame_out
  rw [after0_2, hl, carried m c t ht y, zero_add]
  idx_vars y
  have he : ((View.whole main_v2).slice (win0_2.rect t)).emb (ix2 y0 y1) = ix2 (ra t.val y0) (cb t.val y1) := by blk_ext [idx2 t]
  rw [he, ref_dh, Finset.sum_range]
  refine Fin.sum_mul_add_congr (S := 8) fun p a _ => ?_
  have hk : rk (8 * (t.val / 8) + p.val) a = ⟨p.val * 1024 + a.val, by omega⟩ := Fin.ext (by show (8 * (t.val / 8) + p.val) % 8 * 1024 + a.val = p.val * 1024 + a.val; omega)
  have ha : ra (8 * (t.val / 8) + p.val) y0 = ra t.val y0 := Fin.ext (by show (8 * (t.val / 8) + p.val) / 16 % 4 * 1024 + y0.val = t.val / 16 % 4 * 1024 + y0.val; omega)
  have hb : cb (8 * (t.val / 8) + p.val) y1 = cb t.val y1 := Fin.ext (by show (8 * (t.val / 8) + p.val) / 8 % 2 * 1024 + y1.val = t.val / 8 % 2 * 1024 + y1.val; omega)
  rw [hk, show ra (8 * (t.val / 8) + p.val) (ix2 y0 y1 0) = _ from ha, show cb (8 * (t.val / 8) + p.val) (ix2 y0 y1 1) = _ from hb]

/-- The claim. -/
theorem algebraic : Cert.algebraic_DhIdeal_DhRefIdeal := by
  intro m g m' g' _ hagree
  refine ⟨fun c => Cert.DhRefIdeal.Read.val_main_v1 (F := Ideal) (m ((c : Thread nD τ).loc main_arg0)) (m ((c : Thread nD τ).loc main_arg1)), ?_, ?_⟩
  · exact (θ_run defs _ _).mono (fun r h c => ⟨((h c).1).trans (final2 m c), (h c).2⟩) (Cert.DhIdeal.Value.run_blocks m g)
  · refine (θ_run Cert.DhRefIdeal.defs _ _).mono (fun r h c => ⟨((h c).1).trans ?_, (h c).2⟩) (Cert.DhRefIdeal.Value.run m' g')
    rw [(hagree c).1, (hagree c).2]
    exact Cert.DhRefIdeal.Read.val_main_v1_eq _ _

end Cert.Proof.Dh

end
-- ==== Proof.Gout.lean ====
/- The gradient of `w_out`: the product of the activations, turned, by the cotangent, summed over two runs of rows. -/
module

public import proofs.«01_k».proof.Defs
public import proofs.«01_k».proof.Proof.Gen.GoutIdeal.Value
public import proofs.«01_k».proof.Proof.Gen.GoutRefIdeal.Run
public import proofs.«01_k».proof.Proof.Gen.GoutRefIdeal.Read
public import Idealize.ShloMosaic.Lib.Pipeline.ValueKit
public import Idealize.ShloMosaic.Lib.Pointwise

@[expose] public section

set_option maxRecDepth 16384

noncomputable section

namespace Cert.Proof.Gout

open Idealize.ShloMosaic Idealize.ShloMosaic.TcCoe Idealize.SL.Sem
open Idealize.ShloMosaic.Pipeline (Dat)

/-- The reference's result at an index. -/
theorem ref_g (x : (⟨Cert.GoutRefIdeal.S4096x8192, .bf16⟩ : BufTy).Contents (Elt Ideal))
    (y : (⟨Cert.GoutRefIdeal.S4096x2048, .bf16⟩ : BufTy).Contents (Elt Ideal)) (i : Fin 8192) (j : Fin 2048) :
    Cert.GoutRefIdeal.Read.val_main_v2 (F := Ideal) x y (ix2 i j) = ∑ k : Fin 4096, x (ix2 k i) * y (ix2 k j) := by
  rw [Cert.GoutRefIdeal.Read.val_main_v2_apply, Cert.GoutRefIdeal.Read.val_main_v1_apply]
  pointwise [Cert.GoutRefIdeal.Read.val_main_v0_apply]
  reads_congr
  all_goals exact congrArg _ (by funext a; fin_cases a <;> rfl)

open Cert.GoutIdeal Cert.GoutIdeal.Gen

variable (m : (ℓ : Loc nD τ sig) → Buf (Elt Ideal) ℓ)

theorem idx0 : ∀ t : Fin cfg0.N, win0_0.index t = ![t.val % 2, t.val / 4 % 8] := (by decide +kernel : ∀ t : Fin grid0.N, win0_0.index t = ![t.val % 2, t.val / 4 % 8])
theorem idx1 : ∀ t : Fin cfg0.N, win0_1.index t = ![t.val % 2, t.val / 2 % 2] := (by decide +kernel : ∀ t : Fin grid0.N, win0_1.index t = ![t.val % 2, t.val / 2 % 2])
theorem idx2 : ∀ t : Fin cfg0.N, win0_2.index t = ![t.val / 4 % 8, t.val / 2 % 2] := (by decide +kernel : ∀ t : Fin grid0.N, win0_2.index t = ![t.val / 4 % 8, t.val / 2 % 2])

/-- Summed row `k`, row `a` and column `b` of the blocks of point `p`. -/
abbrev rk (p : ℕ) (k : Fin 2048) : Fin 4096 := ⟨p % 2 * 2048 + k.val, by omega⟩
abbrev ra (p : ℕ) (a : Fin 1024) : Fin 8192 := ⟨p / 4 % 8 * 1024 + a.val, by omega⟩
abbrev cb (p : ℕ) (b : Fin 1024) : Fin 2048 := ⟨p / 2 % 2 * 1024 + b.val, by omega⟩

theorem blk0 (c : Dev nD) (t : Fin cfg0.N) (k : Fin 2048) (a : Fin 1024) :
    iblk m c 0 t (ix2 k a) = m ((c : Thread nD τ).loc main_arg0) (ix2 (rk t.val k) (ra t.val a)) := by
  blk_point [iblk, V, idx0 t]
theorem blk1 (c : Dev nD) (t : Fin cfg0.N) (k : Fin 2048) (b : Fin 1024) :
    iblk m c 1 t (ix2 k b) = m ((c : Thread nD τ).loc main_arg1) (ix2 (rk t.val k) (cb t.val b)) := by
  blk_point [iblk, V, idx1 t]

/-- What point `p` adds to the block it works on. -/
def part (x : S4096x8192.Idx → EReal) (y : S4096x2048.Idx → EReal) (p : ℕ) (j : S1024x1024.Idx) : EReal :=
  ∑ k : Fin 2048, x (ix2 (rk p k) (ra p (j 0))) * y (ix2 (rk p k) (cb p (j 1)))

/-- The block carried between points, after a point. -/
theorem carried (c : Dev nD) (t : Fin cfg0.N) (ht : t.val % 2 = 1) (j : S1024x1024.Idx) :
    (outsAt0 m c t.val t.isLt).2 j = 0 + ∑ s ∈ Finset.range 2,
      part (m ((c : Thread nD τ).loc main_arg0)) (m ((c : Thread nD τ).loc main_arg1)) (2 * (t.val / 2) + s) j :=
  Pipeline.eq_sum_of_reset_step_apply_of_mod (fun n h => (outsAt0 m c n h).2) 2 (fun _ => 0)
    (part (m ((c : Thread nD τ).loc main_arg0)) (m ((c : Thread nD τ).loc main_arg1)))
    (fun t h j => by
      idx_vars j
      rw [outsAt0_A m c t h (by omega)]; frame_out; unfold_payloads; pointwise [blk0, blk1, part])
    (fun t h j => by
      idx_vars j
      rw [outsAt0_B m c t h (by omega)]; frame_out; unfold_payloads; pointwise [blk0, blk1, part]
      exact congrArg (· + _) (congrFun ((Memref.isWhole_whole cc0_scratch0).read_unread _) _))
    t ht j

/-- The kernel's result array after its run. -/
theorem final2 (c : Dev nD) : (dats m 0 c).arrAt 2 cfg0.N = Cert.GoutRefIdeal.Read.val_main_v2 (F := Ideal)
    (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  have hl : (outsAt0 m c t.val t.isLt).1 y = (outsAt0 m c t.val t.isLt).2 y := by
    idx_vars y
    rw [outsAt0_B m c t (by omega) ht]; frame_out; unfold_payloads; pointwise
  rw [after0_2, hl, carried m c t ht y, zero_add]
  idx_vars y
  have he : ((View.whole main_v0).slice (win0_2.rect t)).emb (ix2 y0 y1) = ix2 (ra t.val y0) (cb t.val y1) := by blk_ext [idx2 t]
  rw [he, ref_g, Finset.sum_range]
  refine Fin.sum_mul_add_congr (S := 2) fun p a _ => ?_
  have hk : rk (2 * (t.val / 2) + p.val) a = ⟨p.val * 2048 + a.val, by omega⟩ := Fin.ext (by show (2 * (t.val / 2) + p.val) % 2 * 2048 + a.val = p.val * 2048 + a.val; omega)
  have ha : ra (2 * (t.val / 2) + p.val) y0 = ra t.val y0 := Fin.ext (by show (2 * (t.val / 2) + p.val) / 4 % 8 * 1024 + y0.val = t.val / 4 % 8 * 1024 + y0.val; omega)
  have hb : cb (2 * (t.val / 2) + p.val) y1 = cb t.val y1 := Fin.ext (by show (2 * (t.val / 2) + p.val) / 2 % 2 * 1024 + y1.val = t.val / 2 % 2 * 1024 + y1.val; omega)
  show _ * _ = _
  rw [hk, show ra (2 * (t.val / 2) + p.val) (ix2 y0 y1 0) = _ from ha, show cb (2 * (t.val / 2) + p.val) (ix2 y0 y1 1) = _ from hb]

/-- The claim. -/
theorem algebraic : Cert.algebraic_GoutIdeal_GoutRefIdeal := by
  intro m g m' g' _ hagree
  refine ⟨fun c => Cert.GoutRefIdeal.Read.val_main_v2 (F := Ideal) (m ((c : Thread nD τ).loc main_arg0)) (m ((c : Thread nD τ).loc main_arg1)), ?_, ?_⟩
  · exact (θ_run defs _ _).mono (fun r h c => ⟨((h c).1).trans (final2 m c), (h c).2⟩) (Cert.GoutIdeal.Value.run_blocks m g)
  · refine (θ_run Cert.GoutRefIdeal.defs _ _).mono (fun r h c => ⟨((h c).1).trans ?_, (h c).2⟩) (Cert.GoutRefIdeal.Value.run m' g')
    rw [(hagree c).1, (hagree c).2]
    exact Cert.GoutRefIdeal.Read.val_main_v2_eq _ _

end Cert.Proof.Gout

end
-- ==== Proof.Adam.lean ====
/- The optimiser's step for the small parameters: the sum of the devices' gradients and AdamW, element by element. -/
module

public import proofs.«01_k».proof.Defs
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit
public import Idealize.ShloMosaic.Lib.Pointwise

@[expose] public section

set_option maxRecDepth 16384

noncomputable section

namespace Cert.Proof.Adam

open Idealize.ShloMosaic Idealize.ShloMosaic.TcCoe Idealize.SL.Sem
open Idealize.ShloMosaic.Pipeline (Dat)
open Cert.AdamRefIdeal.Read

/-- The reference's summed gradient at an index. -/
theorem ref_g (p : (⟨Cert.AdamRefIdeal.S8x16x2048, .f32⟩ : BufTy).Contents (Elt Ideal)) (z : Fin 1) (a : Fin 16) (b : Fin 2048) :
    val_main_v1 (F := Ideal) p (ix3 z a b) = p (ix3 0 a b) + p (ix3 1 a b) + p (ix3 2 a b) + p (ix3 3 a b) + p (ix3 4 a b)
      + p (ix3 5 a b) + p (ix3 6 a b) + p (ix3 7 a b) := by
  rw [val_main_v1_apply, val_main_v0_apply, Fin.sum_univ_eight]
  pointwise [val_main_cst]
  reads_congr
  all_goals exact congrArg _ (by funext a; fin_cases a <;> rfl)

open Cert.AdamIdeal Cert.AdamIdeal.Gen

variable (m : (ℓ : Loc nD τ sig) → Buf (Elt Ideal) ℓ)

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0, 0] := (by decide +kernel : ∀ t : Fin grid0.N, win0_7.index t = ![0, 0, 0])

/-- The one block of each argument is the argument. -/
theorem blk0 (c : Dev nD) (t : Fin cfg0.N) (s : Fin 8) (a : Fin 16) (b : Fin 2048) :
    iblk m c 0 t (ix3 s a b) = m ((c : Thread nD τ).loc main_arg0) (ix3 s a b) := by
  blk_point [iblk, V, idx0 t]
theorem blk1 (c : Dev nD) (t : Fin cfg0.N) (s : Fin 1) (a : Fin 16) (b : Fin 2048) :
    iblk m c 1 t (ix3 s a b) = m ((c : Thread nD τ).loc main_arg1) (ix3 s a b) := by
  blk_point [iblk, V, idx1 t]
theorem blk2 (c : Dev nD) (t : Fin cfg0.N) (s : Fin 1) (a : Fin 16) (b : Fin 2048) :
    iblk m c 2 t (ix3 s a b) = m ((c : Thread nD τ).loc main_arg2) (ix3 s a b) := by
  blk_point [iblk, V, idx2 t]
theorem blk3 (c : Dev nD) (t : Fin cfg0.N) (s : Fin 1) (a : Fin 16) (b : Fin 2048) :
    iblk m c 3 t (ix3 s a b) = m ((c : Thread nD τ).loc main_arg3) (ix3 s a b) := by
  blk_point [iblk, V, idx3 t]

/-- The kernel's result arrays after its run. -/
theorem final4 (c : Dev nD) : (dats m 0 c).arrAt 4 cfg0.N = val_main_v1 (F := Ideal) (m ((c : Thread nD τ).loc main_arg0)) := by
  refine (dats m 0 c).arrAt_eq_of_covers 4 _ (by decide +kernel) fun t hf y => ?_
  blk_simp
  rw [after0_4]; frame_out
  idx_vars y
  have he : ((View.whole main_v0_0).slice (win0_4.rect t)).emb (ix3 y0 y1 y2) = ix3 y0 y1 y2 := by blk_ext [idx4 t]
  rw [he, ref_g]
  unfold_payloads
  pointwise [blk0]
theorem final6 (c : Dev nD) : (dats m 0 c).arrAt 6 cfg0.N
    = val_main_v6 (F := Ideal) (m ((c : Thread nD τ).loc main_arg0)) (m ((c : Thread nD τ).loc main_arg2)) := by
  refine (dats m 0 c).arrAt_eq_of_covers 6 _ (by decide +kernel) fun t hf y => ?_
  blk_simp
  rw [after0_6]; frame_out
  idx_vars y
  obtain rfl : y0 = 0 := Subsingleton.elim _ _
  have he : ((View.whole main_v0_2).slice (win0_6.rect t)).emb (ix3 0 y1 y2) = ix3 0 y1 y2 := by blk_ext [idx6 t]
  rw [he, val_main_v6_apply, val_main_v5_apply, val_main_v4_apply, val_main_v3_apply, val_main_v2_apply, ref_g]
  unfold_payloads
  pointwise [blk0, blk2, val_main_cst_0, val_main_cst_1]
theorem final7 (c : Dev nD) : (dats m 0 c).arrAt 7 cfg0.N
    = val_main_v12 (F := Ideal) (m ((c : Thread nD τ).loc main_arg0)) (m ((c : Thread nD τ).loc main_arg3)) := by
  refine (dats m 0 c).arrAt_eq_of_covers 7 _ (by decide +kernel) fun t hf y => ?_
  blk_simp
  rw [after0_7]; frame_out
  idx_vars y
  obtain rfl : y0 = 0 := Subsingleton.elim _ _
  have he : ((View.whole main_v0_3).slice (win0_7.rect t)).emb (ix3 0 y1 y2) = ix3 0 y1 y2 := by blk_ext [idx7 t]
  rw [he, val_main_v12_apply, val_main_v11_apply, val_main_v10_apply, val_main_v9_apply, val_main_v8_apply, val_main_v7_apply, ref_g]
  unfold_payloads
  pointwise [blk0, blk3, val_main_cst_2, val_main_cst_3]
theorem final5 (c : Dev nD) : (dats m 0 c).arrAt 5 cfg0.N
    = val_main_v25 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5]; frame_out
  idx_vars y
  obtain rfl : y0 = 0 := Subsingleton.elim _ _
  have he : ((View.whole main_v0_1).slice (win0_5.rect t)).emb (ix3 0 y1 y2) = ix3 0 y1 y2 := by blk_ext [idx5 t]
  rw [he, val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply, ref_g]
  unfold_payloads
  pointwise [blk0, blk1, blk2, blk3, val_main_cst_0, val_main_cst_1, val_main_cst_2, val_main_cst_3, val_main_cst_4, val_main_cst_5,
    val_main_cst_6, val_main_cst_7, val_main_cst_8]

/-- The claim. -/
theorem algebraic : Cert.algebraic_AdamIdeal_AdamRefIdeal := by
  intro m g m' g' _ hagree
  refine ⟨fun c => val_main_v1 (F := Ideal) (m ((c : Thread nD τ).loc main_arg0)),
    fun c => val_main_v25 (F := Ideal) (m ((c : Thread nD τ).loc main_arg0)) (m ((c : Thread nD τ).loc main_arg1))
      (m ((c : Thread nD τ).loc main_arg2)) (m ((c : Thread nD τ).loc main_arg3)),
    fun c => val_main_v6 (F := Ideal) (m ((c : Thread nD τ).loc main_arg0)) (m ((c : Thread nD τ).loc main_arg2)),
    fun c => val_main_v12 (F := Ideal) (m ((c : Thread nD τ).loc main_arg0)) (m ((c : Thread nD τ).loc main_arg3)), ?_, ?_⟩
  · exact (θ_run defs _ _).mono (fun r h c => ⟨((h c).1).trans (final4 m c), ((h c).2.1).trans (final5 m c),
      ((h c).2.2.1).trans (final6 m c), ((h c).2.2.2.1).trans (final7 m c), (h c).2.2.2.2⟩) (Cert.AdamIdeal.Value.run_blocks m g)
  · refine (θ_run Cert.AdamRefIdeal.defs _ _).mono (fun r h c => ⟨((h c).1).trans ?_, ((h c).2.1).trans ?_,
      ((h c).2.2.1).trans ?_, ((h c).2.2.2.1).trans ?_, (h c).2.2.2.2⟩) (Cert.AdamRefIdeal.Value.run m' g')
    · rw [(hagree c).1]; exact val_main_v1_eq _
    · rw [(hagree c).1, (hagree c).2.1, (hagree c).2.2.1, (hagree c).2.2.2]; exact val_main_v25_eq _ _ _ _
    · rw [(hagree c).1, (hagree c).2.2.1]; exact val_main_v6_eq _ _
    · rw [(hagree c).1, (hagree c).2.2.2]; exact val_main_v12_eq _ _

end Cert.Proof.Adam

end
-- ==== Proof.Finite.lean ====
/- Arrays whose elements are all finite, and the gradient of a row's norm over the reals. -/
module

public import Idealize.ShloMosaic.Lib.ReduceAll
public import Idealize.ShloMosaic.Lib.Pointwise

@[expose] public section

set_option maxRecDepth 16384

noncomputable section

namespace Cert.Proof.Finite

open Idealize.ShloMosaic

/-- The literal of +∞. -/
theorem inf : Ideal.ofBits .f32 2139095040#32 = ⊤ := by
  simp [Ideal.ofBits, Ideal.ieee]

/-- Every element of `x` is a real number. -/
abbrev IsReal {s : Shape} {φ : FTy} (x : FVec Ideal s φ) : Prop := ∃ f : s.Idx → ℝ, x = fun i => ((f i : ℝ) : EReal)

/-- The bfloat16 literal of +∞. -/
theorem inf16 : Ideal.ofBits .bf16 0x7F80#16 = ⊤ := by
  simp [Ideal.ofBits, Ideal.ieee]

theorem coe_of_abs_lt (x : EReal) (h : max x (-x) < ⊤) : x = ((x.toReal : ℝ) : EReal) := by
  induction x with
  | bot => simp at h
  | coe a => simp
  | top => simp at h

/-- An array whose absolute values are all below +∞ holds real numbers only. -/
theorem real_of_all_below {s t u v : Shape} {φ : FTy} {axes : List (Fin s.rank)} {dims : Fin v.rank → Fin s.rank} [Subsingleton t.Idx]
    (w : BitVec φ.bits) (hw : Ideal.ofBits φ w = ⊤)
    (x : FVec Ideal s φ) (hb : v.BroadcastsInDim s dims) (init : IVec u 1) (h : s.ReducesTo axes t) (hu : 0 < u.numel) (j : t.Idx)
    (e : Host.reduce IntOp.andi (cmpf .olt (Host.absf x) (broadcastInDim s dims hb (constant (F := Ideal) v φ w))) init h hu j = 1#1) :
    IsReal x := by
  refine ⟨fun i => (x i).toReal, funext fun i => coe_of_abs_lt _ ?_⟩
  have := Host.reduce_andi_all _ init h hu j e i
  have h2 : Ideal.cmp .olt (max (x i) (-(x i))) (Ideal.ofBits φ w) = 1#1 := this
  rw [hw] at h2
  by_contra hn
  simp [Ideal.cmp, hn] at h2

theorem real_of_all {s t u v : Shape} {axes : List (Fin s.rank)} {dims : Fin v.rank → Fin s.rank} [Subsingleton t.Idx]
    (x : FVec Ideal s .f32) (hb : v.BroadcastsInDim s dims) (init : IVec u 1) (h : s.ReducesTo axes t) (hu : 0 < u.numel) (j : t.Idx)
    (e : Host.reduce IntOp.andi (cmpf .olt (Host.absf x) (broadcastInDim s dims hb (constant (F := Ideal) v .f32 0x7F800000#32))) init h hu j = 1#1) :
    IsReal x := real_of_all_below _ inf x hb init h hu j e

theorem andi_one {a b : BitVec 1} (h : IntOp.andi a b = 1#1) : a = 1#1 ∧ b = 1#1 := by
  revert a b; decide

instance : Subsingleton (Shape.Idx (⟨0, ![]⟩ : Shape)) := ⟨fun a b => funext fun i => i.elim0⟩

/-- A sum of real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Cert.Proof.Finite

namespace Cert.Proof.Rms

open Idealize.ShloMosaic Cert.Proof.Finite

/-- The norm's ε, its literal's exact value. -/
def eps : ℝ := 10995116 / 1099511627776

theorem eps_pos : 0 < eps := by norm_num [eps]

theorem lit_eps : Ideal.ofBits .f32 925353388#32 = ((eps : ℝ) : EReal) := by
  unfold eps; simp [Ideal.ofBits, Ideal.ieee, -EReal.coe_mul]; norm_num
theorem lit_n : Ideal.ofBits .f32 1157627904#32 = ((2048 : ℝ) : EReal) := by
  simp [Ideal.ofBits, Ideal.ieee, -EReal.coe_mul]; norm_num
theorem lit_mhalf : Ideal.ofBits .f32 3204448256#32 = ((-(1/2) : ℝ) : EReal) := by
  simp [Ideal.ofBits, Ideal.ieee, -EReal.coe_mul]; norm_num

variable (X D G : Fin 2048 → ℝ)

/-- A row's mean square, with ε. -/
def ms : ℝ := (∑ k, X k * X k) * (1 / 2048) + eps

theorem ms_pos : 0 < ms X :=
  add_pos_of_nonneg_of_pos (mul_nonneg (Finset.sum_nonneg fun k _ => mul_self_nonneg _) (by norm_num)) eps_pos

/-- A row's scale, one over the root of its mean square. -/
def r : ℝ := (Real.sqrt (ms X))⁻¹

theorem rsqrt_ms : Ideal.rsqrt ((ms X : ℝ) : EReal) = ((r X : ℝ) : EReal) := by
  rw [Ideal.rsqrt_coe, if_neg (ms_pos X).le.not_gt, if_neg (ms_pos X).ne']; rfl

/-- The scale's derivative: the scale over the mean square is the scale cubed. -/
theorem r_div : r X * (1 / ms X) = r X * r X * r X := by
  have : r X * r X = 1 / ms X := by
    unfold r; rw [← mul_inv, Real.mul_self_sqrt (ms_pos X).le, one_div]
  rw [← this]; ring

/-- The mean square as the programs compute it. -/
theorem ms_eq : Ideal.div (∑ k, (X k : EReal) * (X k : EReal)) ((2048 : ℝ) : EReal) + ((eps : ℝ) : EReal) = ((ms X : ℝ) : EReal) := by
  rw [Ideal.div_coe (by norm_num)]
  simp only [← EReal.coe_mul, ← coe_sum, ← EReal.coe_add]; rfl

/-- The gradient in the row's element `k` of `Σ_j D_j · X_j · r · G_j`. -/
def dx (k : Fin 2048) : ℝ := r X * (D k * G k - X k * r X * ((∑ j, D j * G j * (X j * r X)) * (1 / 2048)))

/-- The gradient as the hand-written backward computes it. -/
theorem dx_ker (k : Fin 2048) :
    (r X : EReal) * ((D k : EReal) * (G k : EReal) - (X k : EReal) * (r X : EReal)
      * Ideal.div (∑ j, (D j : EReal) * (G j : EReal) * ((X j : EReal) * (r X : EReal))) ((2048 : ℝ) : EReal)) = ((dx X D G k : ℝ) : EReal) := by
  rw [Ideal.div_coe (by norm_num)]
  simp only [← EReal.coe_mul, ← coe_sum, ← EReal.coe_sub]; rfl

/-- The same of arrays that hold the row. -/
theorem dx_of (x d g : Fin 2048 → EReal) (hx : ∀ k, x k = X k) (hd : ∀ k, d k = D k) (hg : ∀ k, g k = G k) (k : Fin 2048) :
    Ideal.rsqrt (Ideal.div (∑ k, x k * x k) ((2048 : ℝ) : EReal) + ((eps : ℝ) : EReal)) * (d k * g k - x k
      * Ideal.rsqrt (Ideal.div (∑ k, x k * x k) ((2048 : ℝ) : EReal) + ((eps : ℝ) : EReal))
      * Ideal.div (∑ j, d j * g j * (x j * Ideal.rsqrt (Ideal.div (∑ k, x k * x k) ((2048 : ℝ) : EReal) + ((eps : ℝ) : EReal)))) ((2048 : ℝ) : EReal))
      = ((dx X D G k : ℝ) : EReal) := by
  simp only [hx, hd, hg]
  rw [← dx_ker, ← rsqrt_ms, ← ms_eq]

/-- The gradient as differentiation gives it: the mean square's part, counted once for each of its two factors. -/
theorem dx_ref (k : Fin 2048) (z : EReal) :
    z + (D k : EReal) * (G k : EReal) * (r X : EReal)
      + (X k : EReal) * Ideal.div ((∑ j, (X j : EReal) * ((D j : EReal) * (G j : EReal)))
          * (((-(1/2) : ℝ) : EReal) * Ideal.div (r X : EReal) (ms X : EReal))) ((2048 : ℝ) : EReal)
      + Ideal.div ((∑ j, (X j : EReal) * ((D j : EReal) * (G j : EReal)))
          * (((-(1/2) : ℝ) : EReal) * Ideal.div (r X : EReal) (ms X : EReal))) ((2048 : ℝ) : EReal) * (X k : EReal)
      = ((dx X D G k : ℝ) : EReal) + z := by
  rw [Ideal.div_coe (by norm_num), Ideal.div_coe (ms_pos X).ne', add_assoc, add_assoc, add_comm z]
  simp only [← EReal.coe_mul, ← coe_sum, ← EReal.coe_add]
  congr 2
  rw [r_div]
  unfold dx
  rw [show (∑ j, D j * G j * (X j * r X)) = (∑ j, X j * (D j * G j)) * r X by
    rw [Finset.sum_mul]; exact Finset.sum_congr rfl fun j _ => by ring]
  ring

/-- The shape of the arrays the norm is of. -/
abbrev XShape : Shape := ⟨2, ![4096, 2048]⟩
/-- Real numbers as an array's elements. -/
abbrev up {s : Shape} (f : s.Idx → ℝ) : s.Idx → EReal := fun i => (f i : EReal)
/-- Row `a` of an array. -/
abbrev row (f : XShape.Idx → ℝ) (a : Fin 4096) : Fin 2048 → ℝ := fun k => f (ix2 a k)

/-- Two readings of an array at the same row and lane. -/
theorem at2 (f : XShape.Idx → ℝ) (p q : XShape.Idx) (h0 : p 0 = q 0) (h1 : p 1 = q 1) : f p = f q :=
  congrArg f (funext fun a => match a with
    | ⟨0, _⟩ => h0
    | ⟨1, _⟩ => h1)

/-- The loss's error in a row: the norm's output less the target. -/
def err (X G T : Fin 2048 → ℝ) (k : Fin 2048) : ℝ := X k * r X * G k - T k

theorem err_eq (X G T : Fin 2048 → ℝ) (k : Fin 2048) :
    (X k : EReal) * (r X : EReal) * (G k : EReal) - (T k : EReal) = ((err X G T k : ℝ) : EReal) := by
  simp only [← EReal.coe_mul, ← EReal.coe_sub]; rfl

/-- The loss's gradient in the norm's output. -/
def cot (X G T : Fin 2048 → ℝ) (k : Fin 2048) : ℝ := err X G T k * (1 / 2048)

/-- A row's part of the loss, before its half. -/
def sq (X G T : Fin 2048 → ℝ) : ℝ := (∑ k, err X G T k * err X G T k) * (1 / 2048)

theorem sq_eq (X G T : Fin 2048 → ℝ) :
    Ideal.div (∑ k, (err X G T k : EReal) * (err X G T k : EReal)) ((2048 : ℝ) : EReal) = ((sq X G T : ℝ) : EReal) := by
  rw [Ideal.div_coe (by norm_num)]
  simp only [← EReal.coe_mul, ← coe_sum]; rfl

theorem lit_half : Ideal.ofBits .f32 1056964608#32 = ((1/2 : ℝ) : EReal) := by
  simp [Ideal.ofBits, Ideal.ieee, -EReal.coe_mul]; norm_num
theorem lit_one : Ideal.ofBits .f32 1065353216#32 = ((1 : ℝ) : EReal) := by
  simp [Ideal.ofBits, Ideal.ieee, -EReal.coe_mul]; norm_num
theorem lit_two : Ideal.ofBits .f32 1073741824#32 = ((2 : ℝ) : EReal) := by
  simp [Ideal.ofBits, Ideal.ieee, -EReal.coe_mul]; norm_num
theorem lit_inv : Ideal.ofBits .f32 973078528#32 = ((1/2048 : ℝ) : EReal) := by
  simp [Ideal.ofBits, Ideal.ieee, -EReal.coe_mul]; norm_num

end Cert.Proof.Rms

end
-- ==== Proof.Norm.lean ====
/- The norm's gradient. -/
module

public import proofs.«01_k».proof.Defs
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit
public import Idealize.ShloMosaic.Lib.Pointwise
public import proofs.«01_k».proof.Proof.Finite

@[expose] public section

set_option maxRecDepth 16384

noncomputable section

namespace Cert.Proof.Norm

open Idealize.ShloMosaic Idealize.ShloMosaic.TcCoe Idealize.SL.Sem
open Idealize.ShloMosaic.Pipeline (Dat)
open Cert.Proof.Finite Cert.Proof.Rms

section Reference
open Cert.NormRefIdeal Cert.NormRefIdeal.Gen Cert.NormRefIdeal.Read

variable (D X : S4096x2048.Idx → ℝ) (G : S2048.Idx → ℝ)

theorem ref_ms (p : S4096x1.Idx) : val_main_v6 (F := Ideal) (up X) p = ((ms (row X (p 0)) : ℝ) : EReal) := by
  rw [val_main_v6_apply, val_main_v4_apply, val_main_v5_apply, val_main_v3_apply, val_main_v2_apply, val_main_v1_apply]
  pointwise [val_main_cst, val_main_cst_0, val_main_cst_1, val_main_v0, lit_eps, lit_n]
  rw [← ms_eq]
  simp only [up, row]
  reads_congr
  all_goals first | rfl | exact at2 _ _ _ rfl rfl | exact at2 _ _ _ (Fin.ext (by simp)) rfl | exact at2 _ _ _ rfl (Fin.ext (by simp))

theorem ref_r (p : S4096x1.Idx) : val_main_v7 (F := Ideal) (up X) p = ((r (row X (p 0)) : ℝ) : EReal) := by
  rw [val_main_v7_apply, ref_ms]; exact rsqrt_ms _

/-- The mean square's own gradient in a row. -/
theorem ref_dms (p : S4096x1.Idx) : val_main_v30 (F := Ideal) (up D) (up X) (up G) p
    = Ideal.div ((∑ j, (row X (p 0) j : EReal) * ((row D (p 0) j : EReal) * (G (ix1 j) : EReal)))
          * (((-(1/2) : ℝ) : EReal) * Ideal.div (r (row X (p 0)) : EReal) (ms (row X (p 0)) : EReal))) ((2048 : ℝ) : EReal) := by
  rw [val_main_v30_apply, val_main_v28_apply, val_main_v24_apply, val_main_v23_apply, val_main_v10_apply, val_main_v9_apply, val_main_v8_apply,
    ref_r, ref_ms, val_main_v29_apply]
  pointwise [val_main_cst_5, val_main_cst_2, val_main_cst_6, lit_mhalf, lit_n, val_main_v22, val_main_v20_apply, val_main_v19_apply, val_main_v13]
  simp only [up, row]
  reads_congr
  all_goals first | rfl | exact at2 _ _ _ rfl rfl | exact at2 _ _ _ (Fin.ext (by simp)) rfl | exact at2 _ _ _ rfl (Fin.ext (by simp))

theorem ref_dms' (q : S4096.Idx) : val_main_v31 (F := Ideal) (up D) (up X) (up G) q
    = Ideal.div ((∑ j, (row X (q 0) j : EReal) * ((row D (q 0) j : EReal) * (G (ix1 j) : EReal)))
          * (((-(1/2) : ℝ) : EReal) * Ideal.div (r (row X (q 0)) : EReal) (ms (row X (q 0)) : EReal))) ((2048 : ℝ) : EReal) := by
  rw [val_main_v31_apply, Fin.sum_univ_one, ref_dms]
  pointwise [val_main_cst_7]
  rfl

theorem ref_dx (z : S4096x2048.Idx → EReal) (p : S4096x2048.Idx) : val_main_v36 (F := Ideal) (up D) (up X) (up G) z p
    = ((dx (row X (p 0)) (row D (p 0)) (fun k => G (ix1 k)) (p 1) : ℝ) : EReal) + z p := by
  rw [val_main_v36_apply, val_main_v35_apply, val_main_v34_apply, val_main_v33_apply, val_main_v32_apply,
     val_main_v27_apply, val_main_v26_apply, val_main_v25_apply, val_main_v20_apply, val_main_v19_apply, ref_r, ref_dms']
  refine Eq.trans ?_ (dx_ref _ _ _ _ _)
  pointwise [val_main_v13]
  simp only [up, row]
  reads_congr
  all_goals first | rfl | exact at2 _ _ _ rfl rfl | exact at2 _ _ _ (Fin.ext (by simp)) rfl | exact at2 _ _ _ rfl (Fin.ext (by simp))

/-- The gain's gradient. -/
theorem ref_dgain (p : S1x2048.Idx) : val_main_v38 (F := Ideal) (up D) (up X) p
    = ∑ a : Fin 4096, up D (ix2 a (p 1)) * (up X (ix2 a (p 1)) * ((r (row X a) : ℝ) : EReal)) := by
  rw [val_main_v38_apply, val_main_v21_apply, Fin.sum_univ_one, val_main_v18_apply, val_main_v17_apply]
  pointwise [val_main_cst_4, val_main_cst_3]
  refine Finset.sum_congr rfl fun a _ => ?_
  rw [val_main_v16_apply, val_main_v12_apply, val_main_v11_apply, ref_r]
  pointwise
  rw [mul_comm]
  simp only [up, row]
  reads_congr
  all_goals first | rfl | exact at2 _ _ _ rfl rfl | exact at2 _ _ _ (Fin.ext (by simp)) rfl | exact at2 _ _ _ rfl (Fin.ext (by simp))

end Reference

open Cert.NormIdeal Cert.NormIdeal.Gen
variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])

/-- Row `a` of block `t`. -/
abbrev at_ (t : Fin cfg0.N) (a : Fin 256) : Fin 4096 := ⟨t.val * 256 + a.val, by have := lt_of_lt_of_eq t.isLt N_0; omega⟩

theorem blk0 (c : Dev nD) (t : Fin cfg0.N) (a : Fin 256) (k : Fin 2048) :
    iblk m c 0 t (ix2 a k) = m ((c : Thread nD τ).loc main_arg0) (ix2 (at_ t a) k) := by
  blk_point [iblk, V, idx0 t]
theorem blk1 (c : Dev nD) (t : Fin cfg0.N) (a : Fin 256) (k : Fin 2048) :
    iblk m c 1 t (ix2 a k) = m ((c : Thread nD τ).loc main_arg1) (ix2 (at_ t a) k) := by
  blk_point [iblk, V, idx1 t]
theorem blk2 (c : Dev nD) (t : Fin cfg0.N) (a : Fin 1) (k : Fin 2048) :
    iblk m c 2 t (ix2 a k) = m ((c : Thread nD τ).loc main_arg2) (ix1 k) := by
  blk_point [iblk, V, idx2 t]
theorem blk3 (c : Dev nD) (t : Fin cfg0.N) (a : Fin 256) (k : Fin 2048) :
    iblk m c 3 t (ix2 a k) = m ((c : Thread nD τ).loc main_arg3) (ix2 (at_ t a) k) := by
  blk_point [iblk, V, idx3 t]

/-- The first two results of a grid point: the gradient in its block of rows. -/
theorem outs (D X : S4096x2048.Idx → ℝ) (G : S2048.Idx → ℝ) (c : Dev nD)
    (h0 : m ((c : Thread nD τ).loc main_arg0) = up D) (h1 : m ((c : Thread nD τ).loc main_arg1) = up X)
    (h2 : m ((c : Thread nD τ).loc main_arg2) = up G) (t : Fin cfg0.N) (a : Fin 256) (k : Fin 2048) :
    (outsAt0 m c t.val t.isLt).1 (ix2 a k) = Cert.NormRefIdeal.Read.val_main_v36 (F := Ideal)
      (up D) (up X) (up G) (m ((c : Thread nD τ).loc main_arg3)) (ix2 (at_ t a) k)
    ∧ (outsAt0 m c t.val t.isLt).2.1 (ix2 a k) = Cert.NormRefIdeal.Read.val_main_v36 (F := Ideal)
      (up D) (up X) (up G) (m ((c : Thread nD τ).loc main_arg3)) (ix2 (at_ t a) k) := by
  rw [ref_dx]
  have hx (k) : iblk m c 1 t (ix2 a k) = ((row X (at_ t a) k : ℝ) : EReal) := (blk1 m c t a k).trans (congrFun h1 _)
  have hd (k) : iblk m c 0 t (ix2 a k) = ((row D (at_ t a) k : ℝ) : EReal) := (blk0 m c t a k).trans (congrFun h0 _)
  have hg (k) : iblk m c 2 t (ix2 0 k) = ((G (ix1 k) : ℝ) : EReal) := (blk2 m c t 0 k).trans (congrFun h2 _)
  by_cases h : t.val % 16 = 0
  on_goal 1 => rw [outsAt0_A m c t h]
  on_goal 2 => rw [outsAt0_B m c t h]
  all_goals
    constructor <;>
    · frame_out
      unfold_payloads
      pointwise [lit_eps, lit_n, hx, hd, hg]
      rw [ms_eq, rsqrt_ms, dx_ker _ _ fun k => G (ix1 k), blk3]

theorem final4 (D X : S4096x2048.Idx → ℝ) (G : S2048.Idx → ℝ) (c : Dev nD)
    (h0 : m ((c : Thread nD τ).loc main_arg0) = up D) (h1 : m ((c : Thread nD τ).loc main_arg1) = up X)
    (h2 : m ((c : Thread nD τ).loc main_arg2) = up G) : (dats m 0 c).arrAt 4 cfg0.N = Cert.NormRefIdeal.Read.val_main_v36 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, h0, h1, h2]
  idx_vars y
  have he : ((View.whole main_v1_0).slice (win0_4.rect t)).emb (ix2 y0 y1) = ix2 (at_ t y0) y1 := by blk_ext [idx4 t]
  rw [he]
  exact (outs m D X G c h0 h1 h2 t y0 y1).1

theorem final5 (D X : S4096x2048.Idx → ℝ) (G : S2048.Idx → ℝ) (c : Dev nD)
    (h0 : m ((c : Thread nD τ).loc main_arg0) = up D) (h1 : m ((c : Thread nD τ).loc main_arg1) = up X)
    (h2 : m ((c : Thread nD τ).loc main_arg2) = up G) : (dats m 0 c).arrAt 5 cfg0.N = Cert.NormRefIdeal.Read.val_main_v37 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, h0, h1, h2]
  idx_vars y
  have he : ((View.whole main_v1_1).slice (win0_5.rect t)).emb (ix2 y0 y1) = ix2 (at_ t y0) y1 := by blk_ext [idx5 t]
  rw [he]
  exact (outs m D X G c h0 h1 h2 t y0 y1).2

/-- The gain's gradient of one block of rows. -/
def part (d x : S4096x2048.Idx → EReal) (t : Fin cfg0.N) (j : S1x2048.Idx) : EReal :=
  ∑ a : Fin 256, d (ix2 (at_ t a) (j 1)) * (x (ix2 (at_ t a) (j 1)) *
    Ideal.rsqrt (Ideal.div (∑ k, x (ix2 (at_ t a) k) * x (ix2 (at_ t a) k)) ((2048 : ℝ) : EReal) + (eps : EReal)))

theorem final6 (D X : S4096x2048.Idx → ℝ) (c : Dev nD)
    (h0 : m ((c : Thread nD τ).loc main_arg0) = up D) (h1 : m ((c : Thread nD τ).loc main_arg1) = up X) :
    (dats m 0 c).arrAt 6 cfg0.N = Cert.NormRefIdeal.Read.val_main_v38 (F := Ideal)
    (m ((c : Thread nD τ).loc main_arg0)) (m ((c : Thread nD τ).loc main_arg1))  := by
  refine (dats m 0 c).arrAt_eq_of_covers 6 _ (by decide +kernel) fun t hf y => ?_
  blk_simp
  rw [after0_6]
  rw [Pipeline.eq_sum_fin_of_reset_step_apply_last (fun n h => (outsAt0 m c n h).2.2) 16 (fun _ => 0)
      (part (m ((c : Thread nD τ).loc main_arg0)) (m ((c : Thread nD τ).loc main_arg1)))
      (fun t h j => by rw [outsAt0_A m c t h]; frame_out; unfold_payloads; pointwise [lit_eps, lit_n, blk0, blk1, part])
      (fun t h j => by rw [outsAt0_B m c t h]; frame_out; unfold_payloads; pointwise [lit_eps, lit_n, blk0, blk1, part])
      (le_of_eq N_0) t (by have := (flush0_6 t).mp hf; have := lt_of_lt_of_eq t.isLt N_0; have := lt_of_lt_of_eq t.isLt N_0; have : cfg0.N = 16 := N_0; omega) y]
  rw [h0, h1, ref_dgain, zero_add]
  refine Fin.sum_mul_add_congr (S := 16) fun p a _ => ?_
  have he : (win0_6.blk t).view.emb y 1 = y 1 := by
    have : (win0_6.blk t).view.emb y = y := by blk_ext [idx6 t]
    rw [this]
  rw [he]
  simp only [up]
  rw [ms_eq, rsqrt_ms]

instance pre_facts : Cert.Pre_finite_norm.Facts where
  bcast_S_S4096x2048 := by decide
  reducesTo_S4096x2048_S_d0_1 := by decide
  h_S_ := by decide
  bcast_S_S2048 := by decide
  reducesTo_S2048_S_d0 := by decide

/-- What the precondition says: the first three arguments hold real numbers. -/
theorem real_of_pre (hp : Cert.Pre_NormIdeal_finite_norm m) (c : Dev nD) :
    ∃ (D X : S4096x2048.Idx → ℝ) (G : S2048.Idx → ℝ), m ((c : Thread nD τ).loc main_arg0) = up D
      ∧ m ((c : Thread nD τ).loc main_arg1) = up X ∧ m ((c : Thread nD τ).loc main_arg2) = up G := by
  have h := congrFun (hp c) (fun a => a.elim0)
  obtain ⟨h, hg⟩ := andi_one h
  obtain ⟨hd, hx⟩ := andi_one h
  obtain ⟨D, hD⟩ := real_of_all _ _ _ _ _ _ hd
  obtain ⟨X, hX⟩ := real_of_all _ _ _ _ _ _ hx
  obtain ⟨G, hG⟩ := real_of_all _ _ _ _ _ _ hg
  exact ⟨D, X, G, hD, hX, hG⟩

/-- The claim. -/
theorem algebraic : Cert.algebraic_NormIdeal_NormRefIdeal_pre_finite_norm := by
  intro m g m' g' hp hagree
  refine ⟨fun c => Cert.NormRefIdeal.Read.val_main_v36 (F := Ideal) (m ((c : Thread nD τ).loc main_arg0))
    (m ((c : Thread nD τ).loc main_arg1)) (m ((c : Thread nD τ).loc main_arg2)) (m ((c : Thread nD τ).loc main_arg3)),
    fun c => Cert.NormRefIdeal.Read.val_main_v37 (F := Ideal) (m ((c : Thread nD τ).loc main_arg0))
    (m ((c : Thread nD τ).loc main_arg1)) (m ((c : Thread nD τ).loc main_arg2)) (m ((c : Thread nD τ).loc main_arg3)),
    fun c => Cert.NormRefIdeal.Read.val_main_v38 (F := Ideal) (m ((c : Thread nD τ).loc main_arg0))
    (m ((c : Thread nD τ).loc main_arg1)), ?_, ?_⟩
  · refine (θ_run defs _ _).mono (fun r h c => ?_) (Cert.NormIdeal.Value.run_blocks m g)
    obtain ⟨D, X, G, h0, h1, h2⟩ := real_of_pre m hp c
    exact ⟨((h c).1).trans (final4 m D X G c h0 h1 h2), ((h c).2.1).trans (final5 m D X G c h0 h1 h2),
      ((h c).2.2.1).trans (final6 m D X c h0 h1), (h c).2.2.2⟩
  · refine (θ_run Cert.NormRefIdeal.defs _ _).mono (fun r h c => ⟨((h c).1).trans ?_, ((h c).2.1).trans ?_, ((h c).2.2.1).trans ?_, (h c).2.2.2⟩)
      (Cert.NormRefIdeal.Value.run m' g') <;> rw [(hagree c).1, (hagree c).2.1]
    · rw [(hagree c).2.2.1, (hagree c).2.2.2]; exact Cert.NormRefIdeal.Read.val_main_v36_eq _ _ _ _
    · rw [(hagree c).2.2.1, (hagree c).2.2.2]; exact Cert.NormRefIdeal.Read.val_main_v37_eq _ _ _ _
    · exact Cert.NormRefIdeal.Read.val_main_v38_eq _ _

end Cert.Proof.Norm

end
-- ==== Proof.Loss.lean ====
/- The loss head's gradient. -/
module

public import proofs.«01_k».proof.Defs
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Pointwise
public import proofs.«01_k».proof.Proof.Finite

@[expose] public section

set_option maxRecDepth 16384

noncomputable section

namespace Cert.Proof.Loss

open Idealize.ShloMosaic Idealize.ShloMosaic.TcCoe Idealize.SL.Sem
open Idealize.ShloMosaic.Pipeline (Dat)
open Cert.Proof.Finite Cert.Proof.Rms

section Reference
open Cert.LossRefIdeal Cert.LossRefIdeal.Gen Cert.LossRefIdeal.Read

variable (X : S4096x2048.Idx → ℝ) (G : S2048.Idx → ℝ) (T : S4096x2048.Idx → ℝ)

/-- The gain as a row. -/
abbrev lane (G : S2048.Idx → ℝ) : Fin 2048 → ℝ := fun k => G (ix1 k)

/-- Two readings of the gain at the same lane. -/
theorem at1 (f : S2048.Idx → ℝ) (p q : S2048.Idx) (h0 : p 0 = q 0) : f p = f q :=
  congrArg f (funext fun a => match a with
    | ⟨0, _⟩ => h0)

theorem ref_ms (p : S4096x1.Idx) : val_main_v6 (F := Ideal) (up X) p = ((ms (row X (p 0)) : ℝ) : EReal) := by
  rw [val_main_v6_apply, val_main_v4_apply, val_main_v5_apply, val_main_v3_apply, val_main_v2_apply, val_main_v1_apply]
  pointwise [val_main_cst, val_main_cst_0, val_main_cst_1, val_main_v0, lit_eps, lit_n]
  rw [← ms_eq]
  simp only [up, row]
  reads_congr
  all_goals exact at2 _ _ _ rfl rfl

theorem ref_r (p : S4096x1.Idx) : val_main_v7 (F := Ideal) (up X) p = ((r (row X (p 0)) : ℝ) : EReal) := by
  rw [val_main_v7_apply, ref_ms]; exact rsqrt_ms _

/-- The norm's output before its gain. -/
theorem ref_xhat (a : Fin 4096) (k : Fin 2048) : val_main_v12 (F := Ideal) (up X) (ix2 a k)
    = ((X (ix2 a k) : ℝ) : EReal) * ((r (row X a) : ℝ) : EReal) := by
  rw [val_main_v12_apply, val_main_v11_apply, ref_r]; rfl

theorem ref_err (a : Fin 4096) (k : Fin 2048) : val_main_v16 (F := Ideal) (up X) (up G) (up T) (ix2 a k)
    = ((err (row X a) (lane G) (row T a) k : ℝ) : EReal) := by
  rw [val_main_v16_apply, val_main_v15_apply, val_main_v14_apply, val_main_v13_apply, ref_xhat, ← err_eq]
  pointwise
  simp only [up, row, lane]
  reads_congr
  exact at1 _ _ _ rfl

theorem ref_cot (a : Fin 4096) (k : Fin 2048) : val_main_v30 (F := Ideal) (up X) (up G) (up T) (ix2 a k)
    = ((cot (row X a) (lane G) (row T a) k : ℝ) : EReal) := by
  rw [val_main_v30_apply, val_main_v29_apply, val_main_v19_apply, val_main_v18_apply, ref_err]
  pointwise [val_main_v28, val_main_v26_apply, val_main_v25, val_main_v27_apply, val_main_cst_8, val_main_cst_9, val_main_cst_10, val_main_cst_3,
    lit_half, lit_one, lit_two, lit_n]
  rw [Ideal.div_coe (by norm_num)]
  simp only [← EReal.coe_mul]
  congr 1
  unfold cot; ring

/-- The mean square's own gradient in a row. -/
theorem ref_dms (a : Fin 4096) : val_main_v45 (F := Ideal) (up X) (up G) (up T) (ix1 a)
    = Ideal.div ((∑ j, (row X a j : EReal) * ((cot (row X a) (lane G) (row T a) j : EReal) * (lane G j : EReal)))
          * (((-(1/2) : ℝ) : EReal) * Ideal.div (r (row X a) : EReal) (ms (row X a) : EReal))) ((2048 : ℝ) : EReal) := by
  rw [val_main_v45_apply, Fin.sum_univ_one, val_main_v44_apply, val_main_v42_apply, val_main_v39_apply, val_main_v38_apply,
    val_main_v10_apply, val_main_v9_apply, val_main_v8_apply, ref_r, ref_ms, val_main_v43_apply]
  have hi (k) : idx_main_v38 (idx_main_v39 (idx_main_v45 (ix1 a) 0)) k = ix2 a k := funext fun b => match b with
    | ⟨0, _⟩ => Fin.ext (by simp)
    | ⟨1, _⟩ => rfl
  have hg (k) : idx_main_v13 (idx_main_v34 (ix2 a k)) = ix1 k := funext fun b => match b with
    | ⟨0, _⟩ => rfl
  have hr : idx_main_v45 (ix1 a) 0 0 = a := rfl
  simp only [hi, hg, hr, val_main_v37_apply, val_main_v35_apply, val_main_v34_apply, val_main_v13_apply, ref_cot]
  pointwise [val_main_cst_13, val_main_cst_2, val_main_cst_14, val_main_cst_15, lit_mhalf, lit_n]

theorem ref_dx (a : Fin 4096) (k : Fin 2048) : val_main_v50 (F := Ideal) (up X) (up G) (up T) (ix2 a k)
    = ((dx (row X a) (cot (row X a) (lane G) (row T a)) (lane G) k : ℝ) : EReal) := by
  rw [val_main_v50_apply, val_main_v49_apply, val_main_v48_apply, val_main_v47_apply, val_main_v46_apply, val_main_v41_apply,
    val_main_v40_apply, val_main_v35_apply, val_main_v34_apply, val_main_v13_apply, ref_r, ref_cot,
    show idx_main_v46 (ix2 a k) = ix1 a from funext fun b => match b with
      | ⟨0, _⟩ => rfl, ref_dms]
  refine Eq.trans ?_ ((dx_ref _ _ _ _ 0).trans (add_zero _))
  pointwise
  simp only [up, row, lane]
  reads_congr
  all_goals first | exact at1 _ _ _ rfl | exact at2 _ _ _ rfl rfl | rfl

/-- The gain's gradient. -/
theorem ref_dgain (k : Fin 2048) : val_main_v52 (F := Ideal) (up X) (up G) (up T) (ix2 0 k)
    = ∑ a : Fin 4096, ((cot (row X a) (lane G) (row T a) k : ℝ) : EReal) * (((X (ix2 a k) : ℝ) : EReal) * ((r (row X a) : ℝ) : EReal)) := by
  rw [val_main_v52_apply, val_main_v36_apply, Fin.sum_univ_one, val_main_v33_apply, val_main_v32_apply]
  have hi (a) : idx_main_v32 (idx_main_v33 (idx_main_v36 (idx_main_v52 (ix2 0 k)) 0)) a = ix2 a k := funext fun b => match b with
    | ⟨0, _⟩ => rfl
    | ⟨1, _⟩ => Fin.ext (by simp)
  simp only [hi, val_main_v31_apply, ref_cot, ref_xhat]
  pointwise [val_main_cst_11, val_main_cst_12]
  exact Finset.sum_congr rfl fun a _ => mul_comm _ _

/-- The loss, in every lane of its row. -/
theorem ref_loss (p : S1x128.Idx) : val_main_v53 (F := Ideal) (up X) (up G) (up T) p
    = ((1/2 * ∑ a : Fin 4096, sq (row X a) (lane G) (row T a) : ℝ) : EReal) := by
  rw [val_main_v53_apply, val_main_v24_apply, val_main_v23_apply, sum_idx1]
  have hi (a : Fin 4096) (k) : idx_main_v20 (ix1 a) k = ix2 a k := funext fun b => match b with
    | ⟨0, _⟩ => rfl
    | ⟨1, _⟩ => rfl
  simp only [val_main_v22_apply, val_main_v21_apply, val_main_v20_apply, val_main_v17_apply, hi, ref_err]
  pointwise [val_main_cst_4, val_main_cst_5, val_main_cst_6, val_main_cst_7, lit_n, lit_half]
  simp only [sq_eq]
  simp only [← coe_sum, ← EReal.coe_mul]

end Reference

open Cert.LossIdeal Cert.LossIdeal.Gen
variable (m : (ℓ : Loc nD τ sig) → Buf (Elt Ideal) ℓ)
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])

/-- Row `a` of block `t`. -/
abbrev at_ (t : Fin cfg0.N) (a : Fin 256) : Fin 4096 := ⟨t.val * 256 + a.val, by have := lt_of_lt_of_eq t.isLt N_0; omega⟩

/-- The arguments hold the real numbers `X`, `G` and `T`. -/
structure Holds (c : Dev nD) (X : S4096x2048.Idx → ℝ) (G : S2048.Idx → ℝ) (T : S4096x2048.Idx → ℝ) : Prop where
  x : m ((c : Thread nD τ).loc main_arg0) = up X
  g : m ((c : Thread nD τ).loc main_arg1) = up G
  t : m ((c : Thread nD τ).loc main_arg2) = up T

variable {m} {c : Dev nD} {X : S4096x2048.Idx → ℝ} {G : S2048.Idx → ℝ} {T : S4096x2048.Idx → ℝ} (H : Holds m c X G T)
include H

theorem blk0 (t : Fin cfg0.N) (a : Fin 256) (k : Fin 2048) : iblk m c 0 t (ix2 a k) = ((row X (at_ t a) k : ℝ) : EReal) := by
  refine Eq.trans (b := m ((c : Thread nD τ).loc main_arg0) (ix2 (at_ t a) k)) ?_ (congrFun H.x _)
  blk_point [iblk, V, idx0 t]
theorem blk1 (t : Fin cfg0.N) (a : Fin 1) (k : Fin 2048) : iblk m c 1 t (ix2 a k) = ((lane G k : ℝ) : EReal) := by
  refine Eq.trans (b := m ((c : Thread nD τ).loc main_arg1) (ix1 k)) ?_ (congrFun H.g _)
  blk_point [iblk, V, idx1 t]
theorem blk2 (t : Fin cfg0.N) (a : Fin 256) (k : Fin 2048) : iblk m c 2 t (ix2 a k) = ((row T (at_ t a) k : ℝ) : EReal) := by
  refine Eq.trans (b := m ((c : Thread nD τ).loc main_arg2) (ix2 (at_ t a) k)) ?_ (congrFun H.t _)
  blk_point [iblk, V, idx2 t]

omit H in
theorem cot_eq (X G T : Fin 2048 → ℝ) (k : Fin 2048) :
    ((err X G T k : ℝ) : EReal) * ((1/2048 : ℝ) : EReal) = ((cot X G T k : ℝ) : EReal) := by
  rw [← EReal.coe_mul]; rfl

/-- The first two results of a grid point: the gradient in its block of rows. -/
theorem outs (t : Fin cfg0.N) (a : Fin 256) (k : Fin 2048) :
    (outsAt0 m c t.val t.isLt).1 (ix2 a k) = Cert.LossRefIdeal.Read.val_main_v50 (F := Ideal) (up X) (up G) (up T) (ix2 (at_ t a) k)
    ∧ (outsAt0 m c t.val t.isLt).2.1 (ix2 a k) = Cert.LossRefIdeal.Read.val_main_v50 (F := Ideal) (up X) (up G) (up T) (ix2 (at_ t a) k) := by
  rw [ref_dx]
  by_cases h : t.val % 16 = 0
  on_goal 1 => rw [outsAt0_A m c t h]
  on_goal 2 => rw [outsAt0_B m c t h]
  all_goals
    constructor <;>
    · frame_out
      unfold_payloads
      pointwise [lit_eps, lit_n, lit_inv, blk0 H, blk1 H, blk2 H]
      simp only [ms_eq, rsqrt_ms, err_eq, cot_eq]
      exact dx_ker _ _ (lane G) _

theorem final3 : (dats m 0 c).arrAt 3 cfg0.N = Cert.LossRefIdeal.Read.val_main_v50 (F := Ideal) (up X) (up G) (up T) := by
  refine (dats m 0 c).arrAt_eq_of_covers 3 _ (by decide +kernel) fun t hf y => ?_
  blk_simp
  rw [after0_3]
  idx_vars y
  have he : ((View.whole main_v1_0).slice (win0_3.rect t)).emb (ix2 y0 y1) = ix2 (at_ t y0) y1 := by blk_ext [idx3 t]
  rw [he]
  exact (outs H t y0 y1).1

theorem final4 : (dats m 0 c).arrAt 4 cfg0.N = Cert.LossRefIdeal.Read.val_main_v51 (F := Ideal) (up X) (up G) (up T) := by
  refine (dats m 0 c).arrAt_eq_of_covers 4 _ (by decide +kernel) fun t hf y => ?_
  blk_simp
  rw [after0_4]
  idx_vars y
  have he : ((View.whole main_v1_1).slice (win0_4.rect t)).emb (ix2 y0 y1) = ix2 (at_ t y0) y1 := by blk_ext [idx4 t]
  rw [he]
  exact (outs H t y0 y1).2

omit H in
/-- The last point, where the sums over the grid are written back. -/
theorem last_point (t : Fin cfg0.N) (h : t.val % 16 = 15) : t.val + 1 = cfg0.N := by
  have := lt_of_lt_of_eq t.isLt N_0; have : cfg0.N = 16 := N_0; omega

theorem final5 : (dats m 0 c).arrAt 5 cfg0.N = Cert.LossRefIdeal.Read.val_main_v52 (F := Ideal) (up X) (up G) (up T) := by
  refine (dats m 0 c).arrAt_eq_of_covers 5 _ (by decide +kernel) fun t hf y => ?_
  blk_simp
  rw [after0_5]
  have he : (win0_5.blk t).view.emb y = y := by blk_ext [idx5 t]
  rw [he, Pipeline.eq_sum_fin_of_reset_step_apply_last (fun n h => (outsAt0 m c n h).2.2.1) 16 (fun _ => 0)
      (fun t j => ∑ a : Fin 256, ((cot (row X (at_ t a)) (lane G) (row T (at_ t a)) (j 1) : ℝ) : EReal)
        * (((row X (at_ t a) (j 1) : ℝ) : EReal) * ((r (row X (at_ t a)) : ℝ) : EReal)))
      (fun t h j => by
        idx_vars j; rw [outsAt0_A m c t h]; frame_out; unfold_payloads
        pointwise [lit_eps, lit_n, lit_inv, blk0 H, blk1 H, blk2 H]; simp only [ms_eq, rsqrt_ms, err_eq, cot_eq])
      (fun t h j => by
        idx_vars j; rw [outsAt0_B m c t h]; frame_out; unfold_payloads
        pointwise [lit_eps, lit_n, lit_inv, blk0 H, blk1 H, blk2 H]; simp only [ms_eq, rsqrt_ms, err_eq, cot_eq])
      (le_of_eq N_0) t (last_point t ((flush0_5 t).mp hf)) y]
  idx_vars y
  obtain rfl : y0 = 0 := Subsingleton.elim _ _
  refine (zero_add _).trans (Eq.trans ?_ (ref_dgain X G T y1).symm)
  exact Fin.sum_mul_add_congr (S := 16) fun p a _ => rfl

theorem final6 : (dats m 0 c).arrAt 6 cfg0.N = Cert.LossRefIdeal.Read.val_main_v53 (F := Ideal) (up X) (up G) (up T) := by
  refine (dats m 0 c).arrAt_eq_of_covers 6 _ (by decide +kernel) fun t hf y => ?_
  blk_simp
  rw [after0_6, ref_loss]
  rw [Pipeline.eq_sum_fin_of_reset_step_apply_last (fun n h => (outsAt0 m c n h).2.2.2) 16 (fun _ => 0)
      (fun t _ => ((1/2 : ℝ) : EReal) * ∑ a : Fin 256, ((sq (row X (at_ t a)) (lane G) (row T (at_ t a)) : ℝ) : EReal))
      (fun t h j => by
        rw [outsAt0_A m c t h]; frame_out; unfold_payloads
        pointwise [lit_eps, lit_n, lit_half, blk0 H, blk1 H, blk2 H]; simp only [ms_eq, rsqrt_ms, err_eq, sq_eq])
      (fun t h j => by
        rw [outsAt0_B m c t h]; frame_out; unfold_payloads
        pointwise [lit_eps, lit_n, lit_half, blk0 H, blk1 H, blk2 H]; simp only [ms_eq, rsqrt_ms, err_eq, sq_eq])
      (le_of_eq N_0) t (last_point t ((flush0_6 t).mp hf)) y, zero_add]
  simp only [← coe_sum, ← EReal.coe_mul]
  rw [← Finset.mul_sum]
  congr 2
  exact Fin.sum_mul_add_congr (S := 16) fun p a _ => rfl

omit H in
instance pre_facts : Cert.Pre_finite_loss.Facts where
  bcast_S_S4096x2048 := by decide
  reducesTo_S4096x2048_S_d0_1 := by decide
  h_S_ := by decide
  bcast_S_S2048 := by decide
  reducesTo_S2048_S_d0 := by decide

omit H in
/-- What the precondition says: the arguments hold real numbers. -/
theorem real_of_pre (hp : Cert.Pre_LossIdeal_finite_loss m) (c : Dev nD) : ∃ X G T, Holds m c X G T := by
  have h := congrFun (hp c) (fun a => a.elim0)
  obtain ⟨h, ht⟩ := andi_one h
  obtain ⟨hx, hg⟩ := andi_one h
  obtain ⟨X, hX⟩ := real_of_all _ _ _ _ _ _ hx
  obtain ⟨G, hG⟩ := real_of_all _ _ _ _ _ _ hg
  obtain ⟨T, hT⟩ := real_of_all _ _ _ _ _ _ ht
  exact ⟨X, G, T, hX, hG, hT⟩

omit H in
/-- The claim. -/
theorem algebraic : Cert.algebraic_LossIdeal_LossRefIdeal_pre_finite_loss := by
  intro m g m' g' hp hagree
  refine ⟨fun c => Cert.LossRefIdeal.Read.val_main_v50 (F := Ideal) (m ((c : Thread nD τ).loc main_arg0))
      (m ((c : Thread nD τ).loc main_arg1)) (m ((c : Thread nD τ).loc main_arg2)),
    fun c => Cert.LossRefIdeal.Read.val_main_v51 (F := Ideal) (m ((c : Thread nD τ).loc main_arg0))
      (m ((c : Thread nD τ).loc main_arg1)) (m ((c : Thread nD τ).loc main_arg2)),
    fun c => Cert.LossRefIdeal.Read.val_main_v52 (F := Ideal) (m ((c : Thread nD τ).loc main_arg0))
      (m ((c : Thread nD τ).loc main_arg1)) (m ((c : Thread nD τ).loc main_arg2)),
    fun c => Cert.LossRefIdeal.Read.val_main_v53 (F := Ideal) (m ((c : Thread nD τ).loc main_arg0))
      (m ((c : Thread nD τ).loc main_arg1)) (m ((c : Thread nD τ).loc main_arg2)), ?_, ?_⟩
  · refine (θ_run defs _ _).mono (fun r h c => ?_) (Cert.LossIdeal.Value.run_blocks m g)
    obtain ⟨X, G, T, H⟩ := real_of_pre hp c
    obtain ⟨h3, h4, h5, h6, h⟩ := h c
    exact ⟨h3.trans (by beta_reduce; rw [H.x, H.g, H.t]; exact final3 H), h4.trans (by beta_reduce; rw [H.x, H.g, H.t]; exact final4 H),
      h5.trans (by beta_reduce; rw [H.x, H.g, H.t]; exact final5 H), h6.trans (by beta_reduce; rw [H.x, H.g, H.t]; exact final6 H), h⟩
  · refine (θ_run Cert.LossRefIdeal.defs _ _).mono (fun r h c => ?_) (Cert.LossRefIdeal.Value.run m' g')
    obtain ⟨h3, h4, h5, h6, h⟩ := h c
    refine ⟨h3.trans ((Cert.LossRefIdeal.Read.val_main_v50_eq m' c).trans ?_), h4.trans ((Cert.LossRefIdeal.Read.val_main_v51_eq m' c).trans ?_),
      h5.trans ((Cert.LossRefIdeal.Read.val_main_v52_eq _ _ _).trans ?_), h6.trans ((Cert.LossRefIdeal.Read.val_main_v53_eq _ _ _).trans ?_), h⟩
    all_goals rw [(hagree c).1, (hagree c).2.1, (hagree c).2.2]

end Cert.Proof.Loss

end
-- ==== Proof.StickWords.lean ====
/-
  The words of the stick-breaking gradient kernel: the block word `j0` of each trip of its `while`, the offsets the trips
  name, and the side conditions the body states of them. Row block `n` is below 32, so every word is one of finitely many.
-/
module

public import proofs.«01_k».proof.Proof.Gen.StickIdeal
public import proofs.«01_k».proof.Proof.Gen.StickIdeal.Skeleton

@[expose] public section

set_option maxRecDepth 16384

noncomputable section

namespace Cert.Proof.Stick

open Cert.StickIdeal Cert.StickIdeal.Gen
open Idealize.ShloMosaic

/-- The block word of trip `k` of the first sweep from row block `n`: `n - 3 k`, as the loop counts it down. -/
def jw (n : ℕ) : ℕ → BitVec 32
  | 0 => BitVec.ofNat 32 n
  | k + 1 => Scalar.subi (jw n k) 3#32

/-- The group word of trip `k`: `k`, as the loop counts it up. -/
def gw : ℕ → BitVec 32
  | 0 => 0#32
  | k + 1 => Scalar.addi (gw k) 1#32

theorem gw_eq : ∀ k < 12, gw k = BitVec.ofNat 32 k := by decide +kernel

theorem jw_eq : ∀ n < 32, ∀ k < 12, 3 * k ≤ n → jw n k = BitVec.ofNat 32 (n - 3 * k) := by decide +kernel

/-- The loop's block word is negative exactly once `3 k` is past `n`. -/
theorem jw_sge : ∀ n < 32, ∀ k < 12, Scalar.cmpi .sge (jw n k) 0#32 = if 3 * k ≤ n then 1#1 else 0#1 := by decide +kernel

theorem chk1_of_lt : ∀ j < 32, k0_chk1 (BitVec.ofNat 32 j) := by decide +kernel

theorem chk2_of_lt : ∀ k < 11, k0_chk2 (BitVec.ofNat 32 k) := by decide +kernel

/-- The first row of the window of trip `k`. -/
def first (n k : ℕ) : ℕ := 128 * (n - 3 * k - 2)

theorem off1_eq : ∀ j < 32, k0_off1 (BitVec.ofNat 32 j) = ![128 * (j - 2), 0] := by decide +kernel
theorem off2_eq : ∀ j < 32, k0_off2 (BitVec.ofNat 32 j) = ![128 * (j - 2), 64] := by decide +kernel
theorem off3_eq : ∀ j < 32, k0_off3 (BitVec.ofNat 32 j) = ![128 * (j - 2), 128] := by decide +kernel
theorem off4_eq : ∀ j < 32, k0_off4 (BitVec.ofNat 32 j) = ![128 * (j - 2), 192] := by decide +kernel

theorem off5_eq : ∀ k < 11, k0_off5 (BitVec.ofNat 32 k) = ![0, k, 0, 0] := by decide +kernel
theorem off6_eq : ∀ k < 11, k0_off6 (BitVec.ofNat 32 k) = ![1, k, 0, 0] := by decide +kernel
theorem off7_eq : ∀ k < 11, k0_off7 (BitVec.ofNat 32 k) = ![2, k, 0, 0] := by decide +kernel
theorem off8_eq : ∀ k < 11, k0_off8 (BitVec.ofNat 32 k) = ![3, k, 0, 0] := by decide +kernel

/-! ### The second sweep: trip `t` of `G` handles group `G - 1 - t` -/

theorem loop1_trips : ∀ G < 12, (k0_t1_loop (BitVec.ofNat 32 G)).trips = G := by decide +kernel
theorem loop2_trips : ∀ G < 12, (k0_t2_loop (BitVec.ofNat 32 G)).trips = 0 := by decide +kernel
theorem loop1_ok : ∀ G < 12, (k0_t1_loop (BitVec.ofNat 32 G)).OK := by decide +kernel
theorem loop2_ok : ∀ G < 12, (k0_t2_loop (BitVec.ofNat 32 G)).OK := by decide +kernel

/-- The group word of trip `t` of `G`. -/
def g2w (G t : ℕ) : BitVec 32 := Scalar.subi (Scalar.subi (BitVec.ofNat 32 G) 1#32) (Scf.iv 0#32 1#32 t)

/-- The first row's word of trip `t` of `G`. -/
def r2w (n G t : ℕ) : BitVec 32 :=
  Scalar.muli (Scalar.maxsi (Scalar.subi (Scalar.subi (BitVec.ofNat 32 n) (Scalar.muli (g2w G t) 3#32)) 2#32) 0#32) 128#32

theorem sub_word : ∀ n < 32, ∀ k < 12, 3 * k ≤ n →
    Scalar.subi (BitVec.ofNat 32 n) (Scalar.muli (BitVec.ofNat 32 k) 3#32) = BitVec.ofNat 32 (n - 3 * k) := by decide +kernel

theorem g2w_eq : ∀ G < 12, ∀ t < G, g2w G t = BitVec.ofNat 32 (G - 1 - t) := by decide +kernel

theorem r2w_eq : ∀ n < 32, ∀ G < 12, 3 * G ≤ n + 3 → ∀ t < G, r2w n G t = BitVec.ofNat 32 (first n (G - 1 - t)) := by
  decide +kernel

theorem first_le {n : ℕ} (hn : n < 32) (k : ℕ) : first n k + 384 ≤ 4096 := by unfold first; omega

/-! ### The offsets of the second sweep, and the side conditions -/

theorem point_lt (i : grid0.Coords) : (i 1).val < 32 := (i 1).isLt

theorem first_toNat {n : ℕ} (hn : n < 32) (k : ℕ) : (Scalar.indexCast (BitVec.ofNat 32 (first n k)) : Index).toNat = first n k := by
  have := first_le hn k
  simp only [Scalar.indexCast, BitVec.toNat_ofNat]
  omega

theorem group_toNat {k : ℕ} (hk : k < 12) : (Scalar.indexCast (BitVec.ofNat 32 k) : Index).toNat = k := by
  simp only [Scalar.indexCast, BitVec.toNat_ofNat]
  omega

section Second

variable (i : grid0.Coords) {G : ℕ} (hG : G < 12) (h3 : 3 * G ≤ (i 1).val + 3) (t : Fin (k0_t1_loop (BitVec.ofNat 32 G)).trips)

include hG in
theorem trip_lt : t.val < G := lt_of_lt_of_eq t.isLt (loop1_trips G hG)

include hG h3 in
theorem rows_toNat : (Scalar.indexCast (r2w (i 1).val G t) : Index).toNat = first (i 1).val (G - 1 - t) := by
  rw [r2w_eq _ (point_lt i) G hG h3 t (trip_lt hG t), first_toNat (point_lt i)]

include hG in
theorem slot_toNat : (Scalar.indexCast (g2w G t) : Index).toNat = G - 1 - t := by
  rw [g2w_eq G hG t (trip_lt hG t), group_toNat (by omega)]

include hG h3 in
theorem off9_eq : k0_off9 i (BitVec.ofNat 32 G) t = ![first (i 1).val (G - 1 - t), 0] := by
  rw [← rows_toNat i hG h3 t]; rfl
include hG h3 in
theorem off10_eq : k0_off10 i (BitVec.ofNat 32 G) t = ![first (i 1).val (G - 1 - t), 64] := by
  rw [← rows_toNat i hG h3 t]; rfl
include hG h3 in
theorem off11_eq : k0_off11 i (BitVec.ofNat 32 G) t = ![first (i 1).val (G - 1 - t), 128] := by
  rw [← rows_toNat i hG h3 t]; rfl
include hG h3 in
theorem off12_eq : k0_off12 i (BitVec.ofNat 32 G) t = ![first (i 1).val (G - 1 - t), 192] := by
  rw [← rows_toNat i hG h3 t]; rfl
include hG in
theorem off13_eq : k0_off13 (BitVec.ofNat 32 G) t = ![0, G - 1 - t, 0, 0] := by
  conv_rhs => rw [← slot_toNat hG t]
  rfl
include hG in
theorem off14_eq : k0_off14 (BitVec.ofNat 32 G) t = ![1, G - 1 - t, 0, 0] := by
  conv_rhs => rw [← slot_toNat hG t]
  rfl
include hG in
theorem off15_eq : k0_off15 (BitVec.ofNat 32 G) t = ![2, G - 1 - t, 0, 0] := by
  conv_rhs => rw [← slot_toNat hG t]
  rfl
include hG in
theorem off16_eq : k0_off16 (BitVec.ofNat 32 G) t = ![3, G - 1 - t, 0, 0] := by
  conv_rhs => rw [← slot_toNat hG t]
  rfl

include hG h3 in
theorem mult2_eq : (k0_mult2 i (BitVec.ofNat 32 G) t).toNat = first (i 1).val (G - 1 - t) := by
  show (r2w (i 1).val G t).toNat = _
  rw [r2w_eq _ (point_lt i) G hG h3 t (trip_lt hG t), BitVec.toNat_ofNat]
  have := first_le (point_lt i) (G - 1 - t)
  omega

end Second

/-- Rows of the windows stay inside the keys', -/
theorem rows_inb {n : ℕ} (hn : n < 32) (k x : ℕ) (hx : x + 64 ≤ 256) :
    ∀ a, (![first n k, x] : Fin 2 → ℕ) a + S384x64.size a ≤ S4096x256.size a := by
  intro a
  have := first_le hn k
  match a with
  | 0 => exact this
  | 1 => exact hx

/-- and the groups' slots inside the scratches. -/
theorem slot_inb (h k : ℕ) (hh : h < 4) (hk : k < 11) :
    ∀ a, (![h, k, 0, 0] : Fin 4 → ℕ) a + S1x1x128x384.size a ≤ S4x11x128x384.size a := by
  intro a
  match a with
  | 0 => exact hh
  | 1 => exact hk
  | 2 => exact le_refl 128
  | 3 => exact le_refl 384

/-- Every side condition the body states of the number of groups holds. -/
theorem chk3_of_le (i : grid0.Coords) (G : ℕ) (h3 : 3 * G ≤ (i 1).val + 3) : k0_chk3 i (BitVec.ofNat 32 G) := by
  have hn := point_lt i
  have hG : G < 12 := by omega
  have no : ∀ t : Fin (k0_t2_loop (BitVec.ofNat 32 G)).trips, False := fun t => by
    have := lt_of_lt_of_eq t.isLt (loop2_trips G hG); omega
  refine ⟨loop1_ok G hG, fun t => ?_, fun t => ?_, fun t => ?_, fun t => ?_, fun t => ?_, fun t => ?_, fun t => ?_, fun t => ?_,
    fun t => ?_, loop2_ok G hG, fun t => (no t).elim, fun t => (no t).elim, fun t => (no t).elim, fun t => (no t).elim,
    fun t => (no t).elim, fun t => (no t).elim, fun t => (no t).elim, fun t => (no t).elim, fun t => (no t).elim⟩
  · rw [mult2_eq i hG h3 t]; exact Dvd.intro _ rfl
  · rw [off9_eq i hG h3 t]; exact rows_inb hn _ 0 (by omega)
  · rw [off10_eq i hG h3 t]; exact rows_inb hn _ 64 (by omega)
  · rw [off11_eq i hG h3 t]; exact rows_inb hn _ 128 (by omega)
  · rw [off12_eq i hG h3 t]; exact rows_inb hn _ 192 (by omega)
  · rw [off13_eq hG t]; exact slot_inb 0 _ (by omega) (by have := trip_lt hG t; omega)
  · rw [off14_eq hG t]; exact slot_inb 1 _ (by omega) (by have := trip_lt hG t; omega)
  · rw [off15_eq hG t]; exact slot_inb 2 _ (by omega) (by have := trip_lt hG t; omega)
  · rw [off16_eq hG t]; exact slot_inb 3 _ (by omega) (by have := trip_lt hG t; omega)

end Cert.Proof.Stick

end
-- ==== Proof.StickSweep1.lean ====
/-
  The first sweep of the stick-breaking gradient kernel: the `while` that walks the groups of three key blocks backwards from
  the query block, keeps the running sum of the logarithms of the sticks left, and leaves in the two scratches each group's
  weights and log-betas. `step` is one trip's effect on the running sums, `put` its effect on a scratch; `spec_le` proves the
  loop's label by induction on the trips still to run.
-/
module

public import proofs.«01_k».proof.Proof.StickWords
public import proofs.«01_k».proof.Proof.Gen.StickIdeal.Launch
public import proofs.«01_k».proof.Proof.Gen.StickIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Stick

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The kernel's variants: the trips the loop still has to run. -/
abbrev 𝒱₀ : Variants := Variants.nat

/-- The four heads' running sums. -/
abbrev Carry (F : FTy → Type) := FVec F S128x1 .f32 × FVec F S128x1 .f32 × FVec F S128x1 .f32 × FVec F S128x1 .f32

/-- The loop goes on: the block word is not negative and some running sum is above the threshold. -/
def live (j : BitVec 32) (c : Carry F) : Prop :=
  Scalar.andi (Scalar.cmpi .sge j 0#32)
    (Scalar.cmpf .ogt (k0_pay5 c.1 c.2.1 c.2.2.1 c.2.2.2) (Named.named κ "cut" 0xC2D20000#32 : F .f32)) = 1#1

instance (j : BitVec 32) (c : Carry F) : Decidable (live j c) := by unfold live; infer_instance

section Trip

variable (n j : BitVec 32) (q : Fin 4 → Vec F S128x64 .bf16) (k : Fin 4 → Vec F S384x64 .bf16)

/-- Which entries of the window the trip takes. -/
def ok : IVec S128x384 1 := k0_pay142 j n

/-- The four heads' log-betas, -/
def lb0 : FVec F S128x384 .f32 := k0_pay149 (k0_pay143 (q 0) (k 0))
def lb1 : FVec F S128x384 .f32 := k0_pay150 (k0_pay144 (q 1) (k 1))
def lb2 : FVec F S128x384 .f32 := k0_pay152 (k0_pay145 (q 2) (k 2))
def lb3 : FVec F S128x384 .f32 := k0_pay154 (k0_pay146 (q 3) (k 3)) k0_pay147

/-- the logarithms of what each stick leaves, zero outside, -/
def lm0 : FVec F S128x384 .f32 := k0_pay156 (ok n j) (k0_pay143 (q 0) (k 0))
def lm1 : FVec F S128x384 .f32 := k0_pay157 (ok n j) (k0_pay151 (k0_pay144 (q 1) (k 1)))
def lm2 : FVec F S128x384 .f32 := k0_pay158 (ok n j) (k0_pay153 (k0_pay145 (q 2) (k 2)))
def lm3 : FVec F S128x384 .f32 := k0_pay159 (ok n j) (k0_pay155 (k0_pay146 (q 3) (k 3)) k0_pay147)

/-- the sums inside each block, high and low parts stacked, -/
def inside : FVec F S3072x128 .f32 :=
  k0_pay160 (ok n j) (k0_pay151 (k0_pay144 (q 1) (k 1))) (k0_pay153 (k0_pay145 (q 2) (k 2)))
    (k0_pay155 (k0_pay146 (q 3) (k 3)) k0_pay147) (lm0 n j q k)

/-- the weights, as the trip stores them, -/
def wt (c : Carry F) : Fin 4 → Vec F S1x1x128x384 .f32
  | 0 => k0_pay186 (ok n j) (k0_pay164 (lm0 n j q k) (inside n j q k)) (k0_pay179 c.1 (lb0 q k))
  | 1 => k0_pay188 c.2.1 (ok n j) (lb1 q k) (k0_pay168 (lm1 n j q k) (inside n j q k))
  | 2 => k0_pay7 (k0_pay180 c.2.2.1 (ok n j) (lb2 q k) (k0_pay173 (lm2 n j q k) (inside n j q k)))
  | 3 => k0_pay9 (k0_pay181 c.2.2.2 (ok n j) (lb3 q k) (k0_pay177 (lm3 n j q k) (inside n j q k)))

/-- the log-betas as it stores them, -/
def lg : Fin 4 → Vec F S1x1x128x384 .f32
  | 0 => k0_pay187 (lb0 q k)
  | 1 => k0_pay6 (lb1 q k)
  | 2 => k0_pay8 (lb2 q k)
  | 3 => k0_pay10 (lb3 q k)

/-- and the running sums it passes on. -/
def next (c : Carry F) : Carry F :=
  (k0_pay182 c.1 (k0_pay165 (lm0 n j q k) (k0_pay161 (lm0 n j q k))), k0_pay183 c.2.1 (k0_pay169 (lm1 n j q k)),
    k0_pay184 c.2.2.1 (k0_pay174 (lm2 n j q k) (k0_pay170 (lm2 n j q k))), k0_pay185 c.2.2.2 (k0_pay178 (lm3 n j q k)))

end Trip

/-- Head `h`'s columns of the 384 rows of group `k`, out of an array of 4096 rows. -/
def kw {e : EltTy} {n : ℕ} (hn : n < 32) (k : ℕ) (K : Vec F S4096x256 e) : Fin 4 → Vec F S384x64 e := fun h =>
  VecWindow.window K ![first n k, 64 * h.val] S384x64.size (rows_inb hn k _ (by omega))

/-- A group's four stores into a scratch. -/
def put4 (k : ℕ) (w : Fin 4 → Vec F S1x1x128x384 .f32) (X : Vec F S4x11x128x384 .f32) : Vec F S4x11x128x384 .f32 :=
  VecWindow.put (VecWindow.put (VecWindow.put (VecWindow.put X ![0, k, 0, 0] S1x1x128x384.size (w 0))
    ![1, k, 0, 0] S1x1x128x384.size (w 1)) ![2, k, 0, 0] S1x1x128x384.size (w 2)) ![3, k, 0, 0] S1x1x128x384.size (w 3)

/-- The stores of `m` trips from trip `k`. -/
def fill (w : ℕ → Fin 4 → Vec F S1x1x128x384 .f32) : ℕ → ℕ → Vec F S4x11x128x384 .f32 → Vec F S4x11x128x384 .f32
  | _, 0, X => X
  | k, m + 1, X => fill w (k + 1) m (put4 k (w k) X)

section Sweep

variable {n : ℕ} (hn : n < 32) (q : Fin 4 → Vec F S128x64 .bf16) (K : Vec F S4096x256 .bf16)

/-- The running sums ahead of trip `k`. -/
def carry : ℕ → Carry F
  | 0 => (k0_pay117, k0_pay117, k0_pay117, k0_pay117)
  | k + 1 => next (BitVec.ofNat 32 n) (jw n k) q (kw hn k K) (carry k)

/-- Trip `k`'s weights and log-betas. -/
def wts (k : ℕ) : Fin 4 → Vec F S1x1x128x384 .f32 := wt (BitVec.ofNat 32 n) (jw n k) q (kw hn k K) (carry hn q K k)
def lgs (k : ℕ) : Fin 4 → Vec F S1x1x128x384 .f32 := lg q (kw hn k K)

variable (c : Dev nD) (arg4 : Memref sig .tc .vmem S4096x256 .bf16) (harg4 : arg4.IsWhole)
  (arg9 : Memref sig .tc .vmem S4x11x128x384 .f32) (harg9 : arg9.IsWhole)
  (arg10 : Memref sig .tc .vmem S4x11x128x384 .f32) (harg10 : arg10.IsWhole)

/-- What the loop's label reads and writes. -/
def held (X9 X10 : Vec F S4x11x128x384 .f32) : sProp 𝕄 :=
  iprop((arg4.view.loc (c : Thread nD τ) ↦[arg4.view.set]{fullShare} harg4.unread K)
    ∗ (arg9.view.loc (c : Thread nD τ) ↦[arg9.view.set]{fullShare} harg9.unread X9)
    ∗ (arg10.view.loc (c : Thread nD τ) ↦[arg10.view.set]{fullShare} harg10.unread X10))

/-- What the loop's label hands back. -/
abbrev Out (F : FTy → Type) := BitVec 32 × BitVec 32 × FVec F S128x1 .f32 × FVec F S128x1 .f32 × FVec F S128x1 .f32 × FVec F S128x1 .f32

/-- The label's specification with `m` trips to run from trip `k`: it returns the number of groups run, the keys as they
    were and each scratch with the trips' stores. -/
def spec (k m : ℕ) (X9 X10 : Vec F S4x11x128x384 .f32) : sWPT 𝕄 (Out F) := do
  sWPT.consume (held K c arg4 harg4 arg9 harg9 arg10 harg10 X9 X10)
  let r ← sWPT.arbitrary
  sWPT.assume (r.2.1 = gw (k + m))
  sWPT.produce (held K c arg4 harg4 arg9 harg9 arg10 harg10 (fill (wts hn q K) k m X9) (fill (lgs hn q K) k m X10))
  pure r

theorem spec_apply (k m : ℕ) (X9 X10 : Vec F S4x11x128x384 .f32) (Q : Out F → sProp 𝕄) :
    spec hn q K c arg4 harg4 arg9 harg9 arg10 harg10 k m X9 X10 Q
      = iprop(held K c arg4 harg4 arg9 harg9 arg10 harg10 X9 X10 ∗ ∀ r : Out F, ⌜r.2.1 = gw (k + m)⌝ -∗
        (held K c arg4 harg4 arg9 harg9 arg10 harg10 (fill (wts hn q K) k m X9) (fill (lgs hn q K) k m X10) -∗ Q r)) := rfl

include hn in
/-- A trip that runs has its first block at or after block 0. -/
theorem le_of_live {k : ℕ} (hk : k < 12) {c : Carry F} (h : live (F := F) (jw n k) c) : 3 * k ≤ n := by
  by_contra hlt
  unfold live at h
  rw [jw_sge n hn k hk, if_neg hlt] at h
  revert h
  generalize (Scalar.cmpf .ogt (k0_pay5 c.1 c.2.1 c.2.2.1 c.2.2.2) (Named.named κ "cut" 0xC2D20000#32 : F .f32)) = b
  revert b; decide

/-- The four loads of a trip, as the loop spells them, -/
def loads (j : BitVec 32) (hj : k0_chk1 j) : Fin 4 → Vec F S384x64 .bf16
  | 0 => arg4.view.readAt (Elt F) (Rect.unit (s := S4096x256) (k0_off1 j) S384x64.size (k0_off1_inb j hj)).toLoadRect (harg4.unread K)
  | 1 => arg4.view.readAt (Elt F) (Rect.unit (s := S4096x256) (k0_off2 j) S384x64.size (k0_off2_inb j hj)).toLoadRect (harg4.unread K)
  | 2 => arg4.view.readAt (Elt F) (Rect.unit (s := S4096x256) (k0_off3 j) S384x64.size (k0_off3_inb j hj)).toLoadRect (harg4.unread K)
  | 3 => arg4.view.readAt (Elt F) (Rect.unit (s := S4096x256) (k0_off4 j) S384x64.size (k0_off4_inb j hj)).toLoadRect (harg4.unread K)

omit K arg4 harg4 in
include hn in
/-- A load of 384 rows of one head is a window. -/
theorem read_window {e : EltTy} (arg : Memref sig .tc .vmem S4096x256 e) (harg : arg.IsWhole) (K : Vec F S4096x256 e)
    {off : Fin 2 → ℕ} (inb : ∀ a, off a + S384x64.size a ≤ S4096x256.size a) (k x : ℕ) (hx : x + 64 ≤ 256) (h : off = ![first n k, x]) :
    arg.view.readAt (Elt F) (Rect.unit (s := S4096x256) off S384x64.size inb).toLoadRect (harg.unread K)
      = VecWindow.window K ![first n k, x] S384x64.size (rows_inb hn k x hx) := by
  subst h
  rw [View.readAt_unit arg.view (harg.unread K) inb rfl inb, harg.read_unread]

/-- are the windows. -/
theorem loads_eq (k : ℕ) (hk : k < 12) (hle : 3 * k ≤ n) (hj : k0_chk1 (jw n k)) :
    loads K arg4 harg4 (jw n k) hj = kw hn k K := by
  have e := jw_eq n hn k hk hle
  funext h
  match h with
  | 0 => exact read_window hn arg4 harg4 K _ k 0 (by omega) (by rw [e, off1_eq _ (by omega)]; rfl)
  | 1 => exact read_window hn arg4 harg4 K _ k 64 (by omega) (by rw [e, off2_eq _ (by omega)]; rfl)
  | 2 => exact read_window hn arg4 harg4 K _ k 128 (by omega) (by rw [e, off3_eq _ (by omega)]; rfl)
  | 3 => exact read_window hn arg4 harg4 K _ k 192 (by omega) (by rw [e, off4_eq _ (by omega)]; rfl)

omit hn in
/-- A trip's stores into a scratch are `put4`. -/
theorem writes_eq (arg : Memref sig .tc .vmem S4x11x128x384 .f32) (harg : arg.IsWhole) (X : Vec F S4x11x128x384 .f32)
    (k : ℕ) (hk : k < 11) (hj : k0_chk2 (gw k)) (w : Fin 4 → Vec F S1x1x128x384 .f32) :
    arg.view.writes (Elt F) (harg.unread X)
      [⟨Rect.unit (s := S4x11x128x384) (k0_off8 (gw k)) S1x1x128x384.size (k0_off8_inb (gw k) hj), w 3⟩,
        ⟨Rect.unit (s := S4x11x128x384) (k0_off7 (gw k)) S1x1x128x384.size (k0_off7_inb (gw k) hj), w 2⟩,
        ⟨Rect.unit (s := S4x11x128x384) (k0_off6 (gw k)) S1x1x128x384.size (k0_off6_inb (gw k) hj), w 1⟩,
        ⟨Rect.unit (s := S4x11x128x384) (k0_off5 (gw k)) S1x1x128x384.size (k0_off5_inb (gw k) hj), w 0⟩]
      = harg.unread (put4 k w X) := by
  have e := gw_eq k (by omega)
  refine harg.eq_unread ?_
  rw [View.read_writes_cons_put _ _ _ _ _ (show k0_off8 (gw k) = ![3, k, 0, 0] by rw [e, off8_eq k hk]),
    View.read_writes_cons_put _ _ _ _ _ (show k0_off7 (gw k) = ![2, k, 0, 0] by rw [e, off7_eq k hk]),
    View.read_writes_cons_put _ _ _ _ _ (show k0_off6 (gw k) = ![1, k, 0, 0] by rw [e, off6_eq k hk]),
    View.read_writes_cons_put _ _ _ _ _ (show k0_off5 (gw k) = ![0, k, 0, 0] by rw [e, off5_eq k hk]), View.writes_nil, harg.read_unread]
  rfl

set_option maxHeartbeats 4000000 in
theorem spec_le (i : grid0.Coords) (hi : (i 1).val = n) (E : Set ℕ) :
    ∀ m k, k + m < 12 → (∀ t < m, live (jw n (k + t)) (carry hn q K (k + t))) → ¬ live (jw n (k + m)) (carry hn q K (k + m)) →
      ∀ X9 X10 Q, spec hn q K c arg4 harg4 arg9 harg9 arg10 harg10 k m X9 X10 Q
      ⊢ wp frame (wpE (defs₀ (F := F)) 𝒱₀ (c : Thread nD τ) (some m)) E
          (defs₀ (F := F) .tc 1 ⟨i, arg4, harg4, q 0, q 1, q 2, q 3, arg9, harg9, arg10, harg10, jw n k, gw k,
            (carry hn q K k).1, (carry hn q K k).2.1, (carry hn q K k).2.2.1, (carry hn q K k).2.2.2⟩) Q := by
  intro m
  induction m with
  | zero =>
    intro k hk hl hs X9 X10 Q
    rw [spec_apply]
    show _ ⊢ wp frame (wpE (defs₀ (F := F)) 𝒱₀ (c : Thread nD τ) (some 0)) E
      (cc0_while1 i arg4 harg4 (q 0) (q 1) (q 2) (q 3) arg9 harg9 arg10 harg10 (jw n k) (gw k)
            (carry hn q K k).1 (carry hn q K k).2.1 (carry hn q K k).2.2.1 (carry hn q K k).2.2.2) Q
    simp only [cc0_while1_eq_skeleton]; unfold cc0_while1_skel
    have htest : ¬ Scalar.andi (Scalar.cmpi .sge (jw n k) 0#32)
      (Scalar.cmpf .ogt (k0_pay5 (carry hn q K k).1 (carry hn q K k).2.1 (carry hn q K k).2.2.1 (carry hn q K k).2.2.2)
        (Named.named κ "cut" 0xC2D20000#32 : F .f32)) = 1#1 := hs
    simp only [htest, ↓reduceIte, Prog.pure_eq_ret]
    iintro ⟨H, Hk⟩
    rw [wp_ret]; imodintro
    iapply Hk
    · ipureintro; rfl
    · simp only [fill]; iexact H
  | succ m ih =>
    intro k hk hl hs X9 X10 Q
    rw [spec_apply]
    show _ ⊢ wp frame (wpE (defs₀ (F := F)) 𝒱₀ (c : Thread nD τ) (some (m + 1))) E
      (cc0_while1 i arg4 harg4 (q 0) (q 1) (q 2) (q 3) arg9 harg9 arg10 harg10 (jw n k) (gw k)
            (carry hn q K k).1 (carry hn q K k).2.1 (carry hn q K k).2.2.1 (carry hn q K k).2.2.2) Q
    have h0 : live (jw n k) (carry hn q K k) := hl 0 (Nat.succ_pos m)
    have hle := le_of_live hn (by omega) h0
    have hc1 : k0_chk1 (jw n k) := by rw [jw_eq n hn k (by omega) hle]; exact chk1_of_lt _ (by omega)
    have hc2 : k0_chk2 (gw k) := by rw [gw_eq k (by omega)]; exact chk2_of_lt k (by omega)
    simp only [cc0_while1_eq_skeleton]; unfold cc0_while1_skel
    simp only [k0_part16_eq_skeleton, k0_part17_eq_skeleton, k0_part18_eq_skeleton, k0_part19_eq_skeleton,
      k0_part20_eq_skeleton, k0_part21_eq_skeleton]
    have htest : Scalar.andi (Scalar.cmpi .sge (jw n k) 0#32)
      (Scalar.cmpf .ogt (k0_pay5 (carry hn q K k).1 (carry hn q K k).2.1 (carry hn q K k).2.2.1 (carry hn q K k).2.2.2)
        (Named.named κ "cut" 0xC2D20000#32 : F .f32)) = 1#1 := h0
    simp only [htest, ↓reduceIte]
    unfold held
    iintro ⟨⟨H4, H9, H10⟩, Hk⟩
    have el := loads_eq hn K arg4 harg4 k (by omega) hle hc1
    have ec : carry hn q K (k + 1) = next (BitVec.ofNat 32 (i 1).val) (jw n k) q (loads K arg4 harg4 (jw n k) hc1) (carry hn q K k) := by
      rw [el, hi]; rfl
    have ew : wts hn q K k = wt (BitVec.ofNat 32 (i 1).val) (jw n k) q (loads K arg4 harg4 (jw n k) hc1) (carry hn q K k) := by
      rw [el, hi]; rfl
    have eg : lgs hn q K k = lg q (loads K arg4 harg4 (jw n k) hc1) := by rw [el]; rfl
    have e9 := writes_eq arg9 harg9 X9 k (by omega) hc2 (wts hn q K k)
    have e10 := writes_eq arg10 harg10 X10 k (by omega) hc2 (lgs hn q K k)
    have IH := ih (k + 1) (by omega) (fun t ht => by have := hl (t + 1) (by omega); rwa [show k + (t + 1) = k + 1 + t by omega] at this)
      (by rwa [show k + (m + 1) = k + 1 + m by omega] at hs) (put4 k (wts hn q K k) X9) (put4 k (lgs hn q K k) X10)
    rw [ec] at IH
    rw [ew] at e9
    rw [eg] at e10
    sl_exec
    iapply (wp_call_spec 𝒱₀ (c : Thread nD τ) (some (m + 1)) E
      (spec hn q K c arg4 harg4 arg9 harg9 arg10 harg10 (k + 1) m (put4 k (wts hn q K k) X9) (put4 k (lgs hn q K k) X10)) m
      (fun u hu => by cases hu; exact Nat.lt_succ_self m) IH)
    rw [spec_apply]; unfold held
    isplitl [H4 H9 H10]
    · isplitl [H4]; · iexact H4
      isplitl [H9]
      · rw [ew, ← e9]; iexact H9
      · rw [eg, ← e10]; iexact H10
    iintro %r %hr ⟨H4, H9, H10⟩
    rw [wp_ret]; imodintro
    iapply Hk
    · ipureintro; rw [hr, show k + 1 + m = k + (m + 1) by omega]
    · simp only [fill]
      isplitl [H4]; · iexact H4
      isplitl [H9]; · iexact H9
      iexact H10

end Sweep

end Cert.Proof.Stick

end
-- ==== Proof.StickSweep2.lean ====
/-
  The second sweep of the stick-breaking gradient kernel: a counted loop over the groups the first sweep has run, last group
  first. A trip reads its group's weights and log-betas, takes the running sums and the query gradients on, and adds its part
  to the 384 rows of the two accumulators. `step` is a trip's effect on what it carries, `upd` its effect on an accumulator's
  rows; `trip_le` proves a trip, `body_le` the whole body at a grid point.
-/
module

public import proofs.«01_k».proof.Proof.StickSweep1

@[expose] public section

set_option maxRecDepth 16384

noncomputable section

namespace Cert.Proof.Stick

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a trip carries: for each head the running sum and the query gradient. -/
abbrev State (F : FTy → Type) := FVec F S128x1 .f32 × FVec F S128x64 .f32 × FVec F S128x1 .f32 × FVec F S128x64 .f32
  × FVec F S128x1 .f32 × FVec F S128x64 .f32 × FVec F S128x1 .f32 × FVec F S128x64 .f32

/-- The state ahead of the first trip. -/
def state0 : State F := (k0_pay118, k0_pay119, k0_pay118, k0_pay119, k0_pay118, k0_pay119, k0_pay118, k0_pay119)

section Trip

variable (mask : IVec S128x384 1) (q d : Fin 4 → Vec F S128x64 .bf16) (k v : Fin 4 → Vec F S384x64 .bf16)
  (w b : Fin 4 → Vec F S1x1x128x384 .f32)

/-- The heads' products of weight and weight gradient, -/
def gr : Fin 4 → FVec F S128x384 .f32
  | 0 => k0_pay20 (d 0) (v 0) (k0_pay12 (w 0))
  | 1 => k0_pay21 (d 1) (v 1) (w 1)
  | 2 => k0_pay22 (d 2) (v 2) (w 2)
  | 3 => k0_pay23 (d 3) (v 3) (w 3)

/-- their sums inside each block, high and low parts stacked, -/
def tri : FVec F S3072x128 .f32 := k0_pay25 (gr d v w 0) (gr d v w 1) (gr d v w 2) (gr d v w 3) k0_pay24

/-- the sums over the group's columns before each column, -/
def bef : Fin 4 → FVec F S128x384 .f32
  | 0 => k0_pay32 (tri d v w) (k0_pay26 (gr d v w 0)) (k0_pay27 (gr d v w 0))
      (k0_pay29 (gr d v w 0) (gr d v w 1) (gr d v w 2) (gr d v w 3) k0_pay24)
      (k0_pay30 (gr d v w 0) (gr d v w 1) (gr d v w 2) (gr d v w 3) k0_pay24)
      (k0_pay31 (gr d v w 0) (gr d v w 1) (gr d v w 2) (gr d v w 3) k0_pay24)
  | 1 => k0_pay36 (gr d v w 1) (tri d v w)
  | 2 => k0_pay44 (tri d v w) (k0_pay38 (gr d v w 2)) (k0_pay39 (gr d v w 2)) (k0_pay41 (tri d v w)) (k0_pay42 (tri d v w))
      (k0_pay43 (tri d v w))
  | 3 => k0_pay48 (gr d v w 3) (tri d v w)

/-- the group's sums, -/
def tot : Fin 4 → FVec F S128x1 .f32
  | 0 => k0_pay33 (k0_pay26 (gr d v w 0)) (k0_pay27 (gr d v w 0)) (k0_pay28 (gr d v w 0))
  | 1 => k0_pay37 (gr d v w 1)
  | 2 => k0_pay45 (k0_pay38 (gr d v w 2)) (k0_pay39 (gr d v w 2)) (k0_pay40 (gr d v w 2))
  | 3 => k0_pay49 (gr d v w 3)

/-- the gradients of the logits, -/
def dz (s : State F) : Fin 4 → FVec F S128x384 .bf16
  | 0 => k0_pay50 s.1 mask (k0_pay16 (b 0)) (gr d v w 0) (bef d v w 0)
  | 1 => k0_pay53 mask (gr d v w 1) (k0_pay51 s.2.2.1 (gr d v w 1) (bef d v w 1)) (k0_pay52 (k0_pay17 (b 1)))
  | 2 => k0_pay54 s.2.2.2.2.1 mask (k0_pay18 (b 2)) (gr d v w 2) (bef d v w 2)
  | 3 => k0_pay55 s.2.2.2.2.2.2.1 mask (k0_pay19 (b 3)) (gr d v w 3) (bef d v w 3)

/-- what the trip carries on, -/
def step (s : State F) : State F :=
  (k0_pay122 s.1 (tot d v w 0), k0_pay123 s.2.1 (k 0) (dz mask d v w b s 0),
    k0_pay124 s.2.2.1 (tot d v w 1), k0_pay125 s.2.2.2.1 (k 1) (dz mask d v w b s 1),
    k0_pay126 s.2.2.2.2.1 (tot d v w 2), k0_pay127 s.2.2.2.2.2.1 (k 2) (dz mask d v w b s 2),
    k0_pay128 s.2.2.2.2.2.2.1 (tot d v w 3), k0_pay129 s.2.2.2.2.2.2.2 (k 3) (dz mask d v w b s 3))

/-- the rows of the key gradients after it, -/
def dkRows (s : State F) : Fin 4 → Vec F S384x64 .f32 → Vec F S384x64 .f32
  | 0, x => k0_pay56 (q 0) (dz mask d v w b s 0) x
  | 1, x => k0_pay58 (q 1) (dz mask d v w b s 1) x
  | 2, x => k0_pay60 (q 2) (dz mask d v w b s 2) x
  | 3, x => k0_pay120 (k0_pay62 (q 3) (dz mask d v w b s 3) x)

/-- and the rows of the value gradients. -/
def dvRows : Fin 4 → Vec F S384x64 .f32 → Vec F S384x64 .f32
  | 0, x => k0_pay57 (d 0) (k0_pay12 (w 0)) x
  | 1, x => k0_pay59 (d 1) (k0_pay13 (w 1)) x
  | 2, x => k0_pay61 (d 2) (k0_pay14 (w 2)) x
  | 3, x => k0_pay121 (d 3) (k0_pay15 (w 3)) x

end Trip

section Upd

variable {n : ℕ} (hn : n < 32)

/-- A trip's four replacements in an accumulator: head `h`'s rows of group `k` become what `f h` makes of them. -/
def upd4 (k : ℕ) (f : Fin 4 → Vec F S384x64 .f32 → Vec F S384x64 .f32) (D : Vec F S4096x256 .f32) : Vec F S4096x256 .f32 :=
  VecWindow.put (VecWindow.put (VecWindow.put (VecWindow.put D ![first n k, 0] S384x64.size (f 0 (kw hn k D 0)))
    ![first n k, 64] S384x64.size (f 1 (kw hn k D 1))) ![first n k, 128] S384x64.size (f 2 (kw hn k D 2)))
    ![first n k, 192] S384x64.size (f 3 (kw hn k D 3))

/-- Group `k`'s entries of a scratch, one head each. -/
def slot (k : ℕ) (hk : k < 11) (W : Vec F S4x11x128x384 .f32) : Fin 4 → Vec F S1x1x128x384 .f32 := fun h =>
  VecWindow.window W ![h.val, k, 0, 0] S1x1x128x384.size (slot_inb h.val k h.isLt hk)

end Upd

section Body

variable (i : grid0.Coords) (q d : Fin 4 → Vec F S128x64 .bf16) (K V : Vec F S4096x256 .bf16)
  (c : Dev nD) (arg2 : Memref sig .tc .vmem S128x256 .bf16) (harg2 : arg2.IsWhole)
  (arg3 : Memref sig .tc .vmem S128x256 .bf16) (harg3 : arg3.IsWhole)
  (arg4 : Memref sig .tc .vmem S4096x256 .bf16) (harg4 : arg4.IsWhole)
  (arg5 : Memref sig .tc .vmem S4096x256 .bf16) (harg5 : arg5.IsWhole)
  (arg6 : Memref sig .tc .vmem S128x256 .bf16) (harg6 : arg6.IsWhole)
  (arg7 : Memref sig .tc .vmem S4096x256 .bf16) (harg7 : arg7.IsWhole)
  (arg8 : Memref sig .tc .vmem S4096x256 .bf16) (harg8 : arg8.IsWhole)
  (arg9 : Memref sig .tc .vmem S4x11x128x384 .f32) (harg9 : arg9.IsWhole)
  (arg10 : Memref sig .tc .vmem S4x11x128x384 .f32) (harg10 : arg10.IsWhole)
  (arg11 : Memref sig .tc .vmem S4096x256 .f32) (harg11 : arg11.IsWhole)
  (arg12 : Memref sig .tc .vmem S4096x256 .f32) (harg12 : arg12.IsWhole)

/-- A whole memref at contents that read `X`. -/
abbrev at_ {s : Shape} {e : EltTy} (arg : Memref sig .tc .vmem s e) (harg : arg.IsWhole) (X : Vec F s e) : sProp 𝕄 :=
  iprop(arg.view.loc (c : Thread nD τ) ↦[arg.view.set]{fullShare} harg.unread X)

/-- What the second sweep reads and writes. -/
def held2 (W B : Vec F S4x11x128x384 .f32) (DK DV : Vec F S4096x256 .f32) : sProp 𝕄 :=
  iprop(at_ c arg4 harg4 K ∗ at_ c arg5 harg5 V ∗ at_ c arg9 harg9 W ∗ at_ c arg10 harg10 B
    ∗ at_ c arg11 harg11 DK ∗ at_ c arg12 harg12 DV)

variable {G : ℕ} (hG : G < 12) (h3 : 3 * G ≤ (i 1).val + 3) (hw3 : k0_chk3 i (BitVec.ofNat 32 G))

/-- The loads of a trip from an array of 4096 rows, as the loop spells them, -/
def rows {e : EltTy} (arg : Memref sig .tc .vmem S4096x256 e) (harg : arg.IsWhole) (X : Vec F S4096x256 e)
    (t : Fin (k0_t1_loop (BitVec.ofNat 32 G)).trips) : Fin 4 → Vec F S384x64 e
  | 0 => arg.view.readAt (Elt F) (Rect.unit (s := S4096x256) (k0_off9 i (BitVec.ofNat 32 G) t) S384x64.size (k0_off9_inb i (BitVec.ofNat 32 G) hw3 t)).toLoadRect (harg.unread X)
  | 1 => arg.view.readAt (Elt F) (Rect.unit (s := S4096x256) (k0_off10 i (BitVec.ofNat 32 G) t) S384x64.size (k0_off10_inb i (BitVec.ofNat 32 G) hw3 t)).toLoadRect (harg.unread X)
  | 2 => arg.view.readAt (Elt F) (Rect.unit (s := S4096x256) (k0_off11 i (BitVec.ofNat 32 G) t) S384x64.size (k0_off11_inb i (BitVec.ofNat 32 G) hw3 t)).toLoadRect (harg.unread X)
  | 3 => arg.view.readAt (Elt F) (Rect.unit (s := S4096x256) (k0_off12 i (BitVec.ofNat 32 G) t) S384x64.size (k0_off12_inb i (BitVec.ofNat 32 G) hw3 t)).toLoadRect (harg.unread X)

/-- and from a scratch. -/
def slots (arg : Memref sig .tc .vmem S4x11x128x384 .f32) (harg : arg.IsWhole) (X : Vec F S4x11x128x384 .f32)
    (t : Fin (k0_t1_loop (BitVec.ofNat 32 G)).trips) : Fin 4 → Vec F S1x1x128x384 .f32
  | 0 => arg.view.readAt (Elt F) (Rect.unit (s := S4x11x128x384) (k0_off13 (BitVec.ofNat 32 G) t) S1x1x128x384.size (k0_off13_inb i (BitVec.ofNat 32 G) hw3 t)).toLoadRect (harg.unread X)
  | 1 => arg.view.readAt (Elt F) (Rect.unit (s := S4x11x128x384) (k0_off14 (BitVec.ofNat 32 G) t) S1x1x128x384.size (k0_off14_inb i (BitVec.ofNat 32 G) hw3 t)).toLoadRect (harg.unread X)
  | 2 => arg.view.readAt (Elt F) (Rect.unit (s := S4x11x128x384) (k0_off15 (BitVec.ofNat 32 G) t) S1x1x128x384.size (k0_off15_inb i (BitVec.ofNat 32 G) hw3 t)).toLoadRect (harg.unread X)
  | 3 => arg.view.readAt (Elt F) (Rect.unit (s := S4x11x128x384) (k0_off16 (BitVec.ofNat 32 G) t) S1x1x128x384.size (k0_off16_inb i (BitVec.ofNat 32 G) hw3 t)).toLoadRect (harg.unread X)

variable (t : Fin (k0_t1_loop (BitVec.ofNat 32 G)).trips)

include hG h3 in
theorem rows_eq {e : EltTy} (arg : Memref sig .tc .vmem S4096x256 e) (harg : arg.IsWhole) (X : Vec F S4096x256 e) :
    rows i hw3 arg harg X t = kw (point_lt i) (G - 1 - t) X := by
  funext h
  match h with
  | 0 => exact read_window (point_lt i) arg harg X _ _ 0 (by omega) (off9_eq i hG h3 t)
  | 1 => exact read_window (point_lt i) arg harg X _ _ 64 (by omega) (off10_eq i hG h3 t)
  | 2 => exact read_window (point_lt i) arg harg X _ _ 128 (by omega) (off11_eq i hG h3 t)
  | 3 => exact read_window (point_lt i) arg harg X _ _ 192 (by omega) (off12_eq i hG h3 t)

/-- A load of one head's entries of a group is a window. -/
theorem read_slot (arg : Memref sig .tc .vmem S4x11x128x384 .f32) (harg : arg.IsWhole) (X : Vec F S4x11x128x384 .f32)
    {off : Fin 4 → ℕ} (inb : ∀ a, off a + S1x1x128x384.size a ≤ S4x11x128x384.size a) (h k : ℕ) (hh : h < 4) (hk : k < 11) (e : off = ![h, k, 0, 0]) :
    arg.view.readAt (Elt F) (Rect.unit (s := S4x11x128x384) off S1x1x128x384.size inb).toLoadRect (harg.unread X)
      = VecWindow.window X ![h, k, 0, 0] S1x1x128x384.size (slot_inb h k hh hk) := by
  subst e
  rw [View.readAt_unit arg.view (harg.unread X) inb rfl inb, harg.read_unread]

include hG h3 in
theorem slots_eq (hk : G - 1 - t.val < 11) (arg : Memref sig .tc .vmem S4x11x128x384 .f32) (harg : arg.IsWhole) (X : Vec F S4x11x128x384 .f32) :
    slots i hw3 arg harg X t = slot (G - 1 - t) hk X := by
  funext h
  match h with
  | 0 => exact read_slot arg harg X _ 0 _ (by omega) hk (off13_eq hG t)
  | 1 => exact read_slot arg harg X _ 1 _ (by omega) hk (off14_eq hG t)
  | 2 => exact read_slot arg harg X _ 2 _ (by omega) hk (off15_eq hG t)
  | 3 => exact read_slot arg harg X _ 3 _ (by omega) hk (off16_eq hG t)

include hG h3 in
/-- A trip's stores into an accumulator are `upd4`. -/
theorem writes_upd (arg : Memref sig .tc .vmem S4096x256 .f32) (harg : arg.IsWhole) (D : Vec F S4096x256 .f32)
    (f : Fin 4 → Vec F S384x64 .f32 → Vec F S384x64 .f32) :
    arg.view.writes (Elt F) (harg.unread D)
      [⟨Rect.unit (s := S4096x256) (k0_off12 i (BitVec.ofNat 32 G) t) S384x64.size (k0_off12_inb i (BitVec.ofNat 32 G) hw3 t), f 3 (rows i hw3 arg harg D t 3)⟩,
        ⟨Rect.unit (s := S4096x256) (k0_off11 i (BitVec.ofNat 32 G) t) S384x64.size (k0_off11_inb i (BitVec.ofNat 32 G) hw3 t), f 2 (rows i hw3 arg harg D t 2)⟩,
        ⟨Rect.unit (s := S4096x256) (k0_off10 i (BitVec.ofNat 32 G) t) S384x64.size (k0_off10_inb i (BitVec.ofNat 32 G) hw3 t), f 1 (rows i hw3 arg harg D t 1)⟩,
        ⟨Rect.unit (s := S4096x256) (k0_off9 i (BitVec.ofNat 32 G) t) S384x64.size (k0_off9_inb i (BitVec.ofNat 32 G) hw3 t), f 0 (rows i hw3 arg harg D t 0)⟩]
      = harg.unread (upd4 (point_lt i) (G - 1 - t) f D) := by
  refine harg.eq_unread ?_
  rw [View.read_writes_cons_put _ _ _ _ _ (off12_eq i hG h3 t), View.read_writes_cons_put _ _ _ _ _ (off11_eq i hG h3 t),
    View.read_writes_cons_put _ _ _ _ _ (off10_eq i hG h3 t), View.read_writes_cons_put _ _ _ _ _ (off9_eq i hG h3 t),
    View.writes_nil, harg.read_unread, rows_eq i hG h3 hw3 t]
  rfl

include hG h3 in
/-- The second sweep masks a group as the first does. -/
theorem mask_eq : k0_pay11 (BitVec.ofNat 32 (i 1).val) (BitVec.ofNat 32 G) 0#32 1#32 t
    = ok (BitVec.ofNat 32 (i 1).val) (jw (i 1).val (G - 1 - t)) := by
  have ht := trip_lt hG t
  have hn := point_lt i
  have e : Scalar.subi (BitVec.ofNat 32 (i 1).val) (Scalar.muli (g2w G t) 3#32) = jw (i 1).val (G - 1 - t) := by
    rw [jw_eq _ hn _ (by omega) (by omega), g2w_eq G hG t ht, sub_word _ hn _ (by omega) (by omega)]
  rw [← e]
  rfl

include hG h3 in
set_option maxHeartbeats 4000000 in
theorem trip_le (E : Set ℕ) (s : State F) (W B : Vec F S4x11x128x384 .f32) (w b : Fin 4 → Vec F S1x1x128x384 .f32)
    (hk : G - 1 - t.val < 11) (hw : slot (G - 1 - t) hk W = w) (hb : slot (G - 1 - t) hk B = b)
    (DK DV : Vec F S4096x256 .f32) (Q : State F → sProp 𝕄) :
    iprop(held2 K V c arg4 harg4 arg5 harg5 arg9 harg9 arg10 harg10 arg11 harg11 arg12 harg12 W B DK DV
      ∗ (held2 K V c arg4 harg4 arg5 harg5 arg9 harg9 arg10 harg10 arg11 harg11 arg12 harg12 W B
          (upd4 (point_lt i) (G - 1 - t) (dkRows (ok (BitVec.ofNat 32 (i 1).val) (jw (i 1).val (G - 1 - t))) q d (kw (point_lt i) (G - 1 - t) V) w b s) DK)
          (upd4 (point_lt i) (G - 1 - t) (dvRows d w) DV)
        -∗ Q (step (ok (BitVec.ofNat 32 (i 1).val) (jw (i 1).val (G - 1 - t))) d (kw (point_lt i) (G - 1 - t) K) (kw (point_lt i) (G - 1 - t) V) w b s)))
    ⊢ wp frame (wpE (defs₀ (F := F)) 𝒱₀ (c : Thread nD τ) none) E
      (k0_t1_body i arg2 harg2 arg3 harg3 arg4 harg4 arg5 harg5 arg6 harg6 arg7 harg7 arg8 harg8 arg9 harg9 arg10 harg10
        arg11 harg11 arg12 harg12 (BitVec.ofNat 32 (i 1).val) (q 0) (q 1) (q 2) (q 3) (d 0) (d 1) (d 2) (d 3)
        (BitVec.ofNat 32 G) hw3 t s) Q := by
  obtain ⟨s0, s1, s2, s3, s4, s5, s6, s7⟩ := s
  letI : ClosedOff (k0_off9 i (BitVec.ofNat 32 G) t) := ⟨![first (i 1).val (G - 1 - t.val), 0], off9_eq i hG h3 t⟩
  letI : ClosedOff (k0_off10 i (BitVec.ofNat 32 G) t) := ⟨![first (i 1).val (G - 1 - t.val), 64], off10_eq i hG h3 t⟩
  letI : ClosedOff (k0_off11 i (BitVec.ofNat 32 G) t) := ⟨![first (i 1).val (G - 1 - t.val), 128], off11_eq i hG h3 t⟩
  letI : ClosedOff (k0_off12 i (BitVec.ofNat 32 G) t) := ⟨![first (i 1).val (G - 1 - t.val), 192], off12_eq i hG h3 t⟩
  letI : ClosedOff (k0_off13 (BitVec.ofNat 32 G) t) := ⟨![0, G - 1 - t.val, 0, 0], off13_eq hG t⟩
  letI : ClosedOff (k0_off14 (BitVec.ofNat 32 G) t) := ⟨![1, G - 1 - t.val, 0, 0], off14_eq hG t⟩
  letI : ClosedOff (k0_off15 (BitVec.ofNat 32 G) t) := ⟨![2, G - 1 - t.val, 0, 0], off15_eq hG t⟩
  letI : ClosedOff (k0_off16 (BitVec.ofNat 32 G) t) := ⟨![3, G - 1 - t.val, 0, 0], off16_eq hG t⟩
  unfold held2 k0_t1_body
  have eK := rows_eq i hG h3 hw3 t arg4 harg4 K
  have eV := rows_eq i hG h3 hw3 t arg5 harg5 V
  have eW := (slots_eq i hG h3 hw3 t hk arg9 harg9 W).trans hw
  have eB := (slots_eq i hG h3 hw3 t hk arg10 harg10 B).trans hb
  unfold at_
  rw [← mask_eq i hG h3 t, ← eK, ← eV, ← eW, ← eB,
    ← writes_upd i hG h3 hw3 t arg11 harg11 DK, ← writes_upd i hG h3 hw3 t arg12 harg12 DV]
  iintro ⟨⟨H4, H5, H9, H10, H11, H12⟩, Hk⟩
  sl_exec
  rw [wp_ret]; imodintro
  refine BIBase.Entails.trans ?_ (Entails.of_eq (congrArg Q (?_ : step (k0_pay11 (BitVec.ofNat 32 (i 1).val) (BitVec.ofNat 32 G) 0#32 1#32 t) d
    (rows i hw3 arg4 harg4 K t) (rows i hw3 arg5 harg5 V t) (slots i hw3 arg9 harg9 W t) (slots i hw3 arg10 harg10 B t)
    (s0, s1, s2, s3, s4, s5, s6, s7) = _)))
  case refine_2 =>
    rfl
  iintro ⟨⟨⟨⟨⟨⟨H4, H5⟩, H9⟩, H10⟩, H11⟩, H12⟩, Hk⟩
  iapply Hk
  isplitl [H4]; · iexact H4
  isplitl [H5]; · iexact H5
  isplitl [H9]; · iexact H9
  isplitl [H10]; · iexact H10
  isplitl [H11]; · iexact H11
  iexact H12

/-- The heads' columns of a block of 128 rows. -/
def cols (X : Vec F S128x256 .bf16) : Fin 4 → Vec F S128x64 .bf16
  | 0 => VecWindow.window X ![0, 0] S128x64.size inb_S128x256_S128x64_0_0
  | 1 => VecWindow.window X ![0, 64] S128x64.size inb_S128x256_S128x64_0_64
  | 2 => VecWindow.window X ![0, 128] S128x64.size inb_S128x256_S128x64_0_128
  | 3 => VecWindow.window X ![0, 192] S128x64.size inb_S128x256_S128x64_0_192

/-- The first sweep stops. -/
theorem exists_groups {n : ℕ} (hn : n < 32) (q : Fin 4 → Vec F S128x64 .bf16) (K : Vec F S4096x256 .bf16) :
    ∃ k, ¬ live (jw n k) (carry hn q K k) :=
  ⟨11, fun h => by have := le_of_live hn (by omega) h; omega⟩

open Classical in
/-- How many groups the first sweep runs. -/
def groups {n : ℕ} (hn : n < 32) (q : Fin 4 → Vec F S128x64 .bf16) (K : Vec F S4096x256 .bf16) : ℕ := Nat.find (exists_groups hn q K)

theorem groups_spec {n : ℕ} (hn : n < 32) (q : Fin 4 → Vec F S128x64 .bf16) (K : Vec F S4096x256 .bf16) :
    ¬ live (jw n (groups hn q K)) (carry hn q K (groups hn q K)) := by
  classical exact Nat.find_spec (exists_groups hn q K)

theorem groups_min {n : ℕ} (hn : n < 32) (q : Fin 4 → Vec F S128x64 .bf16) (K : Vec F S4096x256 .bf16) {t : ℕ}
    (ht : t < groups hn q K) : live (jw n t) (carry hn q K t) := by
  classical exact not_not.1 (Nat.find_min (exists_groups hn q K) ht)

theorem groups_le {n : ℕ} (hn : n < 32) (q : Fin 4 → Vec F S128x64 .bf16) (K : Vec F S4096x256 .bf16) :
    groups hn q K ≤ 11 := by
  classical exact Nat.find_le (show ¬ live (jw n 11) (carry hn q K 11) from fun h => by have := le_of_live hn (by omega) h; omega)

theorem groups_three {n : ℕ} (hn : n < 32) (q : Fin 4 → Vec F S128x64 .bf16) (K : Vec F S4096x256 .bf16) :
    3 * groups hn q K ≤ n + 3 := by
  rcases Nat.eq_zero_or_pos (groups hn q K) with h | h
  · omega
  · have hl := groups_min hn q K (t := groups hn q K - 1) (by omega)
    have := le_of_live hn (by have := groups_le hn q K; omega) hl
    omega

/-- The second sweep's state, key and value gradients after `t` of its trips. -/
def sweep {n : ℕ} (hn : n < 32) (q d : Fin 4 → Vec F S128x64 .bf16) (K V : Vec F S4096x256 .bf16) (G : ℕ)
    (DK DV : Vec F S4096x256 .f32) : ℕ → State F × Vec F S4096x256 .f32 × Vec F S4096x256 .f32
  | 0 => (state0, DK, DV)
  | t + 1 =>
    (step (ok (BitVec.ofNat 32 n) (jw n (G - 1 - t))) d (kw hn (G - 1 - t) K) (kw hn (G - 1 - t) V) (wts hn q K (G - 1 - t))
        (lgs hn q K (G - 1 - t)) (sweep hn q d K V G DK DV t).1,
      upd4 hn (G - 1 - t) (dkRows (ok (BitVec.ofNat 32 n) (jw n (G - 1 - t))) q d (kw hn (G - 1 - t) V) (wts hn q K (G - 1 - t))
        (lgs hn q K (G - 1 - t)) (sweep hn q d K V G DK DV t).1) (sweep hn q d K V G DK DV t).2.1,
      upd4 hn (G - 1 - t) (dvRows d (wts hn q K (G - 1 - t))) (sweep hn q d K V G DK DV t).2.2)

/-- The query gradients' block. -/
def dqBlock (X : Vec F S128x256 .bf16) (s : State F) : Vec F S128x256 .bf16 :=
  VecWindow.put (VecWindow.put (VecWindow.put (VecWindow.put X ![0, 0] S128x64.size (k0_pay140 s.2.1)) ![0, 64] S128x64.size
    (k0_pay141 s.2.2.2.1)) ![0, 128] S128x64.size (k0_pay1 s.2.2.2.2.2.1)) ![0, 192] S128x64.size (k0_pay2 s.2.2.2.2.2.2.2)

omit [FloatOps F] [Named F] in
/-- A group's slot holds what the group's stores left, -/
theorem slot_put4_same (k : ℕ) (hk : k < 11) (w : Fin 4 → Vec F S1x1x128x384 .f32) (X : Vec F S4x11x128x384 .f32) :
    slot k hk (put4 k w X) = w := by
  funext h
  unfold slot put4
  match h with
  | 0 =>
    rw [VecWindow.window_put_of_disjoint _ _ _ _ _ _ _ 0 (.inl (Nat.le_of_ble_eq_true rfl)), VecWindow.window_put_of_disjoint _ _ _ _ _ _ _ 0 (.inl (Nat.le_of_ble_eq_true rfl)),
      VecWindow.window_put_of_disjoint _ _ _ _ _ _ _ 0 (.inl (Nat.le_of_ble_eq_true rfl))]
    exact VecWindow.window_put_same _ _ _ _ _
  | 1 =>
    rw [VecWindow.window_put_of_disjoint _ _ _ _ _ _ _ 0 (.inl (Nat.le_of_ble_eq_true rfl)), VecWindow.window_put_of_disjoint _ _ _ _ _ _ _ 0 (.inl (Nat.le_of_ble_eq_true rfl))]
    exact VecWindow.window_put_same _ _ _ _ _
  | 2 =>
    rw [VecWindow.window_put_of_disjoint _ _ _ _ _ _ _ 0 (.inl (Nat.le_of_ble_eq_true rfl))]
    exact VecWindow.window_put_same _ _ _ _ _
  | 3 => exact VecWindow.window_put_same _ _ _ _ _

omit [FloatOps F] [Named F] in
/-- whatever other groups store. -/
theorem slot_put4_ne (k k' : ℕ) (hk : k < 11) (hne : k ≠ k') (w : Fin 4 → Vec F S1x1x128x384 .f32) (X : Vec F S4x11x128x384 .f32) :
    slot k hk (put4 k' w X) = slot k hk X := by
  funext h
  unfold slot put4
  rw [VecWindow.window_put_of_disjoint _ _ _ _ _ _ _ 1 (by show k + 1 ≤ k' ∨ k' + 1 ≤ k; omega),
    VecWindow.window_put_of_disjoint _ _ _ _ _ _ _ 1 (by show k + 1 ≤ k' ∨ k' + 1 ≤ k; omega),
    VecWindow.window_put_of_disjoint _ _ _ _ _ _ _ 1 (by show k + 1 ≤ k' ∨ k' + 1 ≤ k; omega),
    VecWindow.window_put_of_disjoint _ _ _ _ _ _ _ 1 (by show k + 1 ≤ k' ∨ k' + 1 ≤ k; omega)]

omit [FloatOps F] [Named F] in
theorem slot_fill (w : ℕ → Fin 4 → Vec F S1x1x128x384 .f32) (k' : ℕ) (hk' : k' < 11) : ∀ (m k : ℕ) (X : Vec F S4x11x128x384 .f32),
    slot k' hk' (fill w k m X) = if k ≤ k' ∧ k' < k + m then w k' else slot k' hk' X := by
  intro m
  induction m with
  | zero => intro k X; rw [if_neg (by omega)]; rfl
  | succ m ih =>
    intro k X
    show slot k' hk' (fill w (k + 1) m (put4 k (w k) X)) = _
    rw [ih]
    by_cases h : k' = k
    · subst h
      rw [if_neg (by omega), if_pos (by omega), slot_put4_same]
    · rw [slot_put4_ne k' k hk' h]
      by_cases h' : k + 1 ≤ k' ∧ k' < k + 1 + m
      · rw [if_pos h', if_pos (by omega)]
      · rw [if_neg h', if_neg (by omega)]

/-- The loads of the heads' columns, as the body spells them, -/
def colLoads (arg : Memref sig .tc .vmem S128x256 .bf16) (harg : arg.IsWhole) (X : Vec F S128x256 .bf16) : Fin 4 → Vec F S128x64 .bf16
  | 0 => arg.view.readAt (Elt F) (Rect.unit (s := S128x256) ![0, 0] S128x64.size inb_S128x256_S128x64_0_0).toLoadRect (harg.unread X)
  | 1 => arg.view.readAt (Elt F) (Rect.unit (s := S128x256) ![0, 64] S128x64.size inb_S128x256_S128x64_0_64).toLoadRect (harg.unread X)
  | 2 => arg.view.readAt (Elt F) (Rect.unit (s := S128x256) ![0, 128] S128x64.size inb_S128x256_S128x64_0_128).toLoadRect (harg.unread X)
  | 3 => arg.view.readAt (Elt F) (Rect.unit (s := S128x256) ![0, 192] S128x64.size inb_S128x256_S128x64_0_192).toLoadRect (harg.unread X)

/-- are the columns. -/
theorem colLoads_eq (arg : Memref sig .tc .vmem S128x256 .bf16) (harg : arg.IsWhole) (X : Vec F S128x256 .bf16) :
    colLoads arg harg X = cols X := by
  funext h
  match h with
  | 0 => exact (View.readAt_unit arg.view (harg.unread X) _ rfl inb_S128x256_S128x64_0_0).trans (by rw [harg.read_unread]; rfl)
  | 1 => exact (View.readAt_unit arg.view (harg.unread X) _ rfl inb_S128x256_S128x64_0_64).trans (by rw [harg.read_unread]; rfl)
  | 2 => exact (View.readAt_unit arg.view (harg.unread X) _ rfl inb_S128x256_S128x64_0_128).trans (by rw [harg.read_unread]; rfl)
  | 3 => exact (View.readAt_unit arg.view (harg.unread X) _ rfl inb_S128x256_S128x64_0_192).trans (by rw [harg.read_unread]; rfl)

/-- What an accumulator holds after the reset at the first block of a row of the grid. -/
def reset (D : Vec F S4096x256 .f32) : Vec F S4096x256 .f32 := if (i 1).val = 0 then k0_pay115 else D

/-- What both sweeps leave at a point of the grid. -/
def swept (DK DV : Vec F S4096x256 .f32) : State F × Vec F S4096x256 .f32 × Vec F S4096x256 .f32 :=
  sweep (point_lt i) q d K V (groups (point_lt i) q K) (reset i DK) (reset i DV) (groups (point_lt i) q K)

/-- The second sweep's invariant ahead of trip `t`. -/
def ahead (W B : Vec F S4x11x128x384 .f32) (DK DV : Vec F S4096x256 .f32) (G t : ℕ) (s : State F) : sProp 𝕄 :=
  iprop(⌜s = (sweep (point_lt i) q d K V G DK DV t).1⌝
    ∗ held2 K V c arg4 harg4 arg5 harg5 arg9 harg9 arg10 harg10 arg11 harg11 arg12 harg12 W B
      (sweep (point_lt i) q d K V G DK DV t).2.1 (sweep (point_lt i) q d K V G DK DV t).2.2)

/-- What a result's block holds after the point, whose store takes the accumulator's rounding at the last block of a row
    of the grid only. -/
def flush (f : Vec F S4096x256 .f32 → Vec F S4096x256 .bf16) (X : Vec F S4096x256 .bf16) (D : Vec F S4096x256 .f32) :
    Vec F S4096x256 .bf16 := if k0_cond2 i = 1#1 then f D else X

/-- A store of a whole buffer leaves what it stores. -/
theorem writes_whole {s : Shape} {e : EltTy} (arg : Memref sig .tc .vmem s e) (harg : arg.IsWhole) (X D : Vec F s e)
    (off : Fin s.rank → ℕ) (inb : ∀ a, off a + s.size a ≤ s.size a) :
    arg.view.writes (Elt F) (harg.unread X) [⟨Rect.unit (s := s) off s.size inb, D⟩] = harg.unread D := by
  exact harg.eq_unread (View.read_writes_full arg.view _ inb D [])

/-- The four stores of the query gradients leave their block. -/
theorem writes_dq (arg : Memref sig .tc .vmem S128x256 .bf16) (harg : arg.IsWhole) (X : Vec F S128x256 .bf16) (s : State F) :
    arg.view.writes (Elt F) (harg.unread X)
      [⟨Rect.unit (s := S128x256) ![0, 192] S128x64.size inb_S128x256_S128x64_0_192, k0_pay2 s.2.2.2.2.2.2.2⟩,
        ⟨Rect.unit (s := S128x256) ![0, 128] S128x64.size inb_S128x256_S128x64_0_128, k0_pay1 s.2.2.2.2.2.1⟩,
        ⟨Rect.unit (s := S128x256) ![0, 64] S128x64.size inb_S128x256_S128x64_0_64, k0_pay141 s.2.2.2.1⟩,
        ⟨Rect.unit (s := S128x256) ![0, 0] S128x64.size inb_S128x256_S128x64_0_0, k0_pay140 s.2.1⟩]
      = harg.unread (dqBlock X s) := by
  refine harg.eq_unread ?_
  rw [View.read_writes_cons_put _ _ _ _ _ rfl, View.read_writes_cons_put _ _ _ _ _ rfl,
    View.read_writes_cons_put _ _ _ _ _ rfl, View.read_writes_cons_put _ _ _ _ _ rfl, View.writes_nil, harg.read_unread]
  rfl

/-- The flush, as the body spells it. -/
theorem flush_eq (arg : Memref sig .tc .vmem S4096x256 .bf16) (harg : arg.IsWhole) (f : Vec F S4096x256 .f32 → Vec F S4096x256 .bf16)
    (X : Vec F S4096x256 .bf16) (acc : Memref sig .tc .vmem S4096x256 .f32) (hacc : acc.IsWhole) (D : Vec F S4096x256 .f32) :
    (if _ : k0_cond2 i = 1#1 then
        arg.view.writes (Elt F) (harg.unread X)
          [⟨Rect.unit (s := S4096x256) ![0, 0] S4096x256.size inb_S4096x256_S4096x256_0_0,
            f (acc.view.readAt (Elt F) (Rect.unit (s := S4096x256) ![0, 0] S4096x256.size inb_S4096x256_S4096x256_0_0).toLoadRect
              (hacc.unread D))⟩]
      else harg.unread X) = harg.unread (flush i f X D) := by
  unfold flush
  split
  · rw [writes_whole arg harg X, View.readAt_full, hacc.read_unread]
  · rfl

set_option maxHeartbeats 4000000 in
theorem body_le (E : Set ℕ) (Qb Do X6 : Vec F S128x256 .bf16) (X7 X8 : Vec F S4096x256 .bf16) (W B : Vec F S4x11x128x384 .f32)
    (DK DV : Vec F S4096x256 .f32) (Q : PUnit → sProp 𝕄) :
    iprop((at_ c arg2 harg2 Qb ∗ at_ c arg3 harg3 Do ∗ at_ c arg4 harg4 K ∗ at_ c arg5 harg5 V ∗ at_ c arg6 harg6 X6
      ∗ at_ c arg7 harg7 X7 ∗ at_ c arg8 harg8 X8 ∗ at_ c arg9 harg9 W ∗ at_ c arg10 harg10 B ∗ at_ c arg11 harg11 DK ∗ at_ c arg12 harg12 DV)
      ∗ ((at_ c arg2 harg2 Qb ∗ at_ c arg3 harg3 Do ∗ at_ c arg4 harg4 K ∗ at_ c arg5 harg5 V
          ∗ at_ c arg6 harg6 (dqBlock X6 (swept i (cols Qb) (cols Do) K V DK DV).1)
          ∗ at_ c arg7 harg7 (flush i k0_pay3 X7 (swept i (cols Qb) (cols Do) K V DK DV).2.1)
          ∗ at_ c arg8 harg8 (flush i k0_pay4 X8 (swept i (cols Qb) (cols Do) K V DK DV).2.2)
          ∗ (∃ W', at_ c arg9 harg9 W') ∗ (∃ B', at_ c arg10 harg10 B')
          ∗ at_ c arg11 harg11 (swept i (cols Qb) (cols Do) K V DK DV).2.1
          ∗ at_ c arg12 harg12 (swept i (cols Qb) (cols Do) K V DK DV).2.2) -∗ Q ⟨⟩))
    ⊢ wp frame (wpE (defs₀ (F := F)) 𝒱₀ (c : Thread nD τ) none) E
      (cc0_attn_b_bwd i arg2 harg2 arg3 harg3 arg4 harg4 arg5 harg5 arg6 harg6 arg7 harg7 arg8 harg8 arg9 harg9 arg10 harg10
        arg11 harg11 arg12 harg12) Q := by
  have hn := point_lt i
  have hG := groups_le hn (cols Qb) K
  have h3 := groups_three hn (cols Qb) K
  have hmin := fun t ht => groups_min hn (cols Qb) K (t := t) ht
  have hstop := groups_spec hn (cols Qb) K
  unfold swept
  generalize groups hn (cols Qb) K = G at hG h3 hmin hstop
  have hS := spec_le hn (cols Qb) K c arg4 harg4 arg9 harg9 arg10 harg10 i rfl E G 0 (by omega)
    (fun t ht => by rw [Nat.zero_add]; exact hmin t ht) (by rw [Nat.zero_add]; exact hstop) W B
  have hw3 := chk3_of_le i G h3
  have hG' : G < 12 := by omega
  rw [← colLoads_eq arg2 harg2 Qb, ← colLoads_eq arg3 harg3 Do]
  rw [← colLoads_eq arg2 harg2 Qb] at hS
  simp only [cc0_attn_b_bwd_eq_skeleton]; unfold cc0_attn_b_bwd_skel
  simp only [k0_part15_eq_skeleton]; unfold k0_part15_skel
  have h1 : ∀ n < 32, n ≠ 0 → ¬ Scalar.cmpi .ne (Scalar.extui (Scalar.cmpi .eq (BitVec.ofNat 32 n) 0#32) : BitVec 32) 0#32 = 1#1 := by
    decide +kernel
  by_cases hz : (i 1).val = 0
  have htest : Scalar.cmpi .ne (Scalar.extui (Scalar.cmpi .eq (BitVec.ofNat 32 (i 1).val) 0#32) : BitVec 32) 0#32 = 1#1 := by
    rw [hz]; decide
  have e11 := (writes_whole arg11 harg11 DK k0_pay115 ![0, 0] inb_S4096x256_S4096x256_0_0).trans
    (congrArg harg11.unread (if_pos hz : reset i DK = k0_pay115).symm)
  have e12 := (writes_whole arg12 harg12 DV k0_pay116 ![0, 0] inb_S4096x256_S4096x256_0_0).trans
    (congrArg harg12.unread (if_pos hz : reset i DV = k0_pay115).symm)
  rotate_left
  have htest := h1 _ hn hz
  have e11 := congrArg harg11.unread (if_neg hz : reset i DK = DK).symm
  have e12 := congrArg harg12.unread (if_neg hz : reset i DV = DV).symm
  all_goals
    iintro ⟨⟨H2, H3, H4, H5, H6, H7, H8, H9, H10, H11, H12⟩, Hk⟩
    sl_exec
    iapply (wp_call_spec 𝒱₀ (c : Thread nD τ) none E
      (spec hn (colLoads arg2 harg2 Qb) K c arg4 harg4 arg9 harg9 arg10 harg10 0 G W B) G (fun u hu => nomatch hu) hS)
    rw [spec_apply]; unfold held
    isplitl [H4 H9 H10]
    · isplitl [H4]; · iexact H4
      isplitl [H9]; · iexact H9
      iexact H10
    iintro %r %hr ⟨H4, H9, H10⟩
    obtain ⟨r0, r1, r2, r3, r4, r5⟩ := r
    obtain rfl : r1 = BitVec.ofNat 32 G := hr.trans (by rw [Nat.zero_add]; exact gw_eq G (by omega))
    sl_exec
    simp only [bind_assoc]
    sl_for (ahead i (colLoads arg2 harg2 Qb) (colLoads arg3 harg3 Do) K V c arg4 harg4 arg5 harg5 arg9 harg9 arg10 harg10 arg11 harg11
        arg12 harg12
      (fill (wts hn (colLoads arg2 harg2 Qb) K) 0 G W) (fill (lgs hn (colLoads arg2 harg2 Qb) K) 0 G B) (reset i DK) (reset i DV) G) $$ [H4 H5 H9 H10 H11 H12]
    case region =>
      intro t acc
      unfold ahead
      iintro ⟨%ha, H⟩
      subst ha
      have ht : t.val < G := trip_lt hG' t
      refine BIBase.Entails.trans ?_ (trip_le i (colLoads arg2 harg2 Qb) (colLoads arg3 harg3 Do) K V c arg2 harg2 arg3 harg3 arg4 harg4
        arg5 harg5 arg6 harg6 arg7 harg7 arg8 harg8 arg9 harg9 arg10 harg10 arg11 harg11 arg12 harg12 hG' h3 hw3 t E _ (fill (wts hn (colLoads arg2 harg2 Qb) K) 0 G W)
        (fill (lgs hn (colLoads arg2 harg2 Qb) K) 0 G B)
        (wts hn (colLoads arg2 harg2 Qb) K (G - 1 - t)) (lgs hn (colLoads arg2 harg2 Qb) K (G - 1 - t)) (by omega)
        (by rw [slot_fill, if_pos (by omega)]) (by rw [slot_fill, if_pos (by omega)])
        (sweep hn (colLoads arg2 harg2 Qb) (colLoads arg3 harg3 Do) K V G (reset i DK) (reset i DV) t).2.1 (sweep hn (colLoads arg2 harg2 Qb) (colLoads arg3 harg3 Do) K V G (reset i DK) (reset i DV) t).2.2 _)
      iintro H
      isplitl [H]; · iexact H
      iintro H
      isplitr; · ipureintro; rfl
      iexact H
    · unfold ahead held2
      isplitr; · ipureintro; rfl
      isplitl [H4]; · iexact H4
      isplitl [H5]; · iexact H5
      isplitl [H9]; · iexact H9
      isplitl [H10]; · iexact H10
      isplitl [H11]
      · iapply (Entails.of_eq (congrArg (fun f => iprop(arg11.view.loc (c : Thread nD τ) ↦[arg11.view.set]{fullShare} f)) e11))
        iexact H11
      · iapply (Entails.of_eq (congrArg (fun f => iprop(arg12.view.loc (c : Thread nD τ) ↦[arg12.view.set]{fullShare} f)) e12))
        iexact H12
    have e1 : Scf.trips (k0_t1_loop (BitVec.ofNat 32 G)).lb (k0_t1_loop (BitVec.ofNat 32 G)).ub (k0_t1_loop (BitVec.ofNat 32 G)).st = G :=
      loop1_trips G hG'
    simp only [e1]
    iintro %acc HI
    unfold ahead held2
    icases HI with ⟨%ha, H4, H5, H9, H10, H11, H12⟩
    subst ha
    sl_exec
    sl_for (fun _ s => iprop(⌜s = (sweep hn (colLoads arg2 harg2 Qb) (colLoads arg3 harg3 Do) K V G (reset i DK) (reset i DV) G).1⌝ : sProp 𝕄)) $$ []
    case region =>
      intro t
      have := lt_of_lt_of_eq t.isLt (loop2_trips G hG')
      omega
    · ipureintro; rfl
    iintro %acc %ha
    subst ha
    sl_exec
    rw [wp_ret]; imodintro
    iapply Hk
    isplitl [H2]; · iexact H2
    isplitl [H3]; · iexact H3
    isplitl [H4]; · iexact H4
    isplitl [H5]; · iexact H5
    isplitl [H6]
    · iapply (Entails.of_eq (congrArg (fun f => iprop(arg6.view.loc (c : Thread nD τ) ↦[arg6.view.set]{fullShare} f)) (writes_dq arg6 harg6 X6 _)))
      iexact H6
    isplitl [H7]
    · iapply (Entails.of_eq (congrArg (fun f => iprop(arg7.view.loc (c : Thread nD τ) ↦[arg7.view.set]{fullShare} f))
        (flush_eq i arg7 harg7 k0_pay3 X7 arg11 harg11 _)))
      iexact H7
    isplitl [H8]
    · iapply (Entails.of_eq (congrArg (fun f => iprop(arg8.view.loc (c : Thread nD τ) ↦[arg8.view.set]{fullShare} f))
        (flush_eq i arg8 harg8 k0_pay4 X8 arg12 harg12 _)))
      iexact H8
    isplitl [H9]; · iexists _; iexact H9
    isplitl [H10]; · iexists _; iexact H10
    isplitl [H11]; · iexact H11
    iexact H12

end Body

end Cert.Proof.Stick

end
-- ==== Proof.StickRun.lean ====
module

public import proofs.«01_k».proof.Proof.StickSweep2
public import proofs.«01_k».proof.Proof.Gen.StickIdeal.Points
public import Idealize.ShloMosaic.Lib.Claim

@[expose] public section

/-! # The stick-breaking backward: the run

The launch over the grid's 256 points, from the body's triple (`body_le`): at each point the windows' blocks in, the query
gradients' block out, and the two accumulators carried from block to block of a row of the grid, then rounded out. -/

set_option maxRecDepth 16384

noncomputable section

namespace Cert.Proof.Stick

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arrays as the region finds them: as launched. -/
abbrev V (c : Dev nD) (b : Ref sig .tc) : Buf (Elt F) ((c : Thread nD τ).loc b) := m ((c : Thread nD τ).loc b)

theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- The four inputs' blocks, by their shapes. -/
abbrev qBlk (c : Dev nD) (t : Fin (cfg0 (F := F)).N) : Vec F S128x256 .bf16 := iblk m c 0 t
abbrev doBlk (c : Dev nD) (t : Fin (cfg0 (F := F)).N) : Vec F S128x256 .bf16 := iblk m c 1 t
abbrev kBlk (c : Dev nD) (t : Fin (cfg0 (F := F)).N) : Vec F S4096x256 .bf16 := iblk m c 2 t
abbrev vBlk (c : Dev nD) (t : Fin (cfg0 (F := F)).N) : Vec F S4096x256 .bf16 := iblk m c 3 t

/-- What point `t`'s sweeps leave, from what the accumulators held. -/
abbrev sweptAt (c : Dev nD) (t : Fin (cfg0 (F := F)).N) (D : Vec F S4096x256 .f32 × Vec F S4096x256 .f32) :
    State F × Vec F S4096x256 .f32 × Vec F S4096x256 .f32 :=
  swept (grid0.coords t) (cols (qBlk m c t)) (cols (doBlk m c t)) (kBlk m c t) (vBlk m c t) D.1 D.2

/-- The accumulators ahead of point `t` (at the first point of a row of the grid, anything: the body resets them). -/
def acc (c : Dev nD) : ℕ → Vec F S4096x256 .f32 × Vec F S4096x256 .f32
  | 0 => (k0_pay115, k0_pay115)
  | t + 1 => if h : t < (cfg0 (F := F)).N then (sweptAt m c ⟨t, h⟩ (acc c t)).2 else acc c t

theorem acc_succ (c : Dev nD) (t : Fin (cfg0 (F := F)).N) : acc m c (t.val + 1) = (sweptAt m c t (acc m c t.val)).2 := dif_pos t.isLt

/-- The reset forgets what the accumulators held. -/
theorem swept_congr (i : grid0.Coords) (q d : Fin 4 → Vec F S128x64 .bf16) (K V : Vec F S4096x256 .bf16) (DK DV DK' DV' : Vec F S4096x256 .f32)
    (h : (i 1).val ≠ 0 → DK = DK' ∧ DV = DV') : swept i q d K V DK DV = swept i q d K V DK' DV' := by
  unfold swept reset
  by_cases hz : (i 1).val = 0
  · simp only [if_pos hz]
  · obtain ⟨rfl, rfl⟩ := h hz; rfl

/-- The query gradients' block does not read what was there before. -/
theorem dqBlock_congr (X Y : Vec F S128x256 .bf16) (s : State F) : dqBlock X s = dqBlock Y s := by
  funext y
  have h1 : (y 1).val < 256 := (y 1).isLt
  have h0 : (y 0).val < 128 := (y 0).isLt
  unfold dqBlock
  unfold VecWindow.put
  split
  · rfl
  · rename_i ha
    split
    · rfl
    · rename_i hb
      split
      · rfl
      · rename_i hc
        split
        · rfl
        · rename_i hd
          exfalso
          have e (k : ℕ) (hl : 64 * k ≤ (y 1).val) (hr : (y 1).val < 64 * k + 64) : k = 0 ∨ k = 1 ∨ k = 2 ∨ k = 3 → False := by
            have hz : 0 ≤ (y 0).val ∧ (y 0).val < 0 + 128 := by omega
            rintro (rfl | rfl | rfl | rfl)
            · exact hd (Fin.forall_fin_two.mpr ⟨hz, hl, hr⟩)
            · exact hc (Fin.forall_fin_two.mpr ⟨hz, hl, hr⟩)
            · exact hb (Fin.forall_fin_two.mpr ⟨hz, hl, hr⟩)
            · exact ha (Fin.forall_fin_two.mpr ⟨hz, hl, hr⟩)
          exact e ((y 1).val / 64) (by omega) (by omega) (by omega)

/-- The region invariant ahead of point `t`: the scratch of the weights and log weights at anything, the accumulators at
    what the points of the row of the grid left, the generator register at anything. -/
def Φ (c : Dev nD) (t : ℕ) : sProp 𝕄 :=
  iprop((∃ W, at_ (F := F) c (Memref.whole cc0_scratch0) (Memref.isWhole_whole _) W)
    ∗ (∃ B, at_ (F := F) c (Memref.whole cc0_scratch1) (Memref.isWhole_whole _) B)
    ∗ (∃ DK DV, ⌜t % 32 ≠ 0 → DK = (acc m c t).1 ∧ DV = (acc m c t).2⌝
      ∗ at_ (F := F) c (Memref.whole cc0_scratch2) (Memref.isWhole_whole _) DK
      ∗ at_ (F := F) c (Memref.whole cc0_scratch3) (Memref.isWhole_whole _) DV)
    ∗ ∃ r, prngReg c r)

/-- The proof data of the pipeline on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqBlock (qBlk m c t) (sweptAt m c t (acc m c t.val)).1
    | ⟨5, _⟩ => k0_pay3 (acc m c (t.val + 1)).1
    | ⟨6, _⟩ => k0_pay4 (acc m c (t.val + 1)).2
  Φ t := Φ m c t.val
  q w := Pipeline.shareOf spec0 w
  owed _ := 0

theorem A_eq (c : Dev nD) (w : Fin (cfg0 (F := F)).W) : (dats m 0 c).A w = V m c (Pipeline.arrRef spec0 w) := rfl

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) :
    (dats m 0 c).after 4 t = dqBlock (qBlk m c t) (sweptAt m c t (acc m c t.val)).1 := rfl
theorem after0_5 (c : Dev nD) (t : Fin (cfg0 (F := F)).N) : (dats m 0 c).after 5 t = k0_pay3 (acc m c (t.val + 1)).1 := rfl
theorem after0_6 (c : Dev nD) (t : Fin (cfg0 (F := F)).N) : (dats m 0 c).after 6 t = k0_pay4 (acc m c (t.val + 1)).2 := rfl

/-- An input's current staging buffer holds its block at every point, fetched there or not. -/
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- The block of rows of a point. -/
theorem coord_one (t : Fin grid0.N) : (grid0.coords t 1).val = t.val % 32 := by
  have e : (grid0.coords t 1).val = t.val / 1 % 32 := Pipeline.Grid.coords_val t 1 (by decide) rfl
  omega

/-- The last block of a row of the grid rounds the accumulators out. -/
theorem cond_iff : ∀ t : Fin grid0.N, k0_cond2 (grid0.coords t) = 1#1 ↔ t.val % 32 = 31 := by
  have h : ∀ n < 32, (Scalar.cmpi .ne (Scalar.extui (Scalar.cmpi .eq (BitVec.ofNat 32 n) 31#32) : BitVec 32) 0#32 = 1#1) ↔ n = 31 := by
    decide +kernel
  intro t
  rw [← coord_one]
  exact h _ (point_lt _)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t)

/-- An output stored only at the last block of a row of the grid: rounded out there, as found elsewhere. -/
theorem leaves5 (c : Dev nD) (t : Fin (cfg0 (F := F)).N) (d) :
    owns (c : Thread nD τ) (st0_5 t) fullShare (flush (grid0.coords t) k0_pay3 ((dats m 0 c).before 5 t d) (acc m c (t.val + 1)).1)
      ⊢ ((dats m 0 c).leavesExact 5 t : sProp 𝕄) := by
  unfold Dat.leavesExact
  rw [show (cfg0 (F := F)).idle 5 ((cfg0 (F := F)).grid.coords t) = !(k0_cond2 (grid0.coords t) == 1#1) from rfl]
  by_cases h : k0_cond2 (grid0.coords t) = 1#1
  · rw [show (k0_cond2 (grid0.coords t) == 1#1) = true from beq_iff_eq.mpr h]
    exact Entails.of_eq (congrArg (owns _ _ fullShare) (if_pos h))
  · rw [show (k0_cond2 (grid0.coords t) == 1#1) = false from beq_false_of_ne h,
      show ((cfg0 (F := F)).win 5).flush t = false from Bool.eq_false_iff.mpr fun hf => h ((cond_iff t).mpr ((flush0_5 t).mp hf))]
    refine BIBase.Entails.trans (Entails.of_eq (congrArg (owns _ _ fullShare) (if_neg h))) ?_
    show _ ⊢ iprop(∃ d, _)
    iintro H
    iexists d
    iexact H

theorem leaves6 (c : Dev nD) (t : Fin (cfg0 (F := F)).N) (d) :
    owns (c : Thread nD τ) (st0_6 t) fullShare (flush (grid0.coords t) k0_pay4 ((dats m 0 c).before 6 t d) (acc m c (t.val + 1)).2)
      ⊢ ((dats m 0 c).leavesExact 6 t : sProp 𝕄) := by
  unfold Dat.leavesExact
  rw [show (cfg0 (F := F)).idle 6 ((cfg0 (F := F)).grid.coords t) = !(k0_cond2 (grid0.coords t) == 1#1) from rfl]
  by_cases h : k0_cond2 (grid0.coords t) = 1#1
  · rw [show (k0_cond2 (grid0.coords t) == 1#1) = true from beq_iff_eq.mpr h]
    exact Entails.of_eq (congrArg (owns _ _ fullShare) (if_pos h))
  · rw [show (k0_cond2 (grid0.coords t) == 1#1) = false from beq_false_of_ne h,
      show ((cfg0 (F := F)).win 6).flush t = false from Bool.eq_false_iff.mpr fun hf => h ((cond_iff t).mpr ((flush0_6 t).mp hf))]
    refine BIBase.Entails.trans (Entails.of_eq (congrArg (owns _ _ fullShare) (if_neg h))) ?_
    show _ ⊢ iprop(∃ d, _)
    iintro H
    iexists d
    iexact H

/-- A whole memref's ownership, as the body's triple has it. -/
theorem owns_at {s : Shape} {e : EltTy} (c : Dev nD) (arg : Memref sig .tc .vmem s e) (harg : arg.IsWhole) (X : Vec F s e) :
    owns (c : Thread nD τ) arg fullShare X ⊢ at_ c arg harg X := by
  unfold owns
  iintro ⟨%f, %hf, H⟩
  obtain rfl := harg.eq_unread hf
  iexact H

theorem at_owns {s : Shape} {e : EltTy} (c : Dev nD) (arg : Memref sig .tc .vmem s e) (harg : arg.IsWhole) (X : Vec F s e) :
    at_ c arg harg X ⊢ owns (c : Thread nD τ) arg fullShare X := by
  unfold owns
  iintro H
  iexists _
  isplitr
  · ipureintro; exact harg.read_unread X
  iexact H

set_option maxHeartbeats 800000 in
/-- The body's triple over owned windows. -/
theorem body_owns (i : grid0.Coords) (K V : Vec F S4096x256 .bf16) (c : Dev nD)
    (arg2 : Memref sig .tc .vmem S128x256 .bf16) (harg2 : arg2.IsWhole) (arg3 : Memref sig .tc .vmem S128x256 .bf16) (harg3 : arg3.IsWhole)
    (arg4 : Memref sig .tc .vmem S4096x256 .bf16) (harg4 : arg4.IsWhole) (arg5 : Memref sig .tc .vmem S4096x256 .bf16) (harg5 : arg5.IsWhole)
    (arg6 : Memref sig .tc .vmem S128x256 .bf16) (harg6 : arg6.IsWhole) (arg7 : Memref sig .tc .vmem S4096x256 .bf16) (harg7 : arg7.IsWhole)
    (arg8 : Memref sig .tc .vmem S4096x256 .bf16) (harg8 : arg8.IsWhole)
    (Qb Do X6 Y6 : Vec F S128x256 .bf16) (X7 X8 : Vec F S4096x256 .bf16) (W B : Vec F S4x11x128x384 .f32) (DK DV : Vec F S4096x256 .f32)
    (S : State F × Vec F S4096x256 .f32 × Vec F S4096x256 .f32) (hS : swept i (cols Qb) (cols Do) K V DK DV = S)
    (Q : PUnit → sProp 𝕄) :
    iprop((owns (c : Thread nD τ) arg2 fullShare Qb ∗ owns (c : Thread nD τ) arg3 fullShare Do ∗ owns (c : Thread nD τ) arg4 fullShare K
        ∗ owns (c : Thread nD τ) arg5 fullShare V ∗ owns (c : Thread nD τ) arg6 fullShare X6 ∗ owns (c : Thread nD τ) arg7 fullShare X7
        ∗ owns (c : Thread nD τ) arg8 fullShare X8
        ∗ at_ c (Memref.whole cc0_scratch0) (Memref.isWhole_whole _) W ∗ at_ c (Memref.whole cc0_scratch1) (Memref.isWhole_whole _) B
        ∗ at_ c (Memref.whole cc0_scratch2) (Memref.isWhole_whole _) DK ∗ at_ c (Memref.whole cc0_scratch3) (Memref.isWhole_whole _) DV)
      ∗ ((owns (c : Thread nD τ) arg2 fullShare Qb ∗ owns (c : Thread nD τ) arg3 fullShare Do ∗ owns (c : Thread nD τ) arg4 fullShare K
        ∗ owns (c : Thread nD τ) arg5 fullShare V ∗ owns (c : Thread nD τ) arg6 fullShare (dqBlock Y6 S.1)
        ∗ owns (c : Thread nD τ) arg7 fullShare (flush i k0_pay3 X7 S.2.1) ∗ owns (c : Thread nD τ) arg8 fullShare (flush i k0_pay4 X8 S.2.2)
        ∗ (∃ W', at_ (F := F) c (Memref.whole cc0_scratch0) (Memref.isWhole_whole _) W')
        ∗ (∃ B', at_ (F := F) c (Memref.whole cc0_scratch1) (Memref.isWhole_whole _) B')
        ∗ at_ c (Memref.whole cc0_scratch2) (Memref.isWhole_whole _) S.2.1
        ∗ at_ c (Memref.whole cc0_scratch3) (Memref.isWhole_whole _) S.2.2) -∗ Q ⟨⟩))
    ⊢ wp frame (wpE (defs₀ (F := F)) 𝒱₀ (c : Thread nD τ) none) Set.univ
      (cc0_attn_b_bwd i arg2 harg2 arg3 harg3 arg4 harg4 arg5 harg5 arg6 harg6 arg7 harg7 arg8 harg8 (Memref.whole cc0_scratch0)
        (Memref.isWhole_whole _) (Memref.whole cc0_scratch1) (Memref.isWhole_whole _) (Memref.whole cc0_scratch2) (Memref.isWhole_whole _)
        (Memref.whole cc0_scratch3) (Memref.isWhole_whole _)) Q := by
  subst hS
  rw [dqBlock_congr Y6 X6]
  refine BIBase.Entails.trans ?_ (body_le i K V c arg2 harg2 arg3 harg3 arg4 harg4 arg5 harg5 arg6 harg6 arg7 harg7 arg8 harg8
    (Memref.whole cc0_scratch0) (Memref.isWhole_whole _) (Memref.whole cc0_scratch1) (Memref.isWhole_whole _)
    (Memref.whole cc0_scratch2) (Memref.isWhole_whole _) (Memref.whole cc0_scratch3) (Memref.isWhole_whole _) Set.univ
    Qb Do X6 X7 X8 W B DK DV Q)
  iintro ⟨⟨H2, H3, H4, H5, H6, H7, H8, HW, HB, HK, HV⟩, HQ⟩
  isplitr [HQ]
  · isplitl [H2]; · iapply (owns_at c arg2 harg2); iexact H2
    isplitl [H3]; · iapply (owns_at c arg3 harg3); iexact H3
    isplitl [H4]; · iapply (owns_at c arg4 harg4); iexact H4
    isplitl [H5]; · iapply (owns_at c arg5 harg5); iexact H5
    isplitl [H6]; · iapply (owns_at c arg6 harg6); iexact H6
    isplitl [H7]; · iapply (owns_at c arg7 harg7); iexact H7
    isplitl [H8]; · iapply (owns_at c arg8 harg8); iexact H8
    isplitl [HW]; · iexact HW
    isplitl [HB]; · iexact HB
    isplitl [HK]; · iexact HK
    iexact HV
  iintro ⟨H2, H3, H4, H5, H6, H7, H8, HW, HB, HK, HV⟩
  iapply HQ
  isplitl [H2]; · iapply (at_owns c arg2 harg2); iexact H2
  isplitl [H3]; · iapply (at_owns c arg3 harg3); iexact H3
  isplitl [H4]; · iapply (at_owns c arg4 harg4); iexact H4
  isplitl [H5]; · iapply (at_owns c arg5 harg5); iexact H5
  isplitl [H6]; · iapply (at_owns c arg6 harg6); iexact H6
  isplitl [H7]; · iapply (at_owns c arg7 harg7); iexact H7
  isplitl [H8]; · iapply (at_owns c arg8 harg8); iexact H8
  isplitl [HW]; · iexact HW
  isplitl [HB]; · iexact HB
  isplitl [HK]; · iexact HK
  iexact HV

set_option maxHeartbeats 800000 in
/-- The body at any point. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, show (dats m 0 c).Φ t.castSucc = Φ m c t.val from congrArg (Φ m c) (Fin.val_castSucc t),
    show (dats m 0 c).Φ t.succ = Φ m c (t.val + 1) from congrArg (Φ m c) (Fin.val_succ t)]
  unfold Φ
  iintro ⟨⟨⟨%W, HW⟩, ⟨%B, HB⟩, ⟨%DK, %DV, %hD, HK, HV⟩, Hr⟩, Ho, ⟨%d0, H0⟩, ⟨%d1, H1⟩, ⟨%d2, H2⟩, ⟨%d3, H3⟩, ⟨%d4, H4⟩, ⟨%d5, H5⟩, ⟨%d6, H6⟩⟩
  have hsw := swept_congr (grid0.coords t) (cols (qBlk m c t)) (cols (doBlk m c t)) (kBlk m c t) (vBlk m c t) DK DV
    (acc m c t.val).1 (acc m c t.val).2 fun hz => hD (by rw [← coord_one]; exact hz)
  iapply (body_owns (grid0.coords t) (kBlk m c t) (vBlk m c t) c (win0_0.stage ((cfg0 (F := F)).slots t 0)) (hstage0_0 (((cfg0 (F := F)).slots t 0).cast nbuf0_0))
    (win0_1.stage ((cfg0 (F := F)).slots t 1)) (hstage0_1 (((cfg0 (F := F)).slots t 1).cast nbuf0_1))
    (win0_2.stage ((cfg0 (F := F)).slots t 2)) (hstage0_2 (((cfg0 (F := F)).slots t 2).cast nbuf0_2))
    (win0_3.stage ((cfg0 (F := F)).slots t 3)) (hstage0_3 (((cfg0 (F := F)).slots t 3).cast nbuf0_3))
    (win0_4.stage ((cfg0 (F := F)).slots t 4)) (hstage0_4 (((cfg0 (F := F)).slots t 4).cast nbuf0_4))
    (win0_5.stage ((cfg0 (F := F)).slots t 5)) (hstage0_5 (((cfg0 (F := F)).slots t 5).cast nbuf0_5))
    (win0_6.stage ((cfg0 (F := F)).slots t 6)) (hstage0_6 (((cfg0 (F := F)).slots t 6).cast nbuf0_6))
    (qBlk m c t) (doBlk m c t) ((dats m 0 c).before 4 t d4) (qBlk m c t) ((dats m 0 c).before 5 t d5) ((dats m 0 c).before 6 t d6) W B DK DV
    (sweptAt m c t (acc m c t.val)) hsw)
  isplitr [Hr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HW]; · iexact HW
    isplitl [HB]; · iexact HB
    isplitl [HK]; · iexact HK
    iexact HV
  rw [← acc_succ m c t]
  iintro ⟨H0, H1, H2, H3, H4, H5, H6, HW, HB, HK, HV⟩
  isplitl [HW HB HK HV Hr]
  · isplitl [HW]; · iexact HW
    isplitl [HB]; · iexact HB
    isplitl [HK HV]
    · iexists (acc m c (t.val + 1)).1; iexists (acc m c (t.val + 1)).2
      isplitr
      · ipureintro; exact fun _ => ⟨rfl, rfl⟩
      isplitl [HK]; · iexact HK
      iexact HV
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (leaves5 m c t d5); iexact H5
  · iapply (leaves6 m c t d6); iexact H6

/-- The body table's row at point `t`'s slots. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-- A whole memref's elements at anything, as the body's triple has them. -/
theorem whole_at {s : Shape} {e : EltTy} (c : Dev nD) (arg : Memref sig .tc .vmem s e) (harg : arg.IsWhole)
    (f : Buf (Elt F) (arg.view.loc (c : Thread nD τ))) :
    (arg.view.loc (c : Thread nD τ) ↦[arg.view.set]{fullShare} f : sProp 𝕄) ⊢ at_ c arg harg (arg.view.read (Elt F) f) := by
  conv_lhs => rw [harg.eq_unread (f := f) rfl]

theorem at_whole (c : Dev nD) (b : Ref sig .tc) (f : Buf (Elt F) ((c : Thread nD τ).loc b)) : (iprop(((c : Thread nD τ).loc b) ↦[(View.whole b).set]{fullShare} f) : sProp 𝕄)
    ⊢ ((c : Thread nD τ).loc b) ↦{fullShare} f := by
  rw [View.set_whole]

theorem whole_set (c : Dev nD) (b : Ref sig .tc) (f : Buf (Elt F) ((c : Thread nD τ).loc b)) : (((c : Thread nD τ).loc b) ↦{fullShare} f : sProp 𝕄)
    ⊢ ((c : Thread nD τ).loc b) ↦[(View.whole b).set]{fullShare} f := by
  rw [View.set_whole]

theorem hin (c : Dev nD) : (Pipeline.ΦA spec0 c : sProp 𝕄) ⊢ (dats (F := F) m 0 c).Φ 0 := by
  rw [show (dats (F := F) m 0 c).Φ 0 = Φ m c 0 from rfl]
  unfold Pipeline.ΦA Φ
  rw [scopedRest0_eq]
  iintro ⟨⟨⟨%f0, H0⟩, ⟨%f1, H1⟩, ⟨%f2, H2⟩, ⟨%f3, H3⟩⟩, Hr⟩
  isplitl [H0]
  · iexists _
    iapply (whole_at c (Memref.whole cc0_scratch0) (Memref.isWhole_whole _) f0)
    iapply (whole_set c cc0_scratch0 f0)
    iexact H0
  isplitl [H1]
  · iexists _
    iapply (whole_at c (Memref.whole cc0_scratch1) (Memref.isWhole_whole _) f1)
    iapply (whole_set c cc0_scratch1 f1)
    iexact H1
  isplitl [H2 H3]
  · iexists _; iexists _
    isplitr
    swap
    · isplitl [H2]
      · iapply (whole_at c (Memref.whole cc0_scratch2) (Memref.isWhole_whole _) f2)
        iapply (whole_set c cc0_scratch2 f2)
        iexact H2
      · iapply (whole_at c (Memref.whole cc0_scratch3) (Memref.isWhole_whole _) f3)
        iapply (whole_set c cc0_scratch3 f3)
        iexact H3
    ipureintro
    exact fun h => absurd rfl h
  iexact Hr

theorem hout (c : Dev nD) : (dats (F := F) m 0 c).Φ (Fin.last (cfg0 (F := F)).N) ⊢ (Pipeline.ΦA spec0 c : sProp 𝕄) := by
  rw [show (dats (F := F) m 0 c).Φ (Fin.last (cfg0 (F := F)).N) = Φ m c (cfg0 (F := F)).N from congrArg (Φ m c) (Fin.val_last _)]
  unfold Pipeline.ΦA Φ at_
  rw [scopedRest0_eq]
  iintro ⟨⟨%W, H0⟩, ⟨%B, H1⟩, ⟨%DK, %DV, -, H2, H3⟩, Hr⟩
  isplitr [Hr]
  · isplitl [H0]; · iexists _; iapply (at_whole c cc0_scratch0 _); iexact H0
    isplitl [H1]; · iexists _; iapply (at_whole c cc0_scratch1 _); iexact H1
    isplitl [H2]; · iexists _; iapply (at_whole c cc0_scratch2 _); iexact H2
    iexists _; iapply (at_whole c cc0_scratch3 _); iexact H3
  iexact Hr

set_option backward.isDefEq.respectTransparency.types false in
/-- The launch: every array of the pipeline at what the proof data says, and every semaphore counter zero. -/
theorem run_quiescent : θ_run defs (onTc (τ := τ) (main (F := F))) ⟨m, fun _ => 0, ρ⟩
    (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hin := hin m) (hout := hout m)

theorem run_main : θ_run defs (onTc (τ := τ) (main (F := F))) ⟨m, fun _ => 0, ρ⟩ (Pipeline.FramePost cfgs (dats m) 0 (V m)) :=
  (θ_run defs _ _).mono (fun _ h => h.1) (run_quiescent m ρ)

/-- The argument arrays end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).1 0).trans (((dats m 0 c).arrAt_in 0 rfl _).trans (A_eq m c 0)),
    ((h.1 c).1 1).trans (((dats m 0 c).arrAt_in 1 rfl _).trans (A_eq m c 1))⟩, h.2⟩) (run_quiescent m ρ)

end Cert.Proof.Stick

end
-- ==== Proof.StickTrip.lean ====
/-
  What one trip of either sweep of the stick-breaking gradient kernel computes, read entry by entry over the reals: the
  logarithms of each stick and of what it leaves, their sums over a group's later columns, the weights, and the sums of the
  products over a group's earlier columns.
-/
module

public import proofs.«01_k».proof.Proof.StickSweep2
public import proofs.«01_k».proof.Proof.Finite
public import Idealize.ShloMosaic.Lib.Pointwise
public import Idealize.ShloMosaic.Lib.Pipeline.ValueKit

@[expose] public section

set_option maxRecDepth 16384

noncomputable section

namespace Cert.Proof.Stick

open Cert.StickIdeal Cert.StickIdeal.Gen
open Idealize.ShloMosaic Idealize.ShloMosaic.TcCoe
open Cert.Proof.Finite

theorem lit_one : Ideal.ofBits .f32 0x3F800000#32 = ((1 : ℝ) : EReal) := by
  simp [Ideal.ofBits, Ideal.ieee, -EReal.coe_mul]; norm_num
theorem lit_eighth : Ideal.ofBits .f32 0x3E000000#32 = ((1 / 8 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]

section Stack

variable {α : Type}

/-- Column `c` of block `i` of a row of three blocks. -/
abbrev col (i : Fin 3) (c : Fin 128) : Fin 384 := ⟨128 * i.val + c.val, by omega⟩
/-- Row `r` of block `p` of the stack of twenty-four. -/
abbrev srow (p : Fin 24) (r : Fin 128) : Fin 3072 := ⟨128 * p.val + r.val, by omega⟩

theorem inner_eq (R : Fin 3072) (c r : Fin 128) (m : ℕ) (hm : m = r.val)
    (h : ∀ b : Fin S128x128.rank, (if b.val = (0 : Fin S3072x128.rank).val then m else ((ix2 R c : S3072x128.Idx) (b.cast rfl)).val) < S128x128.size b) :
    (Shape.Idx.norm fun b : Fin S128x128.rank => (⟨if b.val = (0 : Fin S3072x128.rank).val then m else ((ix2 R c : S3072x128.Idx) (b.cast rfl)).val, h b⟩ : Fin (S128x128.size b)))
      = (ix2 r c : S128x128.Idx) := by
  subst hm
  rw [Shape.Idx.norm_def]
  funext b
  match b with
  | 0 => rfl
  | 1 => rfl

/-- Blocks stacked by rows, read inside block `p`. -/
theorem stack_at (R : Fin 3072) (c r : Fin 128) : ∀ (xs : List (S128x128.Idx → α)) (hs : _) (p : ℕ) (hp : p < xs.length) (hc : _),
    concatenateAt S3072x128 0 (ix2 R c) (xs.map (Sigma.mk S128x128)) hs (128 * p + r.val) hc = xs[p] (ix2 r c)
  | [], _, _, hp, _ => absurd hp (Nat.not_lt_zero _)
  | [x], hs, p, hp, hc => by
    obtain rfl : p = 0 := by simpa using hp
    exact (concatenateAt_singleton _ _ _ _ _ _).trans (congrArg x (inner_eq R c r _ (by omega) _))
  | x :: y :: xs, hs, 0, hp, hc =>
    (concatenateAt_cons _ _ _ _ _ _ _ _).trans ((dif_pos (show 128 * 0 + r.val < 128 by omega)).trans
      (congrArg x (inner_eq R c r _ (by omega) _)))
  | x :: y :: xs, hs, p + 1, hp, hc => by
    have ih := stack_at R c r (y :: xs) (fun s h => hs s (List.mem_cons_of_mem _ h)) p (by simpa using hp)
    refine (concatenateAt_cons _ _ _ _ _ _ _ _).trans ((dif_neg (show ¬ 128 * (p + 1) + r.val < 128 by omega)).trans ?_)
    have e : 128 * (p + 1) + r.val - 128 = 128 * p + r.val := by omega
    refine Eq.trans ?_ (ih ?_)
    · congr 1
    · rw [← e]; exact Nat.sub_lt_left_of_lt_add (by omega) hc

end Stack

/-- Block `i` of the high parts (`part` 0) or of the low ones (`part` 1) of head `h`, in the stack. -/
abbrev blk (h : Fin 4) (part : Fin 2) (i : Fin 3) : Fin 24 := ⟨6 * h.val + 3 * part.val + i.val, by omega⟩

/-- The high part of a number is the number itself, the low part what is left. -/
abbrev half (part : Fin 2) (x : EReal) : EReal := if part = 0 then x else x - x

/-- The blocks of the high and low parts of one head's array, -/
def six (x : FVec Ideal S128x384 .f32) : List (S128x128.Idx → EReal) :=
  [extractStridedSlice S128x128 ![0, 0] x slices_S128x384_o0_0_S128x128, extractStridedSlice S128x128 ![0, 128] x slices_S128x384_o0_128_S128x128,
    extractStridedSlice S128x128 ![0, 256] x slices_S128x384_o0_256_S128x128,
    extractStridedSlice S128x128 ![0, 0] (subf x x) slices_S128x384_o0_0_S128x128, extractStridedSlice S128x128 ![0, 128] (subf x x) slices_S128x384_o0_128_S128x128,
    extractStridedSlice S128x128 ![0, 256] (subf x x) slices_S128x384_o0_256_S128x128]

theorem six_apply (x : FVec Ideal S128x384 .f32) (r c : Fin 128) : ∀ (part : Fin 2) (i : Fin 3) (h : 3 * part.val + i.val < 6),
    ((six x)[3 * part.val + i.val]'h) (ix2 r c) = half part (x (ix2 r (col i c))) := by
  intro part i h
  fin_cases part <;> fin_cases i <;> simp [six, half] <;> pointwise <;>
    first
    | exact congrArg (fun d => x (ix2 r d)) (Fin.ext (by simp))
    | exact congrArg (fun d => x (ix2 r d) - x (ix2 r d)) (Fin.ext (by simp))

/-- and of four heads' arrays, stacked. -/
def stack (x : Fin 4 → FVec Ideal S128x384 .f32) : List (S128x128.Idx → EReal) := six (x 0) ++ six (x 1) ++ six (x 2) ++ six (x 3)

theorem stack_get (x : Fin 4 → FVec Ideal S128x384 .f32) : ∀ (h : Fin 4) (p : ℕ) (hp : p < 6) (hq : 6 * h.val + p < (stack x).length),
    (stack x)[6 * h.val + p]'hq = (six (x h))[p]'hp := by
  intro h p hp hq
  interval_cases p <;> fin_cases h <;> rfl

theorem mm_stack (A : FVec Ideal S3072x128 .bf16) (B : FVec Ideal S128x128 .bf16) (R : Fin 3072) (c : Fin 128) :
    matmul dot_S3072x128_S128x128_S3072x128_1_0_0_1_n_n none A B (constant (F := Ideal) S3072x128 .f32 0x00000000#32) (ix2 R c)
      = ∑ b : Fin 128, A (ix2 R b) * B (ix2 b c) := by
  pointwise

/-- A row of the stack. -/
theorem stack_row (x : Fin 4 → FVec Ideal S128x384 .f32) (h : Fin 4) (part : Fin 2) (i : Fin 3) (r b : Fin 128) (hc) :
    concatenate S3072x128 0 ((stack x).map (Sigma.mk S128x128)) hc (ix2 (srow (blk h part i) r) b)
      = half part (x h (ix2 r (col i b))) := by
  refine (concatenate_apply _ _ _ _ _).trans ?_
  have hl : (blk h part i).val < (stack x).length := (blk h part i).isLt
  refine (stack_at _ b r (stack x) _ (blk h part i).val hl _).trans ?_
  have e : (blk h part i).val = 6 * h.val + (3 * part.val + i.val) := by simp only [blk]; omega
  have h6 : 3 * part.val + i.val < 6 := by omega
  have hl' : 6 * h.val + (3 * part.val + i.val) < (stack x).length := e ▸ hl
  have e2 : (stack x)[(blk h part i).val]'hl = (stack x)[6 * h.val + (3 * part.val + i.val)]'hl' := getElem_congr_idx e
  rw [e2, stack_get x h _ h6, six_apply (x h) r b part i h6]

/-- The stack's sums in the second sweep: a block's entries against a triangle, -/
theorem stack2 (x : Fin 4 → FVec Ideal S128x384 .f32) (M : FVec Ideal S128x128 .bf16) (r c : Fin 128) (h : Fin 4) (part : Fin 2) (i : Fin 3) :
    k0_pay25 (x 0) (x 1) (x 2) (x 3) M (ix2 (srow (blk h part i) r) c)
      = ∑ b : Fin 128, half part (x h (ix2 r (col i b))) * M (ix2 b c) := by
  unfold k0_pay25
  exact (mm_stack _ _ _ _).trans (Finset.sum_congr rfl fun b _ => congrArg (· * _) (stack_row x h part i r b _))

/-- A truth value as a number. -/
theorem bit_num (p : Bool) : FloatOps.sitofp (F := Ideal) FTy.f32 (BitVec.setWidth 32 (BitVec.ofBool p)) = (((if p then 1 else 0 : ℝ)) : EReal) := by
  show (((BitVec.setWidth 32 (BitVec.ofBool p)).toInt : ℝ) : EReal) = _
  cases p <;> simp

theorem lt_bit (b c : Fin 128) : IntOp.cmpi .slt (BitVec.ofNat 32 b.val) (BitVec.ofNat 32 c.val) = BitVec.ofBool (decide (b.val < c.val)) :=
  WordCmp.cmpi_slt_ofNat (by omega) (by omega)
theorem gt_bit (b c : Fin 128) : IntOp.cmpi .sgt (BitVec.ofNat 32 b.val) (BitVec.ofNat 32 c.val) = BitVec.ofBool (decide (c.val < b.val)) :=
  WordCmp.cmpi_sgt_ofNat (by omega) (by omega)

/-- A triangle's entry. -/
theorem tri_lt (b c : Fin 128) : k0_pay24 (F := Ideal) (ix2 b c) = (((if b.val < c.val then 1 else 0 : ℝ)) : EReal) := by
  unfold k0_pay24
  pointwise
  rw [lt_bit, bit_num]
  simp

/-- and in the first. -/
theorem stack1 (ok : IVec S128x384 1) (y z u : FVec Ideal S128x384 .f32) (x : Fin 4 → FVec Ideal S128x384 .f32)
    (h1 : x 1 = k0_pay157 ok y) (h2 : x 2 = k0_pay158 ok z) (h3 : x 3 = k0_pay159 ok u) (r c : Fin 128) (h : Fin 4) (part : Fin 2) (i : Fin 3) :
    k0_pay160 ok y z u (x 0) (ix2 (srow (blk h part i) r) c)
      = ∑ b : Fin 128, half part (x h (ix2 r (col i b))) * (((if c.val < b.val then 1 else 0 : ℝ)) : EReal) := by
  unfold k0_pay160
  rw [← h1, ← h2, ← h3]
  refine (mm_stack _ _ _ _).trans (Finset.sum_congr rfl fun b _ => ?_)
  refine congrArg₂ (· * ·) (stack_row x h part i r b _) ?_
  pointwise
  rw [gt_bit, bit_num]
  simp

/-- A block's sum of a row. -/
abbrev blockSum (x : FVec Ideal S128x384 .f32) (r : Fin 128) (i : Fin 3) : EReal := ∑ b : Fin 128, x (ix2 r (col i b))

/-- A block's own sum and the later blocks', -/
def later (u : EReal) (s : Fin 3 → EReal) : Fin 3 → EReal
  | 0 => u + s 1 + s 2
  | 1 => u + s 2
  | 2 => u

/-- and the earlier blocks'. -/
def earlier (u : EReal) (s : Fin 3 → EReal) : Fin 3 → EReal
  | 0 => u
  | 1 => u + s 0
  | 2 => u + s 0 + s 1

/-- The first sweep's sums over a group's later columns, out of the stack's, -/
def aftOf (x : Fin 4 → FVec Ideal S128x384 .f32) (S : FVec Ideal S3072x128 .f32) : Fin 4 → FVec Ideal S128x384 .f32
  | 0 => k0_pay164 (x 0) S
  | 1 => k0_pay168 (x 1) S
  | 2 => k0_pay173 (x 2) S
  | 3 => k0_pay177 (x 3) S

/-- and the second's over the earlier ones. -/
def befOf (x : Fin 4 → FVec Ideal S128x384 .f32) (M : FVec Ideal S128x128 .bf16) (S : FVec Ideal S3072x128 .f32) : Fin 4 → FVec Ideal S128x384 .f32
  | 0 => k0_pay32 S (k0_pay26 (x 0)) (k0_pay27 (x 0)) (k0_pay29 (x 0) (x 1) (x 2) (x 3) M) (k0_pay30 (x 0) (x 1) (x 2) (x 3) M)
      (k0_pay31 (x 0) (x 1) (x 2) (x 3) M)
  | 1 => k0_pay36 (x 1) S
  | 2 => k0_pay44 S (k0_pay38 (x 2)) (k0_pay39 (x 2)) (k0_pay41 S) (k0_pay42 S) (k0_pay43 S)
  | 3 => k0_pay48 (x 3) S

theorem aft_apply (x : Fin 4 → FVec Ideal S128x384 .f32) (S : FVec Ideal S3072x128 .f32) (r c : Fin 128) (h : Fin 4) (i : Fin 3) :
    aftOf x S h (ix2 r (col i c))
      = later (S (ix2 (srow (blk h 0 i) r) c) + S (ix2 (srow (blk h 1 i) r) c)) (blockSum (x h) r) i := by
  fin_cases h <;> fin_cases i <;> simp only [aftOf, later, blockSum] <;> unfold_payloads <;> pointwise
  all_goals (try rw [dif_neg (by omega), dif_neg (by omega)])
  all_goals (try simp only [show 256 + c.val - 128 - 128 = c.val by omega])
  all_goals first | rfl | (rw [show srow (blk 0 0 0) r = ⟨r.val, by omega⟩ from Fin.ext (by simp)]; rfl)

theorem bef_apply (x : Fin 4 → FVec Ideal S128x384 .f32) (M : FVec Ideal S128x128 .bf16) (r c : Fin 128) (h : Fin 4) (i : Fin 3) :
    befOf x M (k0_pay25 (x 0) (x 1) (x 2) (x 3) M) h (ix2 r (col i c))
      = earlier (k0_pay25 (x 0) (x 1) (x 2) (x 3) M (ix2 (srow (blk h 0 i) r) c)
        + k0_pay25 (x 0) (x 1) (x 2) (x 3) M (ix2 (srow (blk h 1 i) r) c)) (blockSum (x h) r) i := by
  fin_cases h <;> fin_cases i <;> simp only [befOf, earlier, blockSum, k0_pay29, k0_pay30, k0_pay31] <;>
    generalize k0_pay25 (x 0) (x 1) (x 2) (x 3) M = S <;> unfold_payloads <;> pointwise
  all_goals (try rw [dif_neg (by omega), dif_neg (by omega)])
  all_goals (try rw [dif_neg (by omega)])
  all_goals (try simp only [show 256 + c.val - 128 - 128 = c.val by omega])
  all_goals first | rfl | (rw [show srow (blk 0 0 0) r = ⟨r.val, by omega⟩ from Fin.ext (by simp)]; rfl)

section Sums

theorem lt1 (a b : Fin 128) : a.val < 128 + b.val := by omega
theorem lt2 (a b : Fin 128) : a.val < 256 + b.val := by omega
theorem lt12 (a b : Fin 128) : 128 + a.val < 256 + b.val := by omega
theorem ge1 (a b : Fin 128) : ¬ 128 + a.val < b.val := by omega
theorem ge2 (a b : Fin 128) : ¬ 256 + a.val < b.val := by omega
theorem ge21 (a b : Fin 128) : ¬ 256 + a.val < 128 + b.val := by omega

variable (f : Fin 384 → ℝ)

/-- A sum over 384 columns, block by block. -/
theorem sum_blocks : ∑ c : Fin 384, f c = ∑ b : Fin 128, f (col 0 b) + ∑ b : Fin 128, f (col 1 b) + ∑ b : Fin 128, f (col 2 b) := by
  rw [← Fin.sum_univ_three (f := fun i : Fin 3 => ∑ b : Fin 128, f (col i b))]
  exact (Fin.sum_mul_add_congr (S := 3) (n := 128) fun i b _ => congrArg f (Fin.ext (by simp [col, mul_comm]))).symm

/-- The sum over the later columns, as the blocks give it, -/
theorem later_eq (i : Fin 3) (c : Fin 128) :
    later (((∑ b : Fin 128, f (col i b) * (if c.val < b.val then 1 else 0) : ℝ) : EReal)) (fun i => ((∑ b : Fin 128, f (col i b) : ℝ) : EReal)) i
      = ((∑ y : Fin 384, (if (col i c).val < y.val then f y else 0) : ℝ) : EReal) := by
  rw [sum_blocks]
  fin_cases i <;> simp only [later, ← EReal.coe_add] <;> congr 1 <;> simp [-Fin.val_fin_lt, lt1, lt2, lt12, ge1, ge2, ge21] <;> ring

/-- and over the earlier ones. -/
theorem earlier_eq (i : Fin 3) (c : Fin 128) :
    earlier (((∑ b : Fin 128, f (col i b) * (if b.val < c.val then 1 else 0) : ℝ) : EReal)) (fun i => ((∑ b : Fin 128, f (col i b) : ℝ) : EReal)) i
      = ((∑ y : Fin 384, (if y.val < (col i c).val then f y else 0) : ℝ) : EReal) := by
  rw [sum_blocks]
  fin_cases i <;> simp only [earlier, ← EReal.coe_add] <;> congr 1 <;> simp [-Fin.val_fin_lt, lt1, lt2, lt12, ge1, ge2, ge21] <;> ring

end Sums

/-- Real arrays' sums inside the blocks. -/
theorem half_real (y : ℝ) (part : Fin 2) : half part (y : EReal) = (((if part = 0 then y else 0 : ℝ)) : EReal) := by
  fin_cases part <;> simp [half, ← EReal.coe_sub]

theorem stack_real (f : Fin 128 → ℝ) (g : Fin 128 → ℝ) :
    (∑ b, half 0 ((f b : ℝ) : EReal) * ((g b : ℝ) : EReal)) + ∑ b, half 1 ((f b : ℝ) : EReal) * ((g b : ℝ) : EReal) = ((∑ b, f b * g b : ℝ) : EReal) := by
  simp only [half_real, ← EReal.coe_mul, ← coe_sum, ← EReal.coe_add]
  simp

end Cert.Proof.Stick
end
-- ==== Proof.StickReal.lean ====
/-
  The trips of the two sweeps of the stick-breaking gradient kernel over real data: when the queries, keys, values and
  cotangents a trip reads are real, everything it computes is, and this module says which real number each entry is.
-/
module

public import proofs.«01_k».proof.Proof.StickTrip
public import Idealize.ShloMosaic.Lib.Pointwise
public import Idealize.ShloMosaic.Lib.Pipeline.ValueKit

@[expose] public section

set_option maxRecDepth 16384

noncomputable section

namespace Cert.Proof.Stick

open Cert.StickIdeal Cert.StickIdeal.Gen
open Idealize.ShloMosaic Idealize.ShloMosaic.TcCoe
open Cert.Proof.Finite

/-- The logarithm of the logistic function. -/
def lsig (z : ℝ) : ℝ := min z 0 - Real.log (1 + Real.exp (-|z|))

theorem coe_min (x y : ℝ) : min (x : EReal) (y : EReal) = ((min x y : ℝ) : EReal) := (EReal.coe_strictMono.monotone.map_min).symm
theorem coe_max (x y : ℝ) : max (x : EReal) (y : EReal) = ((max x y : ℝ) : EReal) := (EReal.coe_strictMono.monotone.map_max).symm
theorem log_one_add_exp (x : ℝ) : Ideal.log ((1 : ℝ) + ((Real.exp x : ℝ) : EReal)) = ((Real.log (1 + Real.exp x) : ℝ) : EReal) := by
  rw [← EReal.coe_add, Ideal.log_coe, if_neg (by have := Real.exp_pos x; linarith)]

/-- The kernel's spelling of it. -/
theorem lsig_ker (z : ℝ) : min (z : EReal) 0 - Ideal.log (1 + Ideal.exp (0 - max (z : EReal) (-(z : EReal)))) = ((lsig z : ℝ) : EReal) := by
  have h0 : (0 : EReal) = ((0 : ℝ) : EReal) := rfl
  have h1 : (1 : EReal) = ((1 : ℝ) : EReal) := rfl
  rw [h0, h1, ← EReal.coe_neg, coe_max, coe_min, ← EReal.coe_sub, Ideal.exp_coe, log_one_add_exp, ← EReal.coe_sub]
  simp only [lsig, zero_sub, abs]

section Trip1

variable (n j : BitVec 32) (q : Fin 4 → Vec Ideal S128x64 .bf16) (k : Fin 4 → Vec Ideal S384x64 .bf16)

/-- The heads' log-betas, -/
def lbOf : Fin 4 → FVec Ideal S128x384 .f32
  | 0 => lb0 q k
  | 1 => lb1 q k
  | 2 => lb2 q k
  | 3 => lb3 q k
/-- the logarithms of what the sticks leave, -/
def lmOf : Fin 4 → FVec Ideal S128x384 .f32
  | 0 => lm0 n j q k
  | 1 => lm1 n j q k
  | 2 => lm2 n j q k
  | 3 => lm3 n j q k
/-- and the running sums, by head. -/
def cOf (c : Carry Ideal) : Fin 4 → FVec Ideal S128x1 .f32
  | 0 => c.1
  | 1 => c.2.1
  | 2 => c.2.2.1
  | 3 => c.2.2.2

variable (Q : Fin 4 → Fin 128 → Fin 64 → ℝ) (K : Fin 4 → Fin 384 → Fin 64 → ℝ) (P : Fin 128 → Fin 384 → Prop) [∀ r c, Decidable (P r c)]
variable (hq : ∀ h r d, q h (ix2 r d) = ((Q h r d : ℝ) : EReal)) (hk : ∀ h c d, k h (ix2 c d) = ((K h c d : ℝ) : EReal))
variable (hp : ∀ r c, ok n j (ix2 r c) = if P r c then 1#1 else 0#1)

/-- A query against a key, scaled. -/
abbrev logit (a b : Fin 64 → ℝ) : ℝ := (∑ d, a d * b d) * (1 / 8)

include hq hk in
theorem lb_apply (h : Fin 4) (r : Fin 128) (c : Fin 384) : lbOf q k h (ix2 r c) = ((lsig (logit (Q h r) (K h c)) : ℝ) : EReal) := by
  rw [← lsig_ker]
  fin_cases h <;> simp only [lbOf, lb0, lb1, lb2, lb3] <;> unfold_payloads <;> pointwise [hq, hk, lit_eighth] <;>
    simp only [← EReal.coe_mul, ← coe_sum, logit]
  all_goals rfl

include hq hk hp in
theorem lm_apply (h : Fin 4) (r : Fin 128) (c : Fin 384) : lmOf n j q k h (ix2 r c)
    = (((if P r c then lsig (logit (Q h r) (K h c)) - logit (Q h r) (K h c) else 0 : ℝ)) : EReal) := by
  have e := hp r c
  have hl := lsig_ker (logit (Q h r) (K h c))
  have hs : ((lsig (logit (Q h r) (K h c)) - logit (Q h r) (K h c) : ℝ) : EReal) = (min ((logit (Q h r) (K h c) : ℝ) : EReal) 0
      - Ideal.log (1 + Ideal.exp (0 - max ((logit (Q h r) (K h c) : ℝ) : EReal) (-((logit (Q h r) (K h c) : ℝ) : EReal))))
      - ((logit (Q h r) (K h c) : ℝ) : EReal)) := by rw [hl, EReal.coe_sub]
  by_cases p : P r c
  · rw [if_pos p] at e ⊢
    rw [hs]
    fin_cases h <;> simp only [lmOf, lm0, lm1, lm2, lm3] <;> generalize ok n j = m at e ⊢ <;> unfold_payloads <;>
      pointwise [hq, hk, lit_eighth, e] <;> simp only [← EReal.coe_mul, ← coe_sum, logit]
    all_goals rfl
  · rw [if_neg p] at e ⊢
    fin_cases h <;> simp only [lmOf, lm0, lm1, lm2, lm3] <;> generalize ok n j = m at e ⊢ <;> unfold_payloads <;>
      pointwise [hq, hk, lit_eighth, e]
    all_goals rfl

/-- What a stick leaves at one key, as the trip counts it. -/
abbrev lmr (h : Fin 4) (r : Fin 128) (c : Fin 384) : ℝ := if P r c then lsig (logit (Q h r) (K h c)) - logit (Q h r) (K h c) else 0

theorem col_surj (x : Fin 384) : ∃ i b, x = col i b :=
  ⟨⟨x.val / 128, by omega⟩, ⟨x.val % 128, by omega⟩, Fin.ext (by show x.val = 128 * (x.val / 128) + x.val % 128; omega)⟩

theorem block_real {x : FVec Ideal S128x384 .f32} {f : Fin 384 → ℝ} {r : Fin 128} (hx : ∀ c, x (ix2 r c) = ((f c : ℝ) : EReal)) :
    blockSum x r = fun i => ((∑ b, f (col i b) : ℝ) : EReal) := by
  funext i; simp only [blockSum, hx, coe_sum]

/-- The sums over a group's later columns, for any real values in the stack. -/
theorem aft_real (ok : IVec S128x384 1) (y z u : FVec Ideal S128x384 .f32) (x : Fin 4 → FVec Ideal S128x384 .f32)
    (h1 : x 1 = k0_pay157 ok y) (h2 : x 2 = k0_pay158 ok z) (h3 : x 3 = k0_pay159 ok u) (h : Fin 4) (r : Fin 128) (f : Fin 384 → ℝ)
    (hx : ∀ c, x h (ix2 r c) = ((f c : ℝ) : EReal)) (c : Fin 384) :
    aftOf x (k0_pay160 ok y z u (x 0)) h (ix2 r c) = ((∑ y : Fin 384, if c.val < y.val then f y else 0 : ℝ) : EReal) := by
  obtain ⟨i, b, rfl⟩ := col_surj c
  rw [aft_apply, stack1 ok y z u x h1 h2 h3, stack1 ok y z u x h1 h2 h3, block_real hx]
  simp only [hx]
  rw [stack_real (fun y => f (col i y)) (fun y => if b.val < y.val then 1 else 0)]
  exact later_eq f i b

/-- The sums over its earlier ones. -/
theorem bef_real (x : Fin 4 → FVec Ideal S128x384 .f32) (h : Fin 4) (r : Fin 128) (f : Fin 384 → ℝ)
    (hx : ∀ c, x h (ix2 r c) = ((f c : ℝ) : EReal)) (c : Fin 384) :
    befOf x k0_pay24 (k0_pay25 (x 0) (x 1) (x 2) (x 3) k0_pay24) h (ix2 r c)
      = ((∑ y : Fin 384, if y.val < c.val then f y else 0 : ℝ) : EReal) := by
  obtain ⟨i, b, rfl⟩ := col_surj c
  rw [bef_apply, stack2, stack2, block_real hx]
  simp only [hx, tri_lt]
  rw [stack_real (fun y => f (col i y)) (fun y => if y.val < b.val then 1 else 0)]
  exact earlier_eq f i b

theorem total_real (f : Fin 384 → ℝ) :
    (((∑ b, f (col 0 b) : ℝ) : EReal) + ((∑ b, f (col 1 b) : ℝ) : EReal)) + ((∑ b, f (col 2 b) : ℝ) : EReal) = ((∑ y, f y : ℝ) : EReal) := by
  rw [← EReal.coe_add, ← EReal.coe_add, sum_blocks]

theorem sum3 {u : Fin 3 → EReal} {f : Fin 384 → ℝ} (hu : u = fun i => ((∑ b, f (col i b) : ℝ) : EReal)) :
    u 0 + u 1 + u 2 = ((∑ y, f y : ℝ) : EReal) := by
  subst hu; exact total_real f

theorem col_zero (x : Fin 128) : col 0 x = ⟨x.val, by omega⟩ := Fin.ext (by show 128 * 0 + x.val = x.val; omega)

/-- The sums over later columns, by head, as the trip computes them. -/
def aft : Fin 4 → FVec Ideal S128x384 .f32 := aftOf (lmOf n j q k) (inside n j q k)

include hq hk hp in
theorem aft_at (h : Fin 4) (r : Fin 128) (c : Fin 384) : aft n j q k h (ix2 r c)
    = ((∑ y : Fin 384, if c.val < y.val then lmr Q K P h r y else 0 : ℝ) : EReal) :=
  aft_real (ok n j) _ _ _ (lmOf n j q k) rfl rfl rfl h r _ (lm_apply n j q k Q K P hq hk hp h r) c

variable (c : Carry Ideal) (C : Fin 4 → Fin 128 → ℝ) (hc : ∀ h r, cOf c h (ix2 r 0) = ((C h r : ℝ) : EReal))

include hq hk in
theorem lg_apply (h : Fin 4) (r : Fin 128) (x : Fin 384) : lg q k h (ix4 0 0 r x) = ((lsig (logit (Q h r) (K h x)) : ℝ) : EReal) := by
  rw [← lb_apply q k Q K hq hk h r x]
  fin_cases h <;> simp only [lg, lbOf, k0_pay187, k0_pay6, k0_pay8, k0_pay10] <;> pointwise

include hq hk hp hc in
theorem next_apply (h : Fin 4) (r : Fin 128) : cOf (next n j q k c) h (ix2 r 0) = ((C h r + ∑ x, lmr Q K P h r x : ℝ) : EReal) := by
  have hl := lm_apply n j q k Q K P hq hk hp h r
  have hcc := hc h r
  have hs := sum3 (block_real hl)
  rw [EReal.coe_add, ← hs, ← hcc]
  have e : next n j q k c = (k0_pay182 c.1 (k0_pay165 (lmOf n j q k 0) (k0_pay161 (lmOf n j q k 0))), k0_pay183 c.2.1 (k0_pay169 (lmOf n j q k 1)),
    k0_pay184 c.2.2.1 (k0_pay174 (lmOf n j q k 2) (k0_pay170 (lmOf n j q k 2))), k0_pay185 c.2.2.2 (k0_pay178 (lmOf n j q k 3))) := rfl
  rw [e]
  generalize lmOf n j q k = y
  fin_cases h <;> simp only [cOf, blockSum, col_zero] <;> unfold_payloads <;> pointwise
  all_goals rfl

/-- The weights out of their parts. -/
def wtOf (m : IVec S128x384 1) (A B : Fin 4 → FVec Ideal S128x384 .f32) (c : Carry Ideal) : Fin 4 → Vec Ideal S1x1x128x384 .f32
  | 0 => k0_pay186 m (A 0) (k0_pay179 c.1 (B 0))
  | 1 => k0_pay188 c.2.1 m (B 1) (A 1)
  | 2 => k0_pay7 (k0_pay180 c.2.2.1 m (B 2) (A 2))
  | 3 => k0_pay9 (k0_pay181 c.2.2.2 m (B 3) (A 3))
theorem wt_eq : wt n j q k c = wtOf (ok n j) (aft n j q k) (lbOf q k) c := by
  funext h; fin_cases h <;> rfl

include hq hk hp hc in
theorem wt_apply (h : Fin 4) (r : Fin 128) (x : Fin 384) : wt n j q k c h (ix4 0 0 r x)
    = ((if P r x then Real.exp (lsig (logit (Q h r) (K h x)) + C h r + ∑ y : Fin 384, if x.val < y.val then lmr Q K P h r y else 0) else 0 : ℝ) : EReal) := by
  have hl := lb_apply q k Q K hq hk h r x
  have ha := aft_at n j q k Q K P hq hk hp h r x
  have hcc := hc h r
  have e := hp r x
  by_cases p : P r x
  · rw [if_pos p] at e ⊢
    rw [← Ideal.exp_coe, EReal.coe_add, EReal.coe_add, ← hl, ← ha, ← hcc]
    rw [wt_eq]
    generalize aft n j q k = A
    generalize lbOf q k = B
    generalize ok n j = m at e ⊢
    fin_cases h <;> simp only [cOf, wtOf] <;> unfold_payloads <;> pointwise [e]
  · rw [if_neg p] at e ⊢
    rw [wt_eq]
    generalize aft n j q k = A
    generalize ok n j = m at e ⊢
    fin_cases h <;> simp only [wtOf] <;> unfold_payloads <;> pointwise [e]
    all_goals rfl

end Trip1

section Trip2

variable (mask : IVec S128x384 1) (q d : Fin 4 → Vec Ideal S128x64 .bf16) (k v : Fin 4 → Vec Ideal S384x64 .bf16)
  (w b : Fin 4 → Vec Ideal S1x1x128x384 .f32) (s : State Ideal)

/-- The running sums of the second sweep, by head, -/
def sOf (s : State Ideal) : Fin 4 → FVec Ideal S128x1 .f32
  | 0 => s.1
  | 1 => s.2.2.1
  | 2 => s.2.2.2.2.1
  | 3 => s.2.2.2.2.2.2.1
/-- and its running query gradients. -/
def dqOf (s : State Ideal) : Fin 4 → FVec Ideal S128x64 .f32
  | 0 => s.2.1
  | 1 => s.2.2.2.1
  | 2 => s.2.2.2.2.2.1
  | 3 => s.2.2.2.2.2.2.2

variable (Q O : Fin 4 → Fin 128 → Fin 64 → ℝ) (K V : Fin 4 → Fin 384 → Fin 64 → ℝ) (P : Fin 128 → Fin 384 → Prop) [∀ r c, Decidable (P r c)]
  (W B : Fin 4 → Fin 128 → Fin 384 → ℝ) (S : Fin 4 → Fin 128 → ℝ) (DQ : Fin 4 → Fin 128 → Fin 64 → ℝ)
variable (hq : ∀ h r e, q h (ix2 r e) = ((Q h r e : ℝ) : EReal)) (hk : ∀ h c e, k h (ix2 c e) = ((K h c e : ℝ) : EReal))
  (hd : ∀ h r e, d h (ix2 r e) = ((O h r e : ℝ) : EReal)) (hv : ∀ h c e, v h (ix2 c e) = ((V h c e : ℝ) : EReal))
  (hw : ∀ h r c, w h (ix4 0 0 r c) = ((W h r c : ℝ) : EReal)) (hb : ∀ h r c, b h (ix4 0 0 r c) = ((B h r c : ℝ) : EReal))
  (hp : ∀ r c, mask (ix2 r c) = if P r c then 1#1 else 0#1)
  (hs : ∀ h r, sOf s h (ix2 r 0) = ((S h r : ℝ) : EReal)) (hdq : ∀ h r e, dqOf s h (ix2 r e) = ((DQ h r e : ℝ) : EReal))

/-- A weight's gradient times the weight. -/
abbrev grr (h : Fin 4) (r : Fin 128) (c : Fin 384) : ℝ := W h r c * ∑ e, O h r e * V h c e

include hd hv hw in
theorem gr_apply (h : Fin 4) (r : Fin 128) (c : Fin 384) : gr d v w h (ix2 r c) = ((grr O V W h r c : ℝ) : EReal) := by
  simp only [grr]
  fin_cases h <;> simp only [gr] <;> unfold_payloads <;> pointwise [hd, hv, hw] <;> simp only [← EReal.coe_mul, ← coe_sum]

include hd hv hw in
theorem bef_at (h : Fin 4) (r : Fin 128) (c : Fin 384) : bef d v w h (ix2 r c)
    = ((∑ y : Fin 384, if y.val < c.val then grr O V W h r y else 0 : ℝ) : EReal) := by
  have e : bef d v w h = befOf (gr d v w) k0_pay24 (k0_pay25 (gr d v w 0) (gr d v w 1) (gr d v w 2) (gr d v w 3) k0_pay24) h := by
    fin_cases h <;> rfl
  rw [e]
  exact bef_real (gr d v w) h r _ (gr_apply d v w O V W hd hv hw h r) c

include hd hv hw in
theorem tot_apply (h : Fin 4) (r : Fin 128) : tot d v w h (ix2 r 0) = ((∑ y, grr O V W h r y : ℝ) : EReal) := by
  have hs := sum3 (block_real (gr_apply d v w O V W hd hv hw h r))
  rw [← hs]
  unfold tot
  generalize gr d v w = y
  fin_cases h <;> simp only [blockSum, col_zero] <;> unfold_payloads <;> pointwise
  all_goals rfl

/-- The gradient of a logit. -/
abbrev dzr (h : Fin 4) (r : Fin 128) (c : Fin 384) : ℝ :=
  (if P r c then grr O V W h r c - (grr O V W h r c + S h r + ∑ y : Fin 384, if y.val < c.val then grr O V W h r y else 0) * Real.exp (B h r c) else 0) * (1 / 8)

include hd hv hw hb hp hs in
theorem dz_apply (h : Fin 4) (r : Fin 128) (c : Fin 384) : dz mask d v w b s h (ix2 r c) = ((dzr O V P W B S h r c : ℝ) : EReal) := by
  have hg := gr_apply d v w O V W hd hv hw h r c
  have ht := bef_at d v w O V W hd hv hw h r c
  have hss := hs h r
  have hbb := hb h r c
  have e := hp r c
  rw [EReal.coe_mul, ← lit_eighth]
  by_cases p : P r c
  · rw [if_pos p] at e ⊢
    rw [EReal.coe_sub, EReal.coe_mul _ (Real.exp _), EReal.coe_add, EReal.coe_add, ← hg, ← ht, ← hss, ← Ideal.exp_coe, ← hbb]
    fin_cases h <;> simp only [dz, sOf] <;> generalize gr d v w = G <;> generalize bef d v w = T <;> unfold_payloads <;> pointwise [e]
    all_goals rfl
  · rw [if_neg p] at e ⊢
    fin_cases h <;> simp only [dz] <;> generalize gr d v w = G <;> generalize bef d v w = T <;> unfold_payloads <;> pointwise [e]
    all_goals rfl

include hd hv hw hs in
theorem step_sum (h : Fin 4) (r : Fin 128) : sOf (step mask d k v w b s) h (ix2 r 0) = ((S h r + ∑ y, grr O V W h r y : ℝ) : EReal) := by
  rw [EReal.coe_add, ← tot_apply d v w O V W hd hv hw h r, ← hs h r]
  unfold step
  generalize tot d v w = T
  fin_cases h <;> simp only [sOf] <;> unfold_payloads <;> pointwise

include hd hv hw hb hp hs hdq hk in
theorem step_dq (h : Fin 4) (r : Fin 128) (e : Fin 64) : dqOf (step mask d k v w b s) h (ix2 r e)
    = ((DQ h r e + ∑ c, dzr O V P W B S h r c * K h c e : ℝ) : EReal) := by
  have hz := dz_apply mask d v w b s O V P W B S hd hv hw hb hp hs h r
  have hdd := hdq h r e
  rw [EReal.coe_add, ← hdd, coe_sum]
  simp only [EReal.coe_mul, ← hz, ← hk]
  unfold step
  generalize dz mask d v w b s = Z
  fin_cases h <;> simp only [dqOf] <;> unfold_payloads <;> pointwise

include hd hv hw hb hp hs hq in
theorem dk_apply (h : Fin 4) (x : Vec Ideal S384x64 .f32) (c : Fin 384) (e : Fin 64) : dkRows mask q d v w b s h x (ix2 c e)
    = x (ix2 c e) + ((∑ r, dzr O V P W B S h r c * Q h r e : ℝ) : EReal) := by
  have hz := fun r => dz_apply mask d v w b s O V P W B S hd hv hw hb hp hs h r c
  simp only [coe_sum, EReal.coe_mul, ← hz, ← hq]
  fin_cases h <;> simp only [dkRows] <;> generalize dz mask d v w b s = Z <;> unfold_payloads <;> pointwise

include hd hw in
theorem dv_apply (h : Fin 4) (x : Vec Ideal S384x64 .f32) (c : Fin 384) (e : Fin 64) : dvRows d w h x (ix2 c e)
    = x (ix2 c e) + ((∑ r, W h r c * O h r e : ℝ) : EReal) := by
  simp only [coe_sum, EReal.coe_mul, ← hw, ← hd]
  fin_cases h <;> simp only [dvRows] <;> unfold_payloads <;> pointwise

end Trip2

end Cert.Proof.Stick
-- ==== Proof.StickSums.lean ====
/-
  The two sweeps of the stick-breaking gradient kernel over real data. A query `p` sees the keys `j < p`; group `k` of a
  block of queries covers the 384 rows below the ones the earlier groups took. The running sums of both sweeps, the query
  gradients they end with and what a block of queries adds to the key and value gradients are sums over all keys.
-/
module

public import proofs.«01_k».proof.Proof.StickReal
public import Idealize.ShloMosaic.Lib.Pointwise
public import Idealize.ShloMosaic.Lib.Pipeline.ValueKit

@[expose] public section

set_option maxRecDepth 16384

noncomputable section

namespace Cert.Proof.Stick

open Cert.StickIdeal Cert.StickIdeal.Gen
open Idealize.ShloMosaic Idealize.ShloMosaic.TcCoe
open Cert.Proof.Finite

/-! ### The gradient, entry by entry -/

section Values

variable (Q K V O : ℕ → Fin 64 → ℝ)

/-- A logit, -/
abbrev zz (p j : ℕ) : ℝ := logit (Q p) (K j)
/-- the logarithm of what its stick leaves, -/
def left (p j : ℕ) : ℝ := if j < p then lsig (zz Q K p j) - zz Q K p j else 0
/-- the weight of a key for a query, -/
def wgt (p j : ℕ) : ℝ := if j < p then Real.exp (lsig (zz Q K p j) + ∑ i ∈ Finset.Ico (j + 1) 4096, left Q K p i) else 0
/-- its gradient times itself, -/
def wgr (p j : ℕ) : ℝ := wgt Q K p j * ∑ e, O p e * V j e
/-- and the gradient of the logit. -/
def dlogit (p j : ℕ) : ℝ :=
  (if j < p then wgr Q K V O p j - (wgr Q K V O p j + ∑ i ∈ Finset.range j, wgr Q K V O p i) * Real.exp (lsig (zz Q K p j)) else 0) * (1 / 8)

theorem left_of_le {p j : ℕ} (h : p ≤ j) : left Q K p j = 0 := if_neg (by omega)
theorem wgt_of_le {p j : ℕ} (h : p ≤ j) : wgt Q K p j = 0 := if_neg (by omega)
theorem dlogit_of_le {p j : ℕ} (h : p ≤ j) : dlogit Q K V O p j = 0 := by
  unfold dlogit; rw [if_neg (by omega), zero_mul]

end Values

section Windows

/-- One past the last row of group `k`. -/
def hi (n k : ℕ) : ℕ := 128 * (n + 1 - 3 * k)

theorem first_eq (n k : ℕ) : first n k = hi n (k + 1) := by unfold first hi; omega
theorem first_le_hi (n k : ℕ) : first n k ≤ hi n k := by unfold first hi; omega
theorem hi_le_first (n k : ℕ) : hi n k ≤ first n k + 384 := by unfold first hi; omega
theorem hi_le {n : ℕ} (hn : n < 32) (k : ℕ) : hi n k ≤ 4096 := by unfold hi; omega

theorem window_sum (f : ℕ → ℝ) {lo hi : ℕ} (h1 : lo ≤ hi) (h2 : hi ≤ lo + 384) :
    (∑ x : Fin 384, if lo + x.val < hi then f (lo + x.val) else 0) = ∑ j ∈ Finset.Ico lo hi, f j := by
  rw [Fin.sum_univ_eq_sum_range (fun x => if lo + x < hi then f (lo + x) else 0) 384, ← Finset.sum_filter, Finset.sum_Ico_eq_sum_range]
  refine Finset.sum_congr (Finset.ext fun x => ?_) fun _ _ => rfl
  simp only [Finset.mem_filter, Finset.mem_range]; omega

theorem window_after (f : ℕ → ℝ) {lo hi : ℕ} (h1 : lo ≤ hi) (h2 : hi ≤ lo + 384) (x : Fin 384) :
    (∑ y : Fin 384, if x.val < y.val then (if lo + y.val < hi then f (lo + y.val) else 0) else 0) = ∑ j ∈ Finset.Ico (lo + x.val + 1) hi, f j := by
  refine (Finset.sum_congr rfl fun y _ => ?_).trans ((window_sum (fun j => if lo + x.val < j then f j else 0) h1 h2).trans
    ((Finset.sum_filter _ _).symm.trans (Finset.sum_congr (Finset.ext fun j => ?_) fun _ _ => rfl)))
  · split_ifs <;> first | rfl | omega
  · simp only [Finset.mem_filter, Finset.mem_Ico]; omega

theorem window_before (f : ℕ → ℝ) {lo hi : ℕ} (h1 : lo ≤ hi) (h2 : hi ≤ lo + 384) (x : Fin 384) (hx : lo + x.val < hi) :
    (∑ y : Fin 384, if y.val < x.val then (if lo + y.val < hi then f (lo + y.val) else 0) else 0) = ∑ j ∈ Finset.Ico lo (lo + x.val), f j := by
  refine (Finset.sum_congr rfl fun y _ => ?_).trans ((window_sum (fun j => if j < lo + x.val then f j else 0) h1 h2).trans
    ((Finset.sum_filter _ _).symm.trans (Finset.sum_congr (Finset.ext fun j => ?_) fun _ _ => rfl)))
  · split_ifs <;> first | rfl | omega
  · simp only [Finset.mem_filter, Finset.mem_Ico]; omega

end Windows

section Mask

theorem below_word : ∀ n < 32, ∀ k < 11, 3 * k ≤ n →
    Scalar.subi (Scalar.muli (BitVec.ofNat 32 n) 128#32) (Scalar.muli (Scalar.maxsi (Scalar.subi (BitVec.ofNat 32 (n - 3 * k)) 2#32) 0#32) 128#32)
      = BitVec.ofNat 32 (128 * n - first n k) := by decide +kernel
theorem inside_word : ∀ n < 32, ∀ k < 11, 3 * k ≤ n →
    Scalar.subi (Scalar.muli (Scalar.addi (BitVec.ofNat 32 (n - 3 * k)) 1#32) 128#32)
      (Scalar.muli (Scalar.maxsi (Scalar.subi (BitVec.ofNat 32 (n - 3 * k)) 2#32) 0#32) 128#32)
      = BitVec.ofNat 32 (hi n k - first n k) := by decide +kernel

theorem sub_toInt {x r : ℕ} (hx : x < 2 ^ 30) (hr : r < 2 ^ 30) : (IntOp.subi (BitVec.ofNat 32 x) (BitVec.ofNat 32 r)).toInt = (x : ℤ) - r := by
  show (BitVec.ofNat 32 x - BitVec.ofNat 32 r).toInt = _
  rw [BitVec.toInt_sub, WordCmp.toInt_ofNat_of_lt (by omega), WordCmp.toInt_ofNat_of_lt (by omega), Int.bmod_eq_of_le (by omega) (by omega)]

/-- The entries of its window that group `k` takes: keys before the query, and none that an earlier group took. -/
def inWin (n k : ℕ) (r : Fin 128) (x : Fin 384) : Prop := first n k + x.val < 128 * n + r.val ∧ first n k + x.val < hi n k
instance (n k : ℕ) (r : Fin 128) (x : Fin 384) : Decidable (inWin n k r x) := by unfold inWin; infer_instance

theorem ok_apply {n k : ℕ} (hn : n < 32) (hk : k < 11) (h : 3 * k ≤ n) (r : Fin 128) (x : Fin 384) :
    ok (BitVec.ofNat 32 n) (jw n k) (ix2 r x) = if inWin n k r x then 1#1 else 0#1 := by
  have h1 := below_word n hn k hk h
  have h2 := inside_word n hn k hk h
  rw [jw_eq n hn k (by omega) h]
  unfold ok
  unfold_payloads
  pointwise
  rw [h1, h2]
  have b1 : 128 * n - first n k < 2 ^ 30 := by omega
  have b2 : hi n k - first n k < 2 ^ 30 := by unfold hi; omega
  have l1 : first n k ≤ 128 * n := by unfold first; omega
  have l2 := first_le_hi n k
  rw [WordCmp.cmpi_slt_eq, WordCmp.cmpi_slt_ofNat (by omega) (by omega), sub_toInt (by omega) (by omega), WordCmp.toInt_ofNat_of_lt (by omega),
    WordCmp.andi_ofBool]
  by_cases p : inWin n k r x
  · rw [if_pos p, decide_eq_true (by have := p.1; omega), decide_eq_true (by have := p.2; omega)]; rfl
  · rw [if_neg p, ← Bool.decide_and, decide_eq_false fun h => p ⟨by omega, by omega⟩]; rfl

end Mask

section Group

/-- Column `e` of head `h`. -/
def cl (h : Fin 4) (e : Fin 64) : Fin 256 := ⟨64 * h.val + e.val, by omega⟩

theorem kw_apply {e : EltTy} {n : ℕ} (hn : n < 32) (k : ℕ) (X : Vec Ideal S4096x256 e) (h : Fin 4) (x : Fin 384) (c : Fin 64) :
    kw hn k X h (ix2 x c) = X (ix2 ⟨first n k + x.val, by have := first_le hn k; omega⟩ (cl h c)) := by
  refine congrArg X (funext fun a => Fin.ext ?_)
  match a with
  | 0 => show first n k + 1 * x.val = first n k + x.val; omega
  | 1 => show 64 * h.val + 1 * c.val = 64 * h.val + c.val; omega

variable {n : ℕ} (hn : n < 32) (q d : Fin 4 → Vec Ideal S128x64 .bf16) (K V : Vec Ideal S4096x256 .bf16)
  (Q O Kr Vr : Fin 4 → ℕ → Fin 64 → ℝ)
  (hq : ∀ h r e, q h (ix2 r e) = ((Q h (128 * n + r.val) e : ℝ) : EReal)) (hd : ∀ h r e, d h (ix2 r e) = ((O h (128 * n + r.val) e : ℝ) : EReal))
  (hK : ∀ h (j : Fin 4096) e, K (ix2 j (cl h e)) = ((Kr h j.val e : ℝ) : EReal)) (hV : ∀ h (j : Fin 4096) e, V (ix2 j (cl h e)) = ((Vr h j.val e : ℝ) : EReal))

/-- A block's queries and a group's keys, as the trips read them. -/
abbrev rq (n : ℕ) (X : Fin 4 → ℕ → Fin 64 → ℝ) : Fin 4 → Fin 128 → Fin 64 → ℝ := fun h r => X h (128 * n + r.val)
abbrev rk (n k : ℕ) (X : Fin 4 → ℕ → Fin 64 → ℝ) : Fin 4 → Fin 384 → Fin 64 → ℝ := fun h x => X h (first n k + x.val)

include hK in
theorem kw_real (k : ℕ) (h : Fin 4) (x : Fin 384) (e : Fin 64) : kw hn k K h (ix2 x e) = ((rk n k Kr h x e : ℝ) : EReal) := by
  rw [kw_apply, hK]

theorem lmr_eq (k : ℕ) (h : Fin 4) (r : Fin 128) (x : Fin 384) : lmr (rq n Q) (rk n k Kr) (inWin n k) h r x
    = if first n k + x.val < hi n k then left (Q h) (Kr h) (128 * n + r.val) (first n k + x.val) else 0 := by
  unfold left
  by_cases p : inWin n k r x
  · rw [lmr, if_pos p, if_pos p.2, if_pos p.1]
  · rw [lmr, if_neg p]
    split_ifs with h1 h2
    · exact absurd ⟨h2, h1⟩ p
    · rfl
    · rfl

theorem carry_zero (h : Fin 4) (r : Fin 128) : cOf (carry hn q K 0) h (ix2 r 0) = ((0 : ℝ) : EReal) := by
  have e : cOf (carry hn q K 0) h = k0_pay117 := by fin_cases h <;> rfl
  rw [e]; unfold_payloads; pointwise; rfl

include hq hK in
/-- The running sums ahead of group `k` are the sums over the keys the earlier groups took. -/
theorem carry_real (h : Fin 4) (r : Fin 128) : ∀ k, 3 * k ≤ n + 3 →
    cOf (carry hn q K k) h (ix2 r 0) = ((∑ j ∈ Finset.Ico (hi n k) 4096, left (Q h) (Kr h) (128 * n + r.val) j : ℝ) : EReal) := by
  intro k
  induction k generalizing h r with
  | zero =>
    intro _
    rw [carry_zero, Finset.sum_eq_zero fun j hj => left_of_le _ _ (by have := (Finset.mem_Ico.1 hj).1; unfold hi at this; omega)]
  | succ k ih =>
    intro hk
    refine (next_apply (BitVec.ofNat 32 n) (jw n k) q (kw hn k K) (rq n Q) (rk n k Kr) (inWin n k) hq (kw_real hn K Kr hK k)
      (ok_apply hn (by omega) (by omega)) (carry hn q K k) _ (fun h r => ih h r (by omega)) h r).trans ?_
    rw [Finset.sum_congr rfl fun x _ => lmr_eq Q Kr k h r x,
      window_sum (left (Q h) (Kr h) (128 * n + r.val)) (first_le_hi n k) (hi_le_first n k), add_comm, Finset.sum_Ico_consecutive _ (first_le_hi n k) (hi_le hn k),
      first_eq]

include hq hK in
theorem wts_real {k : ℕ} (hk : 3 * k ≤ n) (h : Fin 4) (r : Fin 128) (x : Fin 384) : wts hn q K k h (ix4 0 0 r x)
    = ((if first n k + x.val < hi n k then wgt (Q h) (Kr h) (128 * n + r.val) (first n k + x.val) else 0 : ℝ) : EReal) := by
  refine (wt_apply (BitVec.ofNat 32 n) (jw n k) q (kw hn k K) (rq n Q) (rk n k Kr) (inWin n k) hq (kw_real hn K Kr hK k)
      (ok_apply hn (by omega) (by omega)) (carry hn q K k) _ (fun h r => carry_real hn q K Q Kr hq hK h r k (by omega)) h r x).trans ?_
  simp only [lmr_eq]
  rw [window_after (left (Q h) (Kr h) (128 * n + r.val)) (first_le_hi n k) (hi_le_first n k)]
  refine congrArg _ ?_
  by_cases p : inWin n k r x
  · rw [if_pos p, if_pos p.2, wgt, if_pos p.1, add_assoc, add_comm (∑ j ∈ Finset.Ico (hi n k) 4096, _),
      Finset.sum_Ico_consecutive _ (by have := p.2; omega) (hi_le hn k)]
  · rw [if_neg p]
    split_ifs with h1
    · exact (wgt_of_le _ _ (by by_contra hlt; exact p ⟨by omega, h1⟩)).symm
    · rfl

include hq hK in
theorem lgs_real (k : ℕ) (h : Fin 4) (r : Fin 128) (x : Fin 384) : lgs hn q K k h (ix4 0 0 r x)
    = ((lsig (zz (Q h) (Kr h) (128 * n + r.val) (first n k + x.val)) : ℝ) : EReal) :=
  lg_apply q (kw hn k K) (rq n Q) (rk n k Kr) hq (kw_real hn K Kr hK k) h r x

/-- A group's weights and log-betas. -/
abbrev gw' (n k : ℕ) (Q Kr : Fin 4 → ℕ → Fin 64 → ℝ) : Fin 4 → Fin 128 → Fin 384 → ℝ := fun h r x =>
  if first n k + x.val < hi n k then wgt (Q h) (Kr h) (128 * n + r.val) (first n k + x.val) else 0
abbrev gb' (n k : ℕ) (Q Kr : Fin 4 → ℕ → Fin 64 → ℝ) : Fin 4 → Fin 128 → Fin 384 → ℝ := fun h r x =>
  lsig (zz (Q h) (Kr h) (128 * n + r.val) (first n k + x.val))

theorem grr_eq (k : ℕ) (h : Fin 4) (r : Fin 128) (x : Fin 384) : grr (rq n O) (rk n k Vr) (gw' n k Q Kr) h r x
    = if first n k + x.val < hi n k then wgr (Q h) (Kr h) (Vr h) (O h) (128 * n + r.val) (first n k + x.val) else 0 := by
  simp only [grr, gw', wgr]
  split_ifs with h1
  · rfl
  · rw [zero_mul]

theorem dzr_eq (k : ℕ) (h : Fin 4) (r : Fin 128) (x : Fin 384) (S : Fin 4 → Fin 128 → ℝ)
    (hS : S h r = ∑ j ∈ Finset.range (first n k), wgr (Q h) (Kr h) (Vr h) (O h) (128 * n + r.val) j) :
    dzr (rq n O) (rk n k Vr) (inWin n k) (gw' n k Q Kr) (gb' n k Q Kr) S h r x
      = if first n k + x.val < hi n k then dlogit (Q h) (Kr h) (Vr h) (O h) (128 * n + r.val) (first n k + x.val) else 0 := by
  unfold dzr
  simp only [grr_eq]
  by_cases p : inWin n k r x
  · rw [if_pos p, if_pos p.2, if_pos p.2, dlogit, if_pos p.1,
      window_before (wgr (Q h) (Kr h) (Vr h) (O h) (128 * n + r.val)) (first_le_hi n k) (hi_le_first n k) x p.2, hS, add_assoc,
      Finset.sum_range_add_sum_Ico _ (by omega)]
  · rw [if_neg p, zero_mul]
    split_ifs with h1
    · exact (dlogit_of_le _ _ _ _ (by by_contra hlt; exact p ⟨by omega, h1⟩)).symm
    · rfl

end Group

section Put

/-- A store of 64 columns of 384 rows, read at an entry, -/
theorem put_rows (D : Vec Ideal S4096x256 .f32) (lo c : ℕ) (w : Vec Ideal S384x64 .f32) (j : Fin 4096) (y : Fin 256) :
    VecWindow.put (s := S4096x256) D ![lo, c] S384x64.size w (ix2 j y)
      = if h : (lo ≤ j.val ∧ j.val < lo + 384) ∧ (c ≤ y.val ∧ y.val < c + 64) then w (ix2 ⟨j.val - lo, by omega⟩ ⟨y.val - c, by omega⟩) else D (ix2 j y) := by
  unfold VecWindow.put
  by_cases h : (lo ≤ j.val ∧ j.val < lo + 384) ∧ (c ≤ y.val ∧ y.val < c + 64)
  · rw [dif_pos h, dif_pos (fun a => by match a with | 0 => exact h.1 | 1 => exact h.2)]
    refine congrArg w (funext fun a => ?_)
    match a with
    | 0 => rfl
    | 1 => rfl
  · rw [dif_neg h, dif_neg fun h' => h ⟨h' 0, h' 1⟩]

/-- and of 128. -/
theorem put_cols (D : Vec Ideal S128x256 .bf16) (c : ℕ) (w : Vec Ideal S128x64 .bf16) (j : Fin 128) (y : Fin 256) :
    VecWindow.put (s := S128x256) D ![0, c] S128x64.size w (ix2 j y)
      = if h : c ≤ y.val ∧ y.val < c + 64 then w (ix2 j ⟨y.val - c, by omega⟩) else D (ix2 j y) := by
  unfold VecWindow.put
  by_cases h : c ≤ y.val ∧ y.val < c + 64
  · rw [dif_pos h, dif_pos (fun a => by match a with | 0 => exact ⟨Nat.zero_le _, by show j.val < 0 + 128; omega⟩ | 1 => exact h)]
    refine congrArg w (funext fun a => ?_)
    match a with
    | 0 => rfl
    | 1 => rfl
  · rw [dif_neg h, dif_neg fun h' => h (h' 1)]

theorem upd4_apply {n : ℕ} (hn : n < 32) (k : ℕ) (f : Fin 4 → Vec Ideal S384x64 .f32 → Vec Ideal S384x64 .f32) (D : Vec Ideal S4096x256 .f32)
    (h : Fin 4) (j : Fin 4096) (e : Fin 64) : upd4 hn k f D (ix2 j (cl h e))
      = if p : first n k ≤ j.val ∧ j.val < first n k + 384 then f h (kw hn k D h) (ix2 ⟨j.val - first n k, by omega⟩ e) else D (ix2 j (cl h e)) := by
  unfold upd4
  rw [put_rows, put_rows, put_rows, put_rows]
  by_cases p : first n k ≤ j.val ∧ j.val < first n k + 384
  · rw [dif_pos p]
    match h with
    | 0 =>
      have hc : (cl 0 e).val = 64 * 0 + e.val := rfl
      rw [dif_neg (by omega), dif_neg (by omega), dif_neg (by omega), dif_pos ⟨p, by omega⟩]
      exact congrArg (fun y => f 0 (kw hn k D 0) (ix2 _ y)) (Fin.ext (by show (cl 0 e).val - 0 = e.val; omega))
    | 1 =>
      have hc : (cl 1 e).val = 64 * 1 + e.val := rfl
      rw [dif_neg (by omega), dif_neg (by omega), dif_pos ⟨p, by omega⟩]
      exact congrArg (fun y => f 1 (kw hn k D 1) (ix2 _ y)) (Fin.ext (by show (cl 1 e).val - 64 = e.val; omega))
    | 2 =>
      have hc : (cl 2 e).val = 64 * 2 + e.val := rfl
      rw [dif_neg (by omega), dif_pos ⟨p, by omega⟩]
      exact congrArg (fun y => f 2 (kw hn k D 2) (ix2 _ y)) (Fin.ext (by show (cl 2 e).val - 128 = e.val; omega))
    | 3 =>
      have hc : (cl 3 e).val = 64 * 3 + e.val := rfl
      rw [dif_pos ⟨p, by omega⟩]
      exact congrArg (fun y => f 3 (kw hn k D 3) (ix2 _ y)) (Fin.ext (by show (cl 3 e).val - 192 = e.val; omega))
  · rw [dif_neg p, dif_neg fun h => p h.1, dif_neg fun h => p h.1, dif_neg fun h => p h.1, dif_neg fun h => p h.1]

theorem window_cols (X : Vec Ideal S128x256 .bf16) (h : Fin 4) (o : ℕ) (ho : o = 64 * h.val) (inb : ∀ a, (![0, o] : Fin 2 → ℕ) a + S128x64.size a ≤ S128x256.size a)
    (r : Fin 128) (e : Fin 64) : VecWindow.window (s := S128x256) X ![0, o] S128x64.size inb (ix2 r e) = X (ix2 r (cl h e)) := by
  subst ho
  refine congrArg X (funext fun a => Fin.ext ?_)
  match a with
  | 0 => show 0 + 1 * r.val = r.val; omega
  | 1 => show 64 * h.val + 1 * e.val = 64 * h.val + e.val; omega

theorem cols_apply (X : Vec Ideal S128x256 .bf16) (h : Fin 4) (r : Fin 128) (e : Fin 64) : cols X h (ix2 r e) = X (ix2 r (cl h e)) :=
  match h with
  | 0 => window_cols X 0 0 rfl _ r e
  | 1 => window_cols X 1 64 rfl _ r e
  | 2 => window_cols X 2 128 rfl _ r e
  | 3 => window_cols X 3 192 rfl _ r e

theorem dqBlock_apply (X : Vec Ideal S128x256 .bf16) (s : State Ideal) (h : Fin 4) (r : Fin 128) (e : Fin 64) :
    dqBlock X s (ix2 r (cl h e)) = dqOf s h (ix2 r e) := by
  unfold dqBlock
  rw [put_cols, put_cols, put_cols, put_cols]
  match h with
  | 0 =>
    have hc : (cl 0 e).val = 64 * 0 + e.val := rfl
    rw [dif_neg (by omega), dif_neg (by omega), dif_neg (by omega), dif_pos (by omega)]
    exact congrArg (fun y => k0_pay140 s.2.1 (ix2 _ y)) (Fin.ext (by show (cl 0 e).val - 0 = e.val; omega))
  | 1 =>
    have hc : (cl 1 e).val = 64 * 1 + e.val := rfl
    rw [dif_neg (by omega), dif_neg (by omega), dif_pos (by omega)]
    exact congrArg (fun y => k0_pay141 s.2.2.2.1 (ix2 _ y)) (Fin.ext (by show (cl 1 e).val - 64 = e.val; omega))
  | 2 =>
    have hc : (cl 2 e).val = 64 * 2 + e.val := rfl
    rw [dif_neg (by omega), dif_pos (by omega)]
    exact congrArg (fun y => k0_pay1 s.2.2.2.2.2.1 (ix2 _ y)) (Fin.ext (by show (cl 2 e).val - 128 = e.val; omega))
  | 3 =>
    have hc : (cl 3 e).val = 64 * 3 + e.val := rfl
    rw [dif_pos (by omega)]
    exact congrArg (fun y => k0_pay2 s.2.2.2.2.2.2.2 (ix2 _ y)) (Fin.ext (by show (cl 3 e).val - 192 = e.val; omega))

end Put

section Second

variable {n : ℕ} (hn : n < 32) (q d : Fin 4 → Vec Ideal S128x64 .bf16) (K V : Vec Ideal S4096x256 .bf16)
  (Q O Kr Vr : Fin 4 → ℕ → Fin 64 → ℝ)
  (hq : ∀ h r e, q h (ix2 r e) = ((Q h (128 * n + r.val) e : ℝ) : EReal)) (hd : ∀ h r e, d h (ix2 r e) = ((O h (128 * n + r.val) e : ℝ) : EReal))
  (hK : ∀ h (j : Fin 4096) e, K (ix2 j (cl h e)) = ((Kr h j.val e : ℝ) : EReal)) (hV : ∀ h (j : Fin 4096) e, V (ix2 j (cl h e)) = ((Vr h j.val e : ℝ) : EReal))
  (DK DV : Vec Ideal S4096x256 .f32)

/-- What the second sweep has after `t` of `G` trips. -/
structure Swept (n b : ℕ) (Q O Kr Vr : Fin 4 → ℕ → Fin 64 → ℝ) (DK DV : Vec Ideal S4096x256 .f32)
    (s : State Ideal × Vec Ideal S4096x256 .f32 × Vec Ideal S4096x256 .f32) : Prop where
  sum : ∀ h r, sOf s.1 h (ix2 r 0) = ((∑ j ∈ Finset.range b, wgr (Q h) (Kr h) (Vr h) (O h) (128 * n + r.val) j : ℝ) : EReal)
  dq : ∀ h r e, dqOf s.1 h (ix2 r e) = ((∑ j ∈ Finset.range b, dlogit (Q h) (Kr h) (Vr h) (O h) (128 * n + r.val) j * Kr h j e : ℝ) : EReal)
  dk : ∀ h (j : Fin 4096) e, s.2.1 (ix2 j (cl h e)) = DK (ix2 j (cl h e))
    + ((if j.val < b then ∑ r : Fin 128, dlogit (Q h) (Kr h) (Vr h) (O h) (128 * n + r.val) j.val * Q h (128 * n + r.val) e else 0 : ℝ) : EReal)
  dv : ∀ h (j : Fin 4096) e, s.2.2 (ix2 j (cl h e)) = DV (ix2 j (cl h e))
    + ((if j.val < b then ∑ r : Fin 128, wgt (Q h) (Kr h) (128 * n + r.val) j.val * O h (128 * n + r.val) e else 0 : ℝ) : EReal)

/-- A group's rows of an accumulator after its trip. -/
theorem rows_added {n k : ℕ} (hn : n < 32) (D0 D : Vec Ideal S4096x256 .f32) (f : Fin 4 → Vec Ideal S384x64 .f32 → Vec Ideal S384x64 .f32)
    (w : Fin 4 → ℕ → Fin 64 → ℝ)
    (hD : ∀ h (j : Fin 4096) e, D (ix2 j (cl h e)) = D0 (ix2 j (cl h e)) + ((if j.val < first n k then w h j.val e else 0 : ℝ) : EReal))
    (hf : ∀ h x (c : Fin 384) e, f h x (ix2 c e) = x (ix2 c e) + ((if first n k + c.val < hi n k then w h (first n k + c.val) e else 0 : ℝ) : EReal))
    (h : Fin 4) (j : Fin 4096) (e : Fin 64) : upd4 hn k f D (ix2 j (cl h e))
      = D0 (ix2 j (cl h e)) + ((if j.val < hi n k then w h j.val e else 0 : ℝ) : EReal) := by
  have l1 := first_le_hi n k
  have l2 := hi_le_first n k
  rw [upd4_apply]
  by_cases p : first n k ≤ j.val ∧ j.val < first n k + 384
  · rw [dif_pos p, hf, kw_apply]
    have e : (⟨first n k + (⟨j.val - first n k, by omega⟩ : Fin 384).val, by have := first_le hn k; show first n k + (j.val - first n k) < 4096; omega⟩ : Fin 4096) = j :=
      Fin.ext (by show first n k + (j.val - first n k) = j.val; omega)
    rw [e, hD, if_neg (by omega), EReal.coe_zero, add_zero]
    simp only [show first n k + (j.val - first n k) = j.val by omega]
  · rw [dif_neg p, hD]
    by_cases p' : j.val < first n k
    · rw [if_pos p', if_pos (by omega)]
    · rw [if_neg p', if_neg (by omega)]

theorem state0_sum (h : Fin 4) (r : Fin 128) : sOf (state0 (F := Ideal)) h (ix2 r 0) = ((0 : ℝ) : EReal) := by
  have e : sOf (state0 (F := Ideal)) h = k0_pay118 := by fin_cases h <;> rfl
  rw [e]; unfold_payloads; pointwise; rfl
theorem state0_dq (h : Fin 4) (r : Fin 128) (e : Fin 64) : dqOf (state0 (F := Ideal)) h (ix2 r e) = ((0 : ℝ) : EReal) := by
  have e : dqOf (state0 (F := Ideal)) h = k0_pay119 := by fin_cases h <;> rfl
  rw [e]; unfold_payloads; pointwise; rfl

include hq hd hK hV in
theorem swept_step {k : ℕ} (hk : 3 * k ≤ n) (s : State Ideal × Vec Ideal S4096x256 .f32 × Vec Ideal S4096x256 .f32)
    (I : Swept n (first n k) Q O Kr Vr DK DV s) :
    Swept n (hi n k) Q O Kr Vr DK DV
      (step (ok (BitVec.ofNat 32 n) (jw n k)) d (kw hn k K) (kw hn k V) (wts hn q K k) (lgs hn q K k) s.1,
        upd4 hn k (dkRows (ok (BitVec.ofNat 32 n) (jw n k)) q d (kw hn k V) (wts hn q K k) (lgs hn q K k) s.1) s.2.1,
        upd4 hn k (dvRows d (wts hn q K k)) s.2.2) := by
  have l1 := first_le_hi n k
  have l2 := hi_le_first n k
  have hok := ok_apply hn (k := k) (by omega) hk
  have hw := wts_real hn q K Q Kr hq hK hk
  have hb := lgs_real hn q K Q Kr hq hK k
  have hKk := kw_real hn K Kr hK k
  have hVk := kw_real hn V Vr hV k
  generalize ok (BitVec.ofNat 32 n) (jw n k) = mask at hok ⊢
  generalize wts hn q K k = w at hw ⊢
  generalize lgs hn q K k = b at hb ⊢
  generalize kw hn k K = k' at hKk ⊢
  generalize kw hn k V = v' at hVk ⊢
  obtain ⟨s, D1, D2⟩ := s
  have hz := fun h r x => dzr_eq Q O Kr Vr k h r x (fun h r => ∑ j ∈ Finset.range (first n k), wgr (Q h) (Kr h) (Vr h) (O h) (128 * n + r.val) j) rfl
  refine ⟨fun h r => ?_, fun h r e => ?_, ?_, ?_⟩
  · refine (step_sum mask d k' v' w b s (rq n O) (rk n k Vr) (gw' n k Q Kr) _ hd hVk hw I.sum h r).trans ?_
    simp only [grr_eq]
    rw [window_sum (wgr (Q h) (Kr h) (Vr h) (O h) (128 * n + r.val)) l1 l2, Finset.sum_range_add_sum_Ico _ l1]
  · refine (step_dq mask d k' v' w b s (rq n O) (rk n k Kr) (rk n k Vr) (inWin n k) (gw' n k Q Kr) (gb' n k Q Kr) _ _ hKk hd hVk hw hb hok I.sum I.dq h r e).trans ?_
    simp only [hz]
    simp only [ite_mul, zero_mul]
    rw [window_sum (fun j => dlogit (Q h) (Kr h) (Vr h) (O h) (128 * n + r.val) j * Kr h j e) l1 l2, Finset.sum_range_add_sum_Ico _ l1]
  · refine rows_added hn DK D1 _ (fun h j e => ∑ r : Fin 128, dlogit (Q h) (Kr h) (Vr h) (O h) (128 * n + r.val) j * Q h (128 * n + r.val) e) I.dk ?_
    intro h x c e
    refine (dk_apply mask q d v' w b s (rq n Q) (rq n O) (rk n k Vr) (inWin n k) (gw' n k Q Kr) (gb' n k Q Kr) _ hq hd hVk hw hb hok I.sum h x c e).trans ?_
    simp only [hz]
    split_ifs with p
    · rfl
    · simp only [zero_mul, Finset.sum_const_zero]
  · refine rows_added hn DV D2 _ (fun h j e => ∑ r : Fin 128, wgt (Q h) (Kr h) (128 * n + r.val) j * O h (128 * n + r.val) e) I.dv ?_
    intro h x c e
    refine (dv_apply d w (rq n O) (gw' n k Q Kr) hd hw h x c e).trans ?_
    simp only [gw']
    split_ifs with p
    · rfl
    · simp only [zero_mul, Finset.sum_const_zero]

theorem sweep_succ (G t k : ℕ) (hk : G - 1 - t = k) : sweep hn q d K V G DK DV (t + 1)
    = (step (ok (BitVec.ofNat 32 n) (jw n k)) d (kw hn k K) (kw hn k V) (wts hn q K k) (lgs hn q K k) (sweep hn q d K V G DK DV t).1,
        upd4 hn k (dkRows (ok (BitVec.ofNat 32 n) (jw n k)) q d (kw hn k V) (wts hn q K k) (lgs hn q K k) (sweep hn q d K V G DK DV t).1)
          (sweep hn q d K V G DK DV t).2.1,
        upd4 hn k (dvRows d (wts hn q K k)) (sweep hn q d K V G DK DV t).2.2) := by subst hk; rfl

include hq hd hK hV in
theorem sweep_real {G : ℕ} (hG : 3 * G ≤ n + 3) (hG' : n + 1 ≤ 3 * G) : ∀ t, t ≤ G →
    Swept n (hi n (G - t)) Q O Kr Vr DK DV (sweep hn q d K V G DK DV t) := by
  intro t
  induction t with
  | zero =>
    intro _
    have h0 : hi n (G - 0) = 0 := by unfold hi; omega
    rw [h0]
    refine ⟨fun h r => ?_, fun h r e => ?_, fun h j e => ?_, fun h j e => ?_⟩
    · rw [Finset.sum_range_zero]; exact state0_sum h r
    · rw [Finset.sum_range_zero]; exact state0_dq h r e
    · rw [if_neg (by omega), EReal.coe_zero, add_zero]; rfl
    · rw [if_neg (by omega), EReal.coe_zero, add_zero]; rfl
  | succ t ih =>
    intro ht
    have eb : hi n (G - (t + 1)) = hi n (G - 1 - t) := by congr 1; omega
    have ef : hi n (G - t) = first n (G - 1 - t) := by rw [first_eq]; congr 1; omega
    rw [sweep_succ hn q d K V DK DV G t _ rfl, eb]
    exact swept_step hn q d K V Q O Kr Vr hq hd hK hV DK DV (by omega) _ (ef ▸ ih (by omega))

end Second

section Exit

theorem fold_gt (x : FVec Ideal S1x128x1 .f32) {acc : BitVec 32} (hφ : FTy.f32 = FTy.f32 ∨ FTy.f32 = FTy.bf16) (hacc : acc = FKind.neutral FKind.maximumf .f32 hφ)
    (j : S1.Idx) (i : S1x128x1.Idx) (h : (⊥ : EReal) < x i) :
    (⊥ : EReal) < multiReduction (F := Ideal) .maximumf [1, 2] S1 x acc reduces_S1x128x1_S1 hφ hacc j := by
  refine lt_of_lt_of_eq ?_ (multiReduction_maximumf_eq_fold x acc reduces_S1x128x1_S1 hφ hacc j).symm
  refine (Finset.lt_fold_max _).2 (.inr ⟨i, Finset.mem_filter.2 ⟨Finset.mem_univ _, funext fun a => Fin.ext ?_⟩, h⟩)
  have h1 := (reduces_S1x128x1_S1.drop i a).isLt
  have h2 := (j a).isLt
  match a with
  | 0 =>
    have e : S1.size 0 = 1 := rfl
    omega

/-- The greatest of the running sums is above −∞ when one of them is. -/
theorem top_gt (a b c d : FVec Ideal S128x1 .f32) (y : ℝ) (ha : a (ix2 0 0) = ((y : ℝ) : EReal)) : (⊥ : EReal) < k0_pay5 a b c d := by
  unfold k0_pay5
  refine lt_max_of_lt_left (lt_max_of_lt_left (lt_max_of_lt_left ?_))
  have e : shapeCast S1x128x1 a shapeCasts_S128x1_S1x128x1 (ix3 0 0 0) = a (ix2 0 0) := by pointwise
  have hx : (⊥ : EReal) < shapeCast S1x128x1 a shapeCasts_S128x1_S1x128x1 (ix3 0 0 0) := by rw [e, ha]; exact EReal.bot_lt_coe y
  exact fold_gt (shapeCast S1x128x1 a shapeCasts_S128x1_S1x128x1) (.inl rfl) rfl _ (ix3 0 0 0) hx

variable {n : ℕ} (hn : n < 32) (q : Fin 4 → Vec Ideal S128x64 .bf16) (K : Vec Ideal S4096x256 .bf16)
  (Q Kr : Fin 4 → ℕ → Fin 64 → ℝ)
  (hq : ∀ h r e, q h (ix2 r e) = ((Q h (128 * n + r.val) e : ℝ) : EReal))
  (hK : ∀ h (j : Fin 4096) e, K (ix2 j (cl h e)) = ((Kr h j.val e : ℝ) : EReal))

include hq hK in
/-- The first sweep runs to the first block: nothing leaves it earlier. -/
theorem groups_real : n + 1 ≤ 3 * groups hn q K := by
  by_contra hlt
  have hG := groups_spec hn q K
  have hle := groups_le hn q K
  have hc := carry_real hn q K Q Kr hq hK 0 0 (groups hn q K) (by omega)
  refine hG ?_
  generalize groups hn q K = G at *
  unfold live
  rw [jw_sge n hn G (by omega), if_pos (by omega)]
  have h1 := top_gt (carry hn q K G).1 (carry hn q K G).2.1 (carry hn q K G).2.2.1 (carry hn q K G).2.2.2 _ hc
  have h2 : Scalar.cmpf .ogt (k0_pay5 (carry hn q K G).1 (carry hn q K G).2.1 (carry hn q K G).2.2.1 (carry hn q K G).2.2.2)
      (Named.named κ "cut" 0xC2D20000#32 : Ideal .f32) = 1#1 := by
    exact congrArg BitVec.ofBool (decide_eq_true h1)
  rw [h2]; rfl

end Exit
end Cert.Proof.Stick
-- ==== Proof.StickValue.lean ====
/-
  The three gradients the stick-breaking kernel leaves, over real data: at each point of the grid the sweeps' sums, along a
  row of the grid the key and value gradients added up, and the arrays its blocks cover.
-/
module

public import proofs.«01_k».proof.Proof.StickRun
public import proofs.«01_k».proof.Proof.StickSums

@[expose] public section

set_option maxRecDepth 16384

noncomputable section

namespace Cert.Proof.Stick

open Cert.StickIdeal Cert.StickIdeal.Gen
open Idealize.ShloMosaic Idealize.ShloMosaic.TcCoe
open Cert.Proof.Finite
open Cert.Proof.Rms (up)

/-- A matrix's entry, zero outside it. -/
def rd {a b : ℕ} (A : (⟨2, ![a, b]⟩ : Shape).Idx → ℝ) (i j : ℕ) : ℝ := if h : i < a ∧ j < b then A (ix2 ⟨i, h.1⟩ ⟨j, h.2⟩) else 0

theorem rd_of {a b : ℕ} (A : (⟨2, ![a, b]⟩ : Shape).Idx → ℝ) (i : Fin a) (j : Fin b) : A (ix2 i j) = rd A i.val j.val := by
  unfold rd
  rw [dif_pos ⟨i.isLt, j.isLt⟩]

/-- Head `g`'s queries, keys and values in the packed projection, and its result's cotangents. -/
def qd (A : S4096x6144.Idx → ℝ) (g : ℕ) : ℕ → Fin 64 → ℝ := fun j e => rd A j (64 * g + e.val)
def kd (A : S4096x6144.Idx → ℝ) (g : ℕ) : ℕ → Fin 64 → ℝ := fun j e => rd A j (2048 + 64 * g + e.val)
def vd (A : S4096x6144.Idx → ℝ) (g : ℕ) : ℕ → Fin 64 → ℝ := fun j e => rd A j (4096 + 64 * g + e.val)
def od (B : S4096x2048.Idx → ℝ) (g : ℕ) : ℕ → Fin 64 → ℝ := fun j e => rd B j (64 * g + e.val)

/-- Head `g`'s gradient of a logit and its weight. -/
def dl (A : S4096x6144.Idx → ℝ) (B : S4096x2048.Idx → ℝ) (g p j : ℕ) : ℝ := dlogit (qd A g) (kd A g) (vd A g) (od B g) p j
def wv (A : S4096x6144.Idx → ℝ) (g p j : ℕ) : ℝ := wgt (qd A g) (kd A g) p j

/-- Head `g`'s three gradients. -/
def dqv (A : S4096x6144.Idx → ℝ) (B : S4096x2048.Idx → ℝ) (g p : ℕ) (e : Fin 64) : ℝ := ∑ j ∈ Finset.range 4096, dl A B g p j * kd A g j e
def dkv (A : S4096x6144.Idx → ℝ) (B : S4096x2048.Idx → ℝ) (g j : ℕ) (e : Fin 64) : ℝ := ∑ p ∈ Finset.range 4096, dl A B g p j * qd A g p e
def dvv (A : S4096x6144.Idx → ℝ) (B : S4096x2048.Idx → ℝ) (g j : ℕ) (e : Fin 64) : ℝ := ∑ p ∈ Finset.range 4096, wv A g p j * od B g p e

variable (m : (ℓ : Loc nD τ sig) → Buf (Elt Ideal) ℓ)

theorem idx0 : ∀ t : Fin (cfg0 (F := Ideal)).N, win0_0.index t = ![t.val % 32, t.val / 32] := (by decide +kernel : ∀ t : Fin grid0.N, win0_0.index t = ![t.val % 32, t.val / 32])
theorem idx1 : ∀ t : Fin (cfg0 (F := Ideal)).N, win0_1.index t = ![t.val % 32, t.val / 32] := (by decide +kernel : ∀ t : Fin grid0.N, win0_1.index t = ![t.val % 32, t.val / 32])
theorem idx2 : ∀ t : Fin (cfg0 (F := Ideal)).N, win0_2.index t = ![0, 8 + t.val / 32] := (by decide +kernel : ∀ t : Fin grid0.N, win0_2.index t = ![0, 8 + t.val / 32])
theorem idx3 : ∀ t : Fin (cfg0 (F := Ideal)).N, win0_3.index t = ![0, 16 + t.val / 32] := (by decide +kernel : ∀ t : Fin grid0.N, win0_3.index t = ![0, 16 + t.val / 32])
theorem idx4 : ∀ t : Fin (cfg0 (F := Ideal)).N, win0_4.index t = ![t.val % 32, t.val / 32] := (by decide +kernel : ∀ t : Fin grid0.N, win0_4.index t = ![t.val % 32, t.val / 32])
theorem idx5 : ∀ t : Fin (cfg0 (F := Ideal)).N, win0_5.index t = ![0, t.val / 32] := (by decide +kernel : ∀ t : Fin grid0.N, win0_5.index t = ![0, t.val / 32])
theorem idx6 : ∀ t : Fin (cfg0 (F := Ideal)).N, win0_6.index t = ![0, t.val / 32] := (by decide +kernel : ∀ t : Fin grid0.N, win0_6.index t = ![0, t.val / 32])

theorem N_lt (t : Fin (cfg0 (F := Ideal)).N) : t.val < 256 := lt_of_lt_of_eq t.isLt N_0

/-- Row `r` of the point's block of queries, and columns of its four heads. -/
abbrev rowAt (t : Fin (cfg0 (F := Ideal)).N) (r : Fin 128) : Fin 4096 := ⟨128 * (t.val % 32) + r.val, by omega⟩

theorem blk0 (c : Dev nD) (t : Fin (cfg0 (F := Ideal)).N) (r : Fin 128) (y : Fin 256) :
    qBlk m c t (ix2 r y) = m ((c : Thread nD τ).loc main_arg0) (ix2 (rowAt t r) ⟨256 * (t.val / 32) + y.val, by have := N_lt t; omega⟩) := by
  unfold qBlk
  blk_point [iblk, V, idx0 t]
theorem blk1 (c : Dev nD) (t : Fin (cfg0 (F := Ideal)).N) (r : Fin 128) (y : Fin 256) :
    doBlk m c t (ix2 r y) = m ((c : Thread nD τ).loc main_arg1) (ix2 (rowAt t r) ⟨256 * (t.val / 32) + y.val, by have := N_lt t; omega⟩) := by
  unfold doBlk
  blk_point [iblk, V, idx1 t]
theorem blk2 (c : Dev nD) (t : Fin (cfg0 (F := Ideal)).N) (j : Fin 4096) (y : Fin 256) :
    kBlk m c t (ix2 j y) = m ((c : Thread nD τ).loc main_arg0) (ix2 j ⟨2048 + 256 * (t.val / 32) + y.val, by have := N_lt t; omega⟩) := by
  unfold kBlk
  blk_point [iblk, V, idx2 t]
theorem blk3 (c : Dev nD) (t : Fin (cfg0 (F := Ideal)).N) (j : Fin 4096) (y : Fin 256) :
    vBlk m c t (ix2 j y) = m ((c : Thread nD τ).loc main_arg0) (ix2 j ⟨4096 + 256 * (t.val / 32) + y.val, by have := N_lt t; omega⟩) := by
  unfold vBlk
  blk_point [iblk, V, idx3 t]

section Real

variable (A : S4096x6144.Idx → ℝ) (B : S4096x2048.Idx → ℝ) (c : Dev nD)
  (h0 : m ((c : Thread nD τ).loc main_arg0) = up A) (h1 : m ((c : Thread nD τ).loc main_arg1) = up B)

/-- The head a point's `h`th head is. -/
abbrev hd (t : ℕ) (h : Fin 4) : ℕ := 4 * (t / 32) + h.val

include h0 in
theorem q_real (t : Fin (cfg0 (F := Ideal)).N) (h : Fin 4) (r : Fin 128) (e : Fin 64) :
    cols (qBlk m c t) h (ix2 r e) = ((qd A (hd t.val h) (128 * (grid0.coords t 1).val + r.val) e : ℝ) : EReal) := by
  rw [cols_apply, blk0, h0, coord_one]
  refine congrArg Real.toEReal ((rd_of A _ _).trans ?_)
  unfold qd
  congr 1
  show 256 * (t.val / 32) + (64 * h.val + e.val) = 64 * (4 * (t.val / 32) + h.val) + e.val
  omega

include h1 in
theorem do_real (t : Fin (cfg0 (F := Ideal)).N) (h : Fin 4) (r : Fin 128) (e : Fin 64) :
    cols (doBlk m c t) h (ix2 r e) = ((od B (hd t.val h) (128 * (grid0.coords t 1).val + r.val) e : ℝ) : EReal) := by
  rw [cols_apply, blk1, h1, coord_one]
  refine congrArg Real.toEReal ((rd_of B _ _).trans ?_)
  unfold od
  congr 1
  show 256 * (t.val / 32) + (64 * h.val + e.val) = 64 * (4 * (t.val / 32) + h.val) + e.val
  omega

include h0 in
theorem k_real (t : Fin (cfg0 (F := Ideal)).N) (h : Fin 4) (j : Fin 4096) (e : Fin 64) :
    kBlk m c t (ix2 j (cl h e)) = ((kd A (hd t.val h) j.val e : ℝ) : EReal) := by
  rw [blk2, h0]
  refine congrArg Real.toEReal ((rd_of A _ _).trans ?_)
  unfold kd
  congr 1
  show 2048 + 256 * (t.val / 32) + (64 * h.val + e.val) = 2048 + 64 * (4 * (t.val / 32) + h.val) + e.val
  omega

include h0 in
theorem v_real (t : Fin (cfg0 (F := Ideal)).N) (h : Fin 4) (j : Fin 4096) (e : Fin 64) :
    vBlk m c t (ix2 j (cl h e)) = ((vd A (hd t.val h) j.val e : ℝ) : EReal) := by
  rw [blk3, h0]
  refine congrArg Real.toEReal ((rd_of A _ _).trans ?_)
  unfold vd
  congr 1
  show 4096 + 256 * (t.val / 32) + (64 * h.val + e.val) = 4096 + 64 * (4 * (t.val / 32) + h.val) + e.val
  omega

/-- The key gradients a point's block of queries adds, -/
def addK (t j : ℕ) (h : Fin 4) (e : Fin 64) : ℝ :=
  ∑ r : Fin 128, dl A B (hd t h) (128 * (t % 32) + r.val) j * qd A (hd t h) (128 * (t % 32) + r.val) e
/-- and the value gradients. -/
def addV (t j : ℕ) (h : Fin 4) (e : Fin 64) : ℝ :=
  ∑ r : Fin 128, wv A (hd t h) (128 * (t % 32) + r.val) j * od B (hd t h) (128 * (t % 32) + r.val) e

include h0 h1 in
/-- What the sweeps of a point leave. -/
theorem swept_real (t : Fin (cfg0 (F := Ideal)).N) (D : Vec Ideal S4096x256 .f32 × Vec Ideal S4096x256 .f32) :
    (∀ h r e, dqOf (sweptAt m c t D).1 h (ix2 r e) = ((dqv A B (hd t.val h) (128 * (t.val % 32) + r.val) e : ℝ) : EReal))
    ∧ (∀ h (j : Fin 4096) e, (sweptAt m c t D).2.1 (ix2 j (cl h e)) = reset (grid0.coords t) D.1 (ix2 j (cl h e)) + ((addK A B t.val j.val h e : ℝ) : EReal))
    ∧ (∀ h (j : Fin 4096) e, (sweptAt m c t D).2.2 (ix2 j (cl h e)) = reset (grid0.coords t) D.2 (ix2 j (cl h e)) + ((addV A B t.val j.val h e : ℝ) : EReal)) := by
  have hG := groups_three (F := Ideal) (point_lt (grid0.coords t)) (cols (qBlk m c t)) (kBlk m c t)
  have hG' := groups_real (point_lt (grid0.coords t)) (cols (qBlk m c t)) (kBlk m c t) (fun h => qd A (hd t.val h)) (fun h => kd A (hd t.val h))
    (q_real m A c h0 t) (k_real m A c h0 t)
  have S := sweep_real (point_lt (grid0.coords t)) (cols (qBlk m c t)) (cols (doBlk m c t)) (kBlk m c t) (vBlk m c t)
    (fun h => qd A (hd t.val h)) (fun h => od B (hd t.val h)) (fun h => kd A (hd t.val h)) (fun h => vd A (hd t.val h))
    (q_real m A c h0 t) (do_real m B c h1 t) (k_real m A c h0 t) (v_real m A c h0 t) (reset (grid0.coords t) D.1) (reset (grid0.coords t) D.2) hG hG' _ le_rfl
  unfold sweptAt swept
  generalize sweep (F := Ideal) _ _ _ _ _ _ _ _ _ = s at S ⊢
  have hb : hi (grid0.coords t 1).val (groups (F := Ideal) (point_lt (grid0.coords t)) (cols (qBlk m c t)) (kBlk m c t) - groups (F := Ideal) (point_lt (grid0.coords t)) (cols (qBlk m c t)) (kBlk m c t))
      = 128 * (t.val % 32 + 1) := by rw [Nat.sub_self, coord_one]; unfold hi; omega
  rw [hb, coord_one] at S
  refine ⟨fun h r e => ?_, fun h j e => ?_, fun h j e => ?_⟩
  · rw [S.dq]
    unfold dqv dl
    congr 1
    refine Finset.sum_subset (Finset.range_mono (by omega)) fun j _ hj => ?_
    rw [dlogit_of_le _ _ _ _ (by have := r.isLt; simp only [Finset.mem_range] at hj; omega), zero_mul]
  · rw [S.dk]
    unfold addK dl
    congr 2
    split
    · rfl
    · rename_i hj
      exact (Finset.sum_eq_zero fun r _ => by rw [dlogit_of_le _ _ _ _ (by have := r.isLt; omega), zero_mul]).symm
  · rw [S.dv]
    unfold addV wv
    congr 2
    split
    · rfl
    · rename_i hj
      exact (Finset.sum_eq_zero fun r _ => by rw [wgt_of_le _ _ (by have := r.isLt; omega), zero_mul]).symm

theorem zero115 (y : S4096x256.Idx) : (k0_pay115 (F := Ideal)) y = 0 := by
  unfold_payloads
  pointwise [lit_zero]
  exact EReal.coe_zero

/-- A row of blocks added up. -/
theorem sum_step (f : ℕ → ℝ) (n : ℕ) : (∑ p ∈ Finset.range (128 * n), f p) + ∑ r : Fin 128, f (128 * n + r.val) = ∑ p ∈ Finset.range (128 * (n + 1)), f p := by
  rw [show 128 * (n + 1) = 128 * n + 128 by omega, Finset.sum_range_add]
  exact congrArg _ (Finset.sum_range fun r => f (128 * n + r)).symm

include h0 h1 in
/-- The accumulators after `n` points of the grid's row `g`. -/
theorem acc_real (g : ℕ) (hg : g < 8) (n : ℕ) (hn : n < 32) :
    (∀ h (j : Fin 4096) e, (acc m c (32 * g + n + 1)).1 (ix2 j (cl h e))
      = ((∑ p ∈ Finset.range (128 * (n + 1)), dl A B (4 * g + h.val) p j.val * qd A (4 * g + h.val) p e : ℝ) : EReal))
    ∧ (∀ h (j : Fin 4096) e, (acc m c (32 * g + n + 1)).2 (ix2 j (cl h e))
      = ((∑ p ∈ Finset.range (128 * (n + 1)), wv A (4 * g + h.val) p j.val * od B (4 * g + h.val) p e : ℝ) : EReal)) := by
  have hN : 32 * g + n < (cfg0 (F := Ideal)).N := lt_of_lt_of_eq (by omega) N_0.symm
  have step := swept_real m A B c h0 h1 ⟨32 * g + n, hN⟩ (acc m c (32 * g + n))
  have hs := acc_succ m c ⟨32 * g + n, hN⟩
  have hc := coord_one ⟨32 * g + n, hN⟩
  have e1 : (32 * g + n) / 32 = g := by omega
  have e2 : (32 * g + n) % 32 = n := by omega
  dsimp only at step hs hc
  rw [hs]
  unfold addK addV at step
  unfold hd at step
  rw [e1, e2] at step
  rw [e2] at hc
  unfold reset at step
  rw [hc] at step
  obtain ⟨-, sk, sv⟩ := step
  cases n with
  | zero =>
    refine ⟨fun h j e => ?_, fun h j e => ?_⟩
    · rw [sk, if_pos rfl, zero115, zero_add, ← sum_step, Nat.mul_zero, Finset.sum_range_zero, zero_add]
    · rw [sv, if_pos rfl, zero115, zero_add, ← sum_step, Nat.mul_zero, Finset.sum_range_zero, zero_add]
  | succ n =>
    have ih := acc_real g hg n (by omega)
    refine ⟨fun h j e => ?_, fun h j e => ?_⟩
    · rw [sk, if_neg (Nat.succ_ne_zero n), ← sum_step, EReal.coe_add]
      exact congrArg (· + _) (ih.1 h j e)
    · rw [sv, if_neg (Nat.succ_ne_zero n), ← sum_step, EReal.coe_add]
      exact congrArg (· + _) (ih.2 h j e)

end Real

/-- A head's gradients laid out in columns, 64 to a head. -/
def laid (f : ℕ → ℕ → Fin 64 → ℝ) : Vec Ideal S4096x2048 .bf16 :=
  fun i => ((f ((i 1).val / 64) (i 0).val ⟨(i 1).val % 64, Nat.mod_lt _ (by decide)⟩ : ℝ) : EReal)

theorem laid_apply (f : ℕ → ℕ → Fin 64 → ℝ) (p : Fin 4096) (x : Fin 2048) (g : ℕ) (e : Fin 64) (hx : x.val = 64 * g + e.val) :
    laid f (ix2 p x) = ((f g p.val e : ℝ) : EReal) := by
  have h1 : x.val / 64 = g := by omega
  have h2 : x.val % 64 = e.val := by omega
  show ((f (x.val / 64) p.val ⟨x.val % 64, _⟩ : ℝ) : EReal) = _
  congr 2
  exact Fin.ext h2

/-- A block's column is one of its heads' columns. -/
theorem exists_cl (y : Fin 256) : ∃ h e, y = cl h e :=
  ⟨⟨y.val / 64, by omega⟩, ⟨y.val % 64, by omega⟩, Fin.ext (by show y.val = 64 * (y.val / 64) + y.val % 64; omega)⟩

/-- The column of a point's head. -/
theorem col_eq (t : Fin (cfg0 (F := Ideal)).N) (h : Fin 4) (e : Fin 64) :
    (⟨256 * (t.val / 32) + (cl h e).val, by have := N_lt t; omega⟩ : Fin 2048).val = 64 * hd t.val h + e.val := by
  show 256 * (t.val / 32) + (64 * h.val + e.val) = 64 * (4 * (t.val / 32) + h.val) + e.val
  omega

section Final

variable (A : S4096x6144.Idx → ℝ) (B : S4096x2048.Idx → ℝ) (c : Dev nD)
  (h0 : m ((c : Thread nD τ).loc main_arg0) = up A) (h1 : m ((c : Thread nD τ).loc main_arg1) = up B)

include h0 h1

theorem final4 : (dats m 0 c).arrAt 4 (cfg0 (F := Ideal)).N = laid (dqv A B) := by
  refine (dats m 0 c).arrAt_eq_of_covers 4 _ (by decide +kernel) fun t hf y => ?_
  blk_simp
  rw [after0_4]
  idx_vars y
  have he : ((View.whole main_v0_0).slice (win0_4.rect t)).emb (ix2 y0 y1) = ix2 (rowAt t y0) ⟨256 * (t.val / 32) + y1.val, by have := N_lt t; omega⟩ := by
    blk_ext [idx4 t]
  rw [he]
  obtain ⟨h, e, rfl⟩ := exists_cl y1
  rw [dqBlock_apply, (swept_real m A B c h0 h1 t _).1]
  exact (laid_apply (dqv A B) (rowAt t y0) _ (hd t.val h) e (col_eq t h e)).symm

theorem final5 : (dats m 0 c).arrAt 5 (cfg0 (F := Ideal)).N = laid (dkv A B) := by
  refine (dats m 0 c).arrAt_eq_of_covers 5 _ (by decide +kernel) fun t hf y => ?_
  blk_simp
  rw [after0_5]
  idx_vars y
  have he : ((View.whole main_v0_1).slice (win0_5.rect t)).emb (ix2 y0 y1) = ix2 y0 ⟨256 * (t.val / 32) + y1.val, by have := N_lt t; omega⟩ := by
    blk_ext [idx5 t]
  rw [he]
  obtain ⟨h, e, rfl⟩ := exists_cl y1
  have hl : t.val % 32 = 31 := (flush0_5 t).mp hf
  have ht : t.val = 32 * (t.val / 32) + 31 := by omega
  have := (acc_real m A B c h0 h1 (t.val / 32) (by have := N_lt t; omega) 31 (by decide)).1 h y0 e
  rw [← ht] at this
  refine (show k0_pay3 (F := Ideal) (acc m c (t.val + 1)).1 (ix2 y0 (cl h e)) = (acc m c (t.val + 1)).1 (ix2 y0 (cl h e)) from rfl).trans (this.trans ?_)
  exact (laid_apply (dkv A B) y0 _ (hd t.val h) e (col_eq t h e)).symm

theorem final6 : (dats m 0 c).arrAt 6 (cfg0 (F := Ideal)).N = laid (dvv A B) := by
  refine (dats m 0 c).arrAt_eq_of_covers 6 _ (by decide +kernel) fun t hf y => ?_
  blk_simp
  rw [after0_6]
  idx_vars y
  have he : ((View.whole main_v0_2).slice (win0_6.rect t)).emb (ix2 y0 y1) = ix2 y0 ⟨256 * (t.val / 32) + y1.val, by have := N_lt t; omega⟩ := by
    blk_ext [idx6 t]
  rw [he]
  obtain ⟨h, e, rfl⟩ := exists_cl y1
  have hl : t.val % 32 = 31 := (flush0_6 t).mp hf
  have ht : t.val = 32 * (t.val / 32) + 31 := by omega
  have := (acc_real m A B c h0 h1 (t.val / 32) (by have := N_lt t; omega) 31 (by decide)).2 h y0 e
  rw [← ht] at this
  refine (show k0_pay4 (F := Ideal) (acc m c (t.val + 1)).2 (ix2 y0 (cl h e)) = (acc m c (t.val + 1)).2 (ix2 y0 (cl h e)) from rfl).trans (this.trans ?_)
  exact (laid_apply (dvv A B) y0 _ (hd t.val h) e (col_eq t h e)).symm

end Final

end Cert.Proof.Stick
-- ==== Proof.StickRef.lean ====
/-
  The reference of the stick-breaking backward, read one element at a time over real data: the logits, their sigmoids, the
  two running sums over the keys, and the three gradients as the sums the kernel leaves.
-/
module

public import proofs.«01_k».proof.Defs
public import proofs.«01_k».proof.Proof.StickValue
public import proofs.«01_k».proof.Proof.Gen.StickRefIdeal.Read
public import Idealize.ShloMosaic.Lib.Pointwise

@[expose] public section

set_option maxRecDepth 16384

noncomputable section

namespace Cert.Proof.StickRef

open Cert.StickRefIdeal Cert.StickRefIdeal.Gen Cert.StickRefIdeal.Read
open Idealize.ShloMosaic Idealize.ShloMosaic.TcCoe
open Cert.Proof.Finite
open Cert.Proof.Rms (up)
open Cert.Proof.Stick (rd rd_of qd kd vd od dl wv dqv dkv dvv zz left wgt wgr dlogit logit lsig lit_one lit_zero lit_eighth coe_max log_one_add_exp laid)

/-! ## The sigmoids -/

/-- log(1 + eˣ). -/
def sp (x : ℝ) : ℝ := max x 0 + Real.log (1 + Real.exp (-|x|))

theorem sp_neg (z : ℝ) : sp (-z) = -lsig z := by
  unfold sp lsig
  rw [abs_neg, show max (-z) 0 = -min z 0 by rw [← neg_zero, max_neg_neg, neg_zero]]
  ring

theorem sp_pos (z : ℝ) : sp z = z - lsig z := by
  unfold sp lsig
  have h := max_add_min z 0
  linarith

/-- A logit's two sigmoids add to one. -/
theorem sigmoids (z : ℝ) : Real.exp (lsig z - z) = 1 - Real.exp (lsig z) := by
  have hp := Real.exp_pos (-|z|)
  unfold lsig
  rw [show min z 0 - Real.log (1 + Real.exp (-|z|)) - z = (min z 0 - z) - Real.log (1 + Real.exp (-|z|)) by ring, Real.exp_sub, Real.exp_sub (min z 0),
    Real.exp_sub (min z 0), Real.exp_log (by linarith)]
  rw [eq_sub_iff_add_eq, ← add_div, div_eq_one_iff_eq (by linarith)]
  rcases le_total z 0 with h | h
  · rw [min_eq_left h, div_self (Real.exp_pos z).ne', abs_of_nonpos h, neg_neg]
  · rw [min_eq_right h, Real.exp_zero, abs_of_nonneg h, Real.exp_neg, one_div, add_comm]

/-! ## Running sums -/

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

theorem ext3 {a b c : ℕ} (i : (⟨3, ![a, b, c]⟩ : Shape).Idx) (x : Fin a) (y : Fin b) (z : Fin c) (h0 : i 0 = x) (h1 : i 1 = y) (h2 : i 2 = z) :
    i = ix3 x y z := by
  subst h0 h1 h2
  funext k
  match k with
  | 0 => rfl
  | 1 => rfl
  | 2 => rfl

theorem ext2 {a b : ℕ} (i : (⟨2, ![a, b]⟩ : Shape).Idx) (x : Fin a) (y : Fin b) (h0 : i 0 = x) (h1 : i 1 = y) : i = ix2 x y := by
  subst h0 h1
  funext k
  match k with
  | 0 => rfl
  | 1 => rfl

/-- The positions of a window along the last axis. -/
def lane {n : ℕ} : Fin n ≃ (⟨3, ![1, 1, n]⟩ : Shape).Idx where
  toFun c := ix3 0 0 c
  invFun i := i 2
  left_inv c := rfl
  right_inv i := (ext3 i 0 0 (i 2) (Subsingleton.elim (α := Fin 1) _ _) (Subsingleton.elim (α := Fin 1) _ _) rfl).symm

/-- A window sum along the last axis, from zero. -/
theorem window_sum {a b n : ℕ} (lo hi : Fin 3 → ℕ) (x : (⟨3, ![a, b, n]⟩ : Shape).Idx → EReal) (init : (⟨0, ![]⟩ : Shape).Idx → EReal)
    (hw : (⟨3, ![a, b, n]⟩ : Shape).ReduceWindows ![1, 1, n] ![1, 1, 1] lo hi ⟨3, ![a, b, n]⟩) (hu : 0 < (⟨0, ![]⟩ : Shape).numel)
    (hi0 : ∀ i, init i = 0) (l0 : lo 0 = 0) (l1 : lo 1 = 0) (p : Fin a) (q : Fin b) (j : Fin n) :
    Host.reduceWindow (s := ⟨3, ![a, b, n]⟩) (· + ·) ![1, 1, n] ![1, 1, 1] lo hi x init hw hu (ix3 p q j)
      = ∑ c : Fin n, if h : lo 2 ≤ j.val + c.val ∧ j.val + c.val - lo 2 < n then x (ix3 p q ⟨j.val + c.val - lo 2, h.2⟩) else 0 := by
  unfold Host.reduceWindow
  dsimp only
  rw [hi0, foldl_add, zero_add, ← Fin.sum_univ_def]
  rw [← (Shape.rowMajor (⟨3, ![1, 1, n]⟩ : Shape)).sum_comp, ← lane.sum_comp]
  refine Finset.sum_congr rfl fun c _ => ?_
  have hs : (Shape.rowMajor (⟨3, ![1, 1, n]⟩ : Shape)).symm ((Shape.rowMajor (⟨3, ![1, 1, n]⟩ : Shape)) (lane c)) = lane c := Equiv.symm_apply_apply _ _
  by_cases h : lo 2 ≤ j.val + c.val ∧ j.val + c.val - lo 2 < n
  · rw [dif_pos h, dif_pos]
    · refine congrArg x (ext3 _ _ _ _ (Fin.ext ?_) (Fin.ext ?_) (Fin.ext ?_))
      · dsimp only; rw [hs, l0]; show p.val * 1 + 0 - 0 = p.val; omega
      · dsimp only; rw [hs, l1]; show q.val * 1 + 0 - 0 = q.val; omega
      · dsimp only; rw [hs]; show j.val * 1 + c.val - lo 2 = j.val + c.val - lo 2; rw [mul_one]
    · intro k
      rw [hs]
      match k with
      | 0 => rw [l0]; exact ⟨Nat.zero_le _, by show p.val * 1 + 0 - 0 < a; omega⟩
      | 1 => rw [l1]; exact ⟨Nat.zero_le _, by show q.val * 1 + 0 - 0 < b; omega⟩
      | 2 => show lo 2 ≤ j.val * 1 + c.val ∧ j.val * 1 + c.val - lo 2 < n; rw [mul_one]; exact h
  · rw [dif_neg h, dif_neg]
    intro hk
    have := hk 2
    rw [hs] at this
    refine h (show lo 2 ≤ j.val + c.val ∧ j.val + c.val - lo 2 < n from ?_)
    have e : lo 2 ≤ j.val * 1 + c.val ∧ j.val * 1 + c.val - lo 2 < n := this
    rwa [mul_one] at e

/-- The sum from an element on, -/
theorem suffix_sum {a b n : ℕ} (hi : Fin 3 → ℕ) (x : (⟨3, ![a, b, n]⟩ : Shape).Idx → EReal) (init : (⟨0, ![]⟩ : Shape).Idx → EReal)
    (hw : (⟨3, ![a, b, n]⟩ : Shape).ReduceWindows ![1, 1, n] ![1, 1, 1] ![0, 0, 0] hi ⟨3, ![a, b, n]⟩) (hu : 0 < (⟨0, ![]⟩ : Shape).numel)
    (hi0 : ∀ i, init i = 0) (p : Fin a) (q : Fin b) (j : Fin n) (g : ℕ → ℝ) (hx : ∀ c : Fin n, x (ix3 p q c) = ((g c.val : ℝ) : EReal)) :
    Host.reduceWindowAdd (F := Ideal) (φ := .f32) (s := ⟨3, ![a, b, n]⟩) ![1, 1, n] ![1, 1, 1] ![0, 0, 0] hi x init hw hu (ix3 p q j)
      = ((∑ i ∈ Finset.Ico j.val n, g i : ℝ) : EReal) := by
  refine (window_sum _ hi x (fun _ => init (Shape.Idx.first hu)) hw (by decide) (fun _ => hi0 _) rfl rfl p q j).trans ?_
  rw [Finset.sum_Ico_eq_sum_range]
  refine (Finset.sum_congr rfl fun c _ => ?_).trans ((coe_sum Finset.univ (fun c : Fin n => if c.val < n - j.val then g (j.val + c.val) else 0)).symm.trans (congrArg Real.toEReal ?_))
  · by_cases h : j.val + c.val < n
    · rw [dif_pos ⟨Nat.zero_le _, h⟩, hx, if_pos (by omega)]; rfl
    · rw [dif_neg (fun hh => h hh.2), if_neg (by omega), EReal.coe_zero]
  · rw [← Finset.sum_range (fun c => if c < n - j.val then g (j.val + c) else 0), ← Finset.sum_filter]
    refine Finset.sum_congr (Finset.ext fun c => ?_) fun _ _ => rfl
    simp only [Finset.mem_filter, Finset.mem_range]
    omega

/-- and the sum up to it. -/
theorem prefix_sum {a b n : ℕ} (k : ℕ) (hk : n = k + 1) (hi : Fin 3 → ℕ) (x : (⟨3, ![a, b, n]⟩ : Shape).Idx → EReal) (init : (⟨0, ![]⟩ : Shape).Idx → EReal)
    (hw : (⟨3, ![a, b, n]⟩ : Shape).ReduceWindows ![1, 1, n] ![1, 1, 1] ![0, 0, k] hi ⟨3, ![a, b, n]⟩) (hu : 0 < (⟨0, ![]⟩ : Shape).numel)
    (hi0 : ∀ i, init i = 0) (p : Fin a) (q : Fin b) (j : Fin n) (g : ℕ → ℝ) (hx : ∀ c : Fin n, x (ix3 p q c) = ((g c.val : ℝ) : EReal)) :
    Host.reduceWindowAdd (F := Ideal) (φ := .f32) (s := ⟨3, ![a, b, n]⟩) ![1, 1, n] ![1, 1, 1] ![0, 0, k] hi x init hw hu (ix3 p q j)
      = ((∑ i ∈ Finset.range (j.val + 1), g i : ℝ) : EReal) := by
  refine (window_sum _ hi x (fun _ => init (Shape.Idx.first hu)) hw (by decide) (fun _ => hi0 _) rfl rfl p q j).trans ?_
  refine (Finset.sum_congr rfl fun c _ => ?_).trans ((coe_sum Finset.univ (fun c : Fin n => if k ≤ j.val + c.val then g (j.val + c.val - k) else 0)).symm.trans (congrArg Real.toEReal ?_))
  · by_cases h : k ≤ j.val + c.val
    · have hh : (![0, 0, k] : Fin 3 → ℕ) 2 ≤ j.val + c.val ∧ j.val + c.val - (![0, 0, k] : Fin 3 → ℕ) 2 < n :=
        ⟨h, by show j.val + c.val - k < n; omega⟩
      rw [dif_pos hh, hx, if_pos h]; rfl
    · rw [dif_neg (fun hh => h hh.1), if_neg h, EReal.coe_zero]
  · rw [← Finset.sum_range (fun c => if k ≤ j.val + c then g (j.val + c - k) else 0), ← Finset.sum_filter]
    refine Finset.sum_nbij' (fun c => j.val + c - k) (fun i => i + k - j.val) ?_ ?_ ?_ ?_ ?_ <;> intro c hc <;>
      simp only [Finset.mem_filter, Finset.mem_range] at hc ⊢ <;> omega

section Reads

variable (A : S4096x6144.Idx → ℝ) (B : S4096x2048.Idx → ℝ)

/-- The heads' queries, keys, values and cotangents. -/
theorem v4_at (p : Fin 4096) (g : Fin 32) (e : Fin 64) : val_main_v4 (F := Ideal) (up A) (ix3 p g e) = ((qd A g.val p.val e : ℝ) : EReal) := by
  rw [val_main_v4_apply, val_main_v3_apply, val_main_v0_apply]
  refine (congrArg (fun i => ((A i : ℝ) : EReal)) (ext2 _ p ⟨64 * g.val + e.val, by omega⟩ (Fin.ext ?_) (Fin.ext ?_))).trans (congrArg Real.toEReal (rd_of A _ _))
  · show ((p.val * 32 + g.val) * 64 + e.val) / 2048 = p.val; omega
  · show ((p.val * 32 + g.val) * 64 + e.val) % 2048 = 64 * g.val + e.val; omega

theorem v6_at (p : Fin 4096) (g : Fin 32) (e : Fin 64) : val_main_v6 (F := Ideal) (up A) (ix3 p g e) = ((kd A g.val p.val e : ℝ) : EReal) := by
  rw [val_main_v6_apply, val_main_v5_apply, val_main_v1_apply]
  refine (congrArg (fun i => ((A i : ℝ) : EReal)) (ext2 _ p ⟨2048 + 64 * g.val + e.val, by omega⟩ (Fin.ext ?_) (Fin.ext ?_))).trans (congrArg Real.toEReal (rd_of A _ _))
  · show ((p.val * 32 + g.val) * 64 + e.val) / 2048 = p.val; omega
  · show 2048 + ((p.val * 32 + g.val) * 64 + e.val) % 2048 = 2048 + 64 * g.val + e.val; omega

theorem v8_at (p : Fin 4096) (g : Fin 32) (e : Fin 64) : val_main_v8 (F := Ideal) (up A) (ix3 p g e) = ((vd A g.val p.val e : ℝ) : EReal) := by
  rw [val_main_v8_apply, val_main_v7_apply, val_main_v2_apply]
  refine (congrArg (fun i => ((A i : ℝ) : EReal)) (ext2 _ p ⟨4096 + 64 * g.val + e.val, by omega⟩ (Fin.ext ?_) (Fin.ext ?_))).trans (congrArg Real.toEReal (rd_of A _ _))
  · show ((p.val * 32 + g.val) * 64 + e.val) / 2048 = p.val; omega
  · show 4096 + ((p.val * 32 + g.val) * 64 + e.val) % 2048 = 4096 + 64 * g.val + e.val; omega

theorem v34_at (g : Fin 32) (e : Fin 64) (p : Fin 4096) : val_main_v34 (F := Ideal) (up B) (ix3 g e p) = ((od B g.val p.val e : ℝ) : EReal) := by
  rw [val_main_v34_apply, val_main_v33_apply, val_main_v32_apply]
  refine (congrArg (fun i => ((B i : ℝ) : EReal)) (ext2 _ p ⟨64 * g.val + e.val, by omega⟩ (Fin.ext ?_) (Fin.ext ?_))).trans (congrArg Real.toEReal (rd_of B _ _))
  · show ((p.val * 32 + g.val) * 64 + e.val) / 2048 = p.val; omega
  · show ((p.val * 32 + g.val) * 64 + e.val) % 2048 = 64 * g.val + e.val; omega

/-- A head's logit. -/
abbrev z (g p j : ℕ) : ℝ := zz (qd A g) (kd A g) p j

theorem v11_at (g : Fin 32) (p j : Fin 4096) : val_main_v11 (F := Ideal) (up A) (ix3 g p j) = ((z A g.val p.val j.val : ℝ) : EReal) := by
  rw [val_main_v11_apply, val_main_v9_apply, val_main_v10_apply]
  have e : ∀ k : Fin 64, val_main_v4 (F := Ideal) (up A) (lidx_main_v9 (ix3 g p j) k) * val_main_v6 (F := Ideal) (up A) (ridx_main_v9 (ix3 g p j) k)
      = ((qd A g.val p.val k * kd A g.val j.val k : ℝ) : EReal) := fun k => by
    rw [ext3 (lidx_main_v9 (ix3 g p j) k) p g k rfl rfl rfl, ext3 (ridx_main_v9 (ix3 g p j) k) j g k rfl rfl rfl, v4_at, v6_at, ← EReal.coe_mul]
  rw [Finset.sum_congr rfl fun k _ => e k, ← coe_sum]
  pointwise [val_main_cst, lit_eighth]
  rw [← EReal.coe_mul]

/-- The mask: the keys before the query. -/
theorem v22_1_at (g : Fin 32) (p j : Fin 4096) : val_main_v22_1 (F := Ideal) (ix3 g p j) = if j.val < p.val then 1#1 else 0#1 := by
  rw [val_main_v22_1_apply, val_main_v18_apply, val_main_v17_apply, val_main_v15_apply, val_main_v16_apply, val_main_v13_apply, val_main_v14_apply]
  pointwise [val_main_v12]
  rw [WordCmp.cmpi_slt_ofNat (by omega) (by omega)]
  by_cases h : j.val < p.val
  · rw [if_pos h, decide_eq_true h]; rfl
  · rw [if_neg h, decide_eq_false h]; rfl

/-- The reference's spelling of a softplus. -/
theorem softplus (u : ℝ) : max ((u : ℝ) : EReal) ((0 : ℝ) : EReal)
    + Ideal.log1p (Ideal.exp (-FloatOps.absf (F := Ideal) (φ := .f32) ((((u : ℝ) : EReal) - ((0 : ℝ) : EReal) : EReal)))) = ((sp u : ℝ) : EReal) := by
  have ha : FloatOps.absf (F := Ideal) (φ := .f32) ((((u : ℝ) : EReal) - ((0 : ℝ) : EReal) : EReal)) = ((|u| : ℝ) : EReal) := by
    rw [← EReal.coe_sub, sub_zero]
    show max ((u : ℝ) : EReal) (-((u : ℝ) : EReal)) = _
    rw [← EReal.coe_neg, coe_max]; rfl
  rw [ha, ← EReal.coe_neg, Ideal.exp_coe]
  show max ((u : ℝ) : EReal) ((0 : ℝ) : EReal) + Ideal.log (((1 : ℝ) : EReal) + ((Real.exp (-|u|) : ℝ) : EReal)) = _
  rw [log_one_add_exp, coe_max, ← EReal.coe_add]; rfl

theorem v1_0_at (g : Fin 32) (p j : Fin 4096) : val_main_call0_v1_0 (F := Ideal) (up A) (ix3 g p j) = ((sp (-z A g.val p.val j.val) : ℝ) : EReal) := by
  rw [val_main_call0_v1_0_apply, val_main_call0_call0_v4_apply, val_main_call0_call0_v11_apply, val_main_call0_call0_v1_apply, val_main_call0_call0_v10_apply,
    val_main_call0_call0_v9_apply, val_main_call0_call0_v8_apply, val_main_call0_call0_v7_apply, val_main_call0_call0_v3_apply, val_main_call0_v0_apply, v11_at]
  pointwise [val_main_call0_call0_v0_apply, val_main_call0_call0_v2_apply, val_main_call0_call0_cst, lit_zero]
  rw [if_neg (fun h => h rfl), ← EReal.coe_neg]
  exact softplus _

theorem w1_0_at (g : Fin 32) (p j : Fin 4096) : val_main_call1_v1_0 (F := Ideal) (up A) (ix3 g p j) = ((sp (z A g.val p.val j.val) : ℝ) : EReal) := by
  rw [val_main_call1_v1_0_apply, val_main_call1_call0_v4_apply, val_main_call1_call0_v11_apply, val_main_call1_call0_v1_apply, val_main_call1_call0_v10_apply,
    val_main_call1_call0_v9_apply, val_main_call1_call0_v8_apply, val_main_call1_call0_v7_apply, val_main_call1_call0_v3_apply, val_main_call1_v0_apply, val_main_v20_apply, v11_at]
  pointwise [val_main_call1_call0_v0_apply, val_main_call1_call0_v2_apply, val_main_call1_call0_cst, lit_zero]
  rw [if_neg (fun h => h rfl), neg_neg]
  exact softplus _

/-- The logarithm of a key's own stick, of what it leaves, and their exponentials. -/
theorem v19_0_at (g : Fin 32) (p j : Fin 4096) : val_main_v19_0 (F := Ideal) (up A) (ix3 g p j) = ((lsig (z A g.val p.val j.val) : ℝ) : EReal) := by
  rw [val_main_v19_0_apply, v1_0_at]
  pointwise
  rw [← EReal.coe_neg, sp_neg, neg_neg]

theorem v21_0_at (g : Fin 32) (p j : Fin 4096) :
    val_main_v21_0 (F := Ideal) (up A) (ix3 g p j) = ((lsig (z A g.val p.val j.val) - z A g.val p.val j.val : ℝ) : EReal) := by
  rw [val_main_v21_0_apply, w1_0_at]
  pointwise
  rw [← EReal.coe_neg, sp_pos, neg_sub]

theorem v19_1_at (g : Fin 32) (p j : Fin 4096) :
    val_main_v19_1 (F := Ideal) (up A) (ix3 g p j) = ((1 - Real.exp (lsig (z A g.val p.val j.val)) : ℝ) : EReal) := by
  rw [val_main_v19_1_apply, val_main_call0_call0_v21_apply, val_main_call0_call0_v16_apply, val_main_call0_call0_v20_apply, val_main_call0_call0_v14_apply,
    val_main_call0_call0_v18_apply, v1_0_at, val_main_call0_v0_apply, v11_at]
  pointwise [val_main_call0_call0_v13_apply, val_main_call0_call0_v17_apply, val_main_call0_call0_cst_0, val_main_call0_call0_cst_2, inf]
  rw [← EReal.coe_neg, if_neg (EReal.coe_ne_top _), if_neg (EReal.coe_ne_top _), ← EReal.coe_sub, Ideal.exp_coe, sp_neg, ← sigmoids]
  congr 2
  ring

theorem v21_1_at (g : Fin 32) (p j : Fin 4096) : val_main_v21_1 (F := Ideal) (up A) (ix3 g p j) = ((Real.exp (lsig (z A g.val p.val j.val)) : ℝ) : EReal) := by
  rw [val_main_v21_1_apply, val_main_call1_call0_v21_apply, val_main_call1_call0_v16_apply, val_main_call1_call0_v20_apply, val_main_call1_call0_v14_apply,
    val_main_call1_call0_v18_apply, w1_0_at, val_main_call1_v0_apply, val_main_v20_apply, v11_at]
  pointwise [val_main_call1_call0_v13_apply, val_main_call1_call0_v17_apply, val_main_call1_call0_cst_0, val_main_call1_call0_cst_2, inf]
  rw [neg_neg, if_neg (EReal.coe_ne_top _), if_neg (EReal.coe_ne_top _), ← EReal.coe_sub, Ideal.exp_coe, sp_pos, sub_sub_cancel]

/-- The masked logarithms, their sums over the keys from one on, and a key's weight. -/
theorem v22_0_at (g : Fin 32) (p j : Fin 4096) : val_main_v22_0 (F := Ideal) (up A) (ix3 g p j) = ((left (qd A g.val) (kd A g.val) p.val j.val : ℝ) : EReal) := by
  rw [val_main_v22_0_apply, v22_1_at, v21_0_at, val_main_call2_v2_apply]
  pointwise [val_main_call2_v0, val_main_cst_0, lit_zero]
  unfold left
  by_cases h : j.val < p.val
  · rw [if_pos h, if_pos h]; rfl
  · rw [if_neg h, if_neg h]; exact lit_zero

theorem call3_zero (i : S_.Idx) : val_main_call3_v0 (F := Ideal) i = 0 := by
  rw [val_main_call3_v0_apply]
  pointwise [val_main_call3_cst, lit_zero]
  exact EReal.coe_zero

theorem v23_at (g : Fin 32) (p j : Fin 4096) : val_main_v23 (F := Ideal) (up A) (ix3 g p j)
    = ((∑ i ∈ Finset.Ico j.val 4096, left (qd A g.val) (kd A g.val) p.val i : ℝ) : EReal) := by
  have hx := v22_0_at A g p
  unfold val_main_v23
  generalize val_main_v22_0 (F := Ideal) (up A) = X at hx
  exact suffix_sum _ X _ _ _ call3_zero g p j _ hx

theorem v26_at (g : Fin 32) (p j : Fin 4096) : val_main_v26 (F := Ideal) (up A) (ix3 g p j)
    = ((Real.exp (lsig (z A g.val p.val j.val) + ∑ i ∈ Finset.Ico (j.val + 1) 4096, left (qd A g.val) (kd A g.val) p.val i) : ℝ) : EReal) := by
  rw [val_main_v26_apply, val_main_v25_apply, val_main_v24_apply, v23_at, v22_0_at, v19_0_at, Finset.sum_eq_sum_Ico_succ_bot j.isLt]
  pointwise
  rw [← EReal.coe_sub, ← EReal.coe_add, Ideal.exp_coe, add_sub_cancel_left]

theorem v27_0_at (g : Fin 32) (p j : Fin 4096) : val_main_v27_0 (F := Ideal) (up A) (ix3 g p j) = ((wv A g.val p.val j.val : ℝ) : EReal) := by
  rw [val_main_v27_0_apply, v26_at, val_main_call4_v2_apply, show val_main_v27_1 (F := Ideal) (ix3 g p j) = val_main_v22_1 (F := Ideal) (ix3 g p j) from rfl, v22_1_at]
  pointwise [val_main_call4_v0, val_main_cst_1, lit_zero]
  unfold wv wgt
  by_cases h : j.val < p.val
  · rw [if_pos h, if_pos h]; rfl
  · rw [if_neg h, if_neg h]; exact lit_zero

/-- The cotangent of a weight, masked, and times the weight. -/
theorem v35_at (g : Fin 32) (p j : Fin 4096) : val_main_v35 (F := Ideal) (up A) (up B) (ix3 g p j)
    = ((∑ e, od B g.val p.val e * vd A g.val j.val e : ℝ) : EReal) := by
  rw [val_main_v35_apply]
  have e : ∀ k : Fin 64, val_main_v34 (F := Ideal) (up B) (lidx_main_v35 (ix3 g p j) k) * val_main_v8 (F := Ideal) (up A) (ridx_main_v35 (ix3 g p j) k)
      = ((od B g.val p.val k * vd A g.val j.val k : ℝ) : EReal) := fun k => by
    rw [ext3 (lidx_main_v35 (ix3 g p j) k) g k p rfl rfl rfl, ext3 (ridx_main_v35 (ix3 g p j) k) j g k rfl rfl rfl, v34_at, v8_at, ← EReal.coe_mul]
  rw [Finset.sum_congr rfl fun k _ => e k, ← coe_sum]

/-- A weight times its cotangent. -/
abbrev gr (g p j : ℕ) : ℝ := wgr (qd A g) (kd A g) (vd A g) (od B g) p j

theorem v39_at (g : Fin 32) (p j : Fin 4096) : val_main_v39 (F := Ideal) (up A) (up B) (ix3 g p j) = ((gr A B g.val p.val j.val : ℝ) : EReal) := by
  rw [val_main_v39_apply, val_main_v38_apply, v26_at, v35_at, show val_main_v27_1 (F := Ideal) (ix3 g p j) = val_main_v22_1 (F := Ideal) (ix3 g p j) from rfl, v22_1_at]
  unfold gr wgr wgt
  by_cases h : j.val < p.val
  · rw [if_pos h, if_pos h]
    refine (EReal.coe_mul _ _).symm.trans (congrArg Real.toEReal (mul_comm _ _))
  · rw [if_neg h, if_neg h, zero_mul]
    rw [val_main_call5_v0_apply]
    pointwise [val_main_call5_cst, lit_zero]
    rw [← EReal.coe_mul, zero_mul]

theorem call6_zero (i : S_.Idx) : val_main_call6_v0 (F := Ideal) i = 0 := by
  rw [val_main_call6_v0_apply]
  pointwise [val_main_call6_cst, lit_zero]
  exact EReal.coe_zero

theorem v41_at (g : Fin 32) (p j : Fin 4096) : val_main_v41 (F := Ideal) (up A) (up B) (ix3 g p j)
    = ((∑ i ∈ Finset.range (j.val + 1), gr A B g.val p.val i : ℝ) : EReal) := by
  have hx := v39_at A B g p
  unfold val_main_v41
  generalize val_main_v39 (F := Ideal) (up A) (up B) = X at hx
  exact prefix_sum 4095 rfl _ X _ _ _ call6_zero g p j _ hx

/-- The sum over the earlier keys, masked. -/
theorem v43_at (g : Fin 32) (p j : Fin 4096) : val_main_v43 (F := Ideal) (up A) (up B) (ix3 g p j)
    = ((if j.val < p.val then ∑ i ∈ Finset.range j.val, gr A B g.val p.val i else 0 : ℝ) : EReal) := by
  rw [val_main_v43_apply, val_main_v42_apply, val_main_v40_apply, v41_at, v39_at, v22_1_at]
  by_cases h : j.val < p.val
  · rw [if_pos h, if_pos h, Finset.sum_range_succ]
    pointwise
    rw [← EReal.coe_neg, ← EReal.coe_add]
    exact congrArg Real.toEReal (by ring)
  · rw [if_neg h, if_neg h]
    rw [val_main_call7_v0_apply]
    pointwise [val_main_call7_cst, lit_zero]

/-- The gradient of a logit. -/
theorem v49_at (g : Fin 32) (p j : Fin 4096) : val_main_v49 (F := Ideal) (up A) (up B) (ix3 g p j) = ((dl A B g.val p.val j.val : ℝ) : EReal) := by
  rw [val_main_v49_apply, val_main_v47_apply, val_main_v45_apply, val_main_v44_apply, val_main_v46_apply, val_main_call8_v1_apply, val_main_call8_v0_apply,
    val_main_call9_v1_apply, val_main_call9_v0_apply, v43_at, v39_at, v19_1_at, v21_1_at, val_main_v48_apply]
  pointwise [val_main_cst_2, lit_eighth]
  simp only [← EReal.coe_neg, ← EReal.coe_mul, ← EReal.coe_add]
  unfold dl dlogit
  refine congrArg Real.toEReal ?_
  by_cases h : j.val < p.val
  · rw [if_pos h, if_pos h]; ring
  · rw [if_neg h, if_neg h, show gr A B g.val p.val j.val = 0 by unfold gr wgr; rw [Cert.Proof.Stick.wgt_of_le _ _ (by omega), zero_mul]]; ring

/-- The key gradients, -/
theorem v50_at (g : Fin 32) (j : Fin 4096) (e : Fin 64) : val_main_v50 (F := Ideal) (up A) (up B) (ix3 g j e) = ((dkv A B g.val j.val e : ℝ) : EReal) := by
  rw [val_main_v50_apply]
  have h : ∀ k : Fin 4096, val_main_v49 (F := Ideal) (up A) (up B) (lidx_main_v50 (ix3 g j e) k) * val_main_v4 (F := Ideal) (up A) (ridx_main_v50 (ix3 g j e) k)
      = ((dl A B g.val k.val j.val * qd A g.val k.val e : ℝ) : EReal) := fun k => by
    rw [ext3 (lidx_main_v50 (ix3 g j e) k) g k j rfl rfl rfl, ext3 (ridx_main_v50 (ix3 g j e) k) k g e rfl rfl rfl, v49_at, v4_at, ← EReal.coe_mul]
  rw [Finset.sum_congr rfl fun k _ => h k, ← coe_sum]
  exact congrArg Real.toEReal (Finset.sum_range fun k => dl A B g.val k j.val * qd A g.val k e).symm

/-- the query gradients, -/
theorem v52_at (g : Fin 32) (p : Fin 4096) (e : Fin 64) : val_main_v52 (F := Ideal) (up A) (up B) (ix3 g p e) = ((dqv A B g.val p.val e : ℝ) : EReal) := by
  rw [val_main_v52_apply]
  have h : ∀ k : Fin 4096, val_main_v49 (F := Ideal) (up A) (up B) (lidx_main_v52 (ix3 g p e) k) * val_main_v6 (F := Ideal) (up A) (ridx_main_v52 (ix3 g p e) k)
      = ((dl A B g.val p.val k.val * kd A g.val k.val e : ℝ) : EReal) := fun k => by
    rw [ext3 (lidx_main_v52 (ix3 g p e) k) g p k rfl rfl rfl, ext3 (ridx_main_v52 (ix3 g p e) k) k g e rfl rfl rfl, v49_at, v6_at, ← EReal.coe_mul]
  rw [Finset.sum_congr rfl fun k _ => h k, ← coe_sum]
  exact congrArg Real.toEReal (Finset.sum_range fun k => dl A B g.val p.val k * kd A g.val k e).symm

/-- and the value gradients. -/
theorem v36_at (g : Fin 32) (e : Fin 64) (j : Fin 4096) : val_main_v36 (F := Ideal) (up A) (up B) (ix3 g e j) = ((dvv A B g.val j.val e : ℝ) : EReal) := by
  rw [val_main_v36_apply]
  have h : ∀ k : Fin 4096, val_main_v34 (F := Ideal) (up B) (lidx_main_v36 (ix3 g e j) k) * val_main_v27_0 (F := Ideal) (up A) (ridx_main_v36 (ix3 g e j) k)
      = ((wv A g.val k.val j.val * od B g.val k.val e : ℝ) : EReal) := fun k => by
    rw [ext3 (lidx_main_v36 (ix3 g e j) k) g e k rfl rfl rfl, ext3 (ridx_main_v36 (ix3 g e j) k) g k j rfl rfl rfl, v34_at, v27_0_at, ← EReal.coe_mul, mul_comm]
  rw [Finset.sum_congr rfl fun k _ => h k, ← coe_sum]
  exact congrArg Real.toEReal (Finset.sum_range fun k => wv A g.val k j.val * od B g.val k e).symm

/-- The heads' columns. -/
theorem col_idx (i : S4096x2048.Idx) : ((i 0).val * 2048 + (i 1).val) / 2048 = (i 0).val ∧ ((i 0).val * 2048 + (i 1).val) / 64 % 32 = (i 1).val / 64
    ∧ ((i 0).val * 2048 + (i 1).val) % 64 = (i 1).val % 64 := by
  have h0 : (i 0).val < 4096 := (i 0).isLt
  have h1 : (i 1).val < 2048 := (i 1).isLt
  omega

theorem laid_of (f : ℕ → ℕ → Fin 64 → ℝ) (i : S4096x2048.Idx) (k : S4096x32x64.Idx) (h0 : (k 0).val = (i 0).val) (h1 : (k 1).val = (i 1).val / 64)
    (h2 : (k 2).val = (i 1).val % 64) : laid f i = ((f (k 1).val (k 0).val (k 2) : ℝ) : EReal) := by
  unfold laid
  rw [← h0, ← h1]
  exact congrArg (fun e => ((f (k 1).val (k 0).val e : ℝ) : EReal)) (Fin.ext h2.symm)

theorem ref_dq : val_main_v59 (F := Ideal) (up A) (up B) = laid (dqv A B) := by
  funext i
  obtain ⟨e0, e1, e2⟩ := col_idx i
  rw [val_main_v59_apply, val_main_v58_apply, val_main_v53_apply, laid_of _ i (idx_main_v58 i) e0 e1 e2]
  exact (congrArg _ (ext3 _ _ _ _ rfl rfl rfl)).trans (v52_at A B (idx_main_v58 i 1) (idx_main_v58 i 0) (idx_main_v58 i 2))

theorem ref_dk : val_main_v57 (F := Ideal) (up A) (up B) = laid (dkv A B) := by
  funext i
  obtain ⟨e0, e1, e2⟩ := col_idx i
  rw [val_main_v57_apply, val_main_v56_apply, val_main_v51_apply, laid_of _ i (idx_main_v56 i) e0 e1 e2]
  exact (congrArg _ (ext3 _ _ _ _ rfl rfl rfl)).trans (v50_at A B (idx_main_v56 i 1) (idx_main_v56 i 0) (idx_main_v56 i 2))

theorem ref_dv : val_main_v55 (F := Ideal) (up A) (up B) = laid (dvv A B) := by
  funext i
  obtain ⟨e0, e1, e2⟩ := col_idx i
  rw [val_main_v55_apply, val_main_v54_apply, val_main_v37_apply, laid_of _ i (idx_main_v54 i) e0 e1 e2]
  exact (congrArg _ (ext3 _ _ _ _ rfl rfl rfl)).trans (v36_at A B (idx_main_v54 i 1) (idx_main_v54 i 2) (idx_main_v54 i 0))

end Reads

instance pre_facts : Cert.Pre_finite_b.Facts where
  bcast_S_S4096x6144 := by decide
  reducesTo_S4096x6144_S_d0_1 := by decide
  h_S_ := by decide
  bcast_S_S4096x2048 := by decide
  reducesTo_S4096x2048_S_d0_1 := by decide

open Idealize.SL.Sem

variable (m : (ℓ : Loc Cert.StickIdeal.nD Cert.StickIdeal.τ Cert.StickIdeal.sig) → Buf (Elt Ideal) ℓ)

/-- What the precondition says: both arguments hold real numbers. -/
theorem real_of_pre (hp : Cert.Pre_StickIdeal_finite_b m) (c : Dev Cert.StickIdeal.nD) :
    ∃ (A : S4096x6144.Idx → ℝ) (B : S4096x2048.Idx → ℝ), m ((c.tc : Thread Cert.StickIdeal.nD Cert.StickIdeal.τ).loc Cert.StickIdeal.main_arg0) = up A
      ∧ m ((c.tc : Thread Cert.StickIdeal.nD Cert.StickIdeal.τ).loc Cert.StickIdeal.main_arg1) = up B := by
  have h := congrFun (hp c) (fun a => a.elim0)
  obtain ⟨ha, hb⟩ := andi_one h
  obtain ⟨A, hA⟩ := real_of_all_below _ inf16 _ _ _ _ _ _ ha
  obtain ⟨B, hB⟩ := real_of_all_below _ inf16 _ _ _ _ _ _ hb
  exact ⟨A, B, hA, hB⟩

/-- The claim. -/
theorem algebraic : Cert.algebraic_StickIdeal_StickRefIdeal_pre_finite_b := by
  intro m g m' g' hp hagree
  refine ⟨fun c => val_main_v59 (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)),
    fun c => val_main_v57 (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)),
    fun c => val_main_v55 (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)), ?_, ?_⟩
  · refine (θ_run Cert.StickIdeal.defs _ _).mono (fun r h c => ?_) (Cert.Proof.Stick.run_main m g)
    obtain ⟨A, B, h0, h1⟩ := real_of_pre m hp c
    have e4 : r.2.mem ((c.tc : Thread Cert.StickIdeal.nD Cert.StickIdeal.τ).loc Cert.StickIdeal.main_v0_0) = laid (dqv A B) :=
      ((h c).1 4).trans (Cert.Proof.Stick.final4 m A B c h0 h1)
    have e5 : r.2.mem ((c.tc : Thread Cert.StickIdeal.nD Cert.StickIdeal.τ).loc Cert.StickIdeal.main_v0_1) = laid (dkv A B) :=
      ((h c).1 5).trans (Cert.Proof.Stick.final5 m A B c h0 h1)
    have e6 : r.2.mem ((c.tc : Thread Cert.StickIdeal.nD Cert.StickIdeal.τ).loc Cert.StickIdeal.main_v0_2) = laid (dvv A B) :=
      ((h c).1 6).trans (Cert.Proof.Stick.final6 m A B c h0 h1)
    refine ⟨?_, ?_, ?_, ((h c).1 0).trans (((Cert.Proof.Stick.dats m 0 c).arrAt_in 0 rfl _).trans (Cert.Proof.Stick.A_eq m c 0)),
      ((h c).1 1).trans (((Cert.Proof.Stick.dats m 0 c).arrAt_in 1 rfl _).trans (Cert.Proof.Stick.A_eq m c 1))⟩
    · exact e4.trans ((ref_dq A B).symm.trans (congrArg₂ (val_main_v59 (F := Ideal)) h0 h1).symm)
    · exact e5.trans ((ref_dk A B).symm.trans (congrArg₂ (val_main_v57 (F := Ideal)) h0 h1).symm)
    · exact e6.trans ((ref_dv A B).symm.trans (congrArg₂ (val_main_v55 (F := Ideal)) h0 h1).symm)
  · refine (θ_run Cert.StickRefIdeal.defs _ _).mono (fun r h c => ⟨((h c).1).trans ?_, ((h c).2.1).trans ?_, ((h c).2.2.1).trans ?_, (h c).2.2.2⟩)
      (Cert.StickRefIdeal.Value.run m' g')
    · exact (val_main_v59_eq _ _).trans (congrArg₂ (val_main_v59 (F := Ideal)) (hagree c).1 (hagree c).2)
    · exact (val_main_v57_eq _ _).trans (congrArg₂ (val_main_v57 (F := Ideal)) (hagree c).1 (hagree c).2)
    · exact (val_main_v55_eq _ _).trans (congrArg₂ (val_main_v55 (F := Ideal)) (hagree c).1 (hagree c).2)

end Cert.Proof.StickRef

end
-- ==== Proof.WinGroup.lean ====
/-
  One group of heads of the sliding-window attention kernels at one block of queries, as the kernels compute it: the masked
  scores against the block's own keys and the block before, their weights with the sink, and, for the gradient, the weights'
  gradients. The four groups of both kernels are these functions of what they load.
-/
module

public import proofs.«01_k».proof.Proof.Gen.WinFwdIdeal.Skeleton

@[expose] public section

set_option maxRecDepth 16384

noncomputable section

namespace Cert.Proof.Win

open Cert.WinFwdIdeal Cert.WinFwdIdeal.Gen
open Idealize.ShloMosaic Idealize.ShloMosaic.TcCoe

variable {F : FTy → Type} [FloatOps F]

/-- A row's query within its block. -/
def qi : IVec S1024x128 32 := andi (iota .tc S1024x128 32 [0] iota_S1024x128_d0_w32) (broadcast S1024x128 127#32)
def colw : IVec S1024x128 32 := iota .tc S1024x128 32 [1] iota_S1024x128_d1_w32
/-- How far a key of the block lies before the query, -/
def dist : FVec F S1024x128 .f32 := sitofp .f32 (subi qi colw)
/-- which keys of the block it sees, -/
def okC : IVec S1024x128 1 := cmpi .sge qi colw
/-- and which of the block before. -/
def okP (n : BitVec 32) : IVec S1024x128 1 := andi (cmpi .sgt colw qi) (broadcast S1024x128 (Scalar.cmpi .sgt n 0#32))
/-- A row's head within the group. -/
def hid : IVec S1024x1 32 := shrsi (iota .tc S1024x1 32 [0] iota_S1024x1_d0_w32) (broadcast S1024x1 7#32)
/-- Its slope, -/
def slopes (sl : F .f32) (g1 : BitVec 32) : FVec F S1024x1 .f32 :=
  exp (mulf (broadcast S1024x1 sl) (sitofp .f32 (addi hid (broadcast S1024x1 g1))))
/-- and its sink. -/
def sinkAt (k : BitVec 32) (s : Elt F .f32) (x : FVec F S1024x1 .f32) : FVec F S1024x1 .f32 :=
  select (cmpi .eq hid (broadcast S1024x1 k)) (broadcast S1024x1 s) x
def sinkCol (s : Fin 8 → Elt F .f32) : FVec F S1024x1 .f32 :=
  sinkAt 7#32 (s 7) (sinkAt 6#32 (s 6) (sinkAt 5#32 (s 5) (sinkAt 4#32 (s 4) (sinkAt 3#32 (s 3) (sinkAt 2#32 (s 2) (sinkAt 1#32 (s 1)
    (sinkAt 0#32 (s 0) (broadcast S1024x1 (Scalar.ofBits .f32 0x00000000#32)))))))))

/-- The eight heads' columns, one under the other. -/
def cat8 (q : Fin 8 → Vec F S128x64 .bf16) : FVec F S1024x64 .bf16 :=
  concatenate S1024x64 0 [⟨S128x64, q 0⟩, ⟨S128x64, q 1⟩, ⟨S128x64, q 2⟩, ⟨S128x64, q 3⟩, ⟨S128x64, q 4⟩, ⟨S128x64, q 5⟩, ⟨S128x64, q 6⟩, ⟨S128x64, q 7⟩]
    concatenates_S128x64_S128x64_S128x64_S128x64_S128x64_S128x64_S128x64_S128x64_S1024x64_d0

def nt (a : FVec F S1024x64 .bf16) (k : FVec F S128x64 .bf16) : FVec F S1024x128 .f32 :=
  matmul dot_S1024x64_S128x64_S1024x128_1_1_0_0_n_n none a k (constant S1024x128 .f32 0x00000000#32)
def nn (a : FVec F S1024x128 .bf16) (v : FVec F S128x64 .bf16) : FVec F S1024x64 .f32 :=
  matmul dot_S1024x128_S128x64_S1024x64_1_0_0_1_n_n none a v (constant S1024x64 .f32 0x00000000#32)

section
variable (ng sl : F .f32) (g1 n : BitVec 32) (s : Fin 8 → Elt F .f32) (q : Fin 8 → Vec F S128x64 .bf16) (kc kp vc vp : FVec F S128x64 .bf16)

/-- The masked scores, -/
def scC : FVec F S1024x128 .f32 :=
  select okC (subf (mulf (nt (cat8 q) kc) (broadcast S1024x128 (Scalar.ofBits .f32 0x3E000000#32)))
    (mulf (broadcastTo S1024x128 (slopes sl g1) broadcasts_S1024x1_S1024x128) dist)) (broadcast S1024x128 ng)
def scP : FVec F S1024x128 .f32 :=
  select (okP n) (subf (mulf (nt (cat8 q) kp) (broadcast S1024x128 (Scalar.ofBits .f32 0x3E000000#32)))
    (mulf (broadcastTo S1024x128 (slopes sl g1) broadcasts_S1024x1_S1024x128) (addf dist (broadcast S1024x128 (Scalar.ofBits .f32 0x43000000#32)))))
    (broadcast S1024x128 ng)
def rowMax (x : FVec F S1024x128 .f32) : FVec F S1024x1 .f32 :=
  shapeCast S1024x1 (multiReduction .maximumf [1] S1024 x 0xFF800000#32 reduces_S1024x128_S1024 (.inl rfl) rfl) shapeCasts_S1024_S1024x1
def rowSum (x : FVec F S1024x128 .f32) : FVec F S1024x1 .f32 :=
  shapeCast S1024x1 (multiReduction .add [1] S1024 x 0x00000000#32 reduces_S1024x128_S1024 (.inl rfl) rfl) shapeCasts_S1024_S1024x1
/-- what is taken off them, -/
def mx : FVec F S1024x1 .f32 := maximumf (maximumf (rowMax (scC ng sl g1 q kc)) (rowMax (scP ng sl g1 n q kp))) (sinkCol s)
/-- the weights before they are normed, -/
def wC : FVec F S1024x128 .f32 := exp (subf (scC ng sl g1 q kc) (broadcastTo S1024x128 (mx ng sl g1 n s q kc kp) broadcasts_S1024x1_S1024x128))
def wP : FVec F S1024x128 .f32 := exp (subf (scP ng sl g1 n q kp) (broadcastTo S1024x128 (mx ng sl g1 n s q kc kp) broadcasts_S1024x1_S1024x128))
def wS : FVec F S1024x1 .f32 := exp (subf (sinkCol s) (mx ng sl g1 n s q kc kp))
/-- and the norm. -/
def den : FVec F S1024x1 .f32 := addf (addf (rowSum (wC ng sl g1 n s q kc kp)) (rowSum (wP ng sl g1 n s q kc kp))) (wS ng sl g1 n s q kc kp)

variable (o d : Fin 8 → Vec F S128x64 .bf16)

theorem rows_reduce : S1024x64.Reduces [1] S1024 := by decide

/-- The result against its cotangent, row by row, -/
def delta : FVec F S1024x1 .f32 :=
  shapeCast S1024x1 (multiReduction .add [1] S1024 (mulf (extf .f32 (cat8 o) bitsLt_bf16_f32) (extf .f32 (cat8 d) bitsLt_bf16_f32)) 0x00000000#32
    rows_reduce (.inl rfl) rfl) shapeCasts_S1024_S1024x1
def inv : FVec F S1024x1 .f32 := divf (broadcast S1024x1 (Scalar.ofBits .f32 0x3F800000#32)) (den ng sl g1 n s q kc kp)
/-- the weights, -/
def pC : FVec F S1024x128 .f32 := mulf (wC ng sl g1 n s q kc kp) (broadcastTo S1024x128 (inv ng sl g1 n s q kc kp) broadcasts_S1024x1_S1024x128)
def pP : FVec F S1024x128 .f32 := mulf (wP ng sl g1 n s q kc kp) (broadcastTo S1024x128 (inv ng sl g1 n s q kc kp) broadcasts_S1024x1_S1024x128)
/-- their scores' gradients, -/
def dC : FVec F S1024x128 .f32 := mulf (pC ng sl g1 n s q kc kp) (subf (nt (cat8 d) vc) (broadcastTo S1024x128 (delta o d) broadcasts_S1024x1_S1024x128))
def dP : FVec F S1024x128 .f32 := mulf (pP ng sl g1 n s q kc kp) (subf (nt (cat8 d) vp) (broadcastTo S1024x128 (delta o d) broadcasts_S1024x1_S1024x128))
/-- the sinks', row by row, -/
def dS : FVec F S1024x1 .f32 :=
  mulf (subf (broadcast S1024x1 (Scalar.ofBits .f32 0x00000000#32)) (mulf (wS ng sl g1 n s q kc kp) (inv ng sl g1 n s q kc kp))) (delta o d)
end

end Cert.Proof.Win

end
-- ==== Proof.WinReal.lean ====
/-
  A group of the sliding-window attention over real data: when the queries, keys, values and sinks a group loads are real,
  its weights are the exponentials of the scores over their sum with the sink's, whatever was taken off the scores before.
-/
module

public import proofs.«01_k».proof.Proof.WinGroup
public import proofs.«01_k».proof.Proof.Finite
public import Idealize.ShloMosaic.Lib.Pointwise
public import Idealize.ShloMosaic.Lib.WordCmp
public import Idealize.ShloMosaic.Lib.Pipeline.ValueKit

@[expose] public section

set_option maxRecDepth 16384

noncomputable section

namespace Cert.Proof.Win

open Cert.WinFwdIdeal Cert.WinFwdIdeal.Gen
open Idealize.ShloMosaic Idealize.ShloMosaic.TcCoe
open Cert.Proof.Finite

/-- A row's head within its group and its query within its block. -/
def hd (r : Fin 1024) : Fin 8 := ⟨r.val / 128, by omega⟩
def qr (r : Fin 1024) : Fin 128 := ⟨r.val % 128, by omega⟩
/-- The row of a head and a query. -/
def rw8 (i : Fin 8) (p : Fin 128) : Fin 1024 := ⟨128 * i.val + p.val, by omega⟩
theorem hd_rw (i : Fin 8) (p : Fin 128) : hd (rw8 i p) = i := Fin.ext (by show (128 * i.val + p.val) / 128 = i.val; omega)
theorem qr_rw (i : Fin 8) (p : Fin 128) : qr (rw8 i p) = p := Fin.ext (by show (128 * i.val + p.val) % 128 = p.val; omega)

theorem lit_zero : Ideal.ofBits .f32 0x00000000#32 = ((0 : ℝ) : EReal) := by simp [Ideal.ofBits, Ideal.ieee]
theorem lit_eighth : Ideal.ofBits .f32 0x3E000000#32 = ((1/8 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_ninf : Ideal.ofBits .f32 0xFF800000#32 = ⊥ := by simp [Ideal.ofBits, Ideal.ieee]
theorem lit_one : Ideal.ofBits .f32 0x3F800000#32 = ((1 : ℝ) : EReal) := Cert.Proof.Rms.lit_one

theorem cat8_apply (q : Fin 8 → Vec Ideal S128x64 .bf16) (r : Fin 1024) (e : Fin 64) : cat8 q (ix2 r e) = q (hd r) (ix2 (qr r) e) :=
  concatenate_ofFn_apply (s₁ := S128x64) (t := S1024x64) 0 q concatenates_S128x64_S128x64_S128x64_S128x64_S128x64_S128x64_S128x64_S128x64_S1024x64_d0 rfl 128 rfl
    (ix2 r e) (hd r) rfl (ix2 (qr r) e) rfl (fun b hb => match b with
      | 0 => absurd rfl hb
      | 1 => rfl)

theorem qi_word : ∀ r : Fin 1024, IntOp.andi (BitVec.ofNat 32 r.val) 127#32 = BitVec.ofNat 32 (r.val % 128) := by decide +kernel
theorem hid_word : ∀ r : Fin 1024, IntOp.shrsi .vector (BitVec.ofNat 32 r.val) 7#32 = BitVec.ofNat 32 (r.val / 128) := by decide +kernel

theorem qi_apply (r : Fin 1024) (j : Fin 128) : qi (ix2 r j) = BitVec.ofNat 32 (qr r).val := by
  unfold qi; pointwise; exact qi_word r
theorem hid_apply (r : Fin 1024) : hid (ix2 r 0) = BitVec.ofNat 32 (hd r).val := by
  unfold hid; pointwise; exact hid_word r
theorem colw_apply (r : Fin 1024) (j : Fin 128) : colw (ix2 r j) = BitVec.ofNat 32 j.val := by
  unfold colw; pointwise

theorem toInt_sub' (a b : ℕ) (ha : a < 2 ^ 30) (hb : b < 2 ^ 30) : (BitVec.ofNat 32 a - BitVec.ofNat 32 b).toInt = (a : ℤ) - b := by
  rw [BitVec.toInt_sub, BitVec.toInt_ofNat', BitVec.toInt_ofNat']
  simp only [Int.bmod]
  omega

theorem dist_apply (r : Fin 1024) (j : Fin 128) : dist (F := Ideal) (ix2 r j) = (((qr r).val - j.val : ℝ) : EReal) := by
  unfold dist
  pointwise [qi_apply, colw_apply]
  have e := toInt_sub' (qr r).val j.val (by omega) (by omega)
  show (((BitVec.ofNat 32 (qr r).val - BitVec.ofNat 32 j.val).toInt : ℝ) : EReal) = _
  rw [e]; push_cast; rfl

theorem okC_apply (r : Fin 1024) (j : Fin 128) : okC (ix2 r j) = if j.val ≤ (qr r).val then 1#1 else 0#1 := by
  unfold okC
  pointwise [qi_apply, colw_apply]
  rw [WordCmp.cmpi_sge_ofNat (by omega) (by omega)]
  by_cases h : j.val ≤ (qr r).val <;> simp [h]

theorem okP_apply (n : ℕ) (hn : n < 2 ^ 30) (r : Fin 1024) (j : Fin 128) :
    okP (BitVec.ofNat 32 n) (ix2 r j) = if (qr r).val < j.val ∧ 0 < n then 1#1 else 0#1 := by
  unfold okP
  pointwise [qi_apply, colw_apply]
  have e : Scalar.cmpi .sgt (BitVec.ofNat 32 n) 0#32 = BitVec.ofBool (decide (0 < n)) := WordCmp.cmpi_sgt_ofNat (b := 0) (by omega) (by omega)
  rw [WordCmp.cmpi_sgt_ofNat (by omega) (by omega), e]
  by_cases h : (qr r).val < j.val <;> by_cases h' : 0 < n <;> simp [h, h', IntOp.andi]

/-- The head's slope. -/
def slope (h : ℕ) : ℝ := Real.exp (-(Real.log 2 * 4⁻¹) * ((h : ℝ) + 1))

theorem slopes_apply (g : ℕ) (hg : g < 4) (r : Fin 1024) :
    slopes (F := Ideal) ((-(Real.log 2 * 4⁻¹) : ℝ) : EReal) (BitVec.ofNat 32 (8 * g + 1)) (ix2 r 0) = ((slope (8 * g + (hd r).val) : ℝ) : EReal) := by
  unfold slopes
  pointwise [hid_apply]
  have e : (BitVec.ofNat 32 (hd r).val + BitVec.ofNat 32 (8 * g + 1)).toInt = ((8 * g + (hd r).val : ℕ) : ℤ) + 1 := by
    rw [← BitVec.ofNat_add, BitVec.toInt_ofNat']
    simp only [Int.bmod]
    omega
  show Ideal.exp (_ * (((BitVec.ofNat 32 (hd r).val + BitVec.ofNat 32 (8 * g + 1)).toInt : ℝ) : EReal)) = _
  rw [e, ← EReal.coe_mul, Ideal.exp_coe]
  unfold slope
  push_cast
  rfl

theorem sinkCol_apply (s : Fin 8 → EReal) (r : Fin 1024) : sinkCol (F := Ideal) s (ix2 r 0) = s (hd r) := by
  unfold sinkCol
  simp only [sinkAt]
  pointwise [hid_apply]
  generalize hd r = h
  fin_cases h <;> rfl

/-! ## The weights -/

/-- A maximum over numbers below +∞ is below it. -/
theorem fold_max_ne {ι : Type} [DecidableEq ι] (b : EReal) (hb : b ≠ ⊤) (f : ι → EReal) (s : Finset ι) (hf : ∀ i, f i ≠ ⊤) :
    s.fold max b f ≠ ⊤ := by
  induction s using Finset.induction_on with
  | empty => rwa [Finset.fold_empty]
  | insert a s h ih =>
    rw [Finset.fold_insert h]
    rcases max_choice (f a) (s.fold max b f) with e | e <;> rw [e]
    · exact hf a
    · exact ih

section Rows

variable (g n : ℕ) (Q : Fin 8 → Fin 128 → Fin 64 → ℝ) (KC KP VC VP : Fin 128 → Fin 64 → ℝ) (S : Fin 8 → ℝ)

/-- A row's scores against the block's own keys and the block before, -/
def sC (r : Fin 1024) (j : Fin 128) : ℝ := (∑ e, Q (hd r) (qr r) e * KC j e) * (1/8) - slope (8 * g + (hd r).val) * ((qr r).val - j.val)
def sP (r : Fin 1024) (j : Fin 128) : ℝ := (∑ e, Q (hd r) (qr r) e * KP j e) * (1/8) - slope (8 * g + (hd r).val) * ((qr r).val - j.val + 128)
/-- their exponentials where the key is seen, -/
def uC (r : Fin 1024) (j : Fin 128) : ℝ := if j.val ≤ (qr r).val then Real.exp (sC g Q KC r j) else 0
def uP (r : Fin 1024) (j : Fin 128) : ℝ := if (qr r).val < j.val ∧ 0 < n then Real.exp (sP g Q KP r j) else 0
/-- and their sum with the sink's. -/
def Z (r : Fin 1024) : ℝ := (∑ j, uC g Q KC r j) + (∑ j, uP g n Q KP r j) + Real.exp (S (hd r))

theorem uC_nonneg (r : Fin 1024) (j : Fin 128) : 0 ≤ uC g Q KC r j := by
  unfold uC; split
  · exact (Real.exp_pos _).le
  · exact le_rfl
theorem uP_nonneg (r : Fin 1024) (j : Fin 128) : 0 ≤ uP g n Q KP r j := by
  unfold uP; split
  · exact (Real.exp_pos _).le
  · exact le_rfl
theorem Z_pos (r : Fin 1024) : 0 < Z g n Q KC KP S r :=
  add_pos_of_nonneg_of_pos (add_nonneg (Finset.sum_nonneg fun j _ => uC_nonneg g Q KC r j) (Finset.sum_nonneg fun j _ => uP_nonneg g n Q KP r j)) (Real.exp_pos _)

variable (q : Fin 8 → Vec Ideal S128x64 .bf16) (kc kp vc vp : FVec Ideal S128x64 .bf16) (s : Fin 8 → EReal)
  (hg : g < 4) (hn : n < 2 ^ 30)
  (hq : ∀ i p e, q i (ix2 p e) = ((Q i p e : ℝ) : EReal)) (hkc : ∀ p e, kc (ix2 p e) = ((KC p e : ℝ) : EReal)) (hkp : ∀ p e, kp (ix2 p e) = ((KP p e : ℝ) : EReal))
  (hvc : ∀ p e, vc (ix2 p e) = ((VC p e : ℝ) : EReal)) (hvp : ∀ p e, vp (ix2 p e) = ((VP p e : ℝ) : EReal))
  (hs : ∀ i, s i = ((S i : ℝ) : EReal))

/-- The slopes' exponent. -/
abbrev sl : EReal := ((-(Real.log 2 * 4⁻¹) : ℝ) : EReal)
abbrev w1 : BitVec 32 := BitVec.ofNat 32 (8 * g + 1)
abbrev wn : BitVec 32 := BitVec.ofNat 32 n

include hq in
theorem nt_apply (k : FVec Ideal S128x64 .bf16) (K : Fin 128 → Fin 64 → ℝ) (hk : ∀ p e, k (ix2 p e) = ((K p e : ℝ) : EReal)) (r : Fin 1024) (j : Fin 128) :
    nt (cat8 q) k (ix2 r j) = ((∑ e, Q (hd r) (qr r) e * K j e : ℝ) : EReal) := by
  unfold nt
  pointwise [cat8_apply, hq, hk, lit_zero]
  simp only [← EReal.coe_mul, ← coe_sum, ← EReal.coe_add, zero_add]

include hg hq hkc in
theorem scC_apply (r : Fin 1024) (j : Fin 128) : scC (F := Ideal) ⊥ sl (w1 g) q kc (ix2 r j)
    = if j.val ≤ (qr r).val then ((sC g Q KC r j : ℝ) : EReal) else ⊥ := by
  have e := okC_apply r j
  have h1 := nt_apply Q q hq kc KC hkc r j
  have h2 := slopes_apply g hg r
  have h3 := dist_apply r j
  unfold scC
  by_cases h : j.val ≤ (qr r).val
  · rw [if_pos h] at e ⊢
    pointwise [e, h1, h2, h3, lit_eighth]
    simp only [← EReal.coe_mul, ← EReal.coe_sub]; rfl
  · rw [if_neg h] at e ⊢
    pointwise [e]

include hg hn hq hkp in
theorem scP_apply (r : Fin 1024) (j : Fin 128) : scP (F := Ideal) ⊥ sl (w1 g) (wn n) q kp (ix2 r j)
    = if (qr r).val < j.val ∧ 0 < n then ((sP g Q KP r j : ℝ) : EReal) else ⊥ := by
  have e := okP_apply n hn r j
  have h1 := nt_apply Q q hq kp KP hkp r j
  have h2 := slopes_apply g hg r
  have h3 := dist_apply r j
  unfold scP
  by_cases h : (qr r).val < j.val ∧ 0 < n
  · rw [if_pos h] at e ⊢
    pointwise [e, h1, h2, h3, lit_eighth, lit_128]
    simp only [← EReal.coe_mul, ← EReal.coe_add, ← EReal.coe_sub]; rfl
  · rw [if_neg h] at e ⊢
    pointwise [e]

theorem rowMax_ne (x : FVec Ideal S1024x128 .f32) (r : Fin 1024) (hx : ∀ j, x (ix2 r j) ≠ ⊤) : rowMax x (ix2 r 0) ≠ ⊤ := by
  unfold rowMax
  pointwise
  exact fold_max_ne _ (by rw [lit_ninf]; exact bot_ne_top) _ _ hx

include hg hn hq hkc hkp hs in
/-- What is taken off a row's scores is real. -/
theorem mx_real : ∃ M : Fin 1024 → ℝ, ∀ r, mx (F := Ideal) ⊥ sl (w1 g) (wn n) s q kc kp (ix2 r 0) = ((M r : ℝ) : EReal) := by
  suffices h : ∀ r, ∃ a : ℝ, mx (F := Ideal) ⊥ sl (w1 g) (wn n) s q kc kp (ix2 r 0) = (a : EReal) from
    ⟨fun r => (h r).choose, fun r => (h r).choose_spec⟩
  intro r
  have h1 := rowMax_ne (scC (F := Ideal) ⊥ sl (w1 g) q kc) r fun j => by
    rw [scC_apply g Q KC q kc hg hq hkc]; split
    · exact EReal.coe_ne_top _
    · exact bot_ne_top
  have h2 := rowMax_ne (scP (F := Ideal) ⊥ sl (w1 g) (wn n) q kp) r fun j => by
    rw [scP_apply g n Q KP q kp hg hn hq hkp]; split
    · exact EReal.coe_ne_top _
    · exact bot_ne_top
  have h3 : sinkCol (F := Ideal) s (ix2 r 0) = ((S (hd r) : ℝ) : EReal) := (sinkCol_apply s r).trans (hs _)
  unfold mx
  generalize rowMax (scC (F := Ideal) ⊥ sl (w1 g) q kc) = x at h1 ⊢
  generalize rowMax (scP (F := Ideal) ⊥ sl (w1 g) (wn n) q kp) = y at h2 ⊢
  pointwise [h3]
  refine ⟨_, (EReal.coe_toReal ?_ ?_).symm⟩
  · rcases max_choice (max (x (ix2 r 0)) (y (ix2 r 0))) ((S (hd r) : ℝ) : EReal) with e | e <;> rw [e]
    · rcases max_choice (x (ix2 r 0)) (y (ix2 r 0)) with e | e <;> rw [e] <;> assumption
    · exact EReal.coe_ne_top _
  · exact ne_bot_of_le_ne_bot (EReal.coe_ne_bot _) (le_max_right _ _)

include hg hn hq hkc hkp hs in
/-- The weights before they are normed: the exponentials, times one factor for the row. -/
theorem w_real : ∃ c : Fin 1024 → ℝ, (∀ r, 0 < c r)
    ∧ (∀ r j, wC (F := Ideal) ⊥ sl (w1 g) (wn n) s q kc kp (ix2 r j) = ((c r * uC g Q KC r j : ℝ) : EReal))
    ∧ (∀ r j, wP (F := Ideal) ⊥ sl (w1 g) (wn n) s q kc kp (ix2 r j) = ((c r * uP g n Q KP r j : ℝ) : EReal))
    ∧ (∀ r, wS (F := Ideal) ⊥ sl (w1 g) (wn n) s q kc kp (ix2 r 0) = ((c r * Real.exp (S (hd r)) : ℝ) : EReal)) := by
  obtain ⟨M, hM⟩ := mx_real g n Q KC KP S q kc kp s hg hn hq hkc hkp hs
  refine ⟨fun r => Real.exp (-M r), fun r => Real.exp_pos _, fun r j => ?_, fun r j => ?_, fun r => ?_⟩
  · have e := scC_apply g Q KC q kc hg hq hkc r j
    have hm := hM r
    unfold wC
    generalize scC (F := Ideal) ⊥ sl (w1 g) q kc = x at e ⊢
    generalize mx (F := Ideal) ⊥ sl (w1 g) (wn n) s q kc kp = y at hm ⊢
    unfold uC
    pointwise [e, hm]
    split
    · rw [← EReal.coe_sub, Ideal.exp_coe, ← Real.exp_add, neg_add_eq_sub]
    · rw [mul_zero]; rfl
  · have e := scP_apply g n Q KP q kp hg hn hq hkp r j
    have hm := hM r
    unfold wP
    generalize scP (F := Ideal) ⊥ sl (w1 g) (wn n) q kp = x at e ⊢
    generalize mx (F := Ideal) ⊥ sl (w1 g) (wn n) s q kc kp = y at hm ⊢
    unfold uP
    pointwise [e, hm]
    split
    · rw [← EReal.coe_sub, Ideal.exp_coe, ← Real.exp_add, neg_add_eq_sub]
    · rw [mul_zero]; rfl
  · have e : sinkCol (F := Ideal) s (ix2 r 0) = ((S (hd r) : ℝ) : EReal) := (sinkCol_apply s r).trans (hs _)
    have hm := hM r
    unfold wS
    generalize mx (F := Ideal) ⊥ sl (w1 g) (wn n) s q kc kp = y at hm ⊢
    pointwise [e, hm]
    rw [← EReal.coe_sub, Ideal.exp_coe, ← Real.exp_add, neg_add_eq_sub]

theorem rowSum_apply (x : FVec Ideal S1024x128 .f32) (f : Fin 128 → ℝ) (r : Fin 1024) (hx : ∀ j, x (ix2 r j) = ((f j : ℝ) : EReal)) :
    rowSum x (ix2 r 0) = ((∑ j, f j : ℝ) : EReal) := by
  unfold rowSum
  pointwise [hx]
  rw [coe_sum]

theorem den_apply (x y : FVec Ideal S1024x128 .f32) (z : FVec Ideal S1024x1 .f32) (c : Fin 1024 → ℝ)
    (hx : ∀ r j, x (ix2 r j) = ((c r * uC g Q KC r j : ℝ) : EReal)) (hy : ∀ r j, y (ix2 r j) = ((c r * uP g n Q KP r j : ℝ) : EReal))
    (hz : ∀ r, z (ix2 r 0) = ((c r * Real.exp (S (hd r)) : ℝ) : EReal)) (r : Fin 1024) :
    addf (addf (rowSum x) (rowSum y)) z (ix2 r 0) = ((c r * Z g n Q KC KP S r : ℝ) : EReal) := by
  have h1 := rowSum_apply x _ r (hx r)
  have h2 := rowSum_apply y _ r (hy r)
  have h3 := hz r
  pointwise [h1, h2, h3]
  unfold Z
  rw [← EReal.coe_add, ← EReal.coe_add, ← Finset.mul_sum, ← Finset.mul_sum, mul_add, mul_add]

theorem nn_apply (a : FVec Ideal S1024x128 .bf16) (v : FVec Ideal S128x64 .bf16) (f : Fin 128 → ℝ) (V : Fin 128 → Fin 64 → ℝ) (r : Fin 1024)
    (ha : ∀ j, a (ix2 r j) = ((f j : ℝ) : EReal)) (hv : ∀ p e, v (ix2 p e) = ((V p e : ℝ) : EReal)) (e : Fin 64) :
    nn a v (ix2 r e) = ((∑ j, f j * V j e : ℝ) : EReal) := by
  unfold nn
  pointwise [ha, hv, lit_zero]
  simp only [← EReal.coe_mul, ← coe_sum, ← EReal.coe_add, zero_add]

/-! ## The gradients -/

variable (O D : Fin 8 → Fin 128 → Fin 64 → ℝ) (o d : Fin 8 → Vec Ideal S128x64 .bf16)
  (ho : ∀ i p e, o i (ix2 p e) = ((O i p e : ℝ) : EReal)) (hd' : ∀ i p e, d i (ix2 p e) = ((D i p e : ℝ) : EReal))

/-- A row's result against its cotangent. -/
def del (r : Fin 1024) : ℝ := ∑ e, O (hd r) (qr r) e * D (hd r) (qr r) e

include ho hd' in
theorem delta_apply (r : Fin 1024) : delta o d (ix2 r 0) = ((del O D r : ℝ) : EReal) := by
  unfold delta
  pointwise [cat8_apply, ho, hd']
  unfold del
  simp only [← EReal.coe_mul, ← coe_sum]

theorem inv_coe {x : ℝ} (hx : 0 < x) : Ideal.div ((1 : ℝ) : EReal) (x : EReal) = ((x⁻¹ : ℝ) : EReal) := by
  rw [Ideal.div_coe hx.ne', ← EReal.coe_mul, one_mul, one_div]

/-- The weights, -/
def pc (r : Fin 1024) (j : Fin 128) : ℝ := uC g Q KC r j / Z g n Q KC KP S r
def pp (r : Fin 1024) (j : Fin 128) : ℝ := uP g n Q KP r j / Z g n Q KC KP S r
/-- their scores' gradients, -/
def dc (r : Fin 1024) (j : Fin 128) : ℝ := pc g n Q KC KP S r j * ((∑ e, D (hd r) (qr r) e * VC j e) - del O D r)
def dp (r : Fin 1024) (j : Fin 128) : ℝ := pp g n Q KC KP S r j * ((∑ e, D (hd r) (qr r) e * VP j e) - del O D r)
/-- and the sinks'. -/
def dsk (r : Fin 1024) : ℝ := -(Real.exp (S (hd r)) / Z g n Q KC KP S r * del O D r)

include hg hn hq hkc hkp hs in
theorem inv_real : ∃ c : Fin 1024 → ℝ, (∀ r, 0 < c r)
    ∧ (∀ r j, wC (F := Ideal) ⊥ sl (w1 g) (wn n) s q kc kp (ix2 r j) = ((c r * uC g Q KC r j : ℝ) : EReal))
    ∧ (∀ r j, wP (F := Ideal) ⊥ sl (w1 g) (wn n) s q kc kp (ix2 r j) = ((c r * uP g n Q KP r j : ℝ) : EReal))
    ∧ (∀ r, wS (F := Ideal) ⊥ sl (w1 g) (wn n) s q kc kp (ix2 r 0) = ((c r * Real.exp (S (hd r)) : ℝ) : EReal))
    ∧ (∀ r, inv (F := Ideal) ⊥ sl (w1 g) (wn n) s q kc kp (ix2 r 0) = (((c r * Z g n Q KC KP S r)⁻¹ : ℝ) : EReal)) := by
  obtain ⟨c, h0, h1, h2, h3⟩ := w_real g n Q KC KP S q kc kp s hg hn hq hkc hkp hs
  refine ⟨c, h0, h1, h2, h3, fun r => ?_⟩
  have h := den_apply g n Q KC KP S _ _ _ c h1 h2 h3 r
  unfold inv den
  generalize addf (addf (rowSum _) (rowSum _)) (wS (F := Ideal) _ _ _ _ _ _ _ _) = x at h ⊢
  pointwise [h, lit_one]
  exact inv_coe (mul_pos (h0 r) (Z_pos g n Q KC KP S r))

theorem mul_inv_Z {c u z : ℝ} (hc : 0 < c) : c * u * (c * z)⁻¹ = u / z := by
  rw [mul_inv, div_eq_mul_inv, mul_assoc, mul_left_comm u, ← mul_assoc, mul_inv_cancel₀ hc.ne', one_mul]

include hg hn hq hkc hkp hs in
theorem p_apply : (∀ r j, pC (F := Ideal) ⊥ sl (w1 g) (wn n) s q kc kp (ix2 r j) = ((pc g n Q KC KP S r j : ℝ) : EReal))
    ∧ (∀ r j, pP (F := Ideal) ⊥ sl (w1 g) (wn n) s q kc kp (ix2 r j) = ((pp g n Q KC KP S r j : ℝ) : EReal))
    ∧ ∀ r, mulf (wS (F := Ideal) ⊥ sl (w1 g) (wn n) s q kc kp) (inv (F := Ideal) ⊥ sl (w1 g) (wn n) s q kc kp) (ix2 r 0)
      = ((Real.exp (S (hd r)) / Z g n Q KC KP S r : ℝ) : EReal) := by
  obtain ⟨c, h0, h1, h2, h3, h4⟩ := inv_real g n Q KC KP S q kc kp s hg hn hq hkc hkp hs
  refine ⟨fun r j => ?_, fun r j => ?_, fun r => ?_⟩
  · have a := h1 r j
    have b := h4 r
    unfold pC pc
    generalize wC (F := Ideal) _ _ _ _ _ _ _ _ = x at a ⊢
    generalize inv (F := Ideal) _ _ _ _ _ _ _ _ = y at b ⊢
    pointwise [a, b]
    rw [← EReal.coe_mul, mul_inv_Z (h0 r)]
  · have a := h2 r j
    have b := h4 r
    unfold pP pp
    generalize wP (F := Ideal) _ _ _ _ _ _ _ _ = x at a ⊢
    generalize inv (F := Ideal) _ _ _ _ _ _ _ _ = y at b ⊢
    pointwise [a, b]
    rw [← EReal.coe_mul, mul_inv_Z (h0 r)]
  · have a := h3 r
    have b := h4 r
    generalize wS (F := Ideal) _ _ _ _ _ _ _ _ = x at a ⊢
    generalize inv (F := Ideal) _ _ _ _ _ _ _ _ = y at b ⊢
    pointwise [a, b]
    rw [← EReal.coe_mul, mul_inv_Z (h0 r)]

include hg hn hq hkc hkp hs hvc ho hd' in
theorem dC_apply (r : Fin 1024) (j : Fin 128) : dC (F := Ideal) ⊥ sl (w1 g) (wn n) s q kc kp vc o d (ix2 r j)
    = ((dc g n Q KC KP VC S O D r j : ℝ) : EReal) := by
  have a := (p_apply g n Q KC KP S q kc kp s hg hn hq hkc hkp hs).1 r j
  have b := delta_apply O D o d ho hd' r
  have e := nt_apply D d hd' vc VC hvc r j
  unfold dC dc
  generalize pC (F := Ideal) _ _ _ _ _ _ _ _ = x at a ⊢
  pointwise [a, b, e]
  rw [← EReal.coe_sub, ← EReal.coe_mul]

include hg hn hq hkc hkp hs hvp ho hd' in
theorem dP_apply (r : Fin 1024) (j : Fin 128) : dP (F := Ideal) ⊥ sl (w1 g) (wn n) s q kc kp vp o d (ix2 r j)
    = ((dp g n Q KC KP VP S O D r j : ℝ) : EReal) := by
  have a := (p_apply g n Q KC KP S q kc kp s hg hn hq hkc hkp hs).2.1 r j
  have b := delta_apply O D o d ho hd' r
  have e := nt_apply D d hd' vp VP hvp r j
  unfold dP dp
  generalize pP (F := Ideal) _ _ _ _ _ _ _ _ = x at a ⊢
  pointwise [a, b, e]
  rw [← EReal.coe_sub, ← EReal.coe_mul]

include hg hn hq hkc hkp hs ho hd' in
theorem dS_apply (r : Fin 1024) : dS (F := Ideal) ⊥ sl (w1 g) (wn n) s q kc kp o d (ix2 r 0)
    = ((dsk g n Q KC KP S O D r : ℝ) : EReal) := by
  have a := (p_apply g n Q KC KP S q kc kp s hg hn hq hkc hkp hs).2.2 r
  have b := delta_apply O D o d ho hd' r
  unfold dS dsk
  generalize mulf (wS (F := Ideal) _ _ _ _ _ _ _ _) (inv (F := Ideal) _ _ _ _ _ _ _ _) = x at a ⊢
  pointwise [a, b, lit_zero]
  rw [← EReal.coe_sub, ← EReal.coe_mul, zero_sub, neg_mul]

end Rows

end Cert.Proof.Win

end
-- ==== Proof.WinArr.lean ====
/-
  The sliding-window attention's groups over the whole arrays: the rows of queries, keys and values a block and a group
  read, and the result, entry by entry.
-/
module

public import proofs.«01_k».proof.Proof.WinReal

@[expose] public section

set_option maxRecDepth 16384

noncomputable section

namespace Cert.Proof.Win

open Idealize.ShloMosaic Idealize.ShloMosaic.TcCoe
open Cert.Proof.Finite

/-- A matrix read at any pair of numbers, a vector at any number. -/
def at2 {a b : ℕ} (A : (⟨2, ![a, b]⟩ : Shape).Idx → ℝ) (i j : ℕ) : ℝ := if h : i < a ∧ j < b then A (ix2 ⟨i, h.1⟩ ⟨j, h.2⟩) else 0
def at1 {a : ℕ} (A : (⟨1, ![a]⟩ : Shape).Idx → ℝ) (i : ℕ) : ℝ := if h : i < a then A (ix1 ⟨i, h⟩) else 0
theorem at2_of {a b : ℕ} (A : (⟨2, ![a, b]⟩ : Shape).Idx → ℝ) (i : Fin a) (j : Fin b) (i' j' : ℕ) (hi : i.val = i') (hj : j.val = j') :
    A (ix2 i j) = at2 A i' j' := by
  subst hi; subst hj; unfold at2; rw [dif_pos ⟨i.isLt, j.isLt⟩]
theorem at1_of {a : ℕ} (A : (⟨1, ![a]⟩ : Shape).Idx → ℝ) (i : Fin a) (i' : ℕ) (hi : i.val = i') : A (ix1 i) = at1 A i' := by
  subst hi; unfold at1; rw [dif_pos i.isLt]

variable (A : (⟨2, ![4096, 2560]⟩ : Shape).Idx → ℝ) (B : (⟨1, ![32]⟩ : Shape).Idx → ℝ)

/-- Block `n`'s queries of group `g`, head by head, its keys and values, -/
def Qa (n g : ℕ) : Fin 8 → Fin 128 → Fin 64 → ℝ := fun i p e => at2 A (128 * n + p.val) (64 * (8 * g + i.val) + e.val)
def Ka (n g : ℕ) : Fin 128 → Fin 64 → ℝ := fun p e => at2 A (128 * n + p.val) (2048 + 64 * g + e.val)
def Va (n g : ℕ) : Fin 128 → Fin 64 → ℝ := fun p e => at2 A (128 * n + p.val) (2304 + 64 * g + e.val)
/-- and the group's sinks. -/
def Sa (g : ℕ) : Fin 8 → ℝ := fun i => at1 B (8 * g + i.val)

/-- A row's weights before they are normed, and the norm, -/
def ucA (n g : ℕ) (r : Fin 1024) (j : Fin 128) : ℝ := uC g (Qa A n g) (Ka A n g) r j
def upA (n g : ℕ) (r : Fin 1024) (j : Fin 128) : ℝ := uP g n (Qa A n g) (Ka A (n - 1) g) r j
def zA (n g : ℕ) (r : Fin 1024) : ℝ := Z g n (Qa A n g) (Ka A n g) (Ka A (n - 1) g) (Sa B g) r
/-- and its result. -/
def foG (n g : ℕ) (r : Fin 1024) (e : Fin 64) : ℝ :=
  ((∑ j, ucA A n g r j * Va A n g j e) + ∑ j, upA A n g r j * Va A (n - 1) g j e) / zA A B n g r

/-- The attention's result. -/
def foA (p x : ℕ) : ℝ := foG A B (p / 128) (x / 512) (rw8 ⟨x / 64 % 8, by omega⟩ ⟨p % 128, by omega⟩) ⟨x % 64, by omega⟩
def outA : Vec Ideal ⟨2, ![4096, 2048]⟩ .bf16 := fun y => ((foA A B (y 0).val (y 1).val : ℝ) : EReal)

end Cert.Proof.Win

end
-- ==== Proof.WinFwdPieces.lean ====
/-
  What the forward kernel of the sliding-window attention stores at one block: the 32 heads' columns, each cut out of its
  group's result. The groups are the functions of WinGroup at what the group loads.
-/
module

public import proofs.«01_k».proof.Proof.WinGroup
public import proofs.«01_k».proof.Proof.Gen.WinFwdIdeal.Frame

@[expose] public section

set_option maxRecDepth 16384

noncomputable section

namespace Cert.Proof.WinFwd

open Cert.WinFwdIdeal Cert.WinFwdIdeal.Gen
open Idealize.ShloMosaic Idealize.ShloMosaic.TcCoe
open Cert.Proof.Win

variable {F : FTy → Type} [FloatOps F]

/-- A group's result: its weights' rows of values over the norm. -/
def og (ng sl : F .f32) (g1 n : BitVec 32) (s : Fin 8 → Elt F .f32) (q : Fin 8 → Vec F S128x64 .bf16) (kc kp vc vp : FVec F S128x64 .bf16) :
    FVec F S1024x64 .f32 :=
  divf (addf (nn (truncf .bf16 (wC ng sl g1 n s q kc kp) bitsLt_bf16_f32) vc) (nn (truncf .bf16 (wP ng sl g1 n s q kc kp) bitsLt_bf16_f32) vp))
    (broadcastTo S1024x64 (den ng sl g1 n s q kc kp) broadcasts_S1024x1_S1024x64)

theorem inbS (k : ℕ) (h : k < 32) : ∀ a, (![k] : Fin 1 → ℕ) a + (![1] : Fin 1 → ℕ) a ≤ S32.size a := fun a => match a with | 0 => h
theorem inbQ (k : ℕ) (h : k < 32) : ∀ a, (![0, 64 * k] : Fin 2 → ℕ) a + (![128, 64] : Fin 2 → ℕ) a ≤ S128x2048.size a :=
  fun a => match a with | 0 => le_rfl | 1 => (by show 64 * k + 64 ≤ 2048; omega)
theorem inbK (g : ℕ) (h : g < 4) : ∀ a, (![0, 64 * g] : Fin 2 → ℕ) a + (![128, 64] : Fin 2 → ℕ) a ≤ S128x256.size a :=
  fun a => match a with | 0 => le_rfl | 1 => (by show 64 * g + 64 ≤ 256; omega)
/-- The sink of a head, -/
def ldS (arg1 : Memref sig .tc .smem S32 .f32) (h1 : arg1.IsWhole) (x : Vec F S32 .f32) (k : ℕ) (h : k < 32) : Elt F .f32 :=
  View.readAt (Elt F) arg1.view (Rect.unit (s := S32) ![k] ![1] (inbS k h)).toLoadRect (h1.unread x) (Shape.Idx.first (show 0 < (⟨1, ![1]⟩ : Shape).numel from by decide))
/-- a head's queries, -/
def ldQ (arg2 : Memref sig .tc .vmem S128x2048 .bf16) (h2 : arg2.IsWhole) (x : Vec F S128x2048 .bf16) (k : ℕ) (h : k < 32) : Vec F S128x64 .bf16 :=
  View.readAt (Elt F) arg2.view (Rect.unit (s := S128x2048) ![0, 64 * k] ![128, 64] (inbQ k h)).toLoadRect (h2.unread x)
/-- and a group's keys or values. -/
def ldK (arg3 : Memref sig .tc .vmem S128x256 .bf16) (h3 : arg3.IsWhole) (x : Vec F S128x256 .bf16) (g : ℕ) (h : g < 4) : FVec F S128x64 .bf16 :=
  View.readAt (Elt F) arg3.view (Rect.unit (s := S128x256) ![0, 64 * g] ![128, 64] (inbK g h)).toLoadRect (h3.unread x)

section
variable [Named F] (c : Dev nD) (i : grid0.Coords) (arg1 : Memref sig .tc .smem S32 .f32) (harg1 : arg1.IsWhole) (arg2 : Memref sig .tc .vmem S128x2048 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x256 .bf16) (harg5 : arg5.IsWhole) (arg6 : Memref sig .tc .vmem S128x256 .bf16) (harg6 : arg6.IsWhole)
  (arg7 : Memref sig .tc .vmem S128x2048 .bf16) (harg7 : arg7.IsWhole)
  (x0 : Vec F S32 .f32) (x1 : Vec F S128x2048 .bf16) (x2 x3 x4 x5 : Vec F S128x256 .bf16)

/-- Group `g`'s result at the block. -/
def gOut (g : ℕ) (hg : g < 4) : FVec F S1024x64 .f32 :=
  og (Named.named κ "neg" 0xF149F2CA#32) (Named.named κ "slope" 0xBE317218#32) (BitVec.ofNat 32 (8 * g + 1)) (BitVec.ofNat 32 (i 0).val)
    (fun h => ldS arg1 harg1 x0 (8 * g + h.val) (by omega)) (fun h => ldQ arg2 harg2 x1 (8 * g + h.val) (by omega))
    (ldK arg3 harg3 x2 g hg) (ldK arg4 harg4 x3 g hg) (ldK arg5 harg5 x4 g hg) (ldK arg6 harg6 x5 g hg)

/-- What is stored of head `h` of group `g`. -/
def hOut (g : ℕ) (hg : g < 4) (h : ℕ) (hh : h < 8) : Vec F S128x64 .bf16 :=
  truncf .bf16 (extractStridedSlice S128x64 ![128 * h, 0] (gOut i arg1 harg1 arg2 harg2 arg3 harg3 arg4 harg4 arg5 harg5 arg6 harg6 x0 x1 x2 x3 x4 x5 g hg)
    ⟨rfl, fun a => match a with | 0 => (by show 128 * h + 128 ≤ 1024; omega) | 1 => (by show 0 + 64 ≤ 64; omega)⟩) bitsLt_bf16_f32

def hPiece (g : ℕ) (hg : g < 4) (h : ℕ) (hh : h < 8) : View.Piece (Elt F) S128x2048 .bf16 :=
  ⟨Rect.unit ![0, 64 * (8 * g + h)] ![128, 64] (inbQ (8 * g + h) (by omega)),
    hOut i arg1 harg1 arg2 harg2 arg3 harg3 arg4 harg4 arg5 harg5 arg6 harg6 x0 x1 x2 x3 x4 x5 g hg h hh⟩

/-- The first `k` heads' pieces, the last stored first. -/
def hPieces : (k : ℕ) → k ≤ 32 → List (View.Piece (Elt F) S128x2048 .bf16)
  | 0, _ => []
  | k + 1, h => hPiece i arg1 harg1 arg2 harg2 arg3 harg3 arg4 harg4 arg5 harg5 arg6 harg6 x0 x1 x2 x3 x4 x5 (k / 8) (by omega) (k % 8) (by omega)
      :: hPieces k (by omega)

theorem pieces_eq : (kernelRun0_A c i arg1 harg1 arg2 harg2 arg3 harg3 arg4 harg4 arg5 harg5 arg6 harg6 arg7 harg7 x0 x1 x2 x3 x4 x5).1 =
    hPieces i arg1 harg1 arg2 harg2 arg3 harg3 arg4 harg4 arg5 harg5 arg6 harg6 x0 x1 x2 x3 x4 x5 32 le_rfl := by
  unfold kernelRun0_A
  dsimp only
  iterate 32 refine congrArg₂ List.cons rfl ?_
  rfl
end
end Cert.Proof.WinFwd

end
-- ==== Proof.WinFwdValue.lean ====
/-
  The forward kernel of the sliding-window attention over real data: its result is the attention, entry by entry.
-/
module

public import proofs.«01_k».proof.Proof.WinArr
public import proofs.«01_k».proof.Proof.WinFwdPieces
public import proofs.«01_k».proof.Proof.Gen.WinFwdIdeal.Value
public import Idealize.ShloMosaic.Lib.VecWindow

@[expose] public section

set_option maxRecDepth 16384

noncomputable section

namespace Cert.Proof.WinFwd

open Cert.WinFwdIdeal Cert.WinFwdIdeal.Gen
open Idealize.ShloMosaic Idealize.ShloMosaic.TcCoe Idealize.SL.Sem
open Idealize.ShloMosaic.Pipeline (Dat)
open Cert.Proof.Finite Cert.Proof.Win
open Cert.Proof.Rms (up)

section
variable (g n : ℕ) (Q : Fin 8 → Fin 128 → Fin 64 → ℝ) (KC KP VC VP : Fin 128 → Fin 64 → ℝ) (S : Fin 8 → ℝ)
  (q : Fin 8 → Vec Ideal S128x64 .bf16) (kc kp vc vp : FVec Ideal S128x64 .bf16) (s : Fin 8 → EReal)
  (hg : g < 4) (hn : n < 2 ^ 30) (hq : ∀ i p e, q i (ix2 p e) = ((Q i p e : ℝ) : EReal))
  (hkc : ∀ p e, kc (ix2 p e) = ((KC p e : ℝ) : EReal)) (hkp : ∀ p e, kp (ix2 p e) = ((KP p e : ℝ) : EReal))
  (hvc : ∀ p e, vc (ix2 p e) = ((VC p e : ℝ) : EReal)) (hvp : ∀ p e, vp (ix2 p e) = ((VP p e : ℝ) : EReal))
  (hs : ∀ i, s i = ((S i : ℝ) : EReal))

include hg hn hq hkc hkp hvc hvp hs in
theorem og_apply (r : Fin 1024) (e : Fin 64) : og (F := Ideal) ⊥ sl (w1 g) (wn n) s q kc kp vc vp (ix2 r e) =
    ((((∑ j, uC g Q KC r j * VC j e) + ∑ j, uP g n Q KP r j * VP j e) / Z g n Q KC KP S r : ℝ) : EReal) := by
  obtain ⟨c, h0, h1, h2, h3⟩ := w_real g n Q KC KP S q kc kp s hg hn hq hkc hkp hs
  have hz := den_apply g n Q KC KP S _ _ _ c h1 h2 h3 r
  unfold og den
  generalize addf (addf (rowSum _) (rowSum _)) (wS (F := Ideal) _ _ _ _ _ _ _ _) = x at hz ⊢
  generalize wC (F := Ideal) _ _ _ _ _ _ _ _ = a at h1 ⊢
  generalize wP (F := Ideal) _ _ _ _ _ _ _ _ = b at h2 ⊢
  have e1 := nn_apply (truncf .bf16 a bitsLt_bf16_f32) vc _ VC r (fun j => (by pointwise; exact h1 r j)) hvc e
  have e2 := nn_apply (truncf .bf16 b bitsLt_bf16_f32) vp _ VP r (fun j => (by pointwise; exact h2 r j)) hvp e
  pointwise [hz, e1, e2]
  have hzp := Z_pos g n Q KC KP S r
  rw [← EReal.coe_add, Ideal.div_coe (mul_pos (h0 r) hzp).ne', ← EReal.coe_mul]
  refine congrArg Real.toEReal ?_
  simp only [mul_assoc, ← Finset.mul_sum]
  rw [← mul_add]
  have := (h0 r).ne'
  field_simp
end

/-! ## The loads -/

theorem ldS_apply (arg1 : Memref sig .tc .smem S32 .f32) (h1 : arg1.IsWhole) (x : Vec Ideal S32 .f32) (k : ℕ) (h : k < 32) :
    ldS arg1 h1 x k h = x (ix1 ⟨k, h⟩) := by
  unfold ldS
  rw [View.readAt_unit arg1.view (h1.unread x) (inbS k h) rfl (inbS k h), h1.read_unread]
  exact congrArg x (funext fun a => match a with | 0 => rfl)
theorem ldQ_apply (arg2 : Memref sig .tc .vmem S128x2048 .bf16) (h2 : arg2.IsWhole) (x : Vec Ideal S128x2048 .bf16) (k : ℕ) (h : k < 32) (p : Fin 128) (e : Fin 64) :
    ldQ arg2 h2 x k h (ix2 p e) = x (ix2 p ⟨64 * k + e.val, by omega⟩) := by
  unfold ldQ
  rw [View.readAt_unit arg2.view (h2.unread x) (inbQ k h) rfl (inbQ k h), h2.read_unread]
  exact congrArg x (funext fun a => match a with
    | 0 => Fin.ext (by show 0 + 1 * p.val = p.val; omega)
    | 1 => Fin.ext (by show _ + 1 * e.val = _ + e.val; rw [Nat.one_mul]; rfl))
theorem ldK_apply (arg3 : Memref sig .tc .vmem S128x256 .bf16) (h3 : arg3.IsWhole) (x : Vec Ideal S128x256 .bf16) (g : ℕ) (h : g < 4) (p : Fin 128) (e : Fin 64) :
    ldK arg3 h3 x g h (ix2 p e) = x (ix2 p ⟨64 * g + e.val, by omega⟩) := by
  unfold ldK
  rw [View.readAt_unit arg3.view (h3.unread x) (inbK g h) rfl (inbK g h), h3.read_unread]
  exact congrArg x (funext fun a => match a with
    | 0 => Fin.ext (by show 0 + 1 * p.val = p.val; omega)
    | 1 => Fin.ext (by show _ + 1 * e.val = _ + e.val; rw [Nat.one_mul]; rfl))

/-! ## The blocks -/

variable (m : (ℓ : Loc nD τ sig) → Buf (Elt Ideal) ℓ)

theorem idx0 : ∀ t : Fin cfg0.N, win0_0.index t = ![0] := (by decide +kernel : ∀ t : Fin grid0.N, win0_0.index t = ![0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 8] := (by decide +kernel : ∀ t : Fin grid0.N, win0_2.index t = ![t.val, 8])
theorem idx3 : ∀ t : Fin cfg0.N, win0_3.index t = ![t.val - 1, 8] := (by decide +kernel : ∀ t : Fin grid0.N, win0_3.index t = ![t.val - 1, 8])
theorem idx4 : ∀ t : Fin cfg0.N, win0_4.index t = ![t.val, 9] := (by decide +kernel : ∀ t : Fin grid0.N, win0_4.index t = ![t.val, 9])
theorem idx5 : ∀ t : Fin cfg0.N, win0_5.index t = ![t.val - 1, 9] := (by decide +kernel : ∀ t : Fin grid0.N, win0_5.index t = ![t.val - 1, 9])
theorem idx6 : ∀ t : Fin cfg0.N, win0_6.index t = ![t.val, 0] := (by decide +kernel : ∀ t : Fin grid0.N, win0_6.index t = ![t.val, 0])
theorem coord : ∀ t : Fin cfg0.N, (grid0.coords t 0).val = t.val := (by decide +kernel : ∀ t : Fin grid0.N, (grid0.coords t 0).val = t.val)
theorem N_lt (t : Fin cfg0.N) : t.val < 32 := lt_of_lt_of_eq t.isLt N_0

theorem blk0 (c : Dev nD) (t : Fin cfg0.N) (h : Fin 32) :
    (iblk m c 0 t : Vec Ideal S32 .f32) (ix1 h) = m ((c : Thread nD τ).loc main_arg1) (ix1 h) := by
  blk_point [iblk, V, idx0 t]
theorem blk1 (c : Dev nD) (t : Fin cfg0.N) (p : Fin 128) (x : Fin 2048) :
    (X0_1 m c t : Vec Ideal S128x2048 .bf16) (ix2 p x) = m ((c : Thread nD τ).loc main_arg0) (ix2 ⟨128 * t.val + p.val, by have := N_lt t; omega⟩ ⟨x.val, by omega⟩) := by
  unfold X0_1 Pipeline.Window.fill
  rw [dif_pos (moved0_1 t _)]
  blk_point [iblk, V, idx1 t]
theorem blk2 (c : Dev nD) (t : Fin cfg0.N) (p : Fin 128) (x : Fin 256) :
    (iblk m c 2 t : Vec Ideal S128x256 .bf16) (ix2 p x) = m ((c : Thread nD τ).loc main_arg0) (ix2 ⟨128 * t.val + p.val, by have := N_lt t; omega⟩ ⟨2048 + x.val, by omega⟩) := by
  blk_point [iblk, V, idx2 t]
theorem blk3 (c : Dev nD) (t : Fin cfg0.N) (p : Fin 128) (x : Fin 256) :
    (iblk m c 3 t : Vec Ideal S128x256 .bf16) (ix2 p x) = m ((c : Thread nD τ).loc main_arg0) (ix2 ⟨128 * (t.val - 1) + p.val, by have := N_lt t; omega⟩ ⟨2048 + x.val, by omega⟩) := by
  blk_point [iblk, V, idx3 t]
theorem blk4 (c : Dev nD) (t : Fin cfg0.N) (p : Fin 128) (x : Fin 256) :
    (iblk m c 4 t : Vec Ideal S128x256 .bf16) (ix2 p x) = m ((c : Thread nD τ).loc main_arg0) (ix2 ⟨128 * t.val + p.val, by have := N_lt t; omega⟩ ⟨2304 + x.val, by omega⟩) := by
  blk_point [iblk, V, idx4 t]
theorem blk5 (c : Dev nD) (t : Fin cfg0.N) (p : Fin 128) (x : Fin 256) :
    (iblk m c 5 t : Vec Ideal S128x256 .bf16) (ix2 p x) = m ((c : Thread nD τ).loc main_arg0) (ix2 ⟨128 * (t.val - 1) + p.val, by have := N_lt t; omega⟩ ⟨2304 + x.val, by omega⟩) := by
  blk_point [iblk, V, idx5 t]

theorem named_neg : Named.named (F := Ideal) (φ := .f32) κ "neg" 0xF149F2CA#32 = (⊥ : EReal) := rfl
theorem named_slope : Named.named (F := Ideal) (φ := .f32) κ "slope" 0xBE317218#32 = (sl : EReal) := rfl

section Real

variable (A : S4096x2560.Idx → ℝ) (B : S32.Idx → ℝ) (c : Dev nD)
  (h0 : m ((c : Thread nD τ).loc main_arg0) = up A) (h1 : m ((c : Thread nD τ).loc main_arg1) = up B)

include h0 h1 in
theorem gOut_real (t : Fin cfg0.N) (g : ℕ) (hg : g < 4) (arg1 : Memref sig .tc .smem S32 .f32) (harg1 : arg1.IsWhole)
    (arg2 : Memref sig .tc .vmem S128x2048 .bf16) (harg2 : arg2.IsWhole)
    (arg3 : Memref sig .tc .vmem S128x256 .bf16) (harg3 : arg3.IsWhole) (arg4 : Memref sig .tc .vmem S128x256 .bf16) (harg4 : arg4.IsWhole)
    (arg5 : Memref sig .tc .vmem S128x256 .bf16) (harg5 : arg5.IsWhole) (arg6 : Memref sig .tc .vmem S128x256 .bf16) (harg6 : arg6.IsWhole)
    (r : Fin 1024) (e : Fin 64) :
    gOut (grid0.coords t) arg1 harg1 arg2 harg2 arg3 harg3 arg4 harg4 arg5 harg5 arg6 harg6
      (iblk m c 0 t) (X0_1 m c t) (iblk m c 2 t) (iblk m c 3 t) (iblk m c 4 t) (iblk m c 5 t) g hg (ix2 r e) = ((foG A B t.val g r e : ℝ) : EReal) := by
  unfold gOut foG ucA upA zA
  rw [named_neg, named_slope, coord t]
  refine og_apply g t.val (Qa A t.val g) (Ka A t.val g) (Ka A (t.val - 1) g) (Va A t.val g) (Va A (t.val - 1) g) (Sa B g) _ _ _ _ _ _ hg
    (by have := N_lt t; omega) ?_ ?_ ?_ ?_ ?_ ?_ r e
  · intro i p e
    rw [ldQ_apply, blk1, h0]
    exact congrArg Real.toEReal (at2_of A _ _ _ _ rfl rfl)
  · intro p e
    rw [ldK_apply, blk2, h0]
    exact congrArg Real.toEReal (at2_of A _ _ _ _ rfl (Nat.add_assoc _ _ _).symm)
  · intro p e
    rw [ldK_apply, blk3, h0]
    exact congrArg Real.toEReal (at2_of A _ _ _ _ rfl (Nat.add_assoc _ _ _).symm)
  · intro p e
    rw [ldK_apply, blk4, h0]
    exact congrArg Real.toEReal (at2_of A _ _ _ _ rfl (Nat.add_assoc _ _ _).symm)
  · intro p e
    rw [ldK_apply, blk5, h0]
    exact congrArg Real.toEReal (at2_of A _ _ _ _ rfl (Nat.add_assoc _ _ _).symm)
  · intro i
    rw [ldS_apply, blk0, h1]
    exact congrArg Real.toEReal (at1_of B _ _ rfl)

include h0 h1 in
theorem piece_real (t : Fin cfg0.N) (arg1 : Memref sig .tc .smem S32 .f32) (harg1 : arg1.IsWhole)
    (arg2 : Memref sig .tc .vmem S128x2048 .bf16) (harg2 : arg2.IsWhole)
    (arg3 : Memref sig .tc .vmem S128x256 .bf16) (harg3 : arg3.IsWhole) (arg4 : Memref sig .tc .vmem S128x256 .bf16) (harg4 : arg4.IsWhole)
    (arg5 : Memref sig .tc .vmem S128x256 .bf16) (harg5 : arg5.IsWhole) (arg6 : Memref sig .tc .vmem S128x256 .bf16) (harg6 : arg6.IsWhole) :
    ∀ (k : ℕ) (hk : k ≤ 32), ∀ pc ∈ hPieces (grid0.coords t) arg1 harg1 arg2 harg2 arg3 harg3 arg4 harg4 arg5 harg5 arg6 harg6
      (iblk m c 0 t) (X0_1 m c t) (iblk m c 2 t) (iblk m c 3 t) (iblk m c 4 t) (iblk m c 5 t) k hk, ∀ x : pc.1.shape.Idx,
      pc.2 x = (fun y : S128x2048.Idx => ((foA A B (128 * t.val + (y 0).val) (y 1).val : ℝ) : EReal)) (pc.1.emb x) := by
  intro k
  induction k with
  | zero => intro hk pc h; exact absurd h List.not_mem_nil
  | succ k ih =>
    intro hk pc h x
    rcases List.mem_cons.mp h with rfl | h
    · revert x
      unfold hPiece
      dsimp only
      intro (x : S128x64.Idx)
      idx_vars x
      unfold hOut
      pointwise [gOut_real m A B c h0 h1 t]
      show _ = ((foA A B (128 * t.val + (0 + 1 * x0.val)) (64 * (8 * (k / 8) + k % 8) + 1 * x1.val) : ℝ) : EReal)
      rw [show 0 + 1 * x0.val = x0.val by omega, show 64 * (8 * (k / 8) + k % 8) + 1 * x1.val = 64 * k + x1.val by omega]
      unfold foA
      have a1 : (128 * t.val + x0.val) / 128 = t.val := by omega
      have a2 : (64 * k + x1.val) / 512 = k / 8 := by omega
      have a3 : (64 * k + x1.val) / 64 % 8 = k % 8 := by omega
      have a4 : (128 * t.val + x0.val) % 128 = x0.val := by omega
      have a5 : (64 * k + x1.val) % 64 = x1.val := by omega
      simp only [a1, a2, a3, a4, a5]
      rfl
    · exact ih (by omega) pc h x

include h0 h1 in
theorem final6 : (dats m 0 c).arrAt 6 cfg0.N = outA A B := by
  refine (dats m 0 c).arrAt_eq_of_covers 6 _ (by decide +kernel) fun t hf y => ?_
  blk_simp
  rw [after0_6]
  idx_vars y
  have he : ((View.whole main_v0).slice (win0_6.rect t)).emb (ix2 y0 y1) = ix2 ⟨128 * t.val + y0.val, by have := N_lt t; omega⟩ y1 := by
    blk_ext [idx6 t]
  rw [he]
  unfold outsAt0 out0_A_6
  refine (View.read_writes_apply_of_pieces (Val := Elt Ideal) VO0_6 _ (fun y : S128x2048.Idx => ((foA A B (128 * t.val + (y 0).val) (y 1).val : ℝ) : EReal)) _ ?_ (ix2 y0 y1)
    (cover0_A_6 ..)).trans rfl
  rw [pieces_eq]
  exact piece_real m A B c h0 h1 t _ _ _ _ _ _ _ _ _ _ _ _ 32 le_rfl
end Real

end Cert.Proof.WinFwd

end
-- ==== Proof.WinFwdRef.lean ====
/-
  The sliding-window attention's reference, line by line: the window of keys and values, the scores and their mask, the
  softmax with its sink, and the result, which is the kernel's.
-/
module

public import proofs.«01_k».proof.Defs
public import proofs.«01_k».proof.Proof.WinFwdValue
public import proofs.«01_k».proof.Proof.Gen.WinFwdRefIdeal.Run
public import proofs.«01_k».proof.Proof.Gen.WinFwdRefIdeal.Read
public import Idealize.ShloMosaic.Lib.WordCmp

@[expose] public section

set_option maxRecDepth 16384

noncomputable section

namespace Cert.Proof.WinFwdRef

open Cert.WinFwdRefIdeal Cert.WinFwdRefIdeal.Gen Cert.WinFwdRefIdeal.Read
open Idealize.ShloMosaic Idealize.ShloMosaic.TcCoe
open Cert.Proof.Finite
open Cert.Proof.Rms (up)
open Cert.Proof.Win

theorem ext1 {a : ℕ} (i : (⟨1, ![a]⟩ : Shape).Idx) (x : Fin a) (h0 : i 0 = x) : i = ix1 x := by
  subst h0; funext k; match k with | 0 => rfl
theorem ext2 {a b : ℕ} (i : (⟨2, ![a, b]⟩ : Shape).Idx) (x : Fin a) (y : Fin b) (h0 : i 0 = x) (h1 : i 1 = y) : i = ix2 x y := by
  subst h0 h1; funext k; match k with | 0 => rfl | 1 => rfl
theorem ext3 {a b c : ℕ} (i : (⟨3, ![a, b, c]⟩ : Shape).Idx) (x : Fin a) (y : Fin b) (z : Fin c) (h0 : i 0 = x) (h1 : i 1 = y) (h2 : i 2 = z) : i = ix3 x y z := by
  subst h0 h1 h2; funext k; match k with | 0 => rfl | 1 => rfl | 2 => rfl
theorem ext4 {a b c d : ℕ} (i : (⟨4, ![a, b, c, d]⟩ : Shape).Idx) (x : Fin a) (y : Fin b) (z : Fin c) (w : Fin d) (h0 : i 0 = x) (h1 : i 1 = y)
    (h2 : i 2 = z) (h3 : i 3 = w) : i = ix4 x y z w := by
  subst h0 h1 h2 h3; funext k; match k with | 0 => rfl | 1 => rfl | 2 => rfl | 3 => rfl
theorem ext5 {a b c d e : ℕ} (i : (⟨5, ![a, b, c, d, e]⟩ : Shape).Idx) (x : Fin a) (y : Fin b) (z : Fin c) (w : Fin d) (v : Fin e)
    (h0 : i 0 = x) (h1 : i 1 = y) (h2 : i 2 = z) (h3 : i 3 = w) (h4 : i 4 = v) : i = ix5 x y z w v := by
  subst h0 h1 h2 h3 h4; funext k; match k with | 0 => rfl | 1 => rfl | 2 => rfl | 3 => rfl | 4 => rfl

/-- The window's positions: the block before, then the block itself. -/
def lo (j : Fin 128) : Fin 256 := ⟨j.val, by omega⟩
def hi (j : Fin 128) : Fin 256 := ⟨128 + j.val, by omega⟩
theorem window {P : Fin 256 → Prop} (h0 : ∀ j, P (lo j)) (h1 : ∀ j, P (hi j)) (w : Fin 256) : P w := by
  by_cases h : w.val < 128
  · exact h0 ⟨w.val, h⟩
  · have e : w = hi ⟨w.val - 128, by omega⟩ := Fin.ext (by show w.val = 128 + (w.val - 128); omega)
    rw [e]; exact h1 _
theorem sum_window {M : Type} [AddCommMonoid M] (f : Fin 256 → M) : ∑ w, f w = (∑ j, f (lo j)) + ∑ j, f (hi j) :=
  Fin.sum_univ_add (a := 128) (b := 128) f

variable (A : (⟨2, ![4096, 2560]⟩ : Shape).Idx → ℝ) (B : (⟨1, ![32]⟩ : Shape).Idx → ℝ)
variable (b : Fin 32) (g : Fin 4) (h : Fin 8) (p : Fin 128)

/-! ## The window -/

theorem v4_at (e : Fin 64) : val_main_v4 (F := Ideal) (up A) (ix5 b p g h e) = ((Qa A b.val g.val h p e : ℝ) : EReal) := by
  rw [val_main_v4_apply, val_main_v3_apply, val_main_v0_apply]
  refine (congrArg (fun i => ((A i : ℝ) : EReal)) (ext2 _ ⟨128 * b.val + p.val, by omega⟩ ⟨64 * (8 * g.val + h.val) + e.val, by omega⟩ (Fin.ext ?_) (Fin.ext ?_))).trans
    (congrArg Real.toEReal (at2_of A _ _ _ _ rfl rfl))
  · show ((((b.val * 128 + p.val) * 4 + g.val) * 8 + h.val) * 64 + e.val) / 2048 = 128 * b.val + p.val; omega
  · show ((((b.val * 128 + p.val) * 4 + g.val) * 8 + h.val) * 64 + e.val) % 2048 = 64 * (8 * g.val + h.val) + e.val; omega

theorem v6_at (e : Fin 64) : val_main_v6 (F := Ideal) (up A) (ix4 b p g e) = ((Ka A b.val g.val p e : ℝ) : EReal) := by
  rw [val_main_v6_apply, val_main_v5_apply, val_main_v1_apply]
  refine (congrArg (fun i => ((A i : ℝ) : EReal)) (ext2 _ ⟨128 * b.val + p.val, by omega⟩ ⟨2048 + 64 * g.val + e.val, by omega⟩ (Fin.ext ?_) (Fin.ext ?_))).trans
    (congrArg Real.toEReal (at2_of A _ _ _ _ rfl rfl))
  · show (((b.val * 128 + p.val) * 4 + g.val) * 64 + e.val) / 256 = 128 * b.val + p.val; omega
  · show 2048 + (((b.val * 128 + p.val) * 4 + g.val) * 64 + e.val) % 256 = 2048 + 64 * g.val + e.val; omega

theorem v8_at (e : Fin 64) : val_main_v8 (F := Ideal) (up A) (ix4 b p g e) = ((Va A b.val g.val p e : ℝ) : EReal) := by
  rw [val_main_v8_apply, val_main_v7_apply, val_main_v2_apply]
  refine (congrArg (fun i => ((A i : ℝ) : EReal)) (ext2 _ ⟨128 * b.val + p.val, by omega⟩ ⟨2304 + 64 * g.val + e.val, by omega⟩ (Fin.ext ?_) (Fin.ext ?_))).trans
    (congrArg Real.toEReal (at2_of A _ _ _ _ rfl rfl))
  · show (((b.val * 128 + p.val) * 4 + g.val) * 64 + e.val) / 256 = 128 * b.val + p.val; omega
  · show 2304 + (((b.val * 128 + p.val) * 4 + g.val) * 64 + e.val) % 256 = 2304 + 64 * g.val + e.val; omega

/-- A block before and the block itself, joined: below, zero where there is no block before, -/
theorem join_lo (z : S1x128x4x64.Idx → EReal) (x : S31x128x4x64.Idx → EReal) (y : S32x128x4x64.Idx → EReal) (hz : ∀ i, z i = 0)
    (hx : ∀ i : S31x128x4x64.Idx, x i = y (ix4 ⟨(i 0).val, Nat.lt_trans (i 0).isLt (by decide)⟩ (i 1) (i 2) (i 3)))
    (h1 : Shape.Concatenates [S1x128x4x64, S31x128x4x64] S32x128x4x64 0) (h2 : Shape.Concatenates [S32x128x4x64, S32x128x4x64] S32x256x4x64 1)
    (j : Fin 128) (e : Fin 64) :
    concatenate S32x256x4x64 1 [⟨S32x128x4x64, concatenate S32x128x4x64 0 [⟨S1x128x4x64, z⟩, ⟨S31x128x4x64, x⟩] h1⟩, ⟨S32x128x4x64, y⟩] h2 (ix4 b (lo j) g e)
      = if 0 < b.val then y (ix4 ⟨b.val - 1, by omega⟩ j g e) else 0 := by
  rw [concatenate_pair_apply_left (1 : Fin S32x256x4x64.rank) (s₁ := S32x128x4x64) (s₂ := S32x128x4x64) _ _ h2 (ix4 b (lo j) g e) rfl (ix4 b j g e)
    (fun k => match k with | 0 => rfl | 1 => rfl | 2 => rfl | 3 => rfl)]
  by_cases hb : 0 < b.val
  · rw [if_pos hb, concatenate_pair_apply_right (0 : Fin S32x128x4x64.rank) (s₁ := S1x128x4x64) (s₂ := S31x128x4x64) _ _ h1 (ix4 b j g e) rfl rfl
      (ix4 ⟨b.val - 1, by omega⟩ j g e) (fun k => match k with | 0 => fun hk => absurd rfl hk | 1 => fun _ => rfl | 2 => fun _ => rfl | 3 => fun _ => rfl)
      (show b.val - 1 + 1 = b.val by omega), hx]
    rfl
  · rw [if_neg hb, concatenate_pair_apply_left (0 : Fin S32x128x4x64.rank) (s₁ := S1x128x4x64) (s₂ := S31x128x4x64) _ _ h1 (ix4 b j g e) rfl
      (ix4 0 j g e) (fun k => match k with | 0 => (show (0 : ℕ) = b.val by omega) | 1 => rfl | 2 => rfl | 3 => rfl), hz]

/-- and above. -/
theorem join_hi (x y : S32x128x4x64.Idx → EReal) (h2 : Shape.Concatenates [S32x128x4x64, S32x128x4x64] S32x256x4x64 1) (j : Fin 128) (e : Fin 64) :
    concatenate S32x256x4x64 1 [⟨S32x128x4x64, x⟩, ⟨S32x128x4x64, y⟩] h2 (ix4 b (hi j) g e) = y (ix4 b j g e) :=
  concatenate_pair_apply_right (1 : Fin S32x256x4x64.rank) (s₁ := S32x128x4x64) (s₂ := S32x128x4x64) _ _ h2 (ix4 b (hi j) g e) rfl rfl (ix4 b j g e)
    (fun k => match k with | 0 => fun _ => rfl | 1 => fun hk => absurd rfl hk | 2 => fun _ => rfl | 3 => fun _ => rfl) (show j.val + 128 = 128 + j.val by omega)

theorem zeros_at (i : S1x128x4x64.Idx) : val_main_v9 (F := Ideal) i = 0 := by
  rw [val_main_v9_apply]; exact lit_zero.trans EReal.coe_zero

/-- The block before, or zero. -/
def before (f : ℕ → ℝ) (n : ℕ) : ℝ := if 0 < n then f (n - 1) else 0

theorem before_coe (f : ℕ → ℝ) (x : EReal) (hx : 0 < b.val → x = ((f (b.val - 1) : ℝ) : EReal)) : (if 0 < b.val then x else 0) = ((before f b.val : ℝ) : EReal) := by
  unfold before; by_cases hb : 0 < b.val
  · rw [if_pos hb, if_pos hb, hx hb]
  · rw [if_neg hb, if_neg hb, EReal.coe_zero]

theorem v12_lo (j : Fin 128) (e : Fin 64) :
    val_main_v12 (F := Ideal) (up A) (ix4 b (lo j) g e) = ((before (fun n => Ka A n g.val j e) b.val : ℝ) : EReal) :=
  (join_lo b g _ (val_main_v10 (F := Ideal) (up A)) _ zeros_at (fun i => (val_main_v10_apply _ i).trans (congrArg _ (ext4 _ _ _ _ _ rfl rfl rfl rfl))) _ _ j e).trans
    (before_coe b _ _ fun hb => v6_at A ⟨b.val - 1, by omega⟩ g j e)
theorem v12_hi (j : Fin 128) (e : Fin 64) : val_main_v12 (F := Ideal) (up A) (ix4 b (hi j) g e) = ((Ka A b.val g.val j e : ℝ) : EReal) :=
  (join_hi b g _ _ _ j e).trans (v6_at A b g j e)
theorem v15_lo (j : Fin 128) (e : Fin 64) :
    val_main_v15 (F := Ideal) (up A) (ix4 b (lo j) g e) = ((before (fun n => Va A n g.val j e) b.val : ℝ) : EReal) :=
  (join_lo b g _ (val_main_v13 (F := Ideal) (up A)) _ zeros_at (fun i => (val_main_v13_apply _ i).trans (congrArg _ (ext4 _ _ _ _ _ rfl rfl rfl rfl))) _ _ j e).trans
    (before_coe b _ _ fun hb => v8_at A ⟨b.val - 1, by omega⟩ g j e)
theorem v15_hi (j : Fin 128) (e : Fin 64) : val_main_v15 (F := Ideal) (up A) (ix4 b (hi j) g e) = ((Va A b.val g.val j e : ℝ) : EReal) :=
  (join_hi b g _ _ _ j e).trans (v8_at A b g j e)

/-! ## The scores and their mask -/

/-- A position's distance from the query, and its key's place in the whole sequence, as words. -/
theorem v28_at (w : Fin 256) : val_main_v28 (F := Ideal) (ix2 p w) = BitVec.ofNat 32 (p.val + 128) - BitVec.ofNat 32 w.val := by
  rw [val_main_v28_apply, val_main_v26_apply, val_main_v27_apply, val_main_v23_apply, val_main_v21_apply, val_main_v20_apply, val_main_v22_apply,
    val_main_v25_apply, val_main_v24_apply, BitVec.ofNat_add]
  rfl
theorem v39_at (w : Fin 256) : val_main_v39 (F := Ideal) (ix2 b w) = (BitVec.ofNat 32 b.val - 1#32) * 128#32 + BitVec.ofNat 32 w.val := by
  rw [val_main_v39_apply, val_main_v37_apply, val_main_v38_apply, val_main_v34_apply, val_main_v32_apply, val_main_v30_apply, val_main_v29_apply, val_main_v31_apply,
    val_main_v33_apply, val_main_v36_apply, val_main_v35_apply]
  rfl

theorem toInt_key (n w : ℕ) (hn : n < 32) (hw : w < 256) : ((BitVec.ofNat 32 n - 1#32) * 128#32 + BitVec.ofNat 32 w).toInt = ((n : ℤ) - 1) * 128 + w := by
  have e0 : ∀ k : ℕ, k < 256 → (BitVec.ofNat 32 k).toInt = k := fun k hk => by
    rw [BitVec.toInt_ofNat']; simp only [Int.bmod]; omega
  rw [BitVec.toInt_add, BitVec.toInt_mul, BitVec.toInt_sub, e0 n (by omega), e0 w hw, e0 1 (by omega), e0 128 (by omega)]
  simp only [Int.bmod]
  omega

/-- Three tests, all of which must hold. -/
theorem and3 (a b c : Prop) [Decidable a] [Decidable b] [Decidable c] :
    IntOp.andi (IntOp.andi (BitVec.ofBool (decide a)) (BitVec.ofBool (decide b))) (BitVec.ofBool (decide c)) = if a ∧ b ∧ c then 1#1 else 0#1 := by
  by_cases h1 : a <;> by_cases h2 : b <;> by_cases h3 : c <;> simp [h1, h2, h3, IntOp.andi]

/-- The mask: a position is seen where it isn't after the query, is near it and lies in the sequence. -/
theorem v51_at (w : Fin 256) : val_main_v51 (F := Ideal) (ix3 b p w)
    = if w.val ≤ p.val + 128 ∧ p.val < w.val ∧ (128 ≤ w.val ∨ 0 < b.val) then 1#1 else 0#1 := by
  rw [val_main_v51_apply, val_main_v49_apply, val_main_v45_apply, val_main_v44_apply, val_main_v41_apply, val_main_v43_apply,
    val_main_v50_apply, val_main_v48_apply, val_main_v47_apply]
  have e1 := (v28_at p w)
  have e2 := (v39_at b w)
  have t1 := toInt_sub' (p.val + 128) w.val (by omega) (by omega)
  have t2 := toInt_key b.val w.val b.isLt w.isLt
  rw [← e1] at t1; rw [← e2] at t2
  have c1 : val_main_v28 (F := Ideal) (idx_main_v45 (idx_main_v49 (ix3 b p w))) = val_main_v28 (F := Ideal) (ix2 p w) := congrArg _ (ext2 _ _ _ rfl rfl)
  have c2 : val_main_v39 (F := Ideal) (idx_main_v48 (idx_main_v50 (ix3 b p w))) = val_main_v39 (F := Ideal) (ix2 b w) := congrArg _ (ext2 _ _ _ rfl rfl)
  rw [c1, c2]
  generalize val_main_v28 (F := Ideal) (ix2 p w) = x at t1
  generalize val_main_v39 (F := Ideal) (ix2 b w) = y at t2
  have z1 : IntOp.cmpi .sge x (val_main_v40 (F := Ideal) (idx_main_v45 (idx_main_v49 (ix3 b p w)))) = BitVec.ofBool (decide (w.val ≤ p.val + 128)) := by
    rw [val_main_v40_apply]
    refine congrArg BitVec.ofBool (decide_eq_decide.mpr ?_)
    show (0#32).toInt ≤ x.toInt ↔ _
    rw [t1]; show (0 : ℤ) ≤ _ ↔ _; omega
  have z2 : IntOp.cmpi .slt x (val_main_v42 (F := Ideal) (idx_main_v45 (idx_main_v49 (ix3 b p w)))) = BitVec.ofBool (decide (p.val < w.val)) := by
    rw [val_main_v42_apply]
    refine congrArg BitVec.ofBool (decide_eq_decide.mpr ?_)
    show x.toInt < (128#32).toInt ↔ _
    rw [t1]; show _ < (128 : ℤ) ↔ _; omega
  have z3 : IntOp.cmpi .sge y (val_main_v46 (F := Ideal) (idx_main_v48 (idx_main_v50 (ix3 b p w)))) = BitVec.ofBool (decide (128 ≤ w.val ∨ 0 < b.val)) := by
    rw [val_main_v46_apply]
    refine congrArg BitVec.ofBool (decide_eq_decide.mpr ?_)
    show (0#32).toInt ≤ y.toInt ↔ _
    rw [t2]; show (0 : ℤ) ≤ _ ↔ _; omega
  rw [z1, z2, z3]
  exact and3 _ _ _

theorem lit_m8 : Ideal.ofBits .f32 0xC1000000#32 = ((-8 : ℝ) : EReal) := by
  simp [Ideal.ofBits, Ideal.ieee, -EReal.coe_mul]; norm_num
theorem lit_32 : Ideal.ofBits .f32 0x42000000#32 = ((32 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num

/-- A head's slope. -/
theorem v60_at (i : S32.Idx) : val_main_v60 (F := Ideal) i = ((Win.slope (i 0).val : ℝ) : EReal) := by
  rw [val_main_v60_apply, val_main_v59_apply, val_main_v58_apply, val_main_v56_apply, val_main_v55_apply, val_main_v54_apply, val_main_v53_apply, val_main_v57_apply]
  have e : val_main_v52 (F := Ideal) i = (((i 0).val : ℝ) : EReal) := by
    show (((BitVec.ofNat 32 (i 0).val).toInt : ℝ) : EReal) = _
    have hi : (i 0).val < 32 := (i 0).isLt
    have : (BitVec.ofNat 32 (i 0).val).toInt = ((i 0).val : ℤ) := by
      rw [BitVec.toInt_ofNat']; simp only [Int.bmod]; omega
    rw [this]; rfl
  rw [e]
  show Ideal.pow (Ideal.ofBits .f32 0x40000000#32) (Ideal.div (Ideal.ofBits .f32 0xC1000000#32 * (_ + Ideal.ofBits .f32 0x3F800000#32)) (Ideal.ofBits .f32 0x42000000#32)) = _
  rw [lit_2, lit_m8, lit_32, lit_one, Ideal.div_coe (by norm_num), ← EReal.coe_add, ← EReal.coe_mul, ← EReal.coe_mul]
  refine congrArg Real.toEReal (?_ : Real.rpow 2 _ = _)
  refine (Real.rpow_def_of_pos (by norm_num) _).trans ?_
  unfold Win.slope
  congr 1; ring

theorem v69_at (w : Fin 256) (K : Fin 64 → ℝ) (hK : ∀ e, val_main_v12 (F := Ideal) (up A) (ix4 b w g e) = ((K e : ℝ) : EReal)) :
    val_main_v69 (F := Ideal) (up A) (ix5 b g h p w)
      = (((∑ e, Qa A b.val g.val h p e * K e) * (1/8) - Win.slope (8 * g.val + h.val) * (p.val + 128 - w.val) : ℝ) : EReal) := by
  rw [val_main_v69_apply, val_main_v19_apply, val_main_v17_apply, val_main_v16_apply, val_main_v18_apply, val_main_v68_apply, val_main_v67_apply,
    val_main_v65_apply, val_main_v62_apply, val_main_v61_apply, v60_at, val_main_v66_apply, val_main_v64_apply, val_main_v63_apply]
  have e : ∀ k : Fin 64, val_main_v12 (F := Ideal) (up A) (lidx_main_v16 (idx_main_v17 (ix5 b g h p w)) k) * val_main_v4 (F := Ideal) (up A) (ridx_main_v16 (idx_main_v17 (ix5 b g h p w)) k)
      = ((Qa A b.val g.val h p k * K k : ℝ) : EReal) := fun k => by
    rw [ext4 (lidx_main_v16 (idx_main_v17 (ix5 b g h p w)) k) b w g k rfl rfl rfl rfl, ext5 (ridx_main_v16 (idx_main_v17 (ix5 b g h p w)) k) b p g h k rfl rfl rfl rfl rfl,
      hK, v4_at, ← EReal.coe_mul, mul_comm]
  rw [Finset.sum_congr rfl fun k _ => e k, ← coe_sum]
  have c1 : val_main_v28 (F := Ideal) (idx_main_v64 (idx_main_v66 (idx_main_v68 (ix5 b g h p w)))) = _ := (congrArg _ (ext2 _ p w rfl rfl)).trans (v28_at p w)
  rw [c1]
  show (_ * Ideal.ofBits .f32 0x3E000000#32) - ((Win.slope (g.val * 8 + h.val) : ℝ) : EReal) * ((((BitVec.ofNat 32 (p.val + 128) - BitVec.ofNat 32 w.val).toInt : ℝ)) : EReal) = _
  rw [toInt_sub' (p.val + 128) w.val (by omega) (by omega), lit_eighth, mul_comm g.val 8]
  push_cast
  rfl

/-- The masked scores. -/
theorem v71_at (w : Fin 256) (K : Fin 64 → ℝ) (hK : ∀ e, val_main_v12 (F := Ideal) (up A) (ix4 b w g e) = ((K e : ℝ) : EReal)) :
    val_main_v71 (F := Ideal) (up A) (ix5 b g h p w)
      = if w.val ≤ p.val + 128 ∧ p.val < w.val ∧ (128 ≤ w.val ∨ 0 < b.val) then
          (((∑ e, Qa A b.val g.val h p e * K e) * (1/8) - Win.slope (8 * g.val + h.val) * (p.val + 128 - w.val) : ℝ) : EReal) else ⊥ := by
  rw [val_main_v71_apply, v69_at A b g h p w K hK, val_main_call0_v1_apply, val_main_v70_apply, val_main_call0_v2_apply]
  have c1 : val_main_v51 (F := Ideal) (idx_main_v70 (idx_main_call0_v1 (ix5 b g h p w))) = _ := (congrArg _ (ext3 _ b p w rfl rfl rfl)).trans (v51_at b p w)
  rw [c1]
  by_cases k : w.val ≤ p.val + 128 ∧ p.val < w.val ∧ (128 ≤ w.val ∨ 0 < b.val)
  · rw [if_pos k, if_pos k]; rfl
  · rw [if_neg k, if_neg k]; exact lit_ninf

theorem v71_lo (j : Fin 128) : val_main_v71 (F := Ideal) (up A) (ix5 b g h p (lo j))
    = if p.val < j.val ∧ 0 < b.val then ((sP g.val (Qa A b.val g.val) (Ka A (b.val - 1) g.val) (rw8 h p) j : ℝ) : EReal) else ⊥ := by
  rw [v71_at A b g h p (lo j) _ (v12_lo A b g j)]
  by_cases k : p.val < j.val ∧ 0 < b.val
  · rw [if_pos k, if_pos (show ((lo j).val ≤ p.val + 128 ∧ p.val < (lo j).val ∧ (128 ≤ (lo j).val ∨ 0 < b.val)) from by show j.val ≤ p.val + 128 ∧ p.val < j.val ∧ (128 ≤ j.val ∨ 0 < b.val); omega)]
    unfold sP
    rw [hd_rw, qr_rw]
    simp only [before, if_pos k.2]
    refine congrArg Real.toEReal ?_
    show _ - _ * ((p.val : ℝ) + 128 - (j.val : ℝ)) = _
    ring
  · rw [if_neg k, if_neg (show ¬ ((lo j).val ≤ p.val + 128 ∧ p.val < (lo j).val ∧ (128 ≤ (lo j).val ∨ 0 < b.val)) from by show ¬ (j.val ≤ p.val + 128 ∧ p.val < j.val ∧ (128 ≤ j.val ∨ 0 < b.val)); omega)]

theorem v71_hi (j : Fin 128) : val_main_v71 (F := Ideal) (up A) (ix5 b g h p (hi j))
    = if j.val ≤ p.val then ((sC g.val (Qa A b.val g.val) (Ka A b.val g.val) (rw8 h p) j : ℝ) : EReal) else ⊥ := by
  rw [v71_at A b g h p (hi j) _ (v12_hi A b g j)]
  by_cases k : j.val ≤ p.val
  · rw [if_pos k, if_pos (show ((hi j).val ≤ p.val + 128 ∧ p.val < (hi j).val ∧ (128 ≤ (hi j).val ∨ 0 < b.val)) from by show 128 + j.val ≤ p.val + 128 ∧ p.val < 128 + j.val ∧ (128 ≤ 128 + j.val ∨ 0 < b.val); omega)]
    unfold sC
    rw [hd_rw, qr_rw]
    refine congrArg Real.toEReal ?_
    show _ - _ * ((p.val : ℝ) + 128 - ((128 + j.val : ℕ) : ℝ)) = _
    push_cast
    ring
  · rw [if_neg k, if_neg (show ¬ ((hi j).val ≤ p.val + 128 ∧ p.val < (hi j).val ∧ (128 ≤ (hi j).val ∨ 0 < b.val)) from by show ¬ (128 + j.val ≤ p.val + 128 ∧ p.val < 128 + j.val ∧ (128 ≤ 128 + j.val ∨ 0 < b.val)); omega)]

/-! ## The softmax -/

/-- A row's weight at a position, before the norm. -/
def uW (w : Fin 256) : ℝ := if hw : w.val < 128 then upA A b.val g.val (rw8 h p) ⟨w.val, hw⟩ else ucA A b.val g.val (rw8 h p) ⟨w.val - 128, by omega⟩
theorem uW_lo (j : Fin 128) : uW A b g h p (lo j) = upA A b.val g.val (rw8 h p) j := dif_pos (show j.val < 128 from j.isLt)
theorem uW_hi (j : Fin 128) : uW A b g h p (hi j) = ucA A b.val g.val (rw8 h p) j := by
  unfold uW
  rw [dif_neg (show ¬ (hi j).val < 128 from by show ¬ 128 + j.val < 128; omega)]
  exact congrArg _ (Fin.ext (show 128 + j.val - 128 = j.val by omega))

theorem exp_v71 (M : ℝ) (w : Fin 256) : Ideal.exp (val_main_v71 (F := Ideal) (up A) (ix5 b g h p w) - ((M : ℝ) : EReal)) = ((Real.exp (-M) * uW A b g h p w : ℝ) : EReal) := by
  have key : ∀ (c : Prop) [Decidable c] (s : ℝ), Ideal.exp ((if c then ((s : ℝ) : EReal) else ⊥) - ((M : ℝ) : EReal)) = ((Real.exp (-M) * (if c then Real.exp s else 0) : ℝ) : EReal) := by
    intro c _ s
    by_cases hc : c
    · rw [if_pos hc, if_pos hc, ← EReal.coe_sub, Ideal.exp_coe, ← Real.exp_add, neg_add_eq_sub]
    · rw [if_neg hc, if_neg hc, mul_zero]; rfl
  refine window (P := fun w => Ideal.exp (val_main_v71 (F := Ideal) (up A) (ix5 b g h p w) - ((M : ℝ) : EReal)) = ((Real.exp (-M) * uW A b g h p w : ℝ) : EReal)) (fun j => ?_) (fun j => ?_) w
  · rw [v71_lo, uW_lo, key]; unfold upA uP; rw [qr_rw]
  · rw [v71_hi, uW_hi, key]; unfold ucA uC; rw [qr_rw]

theorem v71_ne (i : S32x4x8x128x256.Idx) : val_main_v71 (F := Ideal) (up A) i ≠ ⊤ := by
  have hi' : ∃ (b : Fin 32) (g : Fin 4) (h : Fin 8) (p : Fin 128) (w : Fin 256), i = ix5 b g h p w := ⟨_, _, _, _, _, ext5 i _ _ _ _ _ rfl rfl rfl rfl rfl⟩
  obtain ⟨b, g, h, p, w, rfl⟩ := hi'
  refine window (P := fun w => val_main_v71 (F := Ideal) (up A) (ix5 b g h p w) ≠ ⊤) (fun j => ?_) (fun j => ?_) w
  · rw [v71_lo]; split
    · exact EReal.coe_ne_top _
    · exact bot_ne_top
  · rw [v71_hi]; split
    · exact EReal.coe_ne_top _
    · exact bot_ne_top

/-- The group's sink. -/
theorem v72_at : val_main_v72 (F := Ideal) (up B) (ix2 g h) = ((Sa B g.val h : ℝ) : EReal) := by
  rw [val_main_v72_apply]
  refine (congrArg (fun i => ((B i : ℝ) : EReal)) (ext1 _ ⟨8 * g.val + h.val, by omega⟩ (Fin.ext ?_))).trans (congrArg Real.toEReal (at1_of B _ _ rfl))
  show g.val * 8 + h.val = 8 * g.val + h.val; omega

/-- What is taken off the scores is real. -/
theorem v77_real : ∃ M : ℝ, val_main_v77 (F := Ideal) (up A) (up B) (ix5 b g h p 0) = ((M : ℝ) : EReal) := by
  rw [val_main_v77_apply, val_main_v75_apply, val_main_v76_apply, val_main_v73_apply]
  have e2 : val_main_v72 (F := Ideal) (up B) (idx_main_v73 (idx_main_v76 (ix5 b g h p 0))) = _ := (congrArg _ (ext2 _ g h rfl rfl)).trans (v72_at B g h)
  rw [e2]
  have e1 : val_main_v74 (F := Ideal) (up A) (idx_main_v75 (ix5 b g h p 0)) ≠ ⊤ := by
    unfold val_main_v74
    rw [Host.reduce_eq_fold (FloatOps.maximumf (F := Ideal) (φ := .f32))]
    exact fold_max_ne _ (by show Ideal.ofBits .f32 0xFF800000#32 ≠ ⊤; rw [lit_ninf]; exact bot_ne_top) _ _ (v71_ne A)
  generalize val_main_v74 (F := Ideal) (up A) (idx_main_v75 (ix5 b g h p 0)) = x at e1
  refine ⟨_, (EReal.coe_toReal ?_ ?_).symm⟩
  · show max x _ ≠ ⊤
    rcases max_choice x ((Sa B g.val h : ℝ) : EReal) with e | e <;> rw [e]
    · exact e1
    · exact EReal.coe_ne_top _
  · exact ne_bot_of_le_ne_bot (EReal.coe_ne_bot _) (le_max_right x _)

/-- The exponentials: the weights, times one factor for the row; and their sum with the sink's. -/
theorem soft : ∃ c : ℝ, 0 < c ∧ (∀ w, val_main_v80 (F := Ideal) (up A) (up B) (ix5 b g h p w) = ((c * uW A b g h p w : ℝ) : EReal))
    ∧ val_main_v85 (F := Ideal) (up A) (up B) (ix5 b g h p 0) = ((c * Real.exp (Sa B g.val h) : ℝ) : EReal)
    ∧ val_main_v86 (F := Ideal) (up A) (up B) (ix5 b g h p 0) = ((c * zA A B b.val g.val (rw8 h p) : ℝ) : EReal) := by
  obtain ⟨M, hM⟩ := v77_real A B b g h p
  have h80 : ∀ w, val_main_v80 (F := Ideal) (up A) (up B) (ix5 b g h p w) = ((Real.exp (-M) * uW A b g h p w : ℝ) : EReal) := fun w => by
    rw [val_main_v80_apply, val_main_v79_apply, val_main_v78_apply,
      show idx_main_v78 (ix5 b g h p w) = ix5 b g h p 0 from ext5 _ _ _ _ _ _ rfl rfl rfl rfl rfl, hM]
    exact exp_v71 A b g h p M w
  have h85 : val_main_v85 (F := Ideal) (up A) (up B) (ix5 b g h p 0) = ((Real.exp (-M) * Real.exp (Sa B g.val h) : ℝ) : EReal) := by
    rw [val_main_v85_apply, val_main_v84_apply, val_main_v83_apply, val_main_v73_apply, hM]
    have e2 : val_main_v72 (F := Ideal) (up B) (idx_main_v73 (idx_main_v83 (ix5 b g h p 0))) = _ := (congrArg _ (ext2 _ g h rfl rfl)).trans (v72_at B g h)
    rw [e2]
    show Ideal.exp (((Sa B g.val h : ℝ) : EReal) - ((M : ℝ) : EReal)) = _
    rw [← EReal.coe_sub, Ideal.exp_coe, ← Real.exp_add, neg_add_eq_sub]
  refine ⟨Real.exp (-M), Real.exp_pos _, h80, h85, ?_⟩
  rw [val_main_v86_apply, h85, val_main_v82_apply, val_main_v81_apply]
  rw [Finset.sum_congr rfl fun k _ => (congrArg _ (ext5 _ b g h p k rfl rfl rfl rfl rfl)).trans (h80 k), ← coe_sum]
  show (Ideal.ofBits .f32 0x00000000#32 + _) + _ = _
  rw [lit_zero, ← EReal.coe_add, ← EReal.coe_add]
  refine congrArg Real.toEReal ?_
  unfold zA Z
  rw [zero_add, ← Finset.mul_sum, sum_window, ← mul_add, hd_rw]
  simp only [uW_lo, uW_hi]
  unfold ucA upA
  ring

theorem zA_pos (n g : ℕ) (r : Fin 1024) : 0 < zA A B n g r := Z_pos _ _ _ _ _ _ _

/-- The normed weights, -/
theorem v88_at (w : Fin 256) : val_main_v88 (F := Ideal) (up A) (up B) (ix5 b g h p w)
    = ((uW A b g h p w / zA A B b.val g.val (rw8 h p) : ℝ) : EReal) := by
  obtain ⟨c, hc, h80, _, h86⟩ := soft A B b g h p
  have hz := zA_pos A B b.val g.val (rw8 h p)
  rw [val_main_v88_apply, val_main_v87_apply, h80, show idx_main_v87 (ix5 b g h p w) = ix5 b g h p 0 from ext5 _ _ _ _ _ _ rfl rfl rfl rfl rfl, h86]
  show Ideal.div _ _ = _
  rw [Ideal.div_coe (mul_pos hc hz).ne', ← EReal.coe_mul]
  refine congrArg Real.toEReal ?_
  field_simp

/-- and the result. -/
theorem v89_at (e : Fin 64) : val_main_v89 (F := Ideal) (up A) (up B) (ix5 b g e h p) = ((foG A B b.val g.val (rw8 h p) e : ℝ) : EReal) := by
  have hl : ∀ k, lidx_main_v89 (ix5 b g e h p) k = ix4 b k g e := fun k => ext4 _ _ _ _ _ rfl rfl rfl rfl
  have hr : ∀ k, ridx_main_v89 (ix5 b g e h p) k = ix5 b g h p k := fun k => ext5 _ _ _ _ _ _ rfl rfl rfl rfl rfl
  rw [val_main_v89_apply, sum_window]
  rw [Finset.sum_congr rfl fun j _ => (by rw [hl, hr, v15_lo, v88_at, uW_lo, ← EReal.coe_mul] :
      val_main_v15 (F := Ideal) (up A) (lidx_main_v89 (ix5 b g e h p) (lo j)) * val_main_v88 (F := Ideal) (up A) (up B) (ridx_main_v89 (ix5 b g e h p) (lo j)) = _)]
  rw [Finset.sum_congr rfl fun j _ => (by rw [hl, hr, v15_hi, v88_at, uW_hi, ← EReal.coe_mul] :
      val_main_v15 (F := Ideal) (up A) (lidx_main_v89 (ix5 b g e h p) (hi j)) * val_main_v88 (F := Ideal) (up A) (up B) (ridx_main_v89 (ix5 b g e h p) (hi j)) = _)]
  rw [← coe_sum, ← coe_sum, ← EReal.coe_add]
  refine congrArg Real.toEReal ?_
  unfold foG
  rw [add_comm, add_div, Finset.sum_div, Finset.sum_div]
  refine congrArg₂ (· + ·) (Finset.sum_congr rfl fun j _ => by ring) (Finset.sum_congr rfl fun j _ => ?_)
  unfold before
  by_cases hb : 0 < b.val
  · rw [if_pos hb]; ring
  · have : upA A b.val g.val (rw8 h p) j = 0 := if_neg (fun hh => hb hh.2)
    rw [this]; ring

theorem ref_out : val_main_v92 (F := Ideal) (up A) (up B) = outA A B := by
  funext y
  rw [val_main_v92_apply, val_main_v91_apply, val_main_v90_apply]
  have h0 : (y 0).val < 4096 := (y 0).isLt
  have h1 : (y 1).val < 2048 := (y 1).isLt
  refine (congrArg (val_main_v89 (F := Ideal) (up A) (up B)) (ext5 _ ⟨(y 0).val / 128, by omega⟩ ⟨(y 1).val / 512, by omega⟩ ⟨(y 1).val % 64, by omega⟩
    ⟨(y 1).val / 64 % 8, by omega⟩ ⟨(y 0).val % 128, by omega⟩ (Fin.ext ?_) (Fin.ext ?_) (Fin.ext ?_) (Fin.ext ?_) (Fin.ext ?_))).trans (v89_at A B _ _ _ _ _)
  · show ((y 0).val * 2048 + (y 1).val) / 262144 = (y 0).val / 128; omega
  · show ((y 0).val * 2048 + (y 1).val) / 512 % 4 = (y 1).val / 512; omega
  · show ((y 0).val * 2048 + (y 1).val) % 64 = (y 1).val % 64; omega
  · show ((y 0).val * 2048 + (y 1).val) / 64 % 8 = (y 1).val / 64 % 8; omega
  · show ((y 0).val * 2048 + (y 1).val) / 2048 % 128 = (y 0).val % 128; omega

/-! ## The claim -/

instance pre_facts : Cert.Pre_finite_fa.Facts where
  bcast_S_S4096x2560 := by decide
  reducesTo_S4096x2560_S_d0_1 := by decide
  h_S_ := by decide
  bcast_S_S32 := by decide
  reducesTo_S32_S_d0 := by decide

open Idealize.SL.Sem

/-- Where the precondition holds the arguments are reals. -/
theorem real_of_pre (m : (ℓ : Loc Cert.WinFwdIdeal.nD Cert.WinFwdIdeal.τ Cert.WinFwdIdeal.sig) → Buf (Elt Ideal) ℓ) (hp : Cert.Pre_WinFwdIdeal_finite_fa m)
    (c : Dev Cert.WinFwdIdeal.nD) :
    ∃ (A : S4096x2560.Idx → ℝ) (B : S32.Idx → ℝ), m ((c.tc : Thread Cert.WinFwdIdeal.nD Cert.WinFwdIdeal.τ).loc Cert.WinFwdIdeal.main_arg0) = up A
      ∧ m ((c.tc : Thread Cert.WinFwdIdeal.nD Cert.WinFwdIdeal.τ).loc Cert.WinFwdIdeal.main_arg1) = up B := by
  have h := congrFun (hp c) (fun a => a.elim0)
  obtain ⟨ha, hb⟩ := andi_one h
  obtain ⟨A, hA⟩ := real_of_all_below _ inf16 _ _ _ _ _ _ ha
  obtain ⟨B, hB⟩ := real_of_all _ _ _ _ _ _ hb
  exact ⟨A, B, hA, hB⟩

theorem algebraic : Cert.algebraic_WinFwdIdeal_WinFwdRefIdeal_pre_finite_fa := by
  intro m g m' g' hp hagree
  refine ⟨fun c => val_main_v92 (F := Ideal) (m ((c.tc : Thread Cert.WinFwdIdeal.nD Cert.WinFwdIdeal.τ).loc Cert.WinFwdIdeal.main_arg0))
    (m ((c.tc : Thread Cert.WinFwdIdeal.nD Cert.WinFwdIdeal.τ).loc Cert.WinFwdIdeal.main_arg1)), ?_, ?_⟩
  · refine (θ_run Cert.WinFwdIdeal.defs _ _).mono (fun r h c => ?_) (Cert.WinFwdIdeal.Value.run_blocks m g)
    obtain ⟨A, B, h0, h1⟩ := real_of_pre m hp c
    exact ⟨((h c).1.trans (Cert.Proof.WinFwd.final6 m A B c h0 h1)).trans ((ref_out A B).symm.trans (congrArg₂ (val_main_v92 (F := Ideal)) h0 h1).symm), (h c).2⟩
  · refine (θ_run Cert.WinFwdRefIdeal.defs _ _).mono (fun r h c => ⟨((h c).1).trans ?_, (h c).2⟩) (Cert.WinFwdRefIdeal.Value.run m' g')
    exact (val_main_v92_eq _ _).trans (congrArg₂ (val_main_v92 (F := Ideal)) (hagree c).1 (hagree c).2)

end Cert.Proof.WinFwdRef

end
-- ==== Proof.StickFwdBits.lean ====
/-
  The forward stick-breaking kernel as written, from launch to end: its loop ends, its reads and writes stay inside their
  blocks, the arguments' arrays end as they were and every semaphore's counter at zero. Nothing is said here of what it
  computes. The loop's label is proved by induction on the trips left: the block word falls by three at each, from a row
  block below 32, so that it's negative before a twelfth, whatever the running sums are.
-/
module

public import proofs.«01_k».proof.Proof.StickWords
public import proofs.«01_k».proof.Proof.Gen.StickFwd
public import proofs.«01_k».proof.Proof.Gen.StickFwd.Skeleton
public import proofs.«01_k».proof.Proof.Gen.StickFwd.Launch
public import proofs.«01_k».proof.Proof.Gen.StickFwd.Points
public import Idealize.ShloMosaic.Lib.Pipeline.FrameBody
public import Idealize.ShloMosaic.Lib.Tactic
public import Idealize.ShloMosaic.Lib.Claim

@[expose] public section

set_option maxRecDepth 16384

noncomputable section

namespace Cert.Proof.StickFwdBits

open Cert.StickFwd Cert.StickFwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Stick (jw jw_eq jw_sge)

variable {F : FTy → Type} [FloatOps F]

local notation "𝕄" => MT nD τ sig Unit (Elt F) ℕ (UR sig nD τ) ℕ

/-- The kernel's variants: the trips the loop may still have to run. -/
abbrev 𝒱₀ : Variants := Variants.nat

theorem chk1_of_lt : ∀ j < 32, k0_chk1 (BitVec.ofNat 32 j) := by decide +kernel

/-- A block at anything. -/
abbrev some_ {s : Shape} {e : EltTy} (c : Dev nD) (arg : Memref sig .tc .vmem s e) : sProp 𝕄 := iprop(∃ X, owns (c : Thread nD τ) arg fullShare X)

/-- A block's elements, whatever they are. -/
theorem to_some {s : Shape} {e : EltTy} (c : Dev nD) (arg : Memref sig .tc .vmem s e) (f) :
    (iprop(arg.view.loc (c : Thread nD τ) ↦[arg.view.set]{fullShare} f) : sProp 𝕄) ⊢ some_ c arg := by
  unfold some_ owns
  iintro H
  iexists _; iexists f
  iframe
  ipureintro; rfl

/-! ### The loop -/

/-- What a trip carries, -/
abbrev Carry (F : FTy → Type) := FVec F S128x1 .f32 × FVec F S128x64 .f32 × FVec F S128x1 .f32 × FVec F S128x64 .f32
  × FVec F S128x1 .f32 × FVec F S128x64 .f32 × FVec F S128x1 .f32 × FVec F S128x64 .f32 × FVec F S128x1 .f32 × FVec F S128x64 .f32
  × FVec F S128x1 .f32 × FVec F S128x64 .f32 × FVec F S128x1 .f32 × FVec F S128x64 .f32 × FVec F S128x1 .f32 × FVec F S128x64 .f32

section Loop

variable (c : Dev nD) (arg3 : Memref sig .tc .vmem S4096x512 .bf16) (harg3 : arg3.IsWhole)
  (arg4 : Memref sig .tc .vmem S4096x512 .bf16) (harg4 : arg4.IsWhole)

/-- The label's specification: it returns something, with the keys' and the values' blocks. -/
def spec : sWPT 𝕄 (BitVec 32 × Carry F) := do
  sWPT.consume iprop(some_ c arg3 ∗ some_ c arg4)
  let r ← sWPT.arbitrary
  sWPT.produce iprop(some_ c arg3 ∗ some_ c arg4)
  pure r

theorem spec_apply (Q : BitVec 32 × Carry F → sProp 𝕄) :
    spec c arg3 arg4 Q = iprop((some_ c arg3 ∗ some_ c arg4) ∗ ∀ r : BitVec 32 × Carry F, ((some_ c arg3 ∗ some_ c arg4) -∗ Q r)) := rfl

set_option maxHeartbeats 4000000 in
theorem spec_le {n : ℕ} (hn : n < 32) (i : grid0.Coords) (E : Set ℕ) (q0 q1 q2 q3 q4 q5 q6 q7 : Vec F S128x64 .bf16) :
    ∀ m k, k + m = 11 → ∀ (x0 : FVec F S128x1 .f32) (y0 : FVec F S128x64 .f32) (x1 : FVec F S128x1 .f32) (y1 : FVec F S128x64 .f32)
      (x2 : FVec F S128x1 .f32) (y2 : FVec F S128x64 .f32) (x3 : FVec F S128x1 .f32) (y3 : FVec F S128x64 .f32)
      (x4 : FVec F S128x1 .f32) (y4 : FVec F S128x64 .f32) (x5 : FVec F S128x1 .f32) (y5 : FVec F S128x64 .f32)
      (x6 : FVec F S128x1 .f32) (y6 : FVec F S128x64 .f32) (x7 : FVec F S128x1 .f32) (y7 : FVec F S128x64 .f32) Q, spec c arg3 arg4 Q
      ⊢ wp frame (wpE (defs₀ (F := F)) 𝒱₀ (c : Thread nD τ) (some m)) E
          (defs₀ (F := F) .tc 1 ⟨i, arg3, harg3, q0, q1, q2, q3, q4, q5, q6, q7, arg4, harg4, jw n k,
            x0, y0, x1, y1, x2, y2, x3, y3, x4, y4, x5, y5, x6, y6, x7, y7⟩) Q := by
  intro m
  induction m with
  | zero =>
    intro k hk x0 y0 x1 y1 x2 y2 x3 y3 x4 y4 x5 y5 x6 y6 x7 y7 Q
    obtain rfl : k = 11 := hk
    rw [spec_apply]
    show _ ⊢ wp frame (wpE (defs₀ (F := F)) 𝒱₀ (c : Thread nD τ) (some 0)) E
      (cc0_while1 i arg3 harg3 q0 q1 q2 q3 q4 q5 q6 q7 arg4 harg4 (jw n 11) x0 y0 x1 y1 x2 y2 x3 y3 x4 y4 x5 y5 x6 y6 x7 y7) Q
    simp only [cc0_while1_eq_skeleton]; unfold cc0_while1_skel
    have htest (b : BitVec 1) : ¬ Scalar.andi (Scalar.cmpi .sge (jw n 11) 0#32) b = 1#1 := by
      rw [jw_sge n hn 11 (by omega), if_neg (by omega)]; revert b; decide
    simp only [htest, ↓reduceIte, Prog.pure_eq_ret]
    iintro ⟨H, Hk⟩
    rw [wp_ret]; imodintro
    iapply Hk
    iexact H
  | succ m ih =>
    intro k hk x0 y0 x1 y1 x2 y2 x3 y3 x4 y4 x5 y5 x6 y6 x7 y7 Q
    rw [spec_apply]
    show _ ⊢ wp frame (wpE (defs₀ (F := F)) 𝒱₀ (c : Thread nD τ) (some (m + 1))) E
      (cc0_while1 i arg3 harg3 q0 q1 q2 q3 q4 q5 q6 q7 arg4 harg4 (jw n k) x0 y0 x1 y1 x2 y2 x3 y3 x4 y4 x5 y5 x6 y6 x7 y7) Q
    simp only [cc0_while1_eq_skeleton]; unfold cc0_while1_skel
    by_cases htest : Scalar.andi (Scalar.cmpi .sge (jw n k) 0#32)
      (Scalar.cmpf .ogt (k0_pay3 x0 x1 x2 x3 x4 x5 x6 x7) (Scalar.ofBits .f32 0xC2D20000#32 : F .f32)) = 1#1
    case neg =>
      simp only [htest, ↓reduceIte, Prog.pure_eq_ret]
      iintro ⟨H, Hk⟩
      rw [wp_ret]; imodintro
      iapply Hk
      iexact H
    have hle : 3 * k ≤ n := by
      by_contra hlt
      rw [jw_sge n hn k (by omega), if_neg hlt] at htest
      revert htest
      generalize Scalar.cmpf .ogt (k0_pay3 x0 x1 x2 x3 x4 x5 x6 x7) (Scalar.ofBits .f32 0xC2D20000#32 : F .f32) = b
      revert b; decide
    have hc1 : k0_chk1 (jw n k) := by rw [jw_eq n hn k (by omega) hle]; exact chk1_of_lt _ (by omega)
    simp only [k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton,
      k0_part12_eq_skeleton]
    simp only [htest, ↓reduceIte]
    unfold some_ owns
    iintro ⟨⟨⟨%K, %f3, -, H3⟩, ⟨%V, %f4, -, H4⟩⟩, Hk⟩
    sl_exec
    iapply (wp_call_spec 𝒱₀ (c : Thread nD τ) (some (m + 1)) E
      (spec c arg3 arg4) m (fun u hu => by cases hu; exact Nat.lt_succ_self m)
      (ih (k + 1) (by omega) _ _ _ _ _ _ _ _ _ _ _ _ _ _ _ _))
    rw [spec_apply]
    isplitl [H3 H4]
    · isplitl [H3]; · iapply (to_some c arg3); iexact H3
      iapply (to_some c arg4); iexact H4
    iintro %r H
    rw [wp_ret]; imodintro
    iapply Hk
    iexact H

end Loop

/-! ### The body -/

set_option maxHeartbeats 4000000 in
theorem body (i : grid0.Coords) (c : Dev nD) (arg2 : Memref sig .tc .vmem S128x512 .bf16) (harg2 : arg2.IsWhole)
    (arg3 : Memref sig .tc .vmem S4096x512 .bf16) (harg3 : arg3.IsWhole) (arg4 : Memref sig .tc .vmem S4096x512 .bf16) (harg4 : arg4.IsWhole)
    (arg5 : Memref sig .tc .vmem S128x512 .bf16) (harg5 : arg5.IsWhole) (Q : PUnit → sProp 𝕄) :
    iprop((some_ c arg2 ∗ some_ c arg3 ∗ some_ c arg4 ∗ some_ c arg5)
      ∗ ((some_ c arg2 ∗ some_ c arg3 ∗ some_ c arg4 ∗ some_ c arg5) -∗ Q ⟨⟩))
    ⊢ wp frame (wpE (defs₀ (F := F)) 𝒱₀ (c : Thread nD τ) none) Set.univ
      (cc0_attn_b_fwd i arg2 harg2 arg3 harg3 arg4 harg4 arg5 harg5) Q := by
  have hn : (i 1).val < 32 := (i 1).isLt
  simp only [cc0_attn_b_fwd_eq_skeleton]; unfold cc0_attn_b_fwd_skel
  simp only [k0_part1_eq_skeleton]; unfold k0_part1_skel
  iintro ⟨⟨H2, H3, H4, H5⟩, Hk⟩
  unfold some_ owns
  icases H2 with ⟨%X2, %f2, -, H2⟩
  icases H5 with ⟨%X5, %f5, -, H5⟩
  sl_exec
  iapply (wp_call_spec 𝒱₀ (c : Thread nD τ) none Set.univ
    (spec c arg3 arg4) 11 (fun u hu => nomatch hu) (spec_le c arg3 harg3 arg4 harg4 hn i Set.univ _ _ _ _ _ _ _ _ 11 0 rfl _ _ _ _ _ _ _ _ _ _ _ _ _ _ _ _))
  rw [spec_apply]
  isplitl [H3 H4]
  · isplitl [H3]; · iexact H3
    iexact H4
  iintro %r ⟨H3, H4⟩
  obtain ⟨r0, r1, r2, r3, r4, r5, r6, r7, r8, r9, r10, r11, r12, r13, r14, r15, r16⟩ := r
  sl_exec
  rw [wp_ret]; imodintro
  iapply Hk
  isplitl [H2]; · iapply (to_some c arg2); iexact H2
  isplitl [H3]; · iexact H3
  isplitl [H4]; · iexact H4
  iapply (to_some c arg5); iexact H5

/-! ### The run -/

variable (m : (ℓ : Loc nD τ sig) → Buf (Elt F) ℓ) (ρ : Dev nD → PrngReg)

/-- The arrays as the region finds them: as launched. -/
abbrev V (c : Dev nD) (b : Ref sig .tc) : Buf (Elt F) ((c : Thread nD τ).loc b) := m ((c : Thread nD τ).loc b)

theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Nothing is said of any window's block. -/
abbrev fgt : Fin 4 → Bool := fun _ => true

/-- The proof data of the pipeline on core `c`: the arrays it starts from. -/
def dats (_ : Fin 1) (c : Dev nD) : Dat τ (Elt F) Unit ℕ (UR sig nD τ) ℕ (cfg0 (F := F)) c where
  A w := V m c (Pipeline.arrRef spec0 w)
  after w t := fun _ => Classical.choice inferInstance
  Φ _ := Pipeline.ΦA spec0 c
  q w := Pipeline.shareOf spec0 w
  owed _ := 0

/-- What the body is called with at a point, and what it returns. -/
def bodyPre (c : Dev nD) (t : Fin (cfg0 (F := F)).N) : sProp 𝕄 :=
  iprop((dats m 0 c).Φ t.castSucc ∗ (dats m 0 c).owesAt () t.castSucc
    ∗ some_ c (st0_0 t) ∗ some_ c (st0_1 t) ∗ some_ c (st0_2 t) ∗ some_ c (st0_3 t))

set_option maxHeartbeats 800000 in
/-- The body at any point. -/
theorem sound_body (c : Dev nD) (t : Fin (cfg0 (F := F)).N) :
    bodyPre m c t ⊢ wp frame (wpE (defs₀ (F := F)) 𝒱₀ (c : Thread nD τ) none) Set.univ (bodyAt0 t) (fun _ => bodyPre m c t) := by
  unfold bodyPre bodyAt0
  iintro ⟨Hr, Ho, H⟩
  iapply (body (grid0.coords t) c (win0_0.stage ((cfg0 (F := F)).slots t 0)) (hstage0_0 (((cfg0 (F := F)).slots t 0).cast nbuf0_0))
    (win0_1.stage ((cfg0 (F := F)).slots t 1)) (hstage0_1 (((cfg0 (F := F)).slots t 1).cast nbuf0_1))
    (win0_2.stage ((cfg0 (F := F)).slots t 2)) (hstage0_2 (((cfg0 (F := F)).slots t 2).cast nbuf0_2))
    (win0_3.stage ((cfg0 (F := F)).slots t 3)) (hstage0_3 (((cfg0 (F := F)).slots t 3).cast nbuf0_3)))
  isplitl [H]; · iexact H
  iintro H
  isplitl [Hr]; · iexact Hr
  isplitl [Ho]; · iexact Ho
  iexact H

/-- The body table's row at point `t`'s slots. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ fgt := fun t => by
  rw [bigSep_W0, defs₀_row]
  exact triple_restated (sound_body m c t) rfl .rfl fun _ => .rfl

set_option backward.isDefEq.respectTransparency.types false in
/-- The launch: the windows' arrays at what the points may leave, and every semaphore counter zero. -/
theorem run_quiescent : θ_run defs (onTc (τ := τ) (main (F := F))) ⟨m, fun _ => 0, ρ⟩
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ 𝒱₀ fgt m ρ main
    (hbody := fun c => (body_obligation m c).loose) (hq := fun _ _ _ => rfl)
    (howed := fun _ _ => rfl) (V := V m) (hmain := hmain m) (hA := fun _ _ => rfl) (hΦ := fun _ _ => rfl)

/-- The argument array ends unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => Pipeline.RDat.FramePost.arr_in h.1 c 0 rfl, h.2⟩) (run_quiescent m ρ)

end Cert.Proof.StickFwdBits

end
-- ==== Proof.StickFwdTrip.lean ====
/-
  One trip of the forward stick-breaking kernel, its eight heads written alike: the kernel's lines for each head are the first
  head's, and this module says so line by line. `step` is a trip's effect on the running sums and the accumulated values.
-/
module

public import proofs.«01_k».proof.Proof.StickWords
public import proofs.«01_k».proof.Proof.Gen.StickFwdIdeal
public import proofs.«01_k».proof.Proof.Gen.StickFwdIdeal.Skeleton

@[expose] public section

set_option maxRecDepth 16384

noncomputable section

namespace Cert.Proof.StickFwd

open Cert.StickFwdIdeal Cert.StickFwdIdeal.Gen
open Idealize.ShloMosaic
open Cert.Proof.Stick (jw first jw_eq jw_sge first_le)

/-! ### The words -/

theorem chk1_of_lt : ∀ j < 32, k0_chk1 (BitVec.ofNat 32 j) := by decide +kernel

theorem off1_eq : ∀ j < 32, k0_off1 (BitVec.ofNat 32 j) = ![128 * (j - 2), 0] := by decide +kernel
theorem off2_eq : ∀ j < 32, k0_off2 (BitVec.ofNat 32 j) = ![128 * (j - 2), 64] := by decide +kernel
theorem off3_eq : ∀ j < 32, k0_off3 (BitVec.ofNat 32 j) = ![128 * (j - 2), 128] := by decide +kernel
theorem off4_eq : ∀ j < 32, k0_off4 (BitVec.ofNat 32 j) = ![128 * (j - 2), 192] := by decide +kernel
theorem off5_eq : ∀ j < 32, k0_off5 (BitVec.ofNat 32 j) = ![128 * (j - 2), 256] := by decide +kernel
theorem off6_eq : ∀ j < 32, k0_off6 (BitVec.ofNat 32 j) = ![128 * (j - 2), 320] := by decide +kernel
theorem off7_eq : ∀ j < 32, k0_off7 (BitVec.ofNat 32 j) = ![128 * (j - 2), 384] := by decide +kernel
theorem off8_eq : ∀ j < 32, k0_off8 (BitVec.ofNat 32 j) = ![128 * (j - 2), 448] := by decide +kernel

theorem point_lt (i : grid0.Coords) : (i 1).val < 32 := (i 1).isLt

/-- Rows of the windows stay inside the keys'. -/
theorem rows_inb {n : ℕ} (hn : n < 32) (k x : ℕ) (hx : x + 64 ≤ 512) :
    ∀ a, (![first n k, x] : Fin 2 → ℕ) a + S384x64.size a ≤ S4096x512.size a := by
  intro a
  have := first_le hn k
  match a with
  | 0 => exact this
  | 1 => exact hx

variable {F : FTy → Type} [FloatOps F] [Named F]

/-! ### A trip, head by head -/

/-- The six blocks of a head's high and low parts. -/
def six (x : FVec F S128x384 .f32) : List (S128x128.Idx → F .bf16) :=
  [k0_pay61 x, k0_pay62 x, k0_pay63 x, k0_pay64 x, k0_pay65 x, k0_pay66 x]

/-- The eight heads' blocks. -/
def stack (x : Fin 8 → FVec F S128x384 .f32) : List (S128x128.Idx → F .bf16) :=
  six (x 0) ++ six (x 1) ++ six (x 2) ++ six (x 3) ++ six (x 4) ++ six (x 5) ++ six (x 6) ++ six (x 7)

/-- The sums inside each block, for all eight heads' blocks stacked. -/
def inside (x0 x1 x2 x3 x4 x5 x6 x7 : FVec F S128x384 .f32) : FVec F S6144x128 .f32 :=
  matmul dot_S6144x128_S128x128_S6144x128_1_0_0_1_n_n none
    (concatenate S6144x128 0 ((six x0 ++ six x1 ++ six x2 ++ six x3 ++ six x4 ++ six x5 ++ six x6 ++ six x7).map (Sigma.mk S128x128))
      concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S6144x128_d0)
    k0_pay50 (constant S6144x128 .f32 0x00000000#32)

/-- Eight arrays as one family. -/
def heads (x0 x1 x2 x3 x4 x5 x6 x7 : FVec F S128x384 .f32) : Fin 8 → FVec F S128x384 .f32
  | 0 => x0 | 1 => x1 | 2 => x2 | 3 => x3 | 4 => x4 | 5 => x5 | 6 => x6 | 7 => x7

theorem slice_ok (h : Fin 8) (o : ℕ) (ho : o ≤ 640) : S6144x128.Slices ![768 * h.val + o, 0] S128x128 :=
  ⟨rfl, fun a => by
    match a with
    | 0 => show 768 * h.val + o + 128 ≤ 6144; omega
    | 1 => exact le_refl 128⟩

/-- Rows of the stack's sums: block `o` of head `h`. -/
def part (h : Fin 8) (o : ℕ) (ho : o ≤ 640) (I : FVec F S6144x128 .f32) : FVec F S128x128 .f32 :=
  extractStridedSlice S128x128 ![768 * h.val + o, 0] I (slice_ok h o ho)

/-- Head `h`'s sums over the later columns. -/
def aft (h : Fin 8) (x : FVec F S128x384 .f32) (I : FVec F S6144x128 .f32) : FVec F S128x384 .f32 :=
  concatenate S128x384 1
    [⟨S128x128, addf (addf (addf (part h 0 (by omega) I) (part h 384 (by omega) I)) (broadcastTo S128x128 (k0_pay106 x) broadcasts_S128x1_S128x128))
        (broadcastTo S128x128 (k0_pay107 x) broadcasts_S128x1_S128x128)⟩,
      ⟨S128x128, addf (addf (part h 128 (by omega) I) (part h 512 (by omega) I)) (broadcastTo S128x128 (k0_pay107 x) broadcasts_S128x1_S128x128)⟩,
      ⟨S128x128, addf (part h 256 (by omega) I) (part h 640 (by omega) I)⟩]
    concatenates_S128x128_S128x128_S128x128_S128x384_d1

/-- The running sums and the accumulated values of the eight heads. -/
abbrev St (F : FTy → Type) := (Fin 8 → FVec F S128x1 .f32) × (Fin 8 → FVec F S128x64 .f32)

section Trip

variable (n j : BitVec 32) (q : Fin 8 → Vec F S128x64 .bf16) (k v : Fin 8 → Vec F S384x64 .bf16)

/-- A head's logits. -/
def zk (h : Fin 8) : FVec F S128x384 .f32 := k0_pay16 (q h) (k h)

/-- The logarithms of what each stick leaves, zero outside the trip's entries. -/
def lm (h : Fin 8) : FVec F S128x384 .f32 := k0_pay42 (k0_pay15 j n) (k0_pay25 (zk q k h))

/-- The stacked sums. -/
def ins : FVec F S6144x128 .f32 :=
  inside (lm n j q k 0) (lm n j q k 1) (lm n j q k 2) (lm n j q k 3) (lm n j q k 4) (lm n j q k 5) (lm n j q k 6) (lm n j q k 7)

/-- A head's weights. -/
def wt (c : Fin 8 → FVec F S128x1 .f32) (h : Fin 8) : FVec F S128x384 .f32 :=
  k0_pay146 (c h) (k0_pay15 j n) (k0_pay24 (zk q k h)) (aft h (lm n j q k h) (ins n j q k))

/-- One trip. -/
def step (s : St F) : St F :=
  (fun h => k0_pay155 (s.1 h) (k0_pay109 (lm n j q k h)), fun h => k0_pay163 (s.2 h) (wt n j q k s.1 h) (v h))

end Trip

/-- The state ahead of the first trip. -/
def state0 : St F := (fun _ => k0_pay7, fun _ => k0_pay8)

/-! ### The kernel's lines are the first head's -/

section Lines

variable (ok : IVec S128x384 1) (a z l b x w : FVec F S128x384 .f32) (c t : FVec F S128x1 .f32) (y : FVec F S128x64 .f32)
  (q : Vec F S128x64 .bf16) (k v : Vec F S384x64 .bf16) (I : FVec F S6144x128 .f32)

theorem line17 : k0_pay17 q k = k0_pay16 q k := rfl
theorem line18 : k0_pay18 q k = k0_pay16 q k := rfl
theorem line19 : k0_pay19 q k = k0_pay16 q k := rfl
theorem line20 : k0_pay20 q k = k0_pay16 q k := rfl
theorem line21 : k0_pay21 q k = k0_pay16 q k := rfl
theorem line22 : k0_pay22 q k = k0_pay16 q k := rfl
theorem line23 : k0_pay23 q k = k0_pay16 q k := rfl
theorem line26 : k0_pay26 z = k0_pay24 z := rfl
theorem line31 : k0_pay31 z = k0_pay24 z := rfl
theorem line33 : k0_pay33 z = k0_pay24 z := rfl
theorem line35 : k0_pay35 z = k0_pay24 z := rfl
theorem line41 : k0_pay41 z = k0_pay24 z := rfl
theorem line29 : k0_pay29 z k0_pay28 = k0_pay24 z := rfl
theorem line40 : k0_pay40 (k0_pay37 z) (k0_pay38 z) k0_pay39 = k0_pay24 z := rfl
theorem line27 : k0_pay27 z = k0_pay25 z := rfl
theorem line32 : k0_pay32 z = k0_pay25 z := rfl
theorem line34 : k0_pay34 z = k0_pay25 z := rfl
theorem line36 : k0_pay36 z = k0_pay25 z := rfl
theorem line30 : k0_pay30 z k0_pay28 = k0_pay25 z := rfl
theorem line43 : k0_pay43 ok l = k0_pay42 ok l := rfl
theorem line44 : k0_pay44 ok l = k0_pay42 ok l := rfl
theorem line45 : k0_pay45 ok l = k0_pay42 ok l := rfl
theorem line46 : k0_pay46 ok l = k0_pay42 ok l := rfl
theorem line47 : k0_pay47 ok l = k0_pay42 ok l := rfl
theorem line48 : k0_pay48 ok z (k0_pay37 z) (k0_pay38 z) k0_pay39 = k0_pay42 ok (k0_pay25 z) := rfl
theorem line49 : k0_pay49 ok z = k0_pay42 ok (k0_pay25 z) := rfl
theorem line105 (x1 x2 x3 x4 x5 x6 x7 : FVec F S128x384 .f32) :
    k0_pay105 x7 k0_pay50 (k0_pay53 ok l) (k0_pay54 ok l) (k0_pay55 ok l) (k0_pay56 ok l) (k0_pay57 (k0_pay52 ok l)) (k0_pay58
      (k0_pay52 ok l)) (k0_pay61 x1) (k0_pay62 x1) (k0_pay63 x1) (k0_pay64 x1) (k0_pay65 x1) (k0_pay66 x1) (k0_pay69 x2)
      (k0_pay70 x2) (k0_pay71 x2) (k0_pay72 x2) (k0_pay73 x2) (k0_pay74 x2) (k0_pay77 x3) (k0_pay78 x3) (k0_pay79 x3)
      (k0_pay80 x3) (k0_pay81 x3) (k0_pay82 x3) (k0_pay85 x4) (k0_pay86 x4) (k0_pay87 x4) (k0_pay88 x4) (k0_pay89 x4)
      (k0_pay90 x4) (k0_pay93 x5) (k0_pay94 x5) (k0_pay95 x5) (k0_pay96 x5) (k0_pay97 x5) (k0_pay98 x5) (k0_pay100 x6)
      (k0_pay101 x6) (k0_pay102 x6) (k0_pay103 x6) (k0_pay104 x6) = inside (k0_pay42 ok l) x1 x2 x3 x4 x5 x6 x7 := rfl
theorem line108 (x1 x2 x3 x4 x5 x6 x7 : FVec F S128x384 .f32) :
    k0_pay108 (k0_pay42 ok l) x7 k0_pay50 (k0_pay53 ok l) (k0_pay54 ok l) (k0_pay55 ok l) (k0_pay56 ok l) (k0_pay57 (k0_pay52
      ok l)) (k0_pay58 (k0_pay52 ok l)) (k0_pay61 x1) (k0_pay62 x1) (k0_pay63 x1) (k0_pay64 x1) (k0_pay65 x1) (k0_pay66 x1)
      (k0_pay69 x2) (k0_pay70 x2) (k0_pay71 x2) (k0_pay72 x2) (k0_pay73 x2) (k0_pay74 x2) (k0_pay77 x3) (k0_pay78 x3)
      (k0_pay79 x3) (k0_pay80 x3) (k0_pay81 x3) (k0_pay82 x3) (k0_pay85 x4) (k0_pay86 x4) (k0_pay87 x4) (k0_pay88 x4)
      (k0_pay89 x4) (k0_pay90 x4) (k0_pay93 x5) (k0_pay94 x5) (k0_pay95 x5) (k0_pay96 x5) (k0_pay97 x5) (k0_pay98 x5)
      (k0_pay100 x6) (k0_pay101 x6) (k0_pay102 x6) (k0_pay103 x6) (k0_pay104 x6) = aft 0 (k0_pay42 ok l) (inside (k0_pay42 ok
      l) x1 x2 x3 x4 x5 x6 x7) := rfl
theorem line113 (x1 x2 x3 x4 x5 x6 x7 : FVec F S128x384 .f32) :
    k0_pay113 x7 k0_pay50 (k0_pay53 ok l) (k0_pay54 ok l) (k0_pay55 ok l) (k0_pay56 ok l) (k0_pay57 (k0_pay52 ok l)) (k0_pay58
      (k0_pay52 ok l)) (k0_pay61 x1) (k0_pay62 x1) (k0_pay63 x1) (k0_pay64 x1) (k0_pay65 x1) (k0_pay66 x1) (k0_pay69 x2)
      (k0_pay70 x2) (k0_pay71 x2) (k0_pay72 x2) (k0_pay73 x2) (k0_pay74 x2) (k0_pay77 x3) (k0_pay78 x3) (k0_pay79 x3)
      (k0_pay80 x3) (k0_pay81 x3) (k0_pay82 x3) (k0_pay85 x4) (k0_pay86 x4) (k0_pay87 x4) (k0_pay88 x4) (k0_pay89 x4)
      (k0_pay90 x4) (k0_pay93 x5) (k0_pay94 x5) (k0_pay95 x5) (k0_pay96 x5) (k0_pay97 x5) (k0_pay98 x5) (k0_pay100 x6)
      (k0_pay101 x6) (k0_pay102 x6) (k0_pay103 x6) (k0_pay104 x6) = addf (part 1 0 (by omega) (inside (k0_pay42 ok l) x1 x2 x3
      x4 x5 x6 x7)) (part 1 384 (by omega) (inside (k0_pay42 ok l) x1 x2 x3 x4 x5 x6 x7)) := rfl
theorem line114 : k0_pay114 I (k0_pay111 x) (k0_pay112 x) (addf (part 1 0 (by omega) I) (part 1 384 (by omega) I)) = aft 1 x I := rfl
theorem line118 : k0_pay118 x I = aft 2 x I := rfl
theorem line124 : k0_pay124 I (k0_pay121 x) (k0_pay122 x) (k0_pay123 I) = aft 3 x I := rfl
theorem line128 : k0_pay128 x I = aft 4 x I := rfl
theorem line134 : k0_pay134 I (k0_pay131 x) (k0_pay132 x) (k0_pay133 I) = aft 5 x I := rfl
theorem line138 : k0_pay138 x I = aft 6 x I := rfl
theorem line144 : k0_pay144 I (k0_pay141 x) (k0_pay142 x) (k0_pay143 I) = aft 7 x I := rfl
theorem line115 : k0_pay115 (k0_pay110 x) (k0_pay111 x) (k0_pay112 x) = k0_pay109 x := rfl
theorem line119 : k0_pay119 x = k0_pay109 x := rfl
theorem line125 : k0_pay125 (k0_pay120 x) (k0_pay121 x) (k0_pay122 x) = k0_pay109 x := rfl
theorem line129 : k0_pay129 x = k0_pay109 x := rfl
theorem line135 : k0_pay135 (k0_pay130 x) (k0_pay131 x) (k0_pay132 x) = k0_pay109 x := rfl
theorem line139 : k0_pay139 x = k0_pay109 x := rfl
theorem line145 : k0_pay145 (k0_pay140 x) (k0_pay141 x) (k0_pay142 x) = k0_pay109 x := rfl
theorem line147 : k0_pay147 c ok b a = k0_pay146 c ok b a := rfl
theorem line148 : k0_pay148 c ok b a = k0_pay146 c ok b a := rfl
theorem line149 : k0_pay149 c ok b a = k0_pay146 c ok b a := rfl
theorem line150 : k0_pay150 c ok b a = k0_pay146 c ok b a := rfl
theorem line151 : k0_pay151 c ok b a = k0_pay146 c ok b a := rfl
theorem line154 : k0_pay154 c ok b a = k0_pay146 c ok b a := rfl
theorem line153 : k0_pay153 ok (k0_pay152 c b a) = k0_pay146 c ok b a := rfl
theorem line156 : k0_pay156 c t = k0_pay155 c t := rfl
theorem line157 : k0_pay157 c t = k0_pay155 c t := rfl
theorem line158 : k0_pay158 c t = k0_pay155 c t := rfl
theorem line159 : k0_pay159 c t = k0_pay155 c t := rfl
theorem line160 : k0_pay160 c t = k0_pay155 c t := rfl
theorem line161 : k0_pay161 c t = k0_pay155 c t := rfl
theorem line162 : k0_pay162 c t = k0_pay155 c t := rfl
theorem line164 : k0_pay164 y w v = k0_pay163 y w v := rfl
theorem line165 : k0_pay165 y w v = k0_pay163 y w v := rfl
theorem line166 : k0_pay166 y w v = k0_pay163 y w v := rfl
theorem line167 : k0_pay167 y w v = k0_pay163 y w v := rfl
theorem line4 : k0_pay4 y (k0_pay168 w v) = k0_pay163 y w v := rfl
theorem line5 : k0_pay5 y w v = k0_pay163 y w v := rfl
theorem line6 : k0_pay6 y w v = k0_pay163 y w v := rfl
theorem line10 : k0_pay10 y = k0_pay9 y := rfl
theorem line11 : k0_pay11 y = k0_pay9 y := rfl
theorem line12 : k0_pay12 y = k0_pay9 y := rfl
theorem line13 : k0_pay13 y = k0_pay9 y := rfl
theorem line14 : k0_pay14 y = k0_pay9 y := rfl
theorem line1 : k0_pay1 y = k0_pay9 y := rfl
theorem line2 : k0_pay2 y = k0_pay9 y := rfl

end Lines

end Cert.Proof.StickFwd

end
-- ==== Proof.StickFwdSweep.lean ====
/-
  The loop of the forward stick-breaking kernel: a `while` that walks the groups of three key blocks backwards from the query
  block and carries, for each of eight heads, the running sum of the logarithms of the sticks left and the weighted sum of the
  values. `spec_le` proves the loop's label by induction on the trips still to run, `body_le` the whole body at a grid point.
-/
module

public import proofs.«01_k».proof.Proof.StickFwdTrip
public import proofs.«01_k».proof.Proof.Gen.StickFwdIdeal.Launch
public import proofs.«01_k».proof.Proof.Gen.StickFwdIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.StickFwd

open Cert.StickFwdIdeal Cert.StickFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Stick (jw first jw_eq jw_sge first_le)

variable {F : FTy → Type} [FloatOps F] [Named F]

local notation "𝕄" => MT nD τ sig Unit (Elt F) ℕ (UR sig nD τ) ℕ

/-- The kernel's variants: the trips the loop still has to run. -/
abbrev 𝒱₀ : Variants := Variants.nat

/-- The loop goes on: the block word is not negative and some running sum is above the threshold. -/
def live (j : BitVec 32) (c : Fin 8 → FVec F S128x1 .f32) : Prop :=
  Scalar.andi (Scalar.cmpi .sge j 0#32)
    (Scalar.cmpf .ogt (k0_pay3 (c 0) (c 1) (c 2) (c 3) (c 4) (c 5) (c 6) (c 7)) (Named.named κ "cut" 0xC2D20000#32 : F .f32)) = 1#1

/-- Head `h`'s columns of the 384 rows of group `k`, out of an array of 4096 rows. -/
def kw {e : EltTy} {n : ℕ} (hn : n < 32) (k : ℕ) (K : Vec F S4096x512 e) : Fin 8 → Vec F S384x64 e := fun h =>
  VecWindow.window K ![first n k, 64 * h.val] S384x64.size (rows_inb hn k _ (by omega))

section Sweep

variable {n : ℕ} (hn : n < 32) (q : Fin 8 → Vec F S128x64 .bf16) (K V : Vec F S4096x512 .bf16)

/-- The state ahead of trip `k`. -/
def st : ℕ → St F
  | 0 => state0
  | k + 1 => step (BitVec.ofNat 32 n) (jw n k) q (kw hn k K) (kw hn k V) (st k)

variable (c : Dev nD) (arg3 : Memref sig .tc .vmem S4096x512 .bf16) (harg3 : arg3.IsWhole)
  (arg4 : Memref sig .tc .vmem S4096x512 .bf16) (harg4 : arg4.IsWhole)

/-- What the loop's label reads. -/
def held : sProp 𝕄 :=
  iprop((arg3.view.loc (c : Thread nD τ) ↦[arg3.view.set]{fullShare} harg3.unread K)
    ∗ (arg4.view.loc (c : Thread nD τ) ↦[arg4.view.set]{fullShare} harg4.unread V))

/-- What the loop's label hands back. -/
abbrev Out (F : FTy → Type) := BitVec 32 × FVec F S128x1 .f32 × FVec F S128x64 .f32 × FVec F S128x1 .f32 × FVec F S128x64 .f32
  × FVec F S128x1 .f32 × FVec F S128x64 .f32 × FVec F S128x1 .f32 × FVec F S128x64 .f32 × FVec F S128x1 .f32 × FVec F S128x64 .f32
  × FVec F S128x1 .f32 × FVec F S128x64 .f32 × FVec F S128x1 .f32 × FVec F S128x64 .f32 × FVec F S128x1 .f32 × FVec F S128x64 .f32

/-- A state as it is handed back. -/
def pack (j : BitVec 32) (s : St F) : Out F :=
  (j, s.1 0, s.2 0, s.1 1, s.2 1, s.1 2, s.2 2, s.1 3, s.2 3, s.1 4, s.2 4, s.1 5, s.2 5, s.1 6, s.2 6, s.1 7, s.2 7)

/-- The label's specification with `m` trips to run from trip `k`: it returns the state after them, the keys and values as
    they were. -/
def spec (k m : ℕ) : sWPT 𝕄 (Out F) := do
  sWPT.consume (held K V c arg3 harg3 arg4 harg4)
  let r ← sWPT.arbitrary
  sWPT.assume (r = pack (jw n (k + m)) (st hn q K V (k + m)))
  sWPT.produce (held K V c arg3 harg3 arg4 harg4)
  pure r

theorem spec_apply (k m : ℕ) (Q : Out F → sProp 𝕄) :
    spec hn q K V c arg3 harg3 arg4 harg4 k m Q
      = iprop(held K V c arg3 harg3 arg4 harg4 ∗ ∀ r : Out F, ⌜r = pack (jw n (k + m)) (st hn q K V (k + m))⌝ -∗
        (held K V c arg3 harg3 arg4 harg4 -∗ Q r)) := rfl

include hn in
/-- A trip that runs has its first block at or after block 0. -/
theorem le_of_live {k : ℕ} (hk : k < 12) {c : Fin 8 → FVec F S128x1 .f32} (h : live (F := F) (jw n k) c) : 3 * k ≤ n := by
  by_contra hlt
  unfold live at h
  rw [jw_sge n hn k hk, if_neg hlt] at h
  revert h
  generalize (Scalar.cmpf .ogt (k0_pay3 (c 0) (c 1) (c 2) (c 3) (c 4) (c 5) (c 6) (c 7)) (Named.named κ "cut" 0xC2D20000#32 : F .f32)) = b
  revert b; decide

/-- The eight loads of a trip, as the loop spells them, -/
def loads (j : BitVec 32) (hj : k0_chk1 j) : Fin 8 → Vec F S384x64 .bf16
  | 0 => arg3.view.readAt (Elt F) (Rect.unit (s := S4096x512) (k0_off1 j) S384x64.size (k0_off1_inb j hj)).toLoadRect (harg3.unread K)
  | 1 => arg3.view.readAt (Elt F) (Rect.unit (s := S4096x512) (k0_off2 j) S384x64.size (k0_off2_inb j hj)).toLoadRect (harg3.unread K)
  | 2 => arg3.view.readAt (Elt F) (Rect.unit (s := S4096x512) (k0_off3 j) S384x64.size (k0_off3_inb j hj)).toLoadRect (harg3.unread K)
  | 3 => arg3.view.readAt (Elt F) (Rect.unit (s := S4096x512) (k0_off4 j) S384x64.size (k0_off4_inb j hj)).toLoadRect (harg3.unread K)
  | 4 => arg3.view.readAt (Elt F) (Rect.unit (s := S4096x512) (k0_off5 j) S384x64.size (k0_off5_inb j hj)).toLoadRect (harg3.unread K)
  | 5 => arg3.view.readAt (Elt F) (Rect.unit (s := S4096x512) (k0_off6 j) S384x64.size (k0_off6_inb j hj)).toLoadRect (harg3.unread K)
  | 6 => arg3.view.readAt (Elt F) (Rect.unit (s := S4096x512) (k0_off7 j) S384x64.size (k0_off7_inb j hj)).toLoadRect (harg3.unread K)
  | 7 => arg3.view.readAt (Elt F) (Rect.unit (s := S4096x512) (k0_off8 j) S384x64.size (k0_off8_inb j hj)).toLoadRect (harg3.unread K)

omit K arg3 harg3 V arg4 harg4 in
include hn in
/-- A load of 384 rows of one head is a window. -/
theorem read_window {e : EltTy} (arg : Memref sig .tc .vmem S4096x512 e) (harg : arg.IsWhole) (K : Vec F S4096x512 e)
    {off : Fin 2 → ℕ} (inb : ∀ a, off a + S384x64.size a ≤ S4096x512.size a) (k x : ℕ) (hx : x + 64 ≤ 512) (h : off = ![first n k, x]) :
    arg.view.readAt (Elt F) (Rect.unit (s := S4096x512) off S384x64.size inb).toLoadRect (harg.unread K)
      = VecWindow.window K ![first n k, x] S384x64.size (rows_inb hn k x hx) := by
  subst h
  rw [View.readAt_unit arg.view (harg.unread K) inb rfl inb, harg.read_unread]

omit V arg4 harg4 in
/-- are the windows. -/
theorem loads_eq (k : ℕ) (hk : k < 12) (hle : 3 * k ≤ n) (hj : k0_chk1 (jw n k)) :
    loads K arg3 harg3 (jw n k) hj = kw hn k K := by
  have e := jw_eq n hn k hk hle
  funext h
  match h with
  | 0 => exact read_window hn arg3 harg3 K _ k 0 (by omega) (by rw [e, off1_eq _ (by omega)]; rfl)
  | 1 => exact read_window hn arg3 harg3 K _ k 64 (by omega) (by rw [e, off2_eq _ (by omega)]; rfl)
  | 2 => exact read_window hn arg3 harg3 K _ k 128 (by omega) (by rw [e, off3_eq _ (by omega)]; rfl)
  | 3 => exact read_window hn arg3 harg3 K _ k 192 (by omega) (by rw [e, off4_eq _ (by omega)]; rfl)
  | 4 => exact read_window hn arg3 harg3 K _ k 256 (by omega) (by rw [e, off5_eq _ (by omega)]; rfl)
  | 5 => exact read_window hn arg3 harg3 K _ k 320 (by omega) (by rw [e, off6_eq _ (by omega)]; rfl)
  | 6 => exact read_window hn arg3 harg3 K _ k 384 (by omega) (by rw [e, off7_eq _ (by omega)]; rfl)
  | 7 => exact read_window hn arg3 harg3 K _ k 448 (by omega) (by rw [e, off8_eq _ (by omega)]; rfl)

set_option maxHeartbeats 4000000 in
theorem spec_le (i : grid0.Coords) (hi : (i 1).val = n) (E : Set ℕ) :
    ∀ m k, k + m < 12 → (∀ t < m, live (jw n (k + t)) (st hn q K V (k + t)).1) → ¬ live (jw n (k + m)) (st hn q K V (k + m)).1 →
      ∀ Q, spec hn q K V c arg3 harg3 arg4 harg4 k m Q
      ⊢ wp frame (wpE (defs₀ (F := F)) 𝒱₀ (c : Thread nD τ) (some m)) E
          (defs₀ (F := F) .tc 1 ⟨i, arg3, harg3, q 0, q 1, q 2, q 3, q 4, q 5, q 6, q 7, arg4, harg4, jw n k,
            (st hn q K V k).1 0, (st hn q K V k).2 0, (st hn q K V k).1 1, (st hn q K V k).2 1, (st hn q K V k).1 2, (st hn
            q K V k).2 2, (st hn q K V k).1 3, (st hn q K V k).2 3, (st hn q K V k).1 4, (st hn q K V k).2 4, (st hn q K V
            k).1 5, (st hn q K V k).2 5, (st hn q K V k).1 6, (st hn q K V k).2 6, (st hn q K V k).1 7, (st hn q K V k).2
            7⟩) Q := by
  intro m
  induction m with
  | zero =>
    intro k hk hl hs Q
    rw [spec_apply]
    show _ ⊢ wp frame (wpE (defs₀ (F := F)) 𝒱₀ (c : Thread nD τ) (some 0)) E
      (cc0_while1 i arg3 harg3 (q 0) (q 1) (q 2) (q 3) (q 4) (q 5) (q 6) (q 7) arg4 harg4 (jw n k)
        ((st hn q K V k).1 0) ((st hn q K V k).2 0) ((st hn q K V k).1 1) ((st hn q K V k).2 1) ((st hn q K V k).1 2)
        ((st hn q K V k).2 2) ((st hn q K V k).1 3) ((st hn q K V k).2 3) ((st hn q K V k).1 4) ((st hn q K V k).2 4)
        ((st hn q K V k).1 5) ((st hn q K V k).2 5) ((st hn q K V k).1 6) ((st hn q K V k).2 6) ((st hn q K V k).1 7)
        ((st hn q K V k).2 7)) Q
    simp only [cc0_while1_eq_skeleton]; unfold cc0_while1_skel
    have htest : ¬ Scalar.andi (Scalar.cmpi .sge (jw n k) 0#32)
      (Scalar.cmpf .ogt (k0_pay3 ((st hn q K V k).1 0) ((st hn q K V k).1 1) ((st hn q K V k).1 2) ((st hn q K V k).1 3) ((st hn q K V k).1 4) ((st hn q K V k).1 5) ((st hn q K V k).1 6) ((st hn q K V k).1 7))
        (Named.named κ "cut" 0xC2D20000#32 : F .f32)) = 1#1 := hs
    simp only [htest, ↓reduceIte, Prog.pure_eq_ret]
    iintro ⟨H, Hk⟩
    rw [wp_ret]; imodintro
    iapply Hk
    · ipureintro; rfl
    · iexact H
  | succ m ih =>
    intro k hk hl hs Q
    rw [spec_apply]
    show _ ⊢ wp frame (wpE (defs₀ (F := F)) 𝒱₀ (c : Thread nD τ) (some (m + 1))) E
      (cc0_while1 i arg3 harg3 (q 0) (q 1) (q 2) (q 3) (q 4) (q 5) (q 6) (q 7) arg4 harg4 (jw n k)
        ((st hn q K V k).1 0) ((st hn q K V k).2 0) ((st hn q K V k).1 1) ((st hn q K V k).2 1) ((st hn q K V k).1 2)
        ((st hn q K V k).2 2) ((st hn q K V k).1 3) ((st hn q K V k).2 3) ((st hn q K V k).1 4) ((st hn q K V k).2 4)
        ((st hn q K V k).1 5) ((st hn q K V k).2 5) ((st hn q K V k).1 6) ((st hn q K V k).2 6) ((st hn q K V k).1 7)
        ((st hn q K V k).2 7)) Q
    have h0 : live (jw n k) (st hn q K V k).1 := hl 0 (Nat.succ_pos m)
    have hle := le_of_live hn (by omega) h0
    have hc1 : k0_chk1 (jw n k) := by rw [jw_eq n hn k (by omega) hle]; exact chk1_of_lt _ (by omega)
    simp only [cc0_while1_eq_skeleton]; unfold cc0_while1_skel
    simp only [k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton,
      k0_part12_eq_skeleton]
    have htest : Scalar.andi (Scalar.cmpi .sge (jw n k) 0#32)
      (Scalar.cmpf .ogt (k0_pay3 ((st hn q K V k).1 0) ((st hn q K V k).1 1) ((st hn q K V k).1 2) ((st hn q K V k).1 3) ((st hn q K V k).1 4) ((st hn q K V k).1 5) ((st hn q K V k).1 6) ((st hn q K V k).1 7))
        (Named.named κ "cut" 0xC2D20000#32 : F .f32)) = 1#1 := h0
    simp only [htest, ↓reduceIte]
    unfold held
    iintro ⟨⟨H3, H4⟩, Hk⟩
    have el := loads_eq hn K arg3 harg3 k (by omega) hle hc1
    have el' := loads_eq hn V arg4 harg4 k (by omega) hle hc1
    have ec : st hn q K V (k + 1) = step (BitVec.ofNat 32 (i 1).val) (jw n k) q (loads K arg3 harg3 (jw n k) hc1)
        (loads V arg4 harg4 (jw n k) hc1) (st hn q K V k) := by
      rw [el, el', hi]; rfl
    have IH := ih (k + 1) (by omega) (fun t ht => by have := hl (t + 1) (by omega); rwa [show k + (t + 1) = k + 1 + t by omega] at this)
      (by rwa [show k + (m + 1) = k + 1 + m by omega] at hs)
    rw [ec] at IH
    sl_exec
    simp only [
      line17, line18, line19, line20, line21, line22, line23, line26, line31, line33, line35, line41, line29,
      line40, line27, line32, line34, line36, line30, line43, line44, line45, line46, line47, line48, line49,
      line105, line108, line113, line114, line118, line124, line128, line134, line138, line144, line115, line119,
      line125, line129, line135, line139, line145, line147, line148, line149, line150, line151, line154, line153,
      line156, line157, line158, line159, line160, line161, line162, line164, line165, line166, line167, line4,
      line5, line6, line10, line11, line12, line13, line14, line1, line2]
    iapply (wp_call_spec 𝒱₀ (c : Thread nD τ) (some (m + 1)) E
      (spec hn q K V c arg3 harg3 arg4 harg4 (k + 1) m) m (fun u hu => by cases hu; exact Nat.lt_succ_self m) IH)
    rw [spec_apply]; unfold held
    isplitl [H3 H4]
    · isplitl [H3]; · iexact H3
      iexact H4
    iintro %r %hr ⟨H3, H4⟩
    rw [wp_ret]; imodintro
    iapply Hk
    · ipureintro; rw [hr, show k + 1 + m = k + (m + 1) by omega]
    · isplitl [H3]; · iexact H3
      iexact H4

/-! ### The groups a point runs -/

/-- The loop stops. -/
theorem exists_groups : ∃ k, ¬ live (jw n k) (st hn q K V k).1 :=
  ⟨11, fun h => by have := le_of_live hn (by omega) h; omega⟩

open Classical in
/-- How many groups the loop runs. -/
def groups : ℕ := Nat.find (exists_groups hn q K V)

theorem groups_spec : ¬ live (jw n (groups hn q K V)) (st hn q K V (groups hn q K V)).1 := by
  classical exact Nat.find_spec (exists_groups hn q K V)

theorem groups_min {t : ℕ} (ht : t < groups hn q K V) : live (jw n t) (st hn q K V t).1 := by
  classical exact not_not.1 (Nat.find_min (exists_groups hn q K V) ht)

theorem groups_le : groups hn q K V ≤ 11 := by
  classical exact Nat.find_le (show ¬ live (jw n 11) (st hn q K V 11).1 from fun h => by have := le_of_live hn (by omega) h; omega)

theorem groups_three : 3 * groups hn q K V ≤ n + 3 := by
  rcases Nat.eq_zero_or_pos (groups hn q K V) with h | h
  · omega
  · have hl := groups_min hn q K V (t := groups hn q K V - 1) (by omega)
    have := le_of_live hn (by have := groups_le hn q K V; omega) hl
    omega

end Sweep

/-! ### The body -/

theorem col_inb (h : Fin 8) : ∀ a, (![0, 64 * h.val] : Fin 2 → ℕ) a + S128x64.size a ≤ S128x512.size a := by
  intro a
  match a with
  | 0 => exact le_refl 128
  | 1 => show 64 * h.val + 64 ≤ 512; omega

/-- The heads' columns of a block of 128 rows. -/
def cols (X : Vec F S128x512 .bf16) : Fin 8 → Vec F S128x64 .bf16 := fun h =>
  VecWindow.window X ![0, 64 * h.val] S128x64.size (col_inb h)

/-- The heads' results, put side by side. -/
def outBlock (X : Vec F S128x512 .bf16) (a : Fin 8 → FVec F S128x64 .f32) : Vec F S128x512 .bf16 :=
  VecWindow.put (VecWindow.put (VecWindow.put (VecWindow.put (VecWindow.put (VecWindow.put (VecWindow.put
  (VecWindow.put X ![0, 0] S128x64.size (k0_pay9 (a 0))) ![0, 64] S128x64.size (k0_pay9 (a 1))) ![0, 128] S128x64.size
  (k0_pay9 (a 2))) ![0, 192] S128x64.size (k0_pay9 (a 3))) ![0, 256] S128x64.size (k0_pay9 (a 4))) ![0, 320]
  S128x64.size (k0_pay9 (a 5))) ![0, 384] S128x64.size (k0_pay9 (a 6))) ![0, 448] S128x64.size (k0_pay9 (a 7))

/-- What the loop leaves at a point of the grid. -/
def swept (i : grid0.Coords) (q : Fin 8 → Vec F S128x64 .bf16) (K V : Vec F S4096x512 .bf16) : St F :=
  st (point_lt i) q K V (groups (point_lt i) q K V)

/-- A buffer and what it holds. -/
abbrev at_ {s : Shape} {e : EltTy} (c : Dev nD) (arg : Memref sig .tc .vmem s e) (harg : arg.IsWhole) (X : Vec F s e) : sProp 𝕄 :=
  iprop(arg.view.loc (c : Thread nD τ) ↦[arg.view.set]{fullShare} harg.unread X)

section Body

variable (i : grid0.Coords) (K V : Vec F S4096x512 .bf16)
  (c : Dev nD) (arg2 : Memref sig .tc .vmem S128x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S128x512 .bf16) (harg5 : arg5.IsWhole)

/-- The loads of the heads' columns, as the body spells them, -/
def colLoads (arg : Memref sig .tc .vmem S128x512 .bf16) (harg : arg.IsWhole) (X : Vec F S128x512 .bf16) : Fin 8 → Vec F S128x64 .bf16
  | 0 => arg.view.readAt (Elt F) (Rect.unit (s := S128x512) ![0, 0] S128x64.size inb_S128x512_S128x64_0_0).toLoadRect (harg.unread X)
  | 1 => arg.view.readAt (Elt F) (Rect.unit (s := S128x512) ![0, 64] S128x64.size inb_S128x512_S128x64_0_64).toLoadRect (harg.unread X)
  | 2 => arg.view.readAt (Elt F) (Rect.unit (s := S128x512) ![0, 128] S128x64.size inb_S128x512_S128x64_0_128).toLoadRect (harg.unread X)
  | 3 => arg.view.readAt (Elt F) (Rect.unit (s := S128x512) ![0, 192] S128x64.size inb_S128x512_S128x64_0_192).toLoadRect (harg.unread X)
  | 4 => arg.view.readAt (Elt F) (Rect.unit (s := S128x512) ![0, 256] S128x64.size inb_S128x512_S128x64_0_256).toLoadRect (harg.unread X)
  | 5 => arg.view.readAt (Elt F) (Rect.unit (s := S128x512) ![0, 320] S128x64.size inb_S128x512_S128x64_0_320).toLoadRect (harg.unread X)
  | 6 => arg.view.readAt (Elt F) (Rect.unit (s := S128x512) ![0, 384] S128x64.size inb_S128x512_S128x64_0_384).toLoadRect (harg.unread X)
  | 7 => arg.view.readAt (Elt F) (Rect.unit (s := S128x512) ![0, 448] S128x64.size inb_S128x512_S128x64_0_448).toLoadRect (harg.unread X)

/-- are the columns. -/
theorem colLoads_eq (arg : Memref sig .tc .vmem S128x512 .bf16) (harg : arg.IsWhole) (X : Vec F S128x512 .bf16) :
    colLoads arg harg X = cols X := by
  funext h
  match h with
  | 0 => exact (View.readAt_unit arg.view (harg.unread X) _ rfl inb_S128x512_S128x64_0_0).trans (by rw [harg.read_unread]; rfl)
  | 1 => exact (View.readAt_unit arg.view (harg.unread X) _ rfl inb_S128x512_S128x64_0_64).trans (by rw [harg.read_unread]; rfl)
  | 2 => exact (View.readAt_unit arg.view (harg.unread X) _ rfl inb_S128x512_S128x64_0_128).trans (by rw [harg.read_unread]; rfl)
  | 3 => exact (View.readAt_unit arg.view (harg.unread X) _ rfl inb_S128x512_S128x64_0_192).trans (by rw [harg.read_unread]; rfl)
  | 4 => exact (View.readAt_unit arg.view (harg.unread X) _ rfl inb_S128x512_S128x64_0_256).trans (by rw [harg.read_unread]; rfl)
  | 5 => exact (View.readAt_unit arg.view (harg.unread X) _ rfl inb_S128x512_S128x64_0_320).trans (by rw [harg.read_unread]; rfl)
  | 6 => exact (View.readAt_unit arg.view (harg.unread X) _ rfl inb_S128x512_S128x64_0_384).trans (by rw [harg.read_unread]; rfl)
  | 7 => exact (View.readAt_unit arg.view (harg.unread X) _ rfl inb_S128x512_S128x64_0_448).trans (by rw [harg.read_unread]; rfl)

/-- The eight stores of the results leave their block. -/
theorem writes_out (arg : Memref sig .tc .vmem S128x512 .bf16) (harg : arg.IsWhole) (X : Vec F S128x512 .bf16)
    (a : Fin 8 → FVec F S128x64 .f32) :
    arg.view.writes (Elt F) (harg.unread X)
      [⟨Rect.unit (s := S128x512) ![0, 448] S128x64.size inb_S128x512_S128x64_0_448, k0_pay9 (a 7)⟩,
        ⟨Rect.unit (s := S128x512) ![0, 384] S128x64.size inb_S128x512_S128x64_0_384, k0_pay9 (a 6)⟩,
        ⟨Rect.unit (s := S128x512) ![0, 320] S128x64.size inb_S128x512_S128x64_0_320, k0_pay9 (a 5)⟩,
        ⟨Rect.unit (s := S128x512) ![0, 256] S128x64.size inb_S128x512_S128x64_0_256, k0_pay9 (a 4)⟩,
        ⟨Rect.unit (s := S128x512) ![0, 192] S128x64.size inb_S128x512_S128x64_0_192, k0_pay9 (a 3)⟩,
        ⟨Rect.unit (s := S128x512) ![0, 128] S128x64.size inb_S128x512_S128x64_0_128, k0_pay9 (a 2)⟩,
        ⟨Rect.unit (s := S128x512) ![0, 64] S128x64.size inb_S128x512_S128x64_0_64, k0_pay9 (a 1)⟩,
        ⟨Rect.unit (s := S128x512) ![0, 0] S128x64.size inb_S128x512_S128x64_0_0, k0_pay9 (a 0)⟩]
      = harg.unread (outBlock X a) := by
  refine harg.eq_unread ?_
  rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.writes_nil, harg.read_unread]
  rfl

set_option maxHeartbeats 4000000 in
theorem body_le (E : Set ℕ) (Qb X5 : Vec F S128x512 .bf16) (Q : PUnit → sProp 𝕄) :
    iprop((at_ c arg2 harg2 Qb ∗ at_ c arg3 harg3 K ∗ at_ c arg4 harg4 V ∗ at_ c arg5 harg5 X5)
      ∗ ((at_ c arg2 harg2 Qb ∗ at_ c arg3 harg3 K ∗ at_ c arg4 harg4 V
          ∗ at_ c arg5 harg5 (outBlock X5 (swept i (cols Qb) K V).2)) -∗ Q ⟨⟩))
    ⊢ wp frame (wpE (defs₀ (F := F)) 𝒱₀ (c : Thread nD τ) none) E
      (cc0_attn_b_fwd i arg2 harg2 arg3 harg3 arg4 harg4 arg5 harg5) Q := by
  have hn := point_lt i
  have hG := groups_le hn (cols Qb) K V
  have hmin := fun t ht => groups_min hn (cols Qb) K V (t := t) ht
  have hstop := groups_spec hn (cols Qb) K V
  unfold swept
  generalize groups hn (cols Qb) K V = G at hG hmin hstop
  have hS := spec_le hn (cols Qb) K V c arg3 harg3 arg4 harg4 i rfl E G 0 (by omega)
    (fun t ht => by rw [Nat.zero_add]; exact hmin t ht) (by rw [Nat.zero_add]; exact hstop)
  rw [← colLoads_eq arg2 harg2 Qb]
  rw [← colLoads_eq arg2 harg2 Qb] at hS
  simp only [cc0_attn_b_fwd_eq_skeleton]; unfold cc0_attn_b_fwd_skel
  simp only [k0_part1_eq_skeleton]; unfold k0_part1_skel
  iintro ⟨⟨H2, H3, H4, H5⟩, Hk⟩
  sl_exec
  iapply (wp_call_spec 𝒱₀ (c : Thread nD τ) none E
    (spec hn (colLoads arg2 harg2 Qb) K V c arg3 harg3 arg4 harg4 0 G) G (fun u hu => nomatch hu) hS)
  rw [spec_apply]; unfold held
  isplitl [H3 H4]
  · isplitl [H3]; · iexact H3
    iexact H4
  iintro %r %hr ⟨H3, H4⟩
  subst hr
  rw [Nat.zero_add]
  unfold pack
  sl_exec
  simp only [line10, line11, line12, line13, line14, line1, line2]
  rw [wp_ret]; imodintro
  iapply Hk
  isplitl [H2]; · iexact H2
  isplitl [H3]; · iexact H3
  isplitl [H4]; · iexact H4
  iapply (Entails.of_eq (congrArg (fun f => iprop(arg5.view.loc (c : Thread nD τ) ↦[arg5.view.set]{fullShare} f)) (writes_out arg5 harg5 X5 _)))
  iexact H5

end Body

end Cert.Proof.StickFwd

end
-- ==== Proof.StickFwdRun.lean ====
module

public import proofs.«01_k».proof.Proof.StickFwdSweep
public import proofs.«01_k».proof.Proof.Gen.StickFwdIdeal.Points
public import Idealize.ShloMosaic.Lib.Claim
public import Idealize.ShloMosaic.Lib.Pipeline.ValueKit

@[expose] public section

/-! # The stick-breaking forward: the run

The launch over the grid's 128 points, from the body's triple (`body_le`): at each point the windows' blocks in and the
result's block out; nothing is carried from point to point. -/

set_option maxRecDepth 16384

noncomputable section

namespace Cert.Proof.StickFwd

open Cert.StickFwdIdeal Cert.StickFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arrays as the region finds them: as launched. -/
abbrev V (c : Dev nD) (b : Ref sig .tc) : Buf (Elt F) ((c : Thread nD τ).loc b) := m ((c : Thread nD τ).loc b)

theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- The three inputs' blocks, by their shapes. -/
abbrev qBlk (c : Dev nD) (t : Fin (cfg0 (F := F)).N) : Vec F S128x512 .bf16 := iblk m c 0 t
abbrev kBlk (c : Dev nD) (t : Fin (cfg0 (F := F)).N) : Vec F S4096x512 .bf16 := iblk m c 1 t
abbrev vBlk (c : Dev nD) (t : Fin (cfg0 (F := F)).N) : Vec F S4096x512 .bf16 := iblk m c 2 t

/-- What point `t`'s loop leaves. -/
abbrev sweptAt (c : Dev nD) (t : Fin (cfg0 (F := F)).N) : St F :=
  swept (grid0.coords t) (cols (qBlk m c t)) (kBlk m c t) (vBlk m c t)

/-- Eight heads' results side by side. -/
def side (a : Fin 8 → FVec F S128x64 .f32) : Vec F S128x512 .bf16 := fun y =>
  k0_pay9 (a ⟨(y 1).val / 64, Nat.div_lt_of_lt_mul (y 1).isLt⟩)
    (ix2 (⟨(y 0).val, (y 0).isLt⟩ : Fin 128) (⟨(y 1).val % 64, Nat.mod_lt _ (by omega)⟩ : Fin 64))

/-- A store of 64 columns, read. -/
theorem put_cols (D : Vec F S128x512 .bf16) (c : ℕ) (w : Vec F S128x64 .bf16) (y : S128x512.Idx) :
    VecWindow.put (s := S128x512) D ![0, c] S128x64.size w y
      = if h : c ≤ (y 1).val ∧ (y 1).val < c + 64 then
          w (ix2 (⟨(y 0).val, (y 0).isLt⟩ : Fin 128) (⟨(y 1).val - c, by omega⟩ : Fin 64)) else D y := by
  unfold VecWindow.put
  have h0 : (y 0).val < 128 := (y 0).isLt
  by_cases h : c ≤ (y 1).val ∧ (y 1).val < c + 64
  · rw [dif_pos h, dif_pos (fun a => by match a with | 0 => exact ⟨Nat.zero_le _, by show (y 0).val < 0 + 128; omega⟩ | 1 => exact h)]
    refine congrArg w (funext fun a => ?_)
    match a with
    | 0 => rfl
    | 1 => rfl
  · rw [dif_neg h, dif_neg fun h' => h (h' 1)]

/-- The eight stores cover their block. -/
theorem outBlock_eq (X : Vec F S128x512 .bf16) (a : Fin 8 → FVec F S128x64 .f32) : outBlock X a = side a := by
  funext y
  have hy : (y 1).val < 512 := (y 1).isLt
  have hit (h : Fin 8) (p : 64 * h.val ≤ (y 1).val ∧ (y 1).val < 64 * h.val + 64) :
      k0_pay9 (a h) (ix2 (⟨(y 0).val, (y 0).isLt⟩ : Fin 128) (⟨(y 1).val - 64 * h.val, by omega⟩ : Fin 64)) = side a y := by
    unfold side
    have e1 : h = ⟨(y 1).val / 64, Nat.div_lt_of_lt_mul (y 1).isLt⟩ := Fin.ext (by show h.val = (y 1).val / 64; omega)
    have e2 : (⟨(y 1).val - 64 * h.val, by omega⟩ : Fin 64) = ⟨(y 1).val % 64, Nat.mod_lt _ (by omega)⟩ :=
      Fin.ext (by show (y 1).val - 64 * h.val = (y 1).val % 64; omega)
    rw [e2, ← e1]
  unfold outBlock
  rw [put_cols, put_cols, put_cols, put_cols, put_cols, put_cols, put_cols, put_cols]
  split
  · rename_i p; exact hit 7 p
  split
  · rename_i p; exact hit 6 p
  split
  · rename_i p; exact hit 5 p
  split
  · rename_i p; exact hit 4 p
  split
  · rename_i p; exact hit 3 p
  split
  · rename_i p; exact hit 2 p
  split
  · rename_i p; exact hit 1 p
  split
  · rename_i p; exact hit 0 p
  exfalso
  omega

/-- The region invariant: what no window of the pipeline is, at anything. -/
def Φ (c : Dev nD) : sProp 𝕄 := Pipeline.ΦA spec0 c

/-- The proof data of the pipeline on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => side (sweptAt m c t).2
  Φ _ := Φ c
  q w := Pipeline.shareOf spec0 w
  owed _ := 0

theorem A_eq (c : Dev nD) (w : Fin (cfg0 (F := F)).W) : (dats m 0 c).A w = V m c (Pipeline.arrRef spec0 w) := rfl

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = side (sweptAt m c t).2 := rfl

/-- An input's current staging buffer holds its block at every point, fetched there or not. -/
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A whole memref's ownership, as the body's triple has it. -/
theorem owns_at {s : Shape} {e : EltTy} (c : Dev nD) (arg : Memref sig .tc .vmem s e) (harg : arg.IsWhole) (X : Vec F s e) :
    owns (c : Thread nD τ) arg fullShare X ⊢ at_ c arg harg X := by
  unfold owns
  iintro ⟨%f, %hf, H⟩
  obtain rfl := harg.eq_unread hf
  iexact H

theorem at_owns {s : Shape} {e : EltTy} (c : Dev nD) (arg : Memref sig .tc .vmem s e) (harg : arg.IsWhole) (X : Vec F s e) :
    at_ c arg harg X ⊢ owns (c : Thread nD τ) arg fullShare X := by
  unfold owns
  iintro H
  iexists _
  isplitr
  · ipureintro; exact harg.read_unread X
  iexact H

set_option maxHeartbeats 800000 in
/-- The body's triple over owned windows. -/
theorem body_owns (i : grid0.Coords) (K V : Vec F S4096x512 .bf16) (c : Dev nD)
    (arg2 : Memref sig .tc .vmem S128x512 .bf16) (harg2 : arg2.IsWhole) (arg3 : Memref sig .tc .vmem S4096x512 .bf16) (harg3 : arg3.IsWhole)
    (arg4 : Memref sig .tc .vmem S4096x512 .bf16) (harg4 : arg4.IsWhole) (arg5 : Memref sig .tc .vmem S128x512 .bf16) (harg5 : arg5.IsWhole)
    (Qb X5 : Vec F S128x512 .bf16) (Q : PUnit → sProp 𝕄) :
    iprop((owns (c : Thread nD τ) arg2 fullShare Qb ∗ owns (c : Thread nD τ) arg3 fullShare K ∗ owns (c : Thread nD τ) arg4 fullShare V
        ∗ owns (c : Thread nD τ) arg5 fullShare X5)
      ∗ ((owns (c : Thread nD τ) arg2 fullShare Qb ∗ owns (c : Thread nD τ) arg3 fullShare K ∗ owns (c : Thread nD τ) arg4 fullShare V
        ∗ owns (c : Thread nD τ) arg5 fullShare (side (swept i (cols Qb) K V).2)) -∗ Q ⟨⟩))
    ⊢ wp frame (wpE (defs₀ (F := F)) 𝒱₀ (c : Thread nD τ) none) Set.univ
      (cc0_attn_b_fwd i arg2 harg2 arg3 harg3 arg4 harg4 arg5 harg5) Q := by
  rw [← outBlock_eq X5]
  refine BIBase.Entails.trans ?_ (body_le i K V c arg2 harg2 arg3 harg3 arg4 harg4 arg5 harg5 Set.univ Qb X5 Q)
  iintro ⟨⟨H2, H3, H4, H5⟩, HQ⟩
  isplitr [HQ]
  · isplitl [H2]; · iapply (owns_at c arg2 harg2); iexact H2
    isplitl [H3]; · iapply (owns_at c arg3 harg3); iexact H3
    isplitl [H4]; · iapply (owns_at c arg4 harg4); iexact H4
    iapply (owns_at c arg5 harg5); iexact H5
  iintro ⟨H2, H3, H4, H5⟩
  iapply HQ
  isplitl [H2]; · iapply (at_owns c arg2 harg2); iexact H2
  isplitl [H3]; · iapply (at_owns c arg3 harg3); iexact H3
  isplitl [H4]; · iapply (at_owns c arg4 harg4); iexact H4
  iapply (at_owns c arg5 harg5); iexact H5

set_option maxHeartbeats 800000 in
/-- The body at any point. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, show (dats m 0 c).Φ t.castSucc = Φ c from rfl, show (dats m 0 c).Φ t.succ = Φ c from rfl]
  iintro ⟨Hr, Ho, ⟨%d0, H0⟩, ⟨%d1, H1⟩, ⟨%d2, H2⟩, ⟨%d3, H3⟩⟩
  iapply (body_owns (grid0.coords t) (kBlk m c t) (vBlk m c t) c (win0_0.stage ((cfg0 (F := F)).slots t 0)) (hstage0_0 (((cfg0 (F := F)).slots t 0).cast nbuf0_0))
    (win0_1.stage ((cfg0 (F := F)).slots t 1)) (hstage0_1 (((cfg0 (F := F)).slots t 1).cast nbuf0_1))
    (win0_2.stage ((cfg0 (F := F)).slots t 2)) (hstage0_2 (((cfg0 (F := F)).slots t 2).cast nbuf0_2))
    (win0_3.stage ((cfg0 (F := F)).slots t 3)) (hstage0_3 (((cfg0 (F := F)).slots t 3).cast nbuf0_3))
    (qBlk m c t) ((dats m 0 c).before 3 t d3))
  isplitr [Hr Ho]
  · isplitl [H0]; · iexact H0
    isplitl [H1]; · iexact H1
    isplitl [H2]; · iexact H2
    iexact H3
  iintro ⟨H0, H1, H2, H3⟩
  isplitl [Hr]; · iexact Hr
  isplitl [Ho]; · iexact Ho
  isplitl [H0]; · iexact H0
  isplitl [H1]; · iexact H1
  isplitl [H2]; · iexact H2
  iexact H3

/-- The body table's row at point `t`'s slots. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem hin (c : Dev nD) : (Pipeline.ΦA spec0 c : sProp 𝕄) ⊢ (dats (F := F) m 0 c).Φ 0 := BIBase.Entails.rfl

theorem hout (c : Dev nD) : (dats (F := F) m 0 c).Φ (Fin.last (cfg0 (F := F)).N) ⊢ (Pipeline.ΦA spec0 c : sProp 𝕄) := BIBase.Entails.rfl

set_option backward.isDefEq.respectTransparency.types false in
/-- The launch: every array of the pipeline at what the proof data says, and every semaphore counter zero. -/
theorem run_quiescent : θ_run defs (onTc (τ := τ) (main (F := F))) ⟨m, fun _ => 0, ρ⟩
    (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hin := hin m) (hout := hout m)

theorem run_main : θ_run defs (onTc (τ := τ) (main (F := F))) ⟨m, fun _ => 0, ρ⟩ (Pipeline.FramePost cfgs (dats m) 0 (V m)) :=
  (θ_run defs _ _).mono (fun _ h => h.1) (run_quiescent m ρ)

/-- The argument array ends unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => ((h.1 c).1 0).trans (((dats m 0 c).arrAt_in 0 rfl _).trans (A_eq m c 0)),
    h.2⟩) (run_quiescent m ρ)

end Cert.Proof.StickFwd

end
-- ==== Proof.StickFwdReal.lean ====
/-
  One trip of the forward stick-breaking kernel over real data: the logarithms of each stick and of what it leaves, their sums
  over a group's later columns as the stack of high and low parts gives them, the weights, and what a trip adds to the running
  sums and to the accumulated values.
-/
module

public import proofs.«01_k».proof.Proof.StickFwdTrip
public import proofs.«01_k».proof.Proof.StickSums
public import Idealize.ShloMosaic.Lib.Pointwise
public import Idealize.ShloMosaic.Lib.Pipeline.ValueKit

@[expose] public section

set_option maxRecDepth 16384

noncomputable section

namespace Cert.Proof.StickFwd

open Cert.StickFwdIdeal Cert.StickFwdIdeal.Gen
open Idealize.ShloMosaic Idealize.ShloMosaic.TcCoe
open Cert.Proof.Finite
open Cert.Proof.Stick (lit_zero lit_eighth col half half_real stack_real bit_num gt_bit blockSum later later_eq sum3 lsig lsig_ker logit col_surj
  block_real ok)

/-! ### The stack's sums -/

section Stack

variable {α : Type}

/-- Row `r` of block `p` of the stack of forty-eight. -/
abbrev srow (p : Fin 48) (r : Fin 128) : Fin 6144 := ⟨128 * p.val + r.val, by omega⟩

theorem inner_eq (R : Fin 6144) (c r : Fin 128) (m : ℕ) (hm : m = r.val)
    (h : ∀ b : Fin S128x128.rank, (if b.val = (0 : Fin S6144x128.rank).val then m else ((ix2 R c : S6144x128.Idx) (b.cast rfl)).val) < S128x128.size b) :
    (Shape.Idx.norm fun b : Fin S128x128.rank => (⟨if b.val = (0 : Fin S6144x128.rank).val then m else ((ix2 R c : S6144x128.Idx) (b.cast rfl)).val, h b⟩ : Fin (S128x128.size b)))
      = (ix2 r c : S128x128.Idx) := by
  subst hm
  rw [Shape.Idx.norm_def]
  funext b
  match b with
  | 0 => rfl
  | 1 => rfl

/-- Blocks stacked by rows, read inside block `p`. -/
theorem stack_at (R : Fin 6144) (c r : Fin 128) : ∀ (xs : List (S128x128.Idx → α)) (hs : _) (p : ℕ) (hp : p < xs.length) (hc : _),
    concatenateAt S6144x128 0 (ix2 R c) (xs.map (Sigma.mk S128x128)) hs (128 * p + r.val) hc = xs[p] (ix2 r c)
  | [], _, _, hp, _ => absurd hp (Nat.not_lt_zero _)
  | [x], hs, p, hp, hc => by
    obtain rfl : p = 0 := by simpa using hp
    exact (concatenateAt_singleton _ _ _ _ _ _).trans (congrArg x (inner_eq R c r _ (by omega) _))
  | x :: y :: xs, hs, 0, hp, hc =>
    (concatenateAt_cons _ _ _ _ _ _ _ _).trans ((dif_pos (show 128 * 0 + r.val < 128 by omega)).trans
      (congrArg x (inner_eq R c r _ (by omega) _)))
  | x :: y :: xs, hs, p + 1, hp, hc => by
    have ih := stack_at R c r (y :: xs) (fun s h => hs s (List.mem_cons_of_mem _ h)) p (by simpa using hp)
    refine (concatenateAt_cons _ _ _ _ _ _ _ _).trans ((dif_neg (show ¬ 128 * (p + 1) + r.val < 128 by omega)).trans ?_)
    have e : 128 * (p + 1) + r.val - 128 = 128 * p + r.val := by omega
    refine Eq.trans ?_ (ih ?_)
    · congr 1
    · rw [← e]; exact Nat.sub_lt_left_of_lt_add (by omega) hc

end Stack

/-- Block `i` of the high parts (`part` 0) or of the low ones (`part` 1) of head `h`, in the stack. -/
abbrev blk (h : Fin 8) (part : Fin 2) (i : Fin 3) : Fin 48 := ⟨6 * h.val + 3 * part.val + i.val, by omega⟩

theorem six_apply (x : FVec Ideal S128x384 .f32) (r c : Fin 128) : ∀ (part : Fin 2) (i : Fin 3) (h : 3 * part.val + i.val < 6),
    ((six x)[3 * part.val + i.val]'h) (ix2 r c) = half part (x (ix2 r (col i c))) := by
  intro part i h
  fin_cases part <;> fin_cases i <;> simp [six, half] <;> unfold_payloads <;> pointwise <;>
    first
    | exact congrArg (fun d => x (ix2 r d)) (Fin.ext (by simp))
    | exact congrArg (fun d => x (ix2 r d) - x (ix2 r d)) (Fin.ext (by simp))

theorem stack_get (x : Fin 8 → FVec Ideal S128x384 .f32) : ∀ (h : Fin 8) (p : ℕ) (hp : p < 6) (hq : 6 * h.val + p < (stack x).length),
    (stack x)[6 * h.val + p]'hq = (six (x h))[p]'hp := by
  intro h p hp hq
  interval_cases p <;> fin_cases h <;> rfl

theorem mm_stack (A : FVec Ideal S6144x128 .bf16) (B : FVec Ideal S128x128 .bf16) (R : Fin 6144) (c : Fin 128) :
    matmul dot_S6144x128_S128x128_S6144x128_1_0_0_1_n_n none A B (constant (F := Ideal) S6144x128 .f32 0x00000000#32) (ix2 R c)
      = ∑ b : Fin 128, A (ix2 R b) * B (ix2 b c) := by
  pointwise

/-- A row of the stack. -/
theorem stack_row (x : Fin 8 → FVec Ideal S128x384 .f32) (h : Fin 8) (part : Fin 2) (i : Fin 3) (r b : Fin 128) (hc) :
    concatenate S6144x128 0 ((stack x).map (Sigma.mk S128x128)) hc (ix2 (srow (blk h part i) r) b)
      = half part (x h (ix2 r (col i b))) := by
  refine (concatenate_apply _ _ _ _ _).trans ?_
  have hl : (blk h part i).val < (stack x).length := (blk h part i).isLt
  refine (stack_at _ b r (stack x) _ (blk h part i).val hl _).trans ?_
  have e : (blk h part i).val = 6 * h.val + (3 * part.val + i.val) := by simp only [blk]; omega
  have h6 : 3 * part.val + i.val < 6 := by omega
  have hl' : 6 * h.val + (3 * part.val + i.val) < (stack x).length := e ▸ hl
  have e2 : (stack x)[(blk h part i).val]'hl = (stack x)[6 * h.val + (3 * part.val + i.val)]'hl' := getElem_congr_idx e
  rw [e2, stack_get x h _ h6, six_apply (x h) r b part i h6]

/-- The triangle's entry. -/
theorem tri_apply (b c : Fin 128) : k0_pay50 (F := Ideal) (ix2 b c) = (((if c.val < b.val then 1 else 0 : ℝ)) : EReal) := by
  unfold k0_pay50
  pointwise
  rw [gt_bit, bit_num]
  simp

/-- The stack's sums: a block's entries against the triangle. -/
theorem inside_apply (x : Fin 8 → FVec Ideal S128x384 .f32) (r c : Fin 128) (h : Fin 8) (part : Fin 2) (i : Fin 3) :
    inside (x 0) (x 1) (x 2) (x 3) (x 4) (x 5) (x 6) (x 7) (ix2 (srow (blk h part i) r) c)
      = ∑ b : Fin 128, half part (x h (ix2 r (col i b))) * (((if c.val < b.val then 1 else 0 : ℝ)) : EReal) := by
  unfold inside
  refine (mm_stack _ _ _ _).trans (Finset.sum_congr rfl fun b _ => ?_)
  exact congrArg₂ (· * ·) (stack_row x h part i r b _) (tri_apply b c)

theorem part_apply (h : Fin 8) (o : ℕ) (ho : o ≤ 640) (I : FVec Ideal S6144x128 .f32) (p : Fin 2) (i : Fin 3) (hp : o = 384 * p.val + 128 * i.val)
    (r c : Fin 128) : part h o ho I (ix2 r c) = I (ix2 (srow (blk h p i) r) c) := by
  unfold part
  refine congrArg I (funext fun a => Fin.ext ?_)
  match a with
  | 0 => show 768 * h.val + o + r.val = 128 * (6 * h.val + 3 * p.val + i.val) + r.val; omega
  | 1 => show 0 + c.val = c.val; omega

theorem block1 (x : FVec Ideal S128x384 .f32) (r : Fin 128) : k0_pay106 x (ix2 r 0) = blockSum x r 1 := by
  unfold_payloads; pointwise; rfl
theorem block2 (x : FVec Ideal S128x384 .f32) (r : Fin 128) : k0_pay107 x (ix2 r 0) = blockSum x r 2 := by
  unfold_payloads; pointwise; rfl
theorem total_apply (x : FVec Ideal S128x384 .f32) (r : Fin 128) : k0_pay109 x (ix2 r 0) = blockSum x r 0 + blockSum x r 1 + blockSum x r 2 := by
  unfold k0_pay109
  pointwise
  rw [block1, block2]
  simp only [blockSum]
  refine congrArg (· + _ + _) (Finset.sum_congr rfl fun b _ => congrArg (fun d => x (ix2 r d)) (Fin.ext (by simp)))

theorem aft_apply (h : Fin 8) (x : FVec Ideal S128x384 .f32) (I : FVec Ideal S6144x128 .f32) (r c : Fin 128) (i : Fin 3) :
    aft h x I (ix2 r (col i c)) = later (I (ix2 (srow (blk h 0 i) r) c) + I (ix2 (srow (blk h 1 i) r) c)) (blockSum x r) i := by
  have e1 := block1 x r
  have e2 := block2 x r
  have a0 := part_apply h 0 (by omega) I 0 0 rfl r c
  have a1 := part_apply h 128 (by omega) I 0 1 rfl r c
  have a2 := part_apply h 256 (by omega) I 0 2 rfl r c
  have b0 := part_apply h 384 (by omega) I 1 0 rfl r c
  have b1 := part_apply h 512 (by omega) I 1 1 rfl r c
  have b2 := part_apply h 640 (by omega) I 1 2 rfl r c
  unfold aft
  generalize k0_pay106 x = s1 at *
  generalize k0_pay107 x = s2 at *
  generalize part h 0 _ I = p0 at *
  generalize part h 128 _ I = p1 at *
  generalize part h 256 _ I = p2 at *
  generalize part h 384 _ I = q0 at *
  generalize part h 512 _ I = q1 at *
  generalize part h 640 _ I = q2 at *
  fin_cases i <;> simp only [later] <;> pointwise
  all_goals (try rw [dif_neg (by omega), dif_neg (by omega)])
  all_goals (try simp only [show 256 + c.val - 128 - 128 = c.val by omega])
  · exact congrArg₂ (· + ·) (congrArg₂ (· + ·) (congrArg₂ (· + ·) a0 b0) e1) e2
  · exact congrArg₂ (· + ·) (congrArg₂ (· + ·) a1 b1) e2
  · exact congrArg₂ (· + ·) a2 b2

/-- The sums over a group's later columns. -/
theorem aft_real (x : Fin 8 → FVec Ideal S128x384 .f32) (h : Fin 8) (r : Fin 128) (f : Fin 384 → ℝ)
    (hx : ∀ c, x h (ix2 r c) = ((f c : ℝ) : EReal)) (c : Fin 384) :
    aft h (x h) (inside (x 0) (x 1) (x 2) (x 3) (x 4) (x 5) (x 6) (x 7)) (ix2 r c) = ((∑ y : Fin 384, if c.val < y.val then f y else 0 : ℝ) : EReal) := by
  obtain ⟨i, b, rfl⟩ := col_surj c
  rw [aft_apply, inside_apply, inside_apply, block_real hx]
  simp only [hx]
  rw [stack_real (fun y => f (col i y)) (fun y => if b.val < y.val then 1 else 0)]
  exact later_eq f i b

/-! ### A trip -/

section Trip

variable (n j : BitVec 32) (q : Fin 8 → Vec Ideal S128x64 .bf16) (k v : Fin 8 → Vec Ideal S384x64 .bf16)
  (Q : Fin 8 → Fin 128 → Fin 64 → ℝ) (K V : Fin 8 → Fin 384 → Fin 64 → ℝ) (P : Fin 128 → Fin 384 → Prop) [∀ r c, Decidable (P r c)]
  (hq : ∀ h r d, q h (ix2 r d) = ((Q h r d : ℝ) : EReal)) (hk : ∀ h c d, k h (ix2 c d) = ((K h c d : ℝ) : EReal))
  (hv : ∀ h c d, v h (ix2 c d) = ((V h c d : ℝ) : EReal)) (hp : ∀ r c, ok n j (ix2 r c) = if P r c then 1#1 else 0#1)

/-- What a stick leaves at one key, as the trip counts it. -/
abbrev lmr (h : Fin 8) (r : Fin 128) (c : Fin 384) : ℝ := if P r c then lsig (logit (Q h r) (K h c)) - logit (Q h r) (K h c) else 0

/-- The masks of the two kernels are one. -/
theorem ok_eq : k0_pay15 j n = ok n j := rfl

include hq hk in
theorem zk_apply (h : Fin 8) (r : Fin 128) (c : Fin 384) : zk q k h (ix2 r c) = ((logit (Q h r) (K h c) : ℝ) : EReal) := by
  unfold zk
  unfold_payloads
  pointwise [hq, hk, lit_eighth]
  simp only [← EReal.coe_mul, ← coe_sum, logit]

include hq hk in
theorem lb_apply (h : Fin 8) (r : Fin 128) (c : Fin 384) : k0_pay24 (zk q k h) (ix2 r c) = ((lsig (logit (Q h r) (K h c)) : ℝ) : EReal) := by
  have hz := zk_apply q k Q K hq hk h r c
  rw [← lsig_ker]
  generalize zk q k h = z at hz ⊢
  unfold_payloads
  pointwise [hz]
  all_goals rfl

include hq hk hp in
theorem lm_apply (h : Fin 8) (r : Fin 128) (c : Fin 384) : lm n j q k h (ix2 r c) = ((lmr Q K P h r c : ℝ) : EReal) := by
  have e := hp r c
  have hz := zk_apply q k Q K hq hk h r c
  have hl := lb_apply q k Q K hq hk h r c
  unfold lm lmr
  rw [ok_eq]
  generalize ok n j = m at e ⊢
  unfold k0_pay42 k0_pay25
  generalize zk q k h = z at hz hl ⊢
  generalize k0_pay24 z = l at hl ⊢
  pointwise [e, hl, hz, lit_zero]
  by_cases p : P r c
  · rw [if_pos p, if_pos p, EReal.coe_sub]; rfl
  · rw [if_neg p, if_neg p]; rfl

include hq hk hp in
/-- A weight, from what the running sums hold. -/
theorem wt_apply (c : Fin 8 → FVec Ideal S128x1 .f32) (C : Fin 8 → Fin 128 → ℝ) (hc : ∀ h r, c h (ix2 r 0) = ((C h r : ℝ) : EReal))
    (h : Fin 8) (r : Fin 128) (x : Fin 384) : wt n j q k c h (ix2 r x)
      = ((if P r x then Real.exp (lsig (logit (Q h r) (K h x)) + C h r + ∑ y : Fin 384, if x.val < y.val then lmr Q K P h r y else 0) else 0 : ℝ) : EReal) := by
  have e := hp r x
  have hl := lb_apply q k Q K hq hk h r x
  have ha : aft h (lm n j q k h) (ins n j q k) (ix2 r x) = _ := aft_real (lm n j q k) h r (lmr Q K P h r) (lm_apply n j q k Q K P hq hk hp h r) x
  have hc := hc h r
  unfold wt
  rw [ok_eq]
  generalize aft h (lm n j q k h) (ins n j q k) = a at ha ⊢
  generalize ok n j = m at e ⊢
  generalize k0_pay24 (zk q k h) = l at hl ⊢
  generalize c h = c' at hc ⊢
  unfold k0_pay146
  pointwise [e, hl, ha, hc, lit_zero]
  by_cases p : P r x
  · rw [if_pos p, if_pos p, ← EReal.coe_add, ← EReal.coe_add, Ideal.exp_coe]; rfl
  · rw [if_neg p, if_neg p]; rfl

include hq hk hp in
/-- A trip's running sums, -/
theorem step_sum (s : St Ideal) (C : Fin 8 → Fin 128 → ℝ) (hc : ∀ h r, s.1 h (ix2 r 0) = ((C h r : ℝ) : EReal)) (h : Fin 8) (r : Fin 128) :
    (step n j q k v s).1 h (ix2 r 0) = ((C h r + ∑ x, lmr Q K P h r x : ℝ) : EReal) := by
  have hl := lm_apply n j q k Q K P hq hk hp h r
  have ht := total_apply (lm n j q k h) r
  have hb : blockSum (lm n j q k h) r = _ := block_real hl
  rw [hb] at ht
  have e := ht.trans (sum3 (u := fun i => ((∑ b, lmr Q K P h r (col i b) : ℝ) : EReal)) (f := lmr Q K P h r) rfl)
  show k0_pay155 (s.1 h) (k0_pay109 (lm n j q k h)) (ix2 r 0) = _
  generalize k0_pay109 (lm n j q k h) = t at e ⊢
  have hc := hc h r
  generalize s.1 h = c at hc ⊢
  unfold_payloads
  pointwise [hc, e]
  exact (EReal.coe_add _ _).symm

include hv in
/-- and its accumulated values, from its weights. -/
theorem step_acc (s : St Ideal) (W : Fin 8 → Fin 128 → Fin 384 → ℝ) (hw : ∀ h r x, wt n j q k s.1 h (ix2 r x) = ((W h r x : ℝ) : EReal))
    (S : Fin 8 → Fin 128 → Fin 64 → ℝ) (hs : ∀ h r e, s.2 h (ix2 r e) = ((S h r e : ℝ) : EReal)) (h : Fin 8) (r : Fin 128) (e : Fin 64) :
    (step n j q k v s).2 h (ix2 r e) = ((S h r e + ∑ x, W h r x * V h x e : ℝ) : EReal) := by
  show k0_pay163 (s.2 h) (wt n j q k s.1 h) (v h) (ix2 r e) = _
  have hw := hw h r
  have hs := hs h r e
  have hv := fun x => hv h x e
  generalize wt n j q k s.1 h = w at hw ⊢
  generalize s.2 h = a at hs ⊢
  generalize v h = v' at hv ⊢
  unfold_payloads
  pointwise [hw, hs, hv]
  simp only [← EReal.coe_mul, ← coe_sum, ← EReal.coe_add]

end Trip

theorem state0_sum (h : Fin 8) (r : Fin 128) : (state0 (F := Ideal)).1 h (ix2 r 0) = ((0 : ℝ) : EReal) := by
  show k0_pay7 (F := Ideal) (ix2 r 0) = _
  unfold_payloads; pointwise; rfl
theorem state0_acc (h : Fin 8) (r : Fin 128) (e : Fin 64) : (state0 (F := Ideal)).2 h (ix2 r e) = ((0 : ℝ) : EReal) := by
  show k0_pay8 (F := Ideal) (ix2 r e) = _
  unfold_payloads; pointwise; rfl

end Cert.Proof.StickFwd

end
-- ==== Proof.StickFwdValue.lean ====
/-
  The result the forward stick-breaking kernel leaves, over real data: the running sums and the accumulated values ahead of each
  group of a block of queries, the groups a block runs, and the array the grid's blocks cover.
-/
module

public import proofs.«01_k».proof.Proof.StickFwdRun
public import proofs.«01_k».proof.Proof.StickFwdReal
public import proofs.«01_k».proof.Proof.StickValue

@[expose] public section

set_option maxRecDepth 16384

noncomputable section

namespace Cert.Proof.StickFwd

open Cert.StickFwdIdeal Cert.StickFwdIdeal.Gen
open Idealize.ShloMosaic Idealize.ShloMosaic.TcCoe
open Cert.Proof.Finite
open Cert.Proof.Rms (up)
open Cert.Proof.Stick (jw first jw_eq jw_sge first_le hi first_eq first_le_hi hi_le_first hi_le window_sum window_after inWin ok_apply
  zz left wgt left_of_le wgt_of_le fold_gt rd rd_of qd kd vd wv laid laid_apply)

/-! ### The groups of a block of queries -/

section Group

/-- Column `e` of head `h`. -/
def cl (h : Fin 8) (e : Fin 64) : Fin 512 := ⟨64 * h.val + e.val, by omega⟩

theorem kw_apply {e : EltTy} {n : ℕ} (hn : n < 32) (k : ℕ) (X : Vec Ideal S4096x512 e) (h : Fin 8) (x : Fin 384) (c : Fin 64) :
    kw hn k X h (ix2 x c) = X (ix2 ⟨first n k + x.val, by have := first_le hn k; omega⟩ (cl h c)) := by
  refine congrArg X (funext fun a => Fin.ext ?_)
  match a with
  | 0 => show first n k + 1 * x.val = first n k + x.val; omega
  | 1 => show 64 * h.val + 1 * c.val = 64 * h.val + c.val; omega

theorem cols_apply (X : Vec Ideal S128x512 .bf16) (h : Fin 8) (r : Fin 128) (e : Fin 64) : cols X h (ix2 r e) = X (ix2 r (cl h e)) := by
  refine congrArg X (funext fun a => Fin.ext ?_)
  match a with
  | 0 => show 0 + 1 * r.val = r.val; omega
  | 1 => show 64 * h.val + 1 * e.val = 64 * h.val + e.val; omega

variable {n : ℕ} (hn : n < 32) (q : Fin 8 → Vec Ideal S128x64 .bf16) (K V : Vec Ideal S4096x512 .bf16)
  (Q Kr Vr : Fin 8 → ℕ → Fin 64 → ℝ)
  (hq : ∀ h r e, q h (ix2 r e) = ((Q h (128 * n + r.val) e : ℝ) : EReal))
  (hK : ∀ h (j : Fin 4096) e, K (ix2 j (cl h e)) = ((Kr h j.val e : ℝ) : EReal)) (hV : ∀ h (j : Fin 4096) e, V (ix2 j (cl h e)) = ((Vr h j.val e : ℝ) : EReal))

/-- A block's queries and a group's keys, as the trips read them. -/
abbrev rq (n : ℕ) (X : Fin 8 → ℕ → Fin 64 → ℝ) : Fin 8 → Fin 128 → Fin 64 → ℝ := fun h r => X h (128 * n + r.val)
abbrev rk (n k : ℕ) (X : Fin 8 → ℕ → Fin 64 → ℝ) : Fin 8 → Fin 384 → Fin 64 → ℝ := fun h x => X h (first n k + x.val)

include hK in
theorem kw_real (k : ℕ) (h : Fin 8) (x : Fin 384) (e : Fin 64) : kw hn k K h (ix2 x e) = ((rk n k Kr h x e : ℝ) : EReal) := by
  rw [kw_apply, hK]

theorem lmr_eq (k : ℕ) (h : Fin 8) (r : Fin 128) (x : Fin 384) : lmr (rq n Q) (rk n k Kr) (inWin n k) h r x
    = if first n k + x.val < hi n k then left (Q h) (Kr h) (128 * n + r.val) (first n k + x.val) else 0 := by
  unfold left
  by_cases p : inWin n k r x
  · rw [lmr, if_pos p, if_pos p.2, if_pos p.1]
  · rw [lmr, if_neg p]
    split_ifs with h1 h2
    · exact absurd ⟨h2, h1⟩ p
    · rfl
    · rfl

include hq hK in
/-- The running sums ahead of group `k` are the sums over the keys the earlier groups took. -/
theorem carry_real (h : Fin 8) (r : Fin 128) : ∀ k, 3 * k ≤ n + 3 →
    (st hn q K V k).1 h (ix2 r 0) = ((∑ j ∈ Finset.Ico (hi n k) 4096, left (Q h) (Kr h) (128 * n + r.val) j : ℝ) : EReal) := by
  intro k
  induction k generalizing h r with
  | zero =>
    intro _
    refine (state0_sum h r).trans ?_
    rw [Finset.sum_eq_zero fun j hj => left_of_le _ _ (by have := (Finset.mem_Ico.1 hj).1; unfold hi at this; omega)]
  | succ k ih =>
    intro hk
    refine (step_sum (BitVec.ofNat 32 n) (jw n k) q (kw hn k K) (kw hn k V) (rq n Q) (rk n k Kr) (inWin n k) hq (kw_real hn K Kr hK k)
      (ok_apply hn (by omega) (by omega)) (st hn q K V k) _ (fun h r => ih h r (by omega)) h r).trans ?_
    rw [Finset.sum_congr rfl fun x _ => lmr_eq Q Kr k h r x,
      window_sum (left (Q h) (Kr h) (128 * n + r.val)) (first_le_hi n k) (hi_le_first n k), add_comm, Finset.sum_Ico_consecutive _ (first_le_hi n k) (hi_le hn k),
      first_eq]

/-- A group's weights. -/
abbrev gw (n k : ℕ) (Q Kr : Fin 8 → ℕ → Fin 64 → ℝ) : Fin 8 → Fin 128 → Fin 384 → ℝ := fun h r x =>
  if first n k + x.val < hi n k then wgt (Q h) (Kr h) (128 * n + r.val) (first n k + x.val) else 0

include hq hK in
theorem wts_real {k : ℕ} (hk : 3 * k ≤ n) (h : Fin 8) (r : Fin 128) (x : Fin 384) :
    wt (BitVec.ofNat 32 n) (jw n k) q (kw hn k K) (st hn q K V k).1 h (ix2 r x) = ((gw n k Q Kr h r x : ℝ) : EReal) := by
  refine (wt_apply (BitVec.ofNat 32 n) (jw n k) q (kw hn k K) (rq n Q) (rk n k Kr) (inWin n k) hq (kw_real hn K Kr hK k)
      (ok_apply hn (by omega) (by omega)) (st hn q K V k).1 _ (fun h r => carry_real hn q K V Q Kr hq hK h r k (by omega)) h r x).trans ?_
  simp only [lmr_eq]
  rw [window_after (left (Q h) (Kr h) (128 * n + r.val)) (first_le_hi n k) (hi_le_first n k)]
  refine congrArg _ ?_
  by_cases p : inWin n k r x
  · rw [if_pos p, gw, if_pos p.2, wgt, if_pos p.1, add_assoc, add_comm (∑ j ∈ Finset.Ico (hi n k) 4096, _),
      Finset.sum_Ico_consecutive _ (by have := p.2; omega) (hi_le hn k)]
  · rw [if_neg p, gw]
    split_ifs with h1
    · exact (wgt_of_le _ _ (by by_contra hlt; exact p ⟨by omega, h1⟩)).symm
    · rfl

include hq hK hV in
/-- The accumulated values ahead of group `k`. -/
theorem acc_real : ∀ k, 3 * k ≤ n + 3 → ∀ (h : Fin 8) (r : Fin 128) (e : Fin 64),
    (st hn q K V k).2 h (ix2 r e) = ((∑ j ∈ Finset.Ico (hi n k) 4096, wgt (Q h) (Kr h) (128 * n + r.val) j * Vr h j e : ℝ) : EReal) := by
  intro k
  induction k with
  | zero =>
    intro _ h r e
    refine (state0_acc h r e).trans ?_
    rw [Finset.sum_eq_zero fun j hj => by rw [wgt_of_le _ _ (by have := (Finset.mem_Ico.1 hj).1; unfold hi at this; omega), zero_mul]]
  | succ k ih =>
    intro hk h r e
    refine (step_acc (BitVec.ofNat 32 n) (jw n k) q (kw hn k K) (kw hn k V) (rk n k Vr) (kw_real hn V Vr hV k) (st hn q K V k) (gw n k Q Kr)
      (wts_real hn q K V Q Kr hq hK (by omega)) _ (ih (by omega)) h r e).trans ?_
    simp only [gw, ite_mul, zero_mul]
    rw [window_sum (fun j => wgt (Q h) (Kr h) (128 * n + r.val) j * Vr h j e) (first_le_hi n k) (hi_le_first n k), add_comm,
      Finset.sum_Ico_consecutive _ (first_le_hi n k) (hi_le hn k), first_eq]

/-- The greatest of the running sums is above −∞ when one of them is. -/
theorem top_gt (a0 a1 a2 a3 a4 a5 a6 a7 : FVec Ideal S128x1 .f32) (y : ℝ) (ha : a0 (ix2 0 0) = ((y : ℝ) : EReal)) :
    (⊥ : EReal) < k0_pay3 a0 a1 a2 a3 a4 a5 a6 a7 := by
  unfold k0_pay3
  refine lt_max_of_lt_left (lt_max_of_lt_left (lt_max_of_lt_left (lt_max_of_lt_left (lt_max_of_lt_left (lt_max_of_lt_left (lt_max_of_lt_left ?_))))))
  have e : shapeCast S1x128x1 a0 shapeCasts_S128x1_S1x128x1 (ix3 0 0 0) = a0 (ix2 0 0) := by pointwise
  have hx : (⊥ : EReal) < shapeCast S1x128x1 a0 shapeCasts_S128x1_S1x128x1 (ix3 0 0 0) := by rw [e, ha]; exact EReal.bot_lt_coe y
  exact fold_gt (shapeCast S1x128x1 a0 shapeCasts_S128x1_S1x128x1) (.inl rfl) rfl _ (ix3 0 0 0) hx

include hq hK in
/-- The loop runs to the first block: nothing leaves it earlier. -/
theorem groups_real : n + 1 ≤ 3 * groups hn q K V := by
  by_contra hlt
  have hG := groups_spec hn q K V
  have hle := groups_le hn q K V
  have hc := carry_real hn q K V Q Kr hq hK 0 0 (groups hn q K V) (by omega)
  refine hG ?_
  generalize groups hn q K V = G at *
  unfold live
  rw [jw_sge n hn G (by omega), if_pos (by omega)]
  generalize (st hn q K V G).1 = s at *
  have h1 := top_gt (s 0) (s 1) (s 2) (s 3) (s 4) (s 5) (s 6) (s 7) _ hc
  have h2 : Scalar.cmpf .ogt (k0_pay3 (s 0) (s 1) (s 2) (s 3) (s 4) (s 5) (s 6) (s 7)) (Named.named κ "cut" 0xC2D20000#32 : Ideal .f32) = 1#1 := by
    exact congrArg BitVec.ofBool (decide_eq_true h1)
  rw [h2]; rfl

include hq hK hV in
/-- What the loop leaves: the weighted sum over all keys. -/
theorem loop_real (h : Fin 8) (r : Fin 128) (e : Fin 64) : (st hn q K V (groups hn q K V)).2 h (ix2 r e)
    = ((∑ j ∈ Finset.range 4096, wgt (Q h) (Kr h) (128 * n + r.val) j * Vr h j e : ℝ) : EReal) := by
  have h3 := groups_three hn q K V
  have hG := groups_real hn q K V Q Kr hq hK
  rw [acc_real hn q K V Q Kr Vr hq hK hV _ h3 h r e, show hi n (groups hn q K V) = 0 by unfold hi; omega, Finset.range_eq_Ico]

end Group

/-! ### The grid -/

/-- Head `g`'s result. -/
def ov (A : S4096x6144.Idx → ℝ) (g p : ℕ) (e : Fin 64) : ℝ := ∑ j ∈ Finset.range 4096, wv A g p j * vd A g j e

variable (m : (ℓ : Loc nD τ sig) → Buf (Elt Ideal) ℓ)

theorem idx0 : ∀ t : Fin (cfg0 (F := Ideal)).N, win0_0.index t = ![t.val % 32, t.val / 32] := (by decide +kernel : ∀ t : Fin grid0.N, win0_0.index t = ![t.val % 32, t.val / 32])
theorem idx1 : ∀ t : Fin (cfg0 (F := Ideal)).N, win0_1.index t = ![0, 4 + t.val / 32] := (by decide +kernel : ∀ t : Fin grid0.N, win0_1.index t = ![0, 4 + t.val / 32])
theorem idx2 : ∀ t : Fin (cfg0 (F := Ideal)).N, win0_2.index t = ![0, 8 + t.val / 32] := (by decide +kernel : ∀ t : Fin grid0.N, win0_2.index t = ![0, 8 + t.val / 32])
theorem idx3 : ∀ t : Fin (cfg0 (F := Ideal)).N, win0_3.index t = ![t.val % 32, t.val / 32] := (by decide +kernel : ∀ t : Fin grid0.N, win0_3.index t = ![t.val % 32, t.val / 32])

theorem N_lt (t : Fin (cfg0 (F := Ideal)).N) : t.val < 128 := lt_of_lt_of_eq t.isLt N_0

theorem coord_one (t : Fin grid0.N) : (grid0.coords t 1).val = t.val % 32 := by
  have e : (grid0.coords t 1).val = t.val / 1 % 32 := Pipeline.Grid.coords_val t 1 (by decide) rfl
  omega

/-- Row `r` of the point's block of queries. -/
abbrev rowAt (t : Fin (cfg0 (F := Ideal)).N) (r : Fin 128) : Fin 4096 := ⟨128 * (t.val % 32) + r.val, by omega⟩

theorem blk0 (c : Dev nD) (t : Fin (cfg0 (F := Ideal)).N) (r : Fin 128) (y : Fin 512) :
    qBlk m c t (ix2 r y) = m ((c : Thread nD τ).loc main_arg0) (ix2 (rowAt t r) ⟨512 * (t.val / 32) + y.val, by have := N_lt t; omega⟩) := by
  unfold qBlk
  blk_point [iblk, V, idx0 t]
theorem blk1 (c : Dev nD) (t : Fin (cfg0 (F := Ideal)).N) (j : Fin 4096) (y : Fin 512) :
    kBlk m c t (ix2 j y) = m ((c : Thread nD τ).loc main_arg0) (ix2 j ⟨2048 + 512 * (t.val / 32) + y.val, by have := N_lt t; omega⟩) := by
  unfold kBlk
  blk_point [iblk, V, idx1 t]
theorem blk2 (c : Dev nD) (t : Fin (cfg0 (F := Ideal)).N) (j : Fin 4096) (y : Fin 512) :
    vBlk m c t (ix2 j y) = m ((c : Thread nD τ).loc main_arg0) (ix2 j ⟨4096 + 512 * (t.val / 32) + y.val, by have := N_lt t; omega⟩) := by
  unfold vBlk
  blk_point [iblk, V, idx2 t]

section Final

variable (A : S4096x6144.Idx → ℝ) (c : Dev nD) (h0 : m ((c : Thread nD τ).loc main_arg0) = up A)

/-- The head a point's `h`th head is. -/
abbrev hd (t : ℕ) (h : Fin 8) : ℕ := 8 * (t / 32) + h.val

include h0

theorem q_real (t : Fin (cfg0 (F := Ideal)).N) (h : Fin 8) (r : Fin 128) (e : Fin 64) :
    cols (qBlk m c t) h (ix2 r e) = ((qd A (hd t.val h) (128 * (grid0.coords t 1).val + r.val) e : ℝ) : EReal) := by
  rw [cols_apply, blk0, h0, coord_one]
  refine congrArg Real.toEReal ((rd_of A _ _).trans ?_)
  unfold qd
  congr 1
  show 512 * (t.val / 32) + (64 * h.val + e.val) = 64 * (8 * (t.val / 32) + h.val) + e.val
  omega

theorem k_real (t : Fin (cfg0 (F := Ideal)).N) (h : Fin 8) (j : Fin 4096) (e : Fin 64) :
    kBlk m c t (ix2 j (cl h e)) = ((kd A (hd t.val h) j.val e : ℝ) : EReal) := by
  rw [blk1, h0]
  refine congrArg Real.toEReal ((rd_of A _ _).trans ?_)
  unfold kd
  congr 1
  show 2048 + 512 * (t.val / 32) + (64 * h.val + e.val) = 2048 + 64 * (8 * (t.val / 32) + h.val) + e.val
  omega

theorem v_real (t : Fin (cfg0 (F := Ideal)).N) (h : Fin 8) (j : Fin 4096) (e : Fin 64) :
    vBlk m c t (ix2 j (cl h e)) = ((vd A (hd t.val h) j.val e : ℝ) : EReal) := by
  rw [blk2, h0]
  refine congrArg Real.toEReal ((rd_of A _ _).trans ?_)
  unfold vd
  congr 1
  show 4096 + 512 * (t.val / 32) + (64 * h.val + e.val) = 4096 + 64 * (8 * (t.val / 32) + h.val) + e.val
  omega

/-- What a point's loop leaves. -/
theorem swept_real (t : Fin (cfg0 (F := Ideal)).N) (h : Fin 8) (r : Fin 128) (e : Fin 64) :
    (sweptAt m c t).2 h (ix2 r e) = ((ov A (hd t.val h) (128 * (t.val % 32) + r.val) e : ℝ) : EReal) := by
  rw [← coord_one]
  exact loop_real (point_lt (grid0.coords t)) (cols (qBlk m c t)) (kBlk m c t) (vBlk m c t) (fun h => qd A (hd t.val h))
    (fun h => kd A (hd t.val h)) (fun h => vd A (hd t.val h)) (q_real m A c h0 t) (k_real m A c h0 t) (v_real m A c h0 t) h r e

omit h0 in
/-- A block's column is one of its heads' columns. -/
theorem exists_cl (y : Fin 512) : ∃ h e, y = cl h e :=
  ⟨⟨y.val / 64, by omega⟩, ⟨y.val % 64, by omega⟩, Fin.ext (by show y.val = 64 * (y.val / 64) + y.val % 64; omega)⟩

omit h0 in
theorem side_apply (a : Fin 8 → FVec Ideal S128x64 .f32) (h : Fin 8) (r : Fin 128) (e : Fin 64) : side a (ix2 r (cl h e)) = a h (ix2 r e) := by
  have e1 : (⟨(cl h e).val / 64, by have := (cl h e).isLt; omega⟩ : Fin 8) = h := Fin.ext (by show (64 * h.val + e.val) / 64 = h.val; omega)
  have e2 : (⟨(cl h e).val % 64, by omega⟩ : Fin 64) = e := Fin.ext (by show (64 * h.val + e.val) % 64 = e.val; omega)
  show a ⟨(cl h e).val / 64, _⟩ (ix2 r ⟨(cl h e).val % 64, _⟩) = _
  rw [e1, e2]

theorem final : (dats m 0 c).arrAt 3 (cfg0 (F := Ideal)).N = laid (ov A) := by
  refine (dats m 0 c).arrAt_eq_of_covers 3 _ (by decide +kernel) fun t hf y => ?_
  blk_simp
  rw [after0_3]
  idx_vars y
  have he : ((View.whole main_v0).slice (win0_3.rect t)).emb (ix2 y0 y1) = ix2 (rowAt t y0) ⟨512 * (t.val / 32) + y1.val, by have := N_lt t; omega⟩ := by
    blk_ext [idx3 t]
  rw [he]
  obtain ⟨h, e, rfl⟩ := exists_cl y1
  rw [side_apply, swept_real m A c h0 t]
  refine (laid_apply (ov A) (rowAt t y0) _ (hd t.val h) e ?_).symm
  show 512 * (t.val / 32) + (64 * h.val + e.val) = 64 * (8 * (t.val / 32) + h.val) + e.val
  omega

end Final

end Cert.Proof.StickFwd

end
-- ==== Proof.StickFwdRef.lean ====
/-
  The reference of the stick-breaking forward over real data: its weights are those the reference of the gradient computes on
  the way, so only the weighted sum of the values and the heads' columns are read here.
-/
module

public import proofs.«01_k».proof.Defs
public import proofs.«01_k».proof.Proof.StickFwdValue
public import proofs.«01_k».proof.Proof.StickRef
public import proofs.«01_k».proof.Proof.Gen.StickFwdRefIdeal.Read

@[expose] public section

set_option maxRecDepth 16384

noncomputable section

namespace Cert.Proof.StickFwdRef

open Cert.StickFwdRefIdeal Cert.StickFwdRefIdeal.Gen Cert.StickFwdRefIdeal.Read
open Idealize.ShloMosaic Idealize.ShloMosaic.TcCoe
open Cert.Proof.Finite
open Cert.Proof.Rms (up)
open Cert.Proof.Stick (vd wv laid)
open Cert.Proof.StickFwd (ov)
open Cert.Proof.StickRef (ext3 col_idx laid_of)

section Reads

variable (A : S4096x6144.Idx → ℝ)

/-- The weights and the values are the gradient's. -/
theorem weights_eq (x : Vec Ideal S4096x6144 .bf16) : val_main_v27 (F := Ideal) x = Cert.StickRefIdeal.Read.val_main_v27_0 (F := Ideal) x := rfl
theorem values_eq (x : Vec Ideal S4096x6144 .bf16) : val_main_v8 (F := Ideal) x = Cert.StickRefIdeal.Read.val_main_v8 (F := Ideal) x := rfl

theorem v27_at (g : Fin 32) (p j : Fin 4096) : val_main_v27 (F := Ideal) (up A) (ix3 g p j) = ((wv A g.val p.val j.val : ℝ) : EReal) := by
  rw [weights_eq]; exact Cert.Proof.StickRef.v27_0_at A g p j
theorem v8_at (j : Fin 4096) (g : Fin 32) (e : Fin 64) : val_main_v8 (F := Ideal) (up A) (ix3 j g e) = ((vd A g.val j.val e : ℝ) : EReal) := by
  rw [values_eq]; exact Cert.Proof.StickRef.v8_at A j g e

/-- The weighted sums. -/
theorem v28_at (g : Fin 32) (e : Fin 64) (p : Fin 4096) : val_main_v28 (F := Ideal) (up A) (ix3 g e p) = ((ov A g.val p.val e : ℝ) : EReal) := by
  rw [val_main_v28_apply]
  have h : ∀ k : Fin 4096, val_main_v8 (F := Ideal) (up A) (lidx_main_v28 (ix3 g e p) k) * val_main_v27 (F := Ideal) (up A) (ridx_main_v28 (ix3 g e p) k)
      = ((wv A g.val p.val k.val * vd A g.val k.val e : ℝ) : EReal) := fun k => by
    rw [ext3 (lidx_main_v28 (ix3 g e p) k) k g e rfl rfl rfl, ext3 (ridx_main_v28 (ix3 g e p) k) g p k rfl rfl rfl, v8_at, v27_at, ← EReal.coe_mul, mul_comm]
  rw [Finset.sum_congr rfl fun k _ => h k, ← coe_sum]
  exact congrArg Real.toEReal (Finset.sum_range fun k => wv A g.val p.val k * vd A g.val k e).symm

theorem ref_o : val_main_v31 (F := Ideal) (up A) = laid (ov A) := by
  funext i
  obtain ⟨e0, e1, e2⟩ := col_idx i
  rw [val_main_v31_apply, val_main_v30_apply, val_main_v29_apply, laid_of _ i (idx_main_v30 i) e0 e1 e2]
  exact (congrArg _ (ext3 _ _ _ _ rfl rfl rfl)).trans (v28_at A (idx_main_v30 i 1) (idx_main_v30 i 2) (idx_main_v30 i 0))

end Reads

instance pre_facts : Cert.Pre_finite.Facts where
  bcast_S_S4096x6144 := by decide
  reducesTo_S4096x6144_S_d0_1 := by decide
  h_S_ := by decide

open Idealize.SL.Sem

variable (m : (ℓ : Loc Cert.StickFwdIdeal.nD Cert.StickFwdIdeal.τ Cert.StickFwdIdeal.sig) → Buf (Elt Ideal) ℓ)

/-- What the precondition says: the argument holds real numbers. -/
theorem real_of_pre (hp : Cert.Pre_StickFwdIdeal_finite m) (c : Dev Cert.StickFwdIdeal.nD) :
    ∃ A : S4096x6144.Idx → ℝ, m ((c.tc : Thread Cert.StickFwdIdeal.nD Cert.StickFwdIdeal.τ).loc Cert.StickFwdIdeal.main_arg0) = up A := by
  have h := congrFun (hp c) (fun a => a.elim0)
  obtain ⟨A, hA⟩ := real_of_all_below _ inf16 _ _ _ _ _ _ h
  exact ⟨A, hA⟩

/-- The claim. -/
theorem algebraic : Cert.algebraic_StickFwdIdeal_StickFwdRefIdeal_pre_finite := by
  intro m g m' g' hp hagree
  refine ⟨fun c => val_main_v31 (F := Ideal) (m ((c.tc : Thread Cert.StickFwdIdeal.nD Cert.StickFwdIdeal.τ).loc Cert.StickFwdIdeal.main_arg0)), ?_, ?_⟩
  · refine (θ_run Cert.StickFwdIdeal.defs _ _).mono (fun r h c => ?_) (Cert.Proof.StickFwd.run_main m g)
    obtain ⟨A, h0⟩ := real_of_pre m hp c
    have e3 : r.2.mem ((c.tc : Thread Cert.StickFwdIdeal.nD Cert.StickFwdIdeal.τ).loc Cert.StickFwdIdeal.main_v0) = laid (ov A) :=
      ((h c).1 3).trans (Cert.Proof.StickFwd.final m A c h0)
    exact ⟨e3.trans ((ref_o A).symm.trans (congrArg (val_main_v31 (F := Ideal)) h0).symm),
      ((h c).1 0).trans (((Cert.Proof.StickFwd.dats m 0 c).arrAt_in 0 rfl _).trans (Cert.Proof.StickFwd.A_eq m c 0))⟩
  · refine (θ_run Cert.StickFwdRefIdeal.defs _ _).mono (fun r h c => ⟨((h c).1).trans ?_, (h c).2⟩) (Cert.StickFwdRefIdeal.Value.run m' g')
    exact (val_main_v31_eq _ _).trans (congrArg (val_main_v31 (F := Ideal)) (hagree c))

end Cert.Proof.StickFwdRef

end
-- ==== Proof.WinRun.lean ====
/-
  The sliding-window attention's backward kernel over the reals, at any point of its grid: it returns its inputs' blocks as
  they were.
-/
module

public import proofs.«01_k».proof.Proof.Gen.WinIdeal.Skeleton
public import proofs.«01_k».proof.Proof.Gen.WinIdeal.Launch
public import proofs.«01_k».proof.Proof.Gen.WinIdeal.Points
public import Idealize.ShloMosaic.Lib.Claim
public import Idealize.ShloMosaic.Lib.VecWindow
public import Idealize.ShloMosaic.Lib.Pipeline.ValueKit

@[expose] public section

set_option maxRecDepth 16384

noncomputable section

namespace Cert.Proof.WinBwd

open Cert.WinIdeal Cert.WinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev 𝒱₀ : Variants := Variants.nat

/-- A block at anything. -/
abbrev some_ {s : Shape} {e : EltTy} (c : Dev nD) (arg : Memref sig .tc .vmem s e) : sProp 𝕄 := iprop(∃ X, owns (c : Thread nD τ) arg fullShare X)

/-- A block's elements, whatever they are. -/
theorem to_some {s : Shape} {e : EltTy} (c : Dev nD) (arg : Memref sig .tc .vmem s e) (f) :
    (iprop(arg.view.loc (c : Thread nD τ) ↦[arg.view.set]{fullShare} f) : sProp 𝕄) ⊢ some_ c arg := by
  unfold some_ owns
  iintro H
  iexists _; iexists f
  iframe
  ipureintro; rfl

theorem to_owns {sp : Space} {s : Shape} {e : EltTy} {X : Vec F s e} (c : Dev nD) (arg : Memref sig .tc sp s e) {f} (h : arg.view.read (Elt F) f = X) :
    (iprop(arg.view.loc (c : Thread nD τ) ↦[arg.view.set]{fullShare} f) : sProp 𝕄)
    ⊢ iprop(∃ g, ⌜arg.view.read (Elt F) g = X⌝ ∗ arg.view.loc (c : Thread nD τ) ↦[arg.view.set]{fullShare} g) := by
  iintro H
  iexists f
  iframe
  ipureintro; exact h

section
variable (c : Dev nD) (i : grid0.Coords) (arg1 : Memref sig .tc .smem S32 .f32) (harg1 : arg1.IsWhole)
    (arg2 : Memref sig .tc .vmem S128x2048 .bf16) (harg2 : arg2.IsWhole) (arg3 : Memref sig .tc .vmem S128x256 .bf16) (harg3 : arg3.IsWhole)
    (arg4 : Memref sig .tc .vmem S128x256 .bf16) (harg4 : arg4.IsWhole) (arg5 : Memref sig .tc .vmem S128x256 .bf16) (harg5 : arg5.IsWhole)
    (arg6 : Memref sig .tc .vmem S128x256 .bf16) (harg6 : arg6.IsWhole) (arg7 : Memref sig .tc .vmem S128x2048 .bf16) (harg7 : arg7.IsWhole)
    (arg8 : Memref sig .tc .vmem S128x2048 .bf16) (harg8 : arg8.IsWhole) (arg9 : Memref sig .tc .vmem S128x2048 .bf16) (harg9 : arg9.IsWhole)
    (arg10 : Memref sig .tc .vmem S128x256 .bf16) (harg10 : arg10.IsWhole) (arg11 : Memref sig .tc .vmem S128x256 .bf16) (harg11 : arg11.IsWhole)
    (arg12 : Memref sig .tc .vmem S8x128 .f32) (harg12 : arg12.IsWhole) (arg13 : Memref sig .tc .vmem S128x256 .f32) (harg13 : arg13.IsWhole)
    (arg14 : Memref sig .tc .vmem S128x256 .f32) (harg14 : arg14.IsWhole)
    (x1 : Vec F S32 .f32) (x2 : Vec F S128x2048 .bf16) (x3 x4 x5 x6 : Vec F S128x256 .bf16) (x7 x8 : Vec F S128x2048 .bf16)

/-- The eight inputs' blocks. -/
abbrev ins : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8)

/-- The results' and the carried blocks, at anything. -/
abbrev rest : sProp 𝕄 :=
  iprop(some_ c arg9 ∗ some_ c arg10 ∗ some_ c arg11 ∗ some_ c arg12 ∗ some_ c arg13 ∗ some_ c arg14)

set_option maxHeartbeats 4000000 in
/-- The four groups. -/
theorem groups (K : (Σ' (_ : FVec F S1x128 .f32), FVec F S8x128 .f32) → sProp 𝕄) :
    iprop(ins c arg1 arg2 arg3 arg4 arg5 arg6 arg7 arg8 x1 x2 x3 x4 x5 x6 x7 x8 ∗ rest c arg9 arg10 arg11 arg12 arg13 arg14
      ∗ (∀ r, iprop(ins c arg1 arg2 arg3 arg4 arg5 arg6 arg7 arg8 x1 x2 x3 x4 x5 x6 x7 x8 ∗ rest c arg9 arg10 arg11 arg12 arg13 arg14) -∗ K r))
    ⊢ wp frame (wpE (defs₀ (F := F)) 𝒱₀ (c : Thread nD τ) none) Set.univ
      (k0_part34 i arg1 harg1 arg2 harg2 arg3 harg3 arg4 harg4 arg5 harg5 arg6 harg6 arg7 harg7 arg8 harg8 arg9 harg9 arg10 harg10 arg11 harg11 arg12 harg12 arg13 harg13 arg14 harg14
        (BitVec.ofNat 32 (i 0).val)) K := by
  rw [k0_part34_eq_skeleton]; unfold k0_part34_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold ins rest some_ owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%d9, %f9, -, H9⟩, ⟨%d10, %f10, -, H10⟩, ⟨%d11, %f11, -, H11⟩, ⟨%d12, %f12, -, H12⟩, ⟨%d13, %f13, -, H13⟩, ⟨%d14, %f14, -, H14⟩⟩, Hk⟩
  sl_exec
  sl_step
  iapply Hk
  isplitl [H1 H2 H3 H4 H5 H6 H7 H8]
  · isplitl [H1]; · iapply (to_owns c arg1 hf1); iexact H1
    isplitl [H2]; · iapply (to_owns c arg2 hf2); iexact H2
    isplitl [H3]; · iapply (to_owns c arg3 hf3); iexact H3
    isplitl [H4]; · iapply (to_owns c arg4 hf4); iexact H4
    isplitl [H5]; · iapply (to_owns c arg5 hf5); iexact H5
    isplitl [H6]; · iapply (to_owns c arg6 hf6); iexact H6
    isplitl [H7]; · iapply (to_owns c arg7 hf7); iexact H7
    iapply (to_owns c arg8 hf8); iexact H8
  isplitl [H9]; · iapply (to_some c arg9); iexact H9
  isplitl [H10]; · iapply (to_some c arg10); iexact H10
  isplitl [H11]; · iapply (to_some c arg11); iexact H11
  isplitl [H12]; · iapply (to_some c arg12); iexact H12
  isplitl [H13]; · iapply (to_some c arg13); iexact H13
  iapply (to_some c arg14); iexact H14

/-- The first block's start: the sums' and the carried blocks at zero. -/
theorem starts (k : Prog (TpuEff nD τ sig (Elt F) Λ₀ .tc) PUnit) (K : PUnit → sProp 𝕄) :
    iprop(some_ c arg12 ∗ some_ c arg13 ∗ some_ c arg14
      ∗ ((some_ c arg12 ∗ some_ c arg13 ∗ some_ c arg14) -∗ wp frame (wpE (defs₀ (F := F)) 𝒱₀ (c : Thread nD τ) none) Set.univ k K))
    ⊢ wp frame (wpE (defs₀ (F := F)) 𝒱₀ (c : Thread nD τ) none) Set.univ (do
      let v10 : Vec F S8x128 .f32 ← Prog.lift (.load arg12 (Rect.unit (s := S8x128) ![0, 0] S8x128.size inb_S8x128_S8x128_0_0).toLoadRect (View.loadsAt_vmem h_S8x128))
      Prog.lift (.store arg12 (Rect.unit (s := S8x128) ![0, 0] S8x128.size inb_S8x128_S8x128_0_0) (k0_pay1 (F := F)) Finset.univ (View.stores_vmem_bits_univ h_S8x128 rfl) (.inl rfl))
      let v12 : Vec F S128x256 .f32 ← Prog.lift (.load arg13 (Rect.unit (s := S128x256) ![0, 0] S128x256.size inb_S128x256_S128x256_0_0).toLoadRect (View.loadsAt_vmem h_S128x256))
      Prog.lift (.store arg13 (Rect.unit (s := S128x256) ![0, 0] S128x256.size inb_S128x256_S128x256_0_0) (k0_pay2 (F := F)) Finset.univ (View.stores_vmem_bits_univ h_S128x256 rfl) (.inl rfl))
      let v16 : Vec F S128x256 .f32 ← Prog.lift (.load arg14 (Rect.unit (s := S128x256) ![0, 0] S128x256.size inb_S128x256_S128x256_0_0).toLoadRect (View.loadsAt_vmem h_S128x256))
      Prog.lift (.store arg14 (Rect.unit (s := S128x256) ![0, 0] S128x256.size inb_S128x256_S128x256_0_0) (k0_pay3 (F := F)) Finset.univ (View.stores_vmem_bits_univ h_S128x256 rfl) (.inl rfl))
      k : Prog (TpuEff nD τ sig (Elt F) Λ₀ .tc) PUnit) K := by
  unfold some_ owns
  iintro ⟨⟨%d12, %f12, -, H12⟩, ⟨%d13, %f13, -, H13⟩, ⟨%d14, %f14, -, H14⟩, Hk⟩
  sl_exec
  iapply Hk
  isplitl [H12]; · iapply (to_some c arg12); iexact H12
  isplitl [H13]; · iapply (to_some c arg13); iexact H13
  iapply (to_some c arg14); iexact H14

set_option maxHeartbeats 4000000 in
/-- The body at the first block of queries, at a later one, and past the last. -/
theorem body (hc : (k0_cond1 i = 1#1 ∧ ¬ k0_cond2 i = 1#1 ∧ k0_cond3 i = 1#1) ∨ (¬ k0_cond1 i = 1#1 ∧ ¬ k0_cond2 i = 1#1 ∧ k0_cond3 i = 1#1)
      ∨ (¬ k0_cond1 i = 1#1 ∧ k0_cond2 i = 1#1 ∧ ¬ k0_cond3 i = 1#1)) (K : PUnit → sProp 𝕄) :
    iprop(ins c arg1 arg2 arg3 arg4 arg5 arg6 arg7 arg8 x1 x2 x3 x4 x5 x6 x7 x8 ∗ rest c arg9 arg10 arg11 arg12 arg13 arg14
      ∗ ((ins c arg1 arg2 arg3 arg4 arg5 arg6 arg7 arg8 x1 x2 x3 x4 x5 x6 x7 x8 ∗ rest c arg9 arg10 arg11 arg12 arg13 arg14) -∗ K ⟨⟩))
    ⊢ wp frame (wpE (defs₀ (F := F)) 𝒱₀ (c : Thread nD τ) none) Set.univ
      (cc0_attn_a_bwd i arg1 harg1 arg2 harg2 arg3 harg3 arg4 harg4 arg5 harg5 arg6 harg6 arg7 harg7 arg8 harg8 arg9 harg9 arg10 harg10 arg11 harg11 arg12 harg12 arg13 harg13 arg14 harg14) K := by
  rw [cc0_attn_a_bwd_eq_skeleton]; unfold cc0_attn_a_bwd_skel
  iintro ⟨HI, ⟨H9, H10, H11, H12, H13, H14⟩, Hk⟩
  rcases hc with ⟨hc1, hc2, hc3⟩ | ⟨hc1, hc2, hc3⟩ | ⟨hc1, hc2, hc3⟩
  rotate_left 2
  · rw [dif_neg hc1, dif_pos hc2, dif_neg hc3]
    unfold rest some_ owns
    icases H10 with ⟨%d10, %f10, -, H10⟩
    icases H11 with ⟨%d11, %f11, -, H11⟩
    icases H13 with ⟨%d13, %f13, -, H13⟩
    icases H14 with ⟨%d14, %f14, -, H14⟩
    sl_exec
    sl_step
    iapply Hk
    iframe
    isplitl [H10]; · iapply (to_some c arg10); iexact H10
    isplitl [H11]; · iapply (to_some c arg11); iexact H11
    isplitl [H13]; · iapply (to_some c arg13); iexact H13
    iapply (to_some c arg14); iexact H14
  rw [dif_pos hc1, dif_neg hc2, dif_pos hc3]
  simp only [pure_bind, bind_assoc]
  iapply (starts c arg12 arg13 arg14 _ _)
  iframe
  iintro ⟨H12, H13, H14⟩
  rotate_left
  rw [dif_neg hc1, dif_neg hc2, dif_pos hc3]
  simp only [pure_bind, bind_assoc]
  all_goals
    rw [wp_bind]
    iapply (groups c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 x8)
    isplitl [HI]; · iexact HI
    unfold rest
    isplitl [H9 H10 H11 H12 H13 H14]; · iframe
    iintro %r ⟨HI, H9, H10, H11, H12, H13, H14⟩
    unfold some_ owns
    icases H12 with ⟨%d12, %f12, -, H12⟩
    sl_exec
    sl_step
    iapply Hk
    iframe
    iapply (to_some c arg12); iexact H12

end

end Cert.Proof.WinBwd

end
-- ==== Proof.WinFrame.lean ====
/-
  The sliding-window attention's backward call from launch to end: the arguments' arrays end as they were and every
  semaphore's counter at zero, from what its body leaves at each point of the grid.
-/
module

public import proofs.«01_k».proof.Proof.WinRun
public import Idealize.ShloMosaic.Lib.Pipeline.FrameSuffix

@[expose] public section

set_option maxRecDepth 16384

noncomputable section

namespace Cert.Proof.WinBwd

open Cert.WinIdeal Cert.WinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Before and after the region -/

/-- The buffers as the region finds them: after the forward lines. -/
def V0 (c : Dev nD) : Valuation τ sig (Elt F) := StableHlo.after (List.flatten [hostOps0, hostOps0_1, hostOps0_2]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- What the forward lines write, in order. -/
def written : List (Ref sig .tc) :=
  [main_v0, main_v1, main_v2, main_v3, main_v4, main_v5, main_v6, main_v7, main_v8, main_cst, main_v9, main_v10, main_v11, main_v12,
   main_v13, main_v14, main_v15, main_v16, main_v17, main_cst_0, main_v18, main_v19, main_v20, main_v21, main_c, main_v22, main_v23,
   main_v24, main_v25, main_v26, main_v27, main_v28, main_v29, main_v30, main_c_1, main_v31, main_v32, main_c_2, main_v33, main_v34,
   main_v35, main_v36, main_v37, main_v38, main_v39, main_c_3, main_v40, main_v41, main_c_4, main_v42, main_v43, main_v44, main_v45,
   main_c_5, main_v46, main_v47, main_v48, main_v49, main_v50, main_v51, main_v52, main_cst_6, main_v53, main_v54, main_cst_7, main_v55,
   main_v56, main_cst_8, main_v57, main_v58, main_cst_9, main_v59, main_v60, main_v61, main_v62, main_v63, main_v64, main_v65, main_v66,
   main_v67, main_v68, main_v69, main_v70, main_cst_10, main_call0_v0, main_call0_v1, main_call0_v2, main_v71, main_v72, main_v73,
   main_cst_11, main_v74, main_v75, main_v76, main_v77, main_v78, main_v79, main_v80, main_cst_12, main_v81, main_v82, main_v83, main_v84,
   main_v85, main_v86, main_v87, main_v88, main_v89, main_v90, main_v91, main_v92]

/-- The region finds what the forward lines do not write as launched. -/
theorem V_unwritten (c : Dev nD) (b : Ref sig .tc) (hb : b ∉ written) : V m c b = m ((c : Thread nD τ).loc b) :=
  StableHlo.after_of_writes_sub (W := written) (List.flatten [hostOps0, hostOps0_1, hostOps0_2]) (fun b => m (c, b)) (StableHlo.forall_writes_sub_of_map rfl) hb

theorem sfx_sub : ∀ ops ∈ [hostOps1 (F := F)], ∀ op ∈ ops, op.bufs ⊆ Pipeline.tailRefs sig Pipeline.Prefetch.none spec0 := by
  rw [Pipeline.tailRefs_none spec0 launch₀0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ [hostOps1 (F := F)], ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ [hostOps1 (F := F)], ∀ op ∈ ops, ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals
    intro w
    fin_cases w <;> simp only [StableHlo.unary_writes, StableHlo.reshape_writes, Finset.mem_singleton] <;> exact StableHlo.devRef_ne_of_ne (by decide)

/-- The buffers written after the region. -/
def T0 : Finset (Ref sig .tc) := {main_v94, main_v95}

theorem sfx_writes : ∀ ops ∈ [hostOps1 (F := F)], ∀ op ∈ ops, ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.unary_writes, StableHlo.reshape_writes, Finset.mem_singleton] at hb
    cases Proc.devRef_injective _ hb
    decide

theorem V_arg0 (c : Dev nD) : V m c main_arg0 = m ((c : Thread nD τ).loc main_arg0) := V_unwritten m c main_arg0 (by decide)
theorem V_arg1 (c : Dev nD) : V m c main_arg1 = m ((c : Thread nD τ).loc main_arg1) := V_unwritten m c main_arg1 (by decide)
theorem V_arg2 (c : Dev nD) : V m c main_arg2 = m ((c : Thread nD τ).loc main_arg2) := V_unwritten m c main_arg2 (by decide)

/-! ## The region's points -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The queries' block is never cut: what its window holds is the whole block. -/
def dflt0_1 : (cfg0.win 1).block.Idx → Elt F (cfg0.win 1).elt := fun _ => Classical.choice inferInstance
def X0_1 (c : Dev nD) (t : Fin cfg0.N) : (cfg0.win 1).block.Idx → Elt F (cfg0.win 1).elt :=
  (cfg0.win 1).fill (cfg0.grid.coords t) dflt0_1 (iblk m c 1 t)
theorem xsize0_1 : ∀ t : Fin cfg0.N, ∀ a, (cfg0.win 1).xsize (cfg0.grid.coords t) a = (cfg0.win 1).size a := by decide +kernel
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]

/-- The results' windows, of which nothing is said here. -/
abbrev fgt : Fin 12 → Bool := fun w => Nat.ble 8 w.val

/-- The region's proof data: the inputs' blocks, and the carried blocks at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q w := Pipeline.shareOf spec0 w
  owed _ := 0

theorem A_eq (c : Dev nD) (w : Fin cfg0.W) : (dats m 0 c).A w = V m c (Pipeline.arrRef spec0 w) := rfl
set_option maxHeartbeats 1000000 in
theorem after0 (c : Dev nD) (t : Fin cfg0.N) : (dats m 0 c).after 1 t = X0_1 m c t ∧ (dats m 0 c).after 0 t = iblk m c 0 t ∧ (dats m 0 c).after 2 t = iblk m c 2 t ∧ (dats m 0 c).after 3 t = iblk m c 3 t
    ∧ (dats m 0 c).after 4 t = iblk m c 4 t ∧ (dats m 0 c).after 5 t = iblk m c 5 t ∧ (dats m 0 c).after 6 t = iblk m c 6 t ∧ (dats m 0 c).after 7 t = iblk m c 7 t :=
  ⟨rfl, rfl, rfl, rfl, rfl, rfl, rfl, rfl⟩

/-- An input's current staging buffer holds its block at every point, fetched there or not. -/
theorem before0_1 (c : Dev nD) (t : Fin cfg0.N) (d) : (dats m 0 c).before 1 t d = X0_1 m c t :=
  ((dats m 0 c).before_in_eq_fetched 1 rfl (fun _ => rfl)
      (fun t t' h => funext fun a => congrArg (fun n => Pipeline.Clip.of n ((cfg0.win 1).size a) (S4096x2560.size a)) (congrFun h a))
      (fun t => by rw [(after0 m c t).1]; unfold X0_1; rw [Pipeline.Window.cut_fill]; unfold Dat.blockOf iblk; rw [A_eq]; try rfl) t d).trans
    (by unfold Dat.fetched X0_1; rw [fill0_1 t d dflt0_1]; unfold Dat.blockOf iblk; rw [A_eq]; try rfl)
theorem before0 (c : Dev nD) (t : Fin cfg0.N) : (∀ d, (dats m 0 c).before 0 t d = iblk m c 0 t) ∧ (∀ d, (dats m 0 c).before 2 t d = iblk m c 2 t)
    ∧ (∀ d, (dats m 0 c).before 3 t d = iblk m c 3 t) ∧ (∀ d, (dats m 0 c).before 4 t d = iblk m c 4 t) ∧ (∀ d, (dats m 0 c).before 5 t d = iblk m c 5 t)
    ∧ (∀ d, (dats m 0 c).before 6 t d = iblk m c 6 t) ∧ (∀ d, (dats m 0 c).before 7 t d = iblk m c 7 t) := by
  refine ⟨?_, ?_, ?_, ?_, ?_, ?_, ?_⟩ <;>
  exact fun d => ((dats m 0 c).before_in_eq_fetched _ rfl (fun _ => rfl) (fun _ _ _ => rfl)
    (fun t => by simp only [after0 m c t]; unfold Dat.blockOf iblk; rw [A_eq]; try rfl) t d).trans (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

theorem cond1_iff : ∀ t : Fin grid0.N, k0_cond1 (grid0.coords t) = 1#1 ↔ t.val = 0 := by decide +kernel
theorem cond2_iff : ∀ t : Fin grid0.N, k0_cond2 (grid0.coords t) = 1#1 ↔ t.val = 32 := by decide +kernel
theorem cond3_iff : ∀ t : Fin grid0.N, k0_cond3 (grid0.coords t) = 1#1 ↔ t.val < 32 := by decide +kernel

theorem at_whole (c : Dev nD) (b : Ref sig .tc) (f : Buf (Elt F) ((c : Thread nD τ).loc b)) : (iprop(((c : Thread nD τ).loc b) ↦[(View.whole b).set]{fullShare} f) : sProp 𝕄)
    ⊢ ((c : Thread nD τ).loc b) ↦{fullShare} f := by
  rw [View.set_whole]

theorem whole_set (c : Dev nD) (b : Ref sig .tc) (f : Buf (Elt F) ((c : Thread nD τ).loc b)) : (((c : Thread nD τ).loc b) ↦{fullShare} f : sProp 𝕄)
    ⊢ ((c : Thread nD τ).loc b) ↦[(View.whole b).set]{fullShare} f := by
  rw [View.set_whole]

/-- A whole buffer, as its block, -/
theorem scratch_owns (c : Dev nD) (b : Ref sig .tc) : (iprop(∃ f : Buf (Elt F) ((c : Thread nD τ).loc b), ((c : Thread nD τ).loc b) ↦{fullShare} f) : sProp 𝕄)
    ⊢ iprop(∃ X, owns (c : Thread nD τ) (Memref.whole b) fullShare X) := by
  unfold owns
  iintro ⟨%f, H⟩
  iexists _; iexists f
  isplitr
  swap
  · iapply (whole_set c b f); iexact H
  ipureintro; rfl

/-- and a block, as the whole buffer. -/
theorem owns_scratch (c : Dev nD) (b : Ref sig .tc) : (iprop(∃ X, owns (c : Thread nD τ) (Memref.whole b) fullShare X) : sProp 𝕄)
    ⊢ iprop(∃ f : Buf (Elt F) ((c : Thread nD τ).loc b), ((c : Thread nD τ).loc b) ↦{fullShare} f) := by
  unfold owns
  iintro ⟨%X, %f, -, H⟩
  iexists f
  iapply (at_whole c b f); iexact H

set_option maxHeartbeats 2000000 in
/-- The body at any point. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before0 m c t, before0_1, after0 m c t]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl]
  unfold Pipeline.ΦA
  rw [scopedRest0_eq]
  iintro ⟨⟨⟨Hs0, Hs1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11⟩
  ihave Hs0 := (scratch_owns c cc0_scratch0) $$ Hs0
  ihave Hs1 := (scratch_owns c cc0_scratch1) $$ Hs1
  iapply (body c (grid0.coords t) _ _ _ _ _ _ _ _ _ _ _ _ _ _ _ _ _ _ _ _ _ _ _ _ _ _ _ _
    (iblk m c 0 t) (X0_1 m c t) (iblk m c 2 t) (iblk m c 3 t) (iblk m c 4 t) (iblk m c 5 t) (iblk m c 6 t) (iblk m c 7 t) ?_)
  case _ =>
    have h33 : t.val < 33 := lt_of_lt_of_eq t.isLt N_0
    rw [cond1_iff, cond2_iff, cond3_iff]; omega
  unfold ins rest
  isplitl [H0 H1 H2 H3 H4 H5 H6 H7]; · iframe
  isplitl [H8 H9 H10 H11 Hs0 Hs1]; · iframe
  iintro ⟨⟨H0, H1, H2, H3, H4, H5, H6, H7⟩, H8, H9, H10, H11, Hs0, Hs1⟩
  isplitl [Hs0 Hs1 Hr]
  · isplitr [Hr]
    · isplitl [Hs0]
      · iapply (owns_scratch c cc0_scratch0); iexact Hs0
      · iapply (owns_scratch c cc0_scratch1); iexact Hs1
    · iexact Hr
  iframe

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ fgt := fun t => by
  rw [bigSep_W0, bigSep_W0, defs₀_row]
  exact triple_restated (sound_body m c t) rfl .rfl fun _ => .rfl

set_option backward.isDefEq.respectTransparency.types false in
/-- The launch: the arguments' arrays as the region found them, and every semaphore counter zero. -/
theorem run_quiescent : θ_run defs (onTc (τ := τ) (main (F := F))) ⟨m, fun _ => 0, ρ⟩
    (fun r => Pipeline.RDat.FramePostR cfg0 (fun c => (dats m 0 c).toRForget fgt) T0 (V m) r ∧ r.2.sem = fun _ => 0) :=
  Pipeline.θ_run_frame_around_T_forget_shared (Q' := _) cfgs (dats m) (0 : Fin 1) launch₀0 defs₀ 𝒱₀ fgt T0 m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hT := sfx_writes) (hmain := hmain m) (hA := A_eq m) (hΦ := fun _ _ => rfl)

set_option maxHeartbeats 4000000 in
/-- The argument arrays end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ⟨?_, ?_, ?_⟩, h.2⟩) (run_quiescent m ρ)
  · exact (Pipeline.RDat.FramePostR.arr_in h.1 c 1 rfl).trans (V_arg0 m c)
  · exact (Pipeline.RDat.FramePostR.arr_in h.1 c 0 rfl).trans (V_arg1 m c)
  · exact (Pipeline.RDat.FramePostR.arr_in h.1 c 7 rfl).trans (V_arg2 m c)

end Cert.Proof.WinBwd

end
-- ==== Proof.lean ====
module

public import proofs.«01_k».proof.Defs
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.ActIdeal.Value
public import proofs.«01_k».proof.Proof.Gen.NormIdeal.Value
public import proofs.«01_k».proof.Proof.Gen.LossIdeal.Value
public import proofs.«01_k».proof.Proof.Gen.ActRefIdeal.Run
public import proofs.«01_k».proof.Proof.Gen.ActRefIdeal.Read
public import proofs.«01_k».proof.Proof.Gen.NormRefIdeal.Run
public import proofs.«01_k».proof.Proof.Gen.NormRefIdeal.Read
public import proofs.«01_k».proof.Proof.Gen.LossRefIdeal.Run
public import proofs.«01_k».proof.Proof.Gen.LossRefIdeal.Read
public import proofs.«01_k».proof.Proof.Gen.Stick
public import proofs.«01_k».proof.Proof.Gen.Stick.Skeleton
public import proofs.«01_k».proof.Proof.Gen.Stick.Launch
public import proofs.«01_k».proof.Proof.Gen.Stick.Points
public import proofs.«01_k».proof.Proof.Gen.StickIdeal
public import proofs.«01_k».proof.Proof.Gen.StickIdeal.Skeleton
public import proofs.«01_k».proof.Proof.Gen.StickIdeal.Launch
public import proofs.«01_k».proof.Proof.Gen.StickIdeal.Points
public import proofs.«01_k».proof.Proof.Gen.StickRefIdeal
public import proofs.«01_k».proof.Proof.Gen.StickRefIdeal.Run
public import proofs.«01_k».proof.Proof.Gen.StickRefIdeal.Read
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinRefIdeal
public import proofs.«01_k».proof.Proof.Gen.WinRefIdeal.Run
public import proofs.«01_k».proof.Proof.Gen.WinRefIdeal.Read
public import proofs.«01_k».proof.Proof.Gen.StickFwd
public import proofs.«01_k».proof.Proof.Gen.StickFwd.Skeleton
public import proofs.«01_k».proof.Proof.Gen.StickFwd.Launch
public import proofs.«01_k».proof.Proof.Gen.StickFwd.Points
public import proofs.«01_k».proof.Proof.Gen.StickFwdIdeal
public import proofs.«01_k».proof.Proof.Gen.StickFwdIdeal.Skeleton
public import proofs.«01_k».proof.Proof.Gen.StickFwdIdeal.Launch
public import proofs.«01_k».proof.Proof.Gen.StickFwdIdeal.Points
public import proofs.«01_k».proof.Proof.Gen.StickFwdRefIdeal
public import proofs.«01_k».proof.Proof.Gen.StickFwdRefIdeal.Run
public import proofs.«01_k».proof.Proof.Gen.StickFwdRefIdeal.Read
public import proofs.«01_k».proof.Proof.Gen.WinFwd
public import proofs.«01_k».proof.Proof.Gen.WinFwd.Skeleton
public import proofs.«01_k».proof.Proof.Gen.WinFwd.Launch
public import proofs.«01_k».proof.Proof.Gen.WinFwd.Points
public import proofs.«01_k».proof.Proof.Gen.WinFwd.Frame
public import proofs.«01_k».proof.Proof.Gen.WinFwdIdeal
public import proofs.«01_k».proof.Proof.Gen.WinFwdIdeal.Skeleton
public import proofs.«01_k».proof.Proof.Gen.WinFwdIdeal.Launch
public import proofs.«01_k».proof.Proof.Gen.WinFwdIdeal.Points
public import proofs.«01_k».proof.Proof.Gen.WinFwdIdeal.Frame
public import proofs.«01_k».proof.Proof.Gen.WinFwdIdeal.Value
public import proofs.«01_k».proof.Proof.Gen.WinFwdRefIdeal
public import proofs.«01_k».proof.Proof.Gen.WinFwdRefIdeal.Run
public import proofs.«01_k».proof.Proof.Gen.WinFwdRefIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.DhRefIdeal.Read
public import proofs.«01_k».proof.Proof.Gen.Gout
public import proofs.«01_k».proof.Proof.Gen.Gout.Skeleton
public import proofs.«01_k».proof.Proof.Gen.Gout.Launch
public import proofs.«01_k».proof.Proof.Gen.Gout.Points
public import proofs.«01_k».proof.Proof.Gen.Gout.Frame
public import proofs.«01_k».proof.Proof.Gen.GoutIdeal
public import proofs.«01_k».proof.Proof.Gen.GoutIdeal.Skeleton
public import proofs.«01_k».proof.Proof.Gen.GoutIdeal.Launch
public import proofs.«01_k».proof.Proof.Gen.GoutIdeal.Points
public import proofs.«01_k».proof.Proof.Gen.GoutIdeal.Frame
public import proofs.«01_k».proof.Proof.Gen.GoutIdeal.Value
public import proofs.«01_k».proof.Proof.Gen.GoutRefIdeal
public import proofs.«01_k».proof.Proof.Gen.GoutRefIdeal.Run
public import proofs.«01_k».proof.Proof.Gen.GoutRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Act
public import proofs.«01_k».proof.Proof.NormFwd
public import proofs.«01_k».proof.Proof.Mlp
public import proofs.«01_k».proof.Proof.Out
public import proofs.«01_k».proof.Proof.Dh
public import proofs.«01_k».proof.Proof.Gout
public import proofs.«01_k».proof.Proof.Adam
public import proofs.«01_k».proof.Proof.Norm
public import proofs.«01_k».proof.Proof.Loss
public import proofs.«01_k».proof.Proof.StickBitsRun
public import proofs.«01_k».proof.Proof.StickRef
public import proofs.«01_k».proof.Proof.WinFwdRef
public import proofs.«01_k».proof.Proof.StickFwdBits
public import proofs.«01_k».proof.Proof.StickFwdRef
public import proofs.«01_k».proof.Proof.WinBitsFrame
public import proofs.«01_k».proof.Proof.WinFrame
public import Idealize.ShloMosaic.Adequacy
public import Idealize.ShloMosaic.Init

@[expose] public section

noncomputable section

namespace Cert.Proof

open Idealize.ShloMosaic Idealize.SL.Sem Cert.Act

/-- Frames of the programs, the preconditions' witnesses of well-formedness, and the values of the gradients, of the forward
calls' results, of the plain products and of the optimiser's step. -/
theorem claim : Cert.Claim :=
  ⟨Cert.Act.Gen.facts, Cert.ActIdeal.Gen.facts, Cert.ActRefIdeal.Gen.facts, Cert.Norm.Gen.facts, Cert.NormIdeal.Gen.facts,
    Cert.NormRefIdeal.Gen.facts, Cert.Loss.Gen.facts, Cert.LossIdeal.Gen.facts, Cert.LossRefIdeal.Gen.facts,
    Cert.Stick.Gen.facts, Cert.StickIdeal.Gen.facts, Cert.StickRefIdeal.Gen.facts,
    Cert.WinFwd.Gen.facts, Cert.WinFwdIdeal.Gen.facts, Cert.WinFwdRefIdeal.Gen.facts,
    Cert.StickFwd.Gen.facts, Cert.StickFwdIdeal.Gen.facts, Cert.StickFwdRefIdeal.Gen.facts,
    Cert.Win.Gen.facts, Cert.WinIdeal.Gen.facts, Cert.WinRefIdeal.Gen.facts,
    Cert.NormFwd.Gen.facts, Cert.NormFwdIdeal.Gen.facts, Cert.NormFwdRefIdeal.Gen.facts,
    Cert.Mlp.Gen.facts, Cert.MlpIdeal.Gen.facts, Cert.MlpRefIdeal.Gen.facts,
    Cert.Out.Gen.facts, Cert.OutIdeal.Gen.facts, Cert.OutRefIdeal.Gen.facts,
    Cert.Dh.Gen.facts, Cert.DhIdeal.Gen.facts, Cert.DhRefIdeal.Gen.facts,
    Cert.Gout.Gen.facts, Cert.GoutIdeal.Gen.facts, Cert.GoutRefIdeal.Gen.facts,
    Cert.Adam.Gen.facts, Cert.AdamIdeal.Gen.facts, Cert.AdamRefIdeal.Gen.facts,
    Norm.pre_facts, Loss.pre_facts, StickRef.pre_facts, WinFwdRef.pre_facts, StickFwdRef.pre_facts,
    fun m ρ _ => Cert.Act.Gen.frame m ρ,
    fun m ρ _ => Cert.ActIdeal.Gen.frame m ρ,
    fun m ρ _ => (θ_run _ _ _).mono (fun r h => ⟨fun c => (h c).2, Idealize.ShloMosaic.sem_eq_zero_of_no_sems (by decide) r.2⟩)
      (Cert.ActRefIdeal.Value.run m ρ),
    fun m ρ _ => Cert.Norm.Gen.frame m ρ,
    fun m ρ _ => Cert.NormIdeal.Gen.frame m ρ,
    fun m ρ _ => Cert.NormIdeal.Gen.frame m ρ,
    fun m ρ _ => (θ_run _ _ _).mono (fun r h => ⟨fun c => (h c).2.2.2, Idealize.ShloMosaic.sem_eq_zero_of_no_sems (by decide) r.2⟩)
      (Cert.NormRefIdeal.Value.run m ρ),
    fun m ρ _ => (θ_run _ _ _).mono (fun r h => ⟨fun c => (h c).2.2.2, Idealize.ShloMosaic.sem_eq_zero_of_no_sems (by decide) r.2⟩)
      (Cert.NormRefIdeal.Value.run m ρ),
    fun m ρ _ => Cert.Loss.Gen.frame m ρ,
    fun m ρ _ => Cert.LossIdeal.Gen.frame m ρ,
    fun m ρ _ => Cert.LossIdeal.Gen.frame m ρ,
    fun m ρ _ => (θ_run _ _ _).mono (fun r h => ⟨fun c => (h c).2.2.2.2, Idealize.ShloMosaic.sem_eq_zero_of_no_sems (by decide) r.2⟩)
      (Cert.LossRefIdeal.Value.run m ρ),
    fun m ρ _ => (θ_run _ _ _).mono (fun r h => ⟨fun c => (h c).2.2.2.2, Idealize.ShloMosaic.sem_eq_zero_of_no_sems (by decide) r.2⟩)
      (Cert.LossRefIdeal.Value.run m ρ),
    fun m ρ _ => StickBits.frame m ρ,
    fun m ρ _ => Stick.frame m ρ,
    fun m ρ _ => Stick.frame m ρ,
    fun m ρ _ => (θ_run _ _ _).mono (fun r h => ⟨fun c => (h c).2.2.2, Idealize.ShloMosaic.sem_eq_zero_of_no_sems (by decide) r.2⟩)
      (Cert.StickRefIdeal.Value.run m ρ),
    fun m ρ _ => (θ_run _ _ _).mono (fun r h => ⟨fun c => (h c).2.2.2, Idealize.ShloMosaic.sem_eq_zero_of_no_sems (by decide) r.2⟩)
      (Cert.StickRefIdeal.Value.run m ρ),
    fun m ρ _ => Cert.WinFwd.Gen.frame m ρ,
    fun m ρ _ => Cert.WinFwdIdeal.Gen.frame m ρ,
    fun m ρ _ => Cert.WinFwdIdeal.Gen.frame m ρ,
    fun m ρ _ => (θ_run _ _ _).mono (fun r h => ⟨fun c => (h c).2, Idealize.ShloMosaic.sem_eq_zero_of_no_sems (by decide) r.2⟩)
      (Cert.WinFwdRefIdeal.Value.run m ρ),
    fun m ρ _ => (θ_run _ _ _).mono (fun r h => ⟨fun c => (h c).2, Idealize.ShloMosaic.sem_eq_zero_of_no_sems (by decide) r.2⟩)
      (Cert.WinFwdRefIdeal.Value.run m ρ),
    fun m ρ _ => StickFwdBits.frame m ρ,
    fun m ρ _ => StickFwd.frame m ρ,
    fun m ρ _ => StickFwd.frame m ρ,
    fun m ρ _ => (θ_run _ _ _).mono (fun r h => ⟨fun c => (h c).2, Idealize.ShloMosaic.sem_eq_zero_of_no_sems (by decide) r.2⟩)
      (Cert.StickFwdRefIdeal.Value.run m ρ),
    fun m ρ _ => (θ_run _ _ _).mono (fun r h => ⟨fun c => (h c).2, Idealize.ShloMosaic.sem_eq_zero_of_no_sems (by decide) r.2⟩)
      (Cert.StickFwdRefIdeal.Value.run m ρ),
    fun m ρ _ => WinBits.frame m ρ,
    fun m ρ _ => WinBwd.frame m ρ,
    fun m ρ _ => (θ_run _ _ _).mono (fun r h => ⟨fun c => (h c).2.2.2.2, Idealize.ShloMosaic.sem_eq_zero_of_no_sems (by decide) r.2⟩)
      (Cert.WinRefIdeal.Value.run m ρ),
    fun m ρ _ => Cert.NormFwd.Gen.frame m ρ,
    fun m ρ _ => Cert.NormFwdIdeal.Gen.frame m ρ,
    fun m ρ _ => (θ_run _ _ _).mono (fun r h => ⟨fun c => (h c).2, Idealize.ShloMosaic.sem_eq_zero_of_no_sems (by decide) r.2⟩)
      (Cert.NormFwdRefIdeal.Value.run m ρ),
    fun m ρ _ => Cert.Mlp.Gen.frame m ρ,
    fun m ρ _ => Cert.MlpIdeal.Gen.frame m ρ,
    fun m ρ _ => (θ_run _ _ _).mono (fun r h => ⟨fun c => (h c).2.2, Idealize.ShloMosaic.sem_eq_zero_of_no_sems (by decide) r.2⟩)
      (Cert.MlpRefIdeal.Value.run m ρ),
    fun m ρ _ => Cert.Out.Gen.frame m ρ,
    fun m ρ _ => Cert.OutIdeal.Gen.frame m ρ,
    fun m ρ _ => (θ_run _ _ _).mono (fun r h => ⟨fun c => (h c).2, Idealize.ShloMosaic.sem_eq_zero_of_no_sems (by decide) r.2⟩)
      (Cert.OutRefIdeal.Value.run m ρ),
    fun m ρ _ => Cert.Dh.Gen.frame m ρ,
    fun m ρ _ => Cert.DhIdeal.Gen.frame m ρ,
    fun m ρ _ => (θ_run _ _ _).mono (fun r h => ⟨fun c => (h c).2, Idealize.ShloMosaic.sem_eq_zero_of_no_sems (by decide) r.2⟩)
      (Cert.DhRefIdeal.Value.run m ρ),
    fun m ρ _ => Cert.Gout.Gen.frame m ρ,
    fun m ρ _ => Cert.GoutIdeal.Gen.frame m ρ,
    fun m ρ _ => (θ_run _ _ _).mono (fun r h => ⟨fun c => (h c).2, Idealize.ShloMosaic.sem_eq_zero_of_no_sems (by decide) r.2⟩)
      (Cert.GoutRefIdeal.Value.run m ρ),
    fun m ρ _ => Cert.Adam.Gen.frame m ρ,
    fun m ρ _ => Cert.AdamIdeal.Gen.frame m ρ,
    fun m ρ _ => (θ_run _ _ _).mono (fun r h => ⟨fun c => (h c).2.2.2.2, Idealize.ShloMosaic.sem_eq_zero_of_no_sems (by decide) r.2⟩)
      (Cert.AdamRefIdeal.Value.run m ρ),
    trivial, Act.algebraic, trivial, Norm.algebraic, trivial, Loss.algebraic,
    IdealRules.named_const.statement Cert.StickIdeal.κ "cut" .f32 0xC2D20000#32 ⊥ rfl, StickRef.algebraic,
    ⟨IdealRules.named_const.statement Cert.WinFwdIdeal.κ "slope" .f32 0xBE317218#32 _ rfl,
      IdealRules.named_const.statement Cert.WinFwdIdeal.κ "neg" .f32 0xF149F2CA#32 ⊥ rfl⟩, WinFwdRef.algebraic,
    IdealRules.named_const.statement Cert.StickFwdIdeal.κ "cut" .f32 0xC2D20000#32 ⊥ rfl, StickFwdRef.algebraic,
    ⟨IdealRules.named_const.statement Cert.WinIdeal.κ "slope" .f32 0xBE317218#32 _ rfl,
      IdealRules.named_const.statement Cert.WinIdeal.κ "neg" .f32 0xF149F2CA#32 ⊥ rfl⟩,
    trivial, NormFwd.algebraic, trivial, Mlp.algebraic,
    trivial, Out.algebraic, trivial, Dh.algebraic, trivial, Gout.algebraic, trivial, Adam.algebraic⟩

end Cert.Proof

end
